-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_diff [hPre_finite_diff : Cert.Pre_finite_diff.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_diff.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_diff [hPre_finite_diff : Cert.Pre_finite_diff.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_diff.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_mod [hPre_finite_mod : Cert.Pre_finite_mod.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_mod.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_mod [hPre_finite_mod : Cert.Pre_finite_mod.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_mod.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_win [hPre_finite_win : Cert.Pre_finite_win.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_win.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_win [hPre_finite_win : Cert.Pre_finite_win.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_win.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite_diff [hKernel3Ideal : Cert.Kernel3Ideal.Facts] [hPre_finite_diff : Cert.Pre_finite_diff.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_diff m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite_diff [hReference3Ideal : Cert.Reference3Ideal.Facts] [hPre_finite_diff : Cert.Pre_finite_diff.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_diff m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite_mod [hKernel4Ideal : Cert.Kernel4Ideal.Facts] [hPre_finite_mod : Cert.Pre_finite_mod.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_mod m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite_mod [hReference4Ideal : Cert.Reference4Ideal.Facts] [hPre_finite_mod : Cert.Pre_finite_mod.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_mod m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_finite_win [hKernel6Ideal : Cert.Kernel6Ideal.Facts] [hPre_finite_win : Cert.Pre_finite_win.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_win m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_finite_win [hReference6Ideal : Cert.Reference6Ideal.Facts] [hPre_finite_win : Cert.Pre_finite_win.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_win m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v183) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  True

def algebraic_Kernel3Ideal_Reference3Ideal_pre_finite_diff [hKernel3Ideal : Cert.Kernel3Ideal.Facts] [hReference3Ideal : Cert.Reference3Ideal.Facts] [hPre_finite_diff : Cert.Pre_finite_diff.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_diff m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v70) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal_pre_finite_mod [hKernel4Ideal : Cert.Kernel4Ideal.Facts] [hReference4Ideal : Cert.Reference4Ideal.Facts] [hPre_finite_mod : Cert.Pre_finite_mod.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_mod m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)) (v4 : (c : Dev Cert.Kernel5Ideal.nD) → Buf (Elt Ideal) ((c.tc : Thread Cert.Kernel5Ideal.nD Cert.Kernel5Ideal.τ).loc Cert.Kernel5Ideal.main_v0_4)) (v5 : (c : Dev Cert.Kernel5Ideal.nD) → Buf (Elt Ideal) ((c.tc : Thread Cert.Kernel5Ideal.nD Cert.Kernel5Ideal.τ).loc Cert.Kernel5Ideal.main_v0_5)) (v6 : (c : Dev Cert.Kernel5Ideal.nD) → Buf (Elt Ideal) ((c.tc : Thread Cert.Kernel5Ideal.nD Cert.Kernel5Ideal.τ).loc Cert.Kernel5Ideal.main_v0_6)) (v7 : (c : Dev Cert.Kernel5Ideal.nD) → Buf (Elt Ideal) ((c.tc : Thread Cert.Kernel5Ideal.nD Cert.Kernel5Ideal.τ).loc Cert.Kernel5Ideal.main_v0_7)) (v8 : (c : Dev Cert.Kernel5Ideal.nD) → Buf (Elt Ideal) ((c.tc : Thread Cert.Kernel5Ideal.nD Cert.Kernel5Ideal.τ).loc Cert.Kernel5Ideal.main_v0_8)) (v9 : (c : Dev Cert.Kernel5Ideal.nD) → Buf (Elt Ideal) ((c.tc : Thread Cert.Kernel5Ideal.nD Cert.Kernel5Ideal.τ).loc Cert.Kernel5Ideal.main_v0_9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_v0_4) = v4 c
          ∧ r.2.mem ((c.tc : Thread Cert.Kernel5Ideal.nD Cert.Kernel5Ideal.τ).loc Cert.Kernel5Ideal.main_v0_5) = v5 c
          ∧ r.2.mem ((c.tc : Thread Cert.Kernel5Ideal.nD Cert.Kernel5Ideal.τ).loc Cert.Kernel5Ideal.main_v0_6) = v6 c
          ∧ r.2.mem ((c.tc : Thread Cert.Kernel5Ideal.nD Cert.Kernel5Ideal.τ).loc Cert.Kernel5Ideal.main_v0_7) = v7 c
          ∧ r.2.mem ((c.tc : Thread Cert.Kernel5Ideal.nD Cert.Kernel5Ideal.τ).loc Cert.Kernel5Ideal.main_v0_8) = v8 c
          ∧ r.2.mem ((c.tc : Thread Cert.Kernel5Ideal.nD Cert.Kernel5Ideal.τ).loc Cert.Kernel5Ideal.main_v0_9) = v9 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v161) = v0 c
          ∧ r.2.mem ((c.tc : Thread Cert.Reference5Ideal.nD Cert.Reference5Ideal.τ).loc Cert.Reference5Ideal.main_v162) = v1 c
          ∧ r.2.mem ((c.tc : Thread Cert.Reference5Ideal.nD Cert.Reference5Ideal.τ).loc Cert.Reference5Ideal.main_v163) = v2 c
          ∧ r.2.mem ((c.tc : Thread Cert.Reference5Ideal.nD Cert.Reference5Ideal.τ).loc Cert.Reference5Ideal.main_v168) = v3 c
          ∧ r.2.mem ((c.tc : Thread Cert.Reference5Ideal.nD Cert.Reference5Ideal.τ).loc Cert.Reference5Ideal.main_v169) = v4 c
          ∧ r.2.mem ((c.tc : Thread Cert.Reference5Ideal.nD Cert.Reference5Ideal.τ).loc Cert.Reference5Ideal.main_v170) = v5 c
          ∧ r.2.mem ((c.tc : Thread Cert.Reference5Ideal.nD Cert.Reference5Ideal.τ).loc Cert.Reference5Ideal.main_v174) = v6 c
          ∧ r.2.mem ((c.tc : Thread Cert.Reference5Ideal.nD Cert.Reference5Ideal.τ).loc Cert.Reference5Ideal.main_v175) = v7 c
          ∧ r.2.mem ((c.tc : Thread Cert.Reference5Ideal.nD Cert.Reference5Ideal.τ).loc Cert.Reference5Ideal.main_v176) = v8 c
          ∧ r.2.mem ((c.tc : Thread Cert.Reference5Ideal.nD Cert.Reference5Ideal.τ).loc Cert.Reference5Ideal.main_v180) = v9 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  IdealRules.named_const.Statement Cert.Kernel6Ideal.κ "mask" .f32 0xF149F2CA#32 ⊥
  ∧ IdealRules.named_const.Statement Cert.Kernel6Ideal.κ "log2e" .f32 0x3FB8AA3B#32 (((Real.log 2)⁻¹ : ℝ) : EReal)

def algebraic_Kernel6Ideal_Reference6Ideal_pre_finite_win [hKernel6Ideal : Cert.Kernel6Ideal.Facts] [hReference6Ideal : Cert.Reference6Ideal.Facts] [hPre_finite_win : Cert.Pre_finite_win.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_win m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v57) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_qk : Cert.Pre_finite_qk.Facts) (hPre_finite_diff : Cert.Pre_finite_diff.Facts) (hPre_finite_mod : Cert.Pre_finite_mod.Facts) (hPre_finite_win : Cert.Pre_finite_win.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_diff (hKernel3Ideal := hKernel3Ideal) (hPre_finite_diff := hPre_finite_diff)
    ∧ quiescent_Reference3Ideal (hReference3Ideal := hReference3Ideal)
    ∧ quiescent_Reference3Ideal_pre_finite_diff (hReference3Ideal := hReference3Ideal) (hPre_finite_diff := hPre_finite_diff)
    ∧ quiescent_Kernel4 (hKernel4 := hKernel4)
    ∧ quiescent_Kernel4Ideal (hKernel4Ideal := hKernel4Ideal)
    ∧ quiescent_Kernel4Ideal_pre_finite_mod (hKernel4Ideal := hKernel4Ideal) (hPre_finite_mod := hPre_finite_mod)
    ∧ quiescent_Reference4Ideal (hReference4Ideal := hReference4Ideal)
    ∧ quiescent_Reference4Ideal_pre_finite_mod (hReference4Ideal := hReference4Ideal) (hPre_finite_mod := hPre_finite_mod)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_win (hKernel6Ideal := hKernel6Ideal) (hPre_finite_win := hPre_finite_win)
    ∧ quiescent_Reference6Ideal (hReference6Ideal := hReference6Ideal)
    ∧ quiescent_Reference6Ideal_pre_finite_win (hReference6Ideal := hReference6Ideal) (hPre_finite_win := hPre_finite_win)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_diff (hKernel3Ideal := hKernel3Ideal) (hReference3Ideal := hReference3Ideal) (hPre_finite_diff := hPre_finite_diff)
    ∧ preserves_Kernel4_Kernel4Ideal
    ∧ algebraic_Kernel4Ideal_Reference4Ideal_pre_finite_mod (hKernel4Ideal := hKernel4Ideal) (hReference4Ideal := hReference4Ideal) (hPre_finite_mod := hPre_finite_mod)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_win (hKernel6Ideal := hKernel6Ideal) (hReference6Ideal := hReference6Ideal) (hPre_finite_win := hPre_finite_win)
-- ==== Pre_finite_diff.lean ====
abbrev S8x8192x256 : Shape := ⟨3, ![8, 8192, 256]⟩
abbrev S8x16x256x512 : Shape := ⟨4, ![8, 16, 256, 512]⟩
abbrev S8x256x256 : Shape := ⟨3, ![8, 256, 256]⟩
abbrev S8x1x256x256 : Shape := ⟨4, ![8, 1, 256, 256]⟩
abbrev S4x32 : Shape := ⟨2, ![4, 32]⟩
abbrev S64x1 : Shape := ⟨2, ![64, 1]⟩
abbrev S_ : Shape := ⟨0, ![]⟩

class Facts : Prop where
  bitsLt_bf16_f32 : FTy.bits .bf16 < FTy.bits .f32
  bcast_S_S8x8192x256 : S_.BroadcastsInDim S8x8192x256 (![] : Fin 0 → Fin S8x8192x256.rank)
  reducesTo_S8x8192x256_S_d0_1_2 : S8x8192x256.ReducesTo [0, 1, 2] S_
  h_S_ : 0 < S_.numel
  bcast_S_S8x16x256x512 : S_.BroadcastsInDim S8x16x256x512 (![] : Fin 0 → Fin S8x16x256x512.rank)
  reducesTo_S8x16x256x512_S_d0_1_2_3 : S8x16x256x512.ReducesTo [0, 1, 2, 3] S_
  bcast_S_S8x256x256 : S_.BroadcastsInDim S8x256x256 (![] : Fin 0 → Fin S8x256x256.rank)
  reducesTo_S8x256x256_S_d0_1_2 : S8x256x256.ReducesTo [0, 1, 2] S_
  bcast_S_S8x1x256x256 : S_.BroadcastsInDim S8x1x256x256 (![] : Fin 0 → Fin S8x1x256x256.rank)
  reducesTo_S8x1x256x256_S_d0_1_2_3 : S8x1x256x256.ReducesTo [0, 1, 2, 3] S_
  bcast_S_S4x32 : S_.BroadcastsInDim S4x32 (![] : Fin 0 → Fin S4x32.rank)
  reducesTo_S4x32_S_d0_1 : S4x32.ReducesTo [0, 1] S_

variable [Facts]

def fn_part1 {F : FTy → Type} [FloatOps F] (main_arg4 : FVec F S8x1x256x256 .bf16) (main_arg5 : FVec F S4x32 .f32) (main_v16 : IVec S_ 1) (main_v17 : FVec F S8x256x256 .f32) : IVec S_ 1 :=
  let main_v18 : FVec F S8x256x256 .f32 := Host.absf main_v17
  let main_cst_4 : FVec F S_ .f32 := constant S_ .f32 0x7F800000#32
  let main_v19 : FVec F S8x256x256 .f32 := broadcastInDim S8x256x256 ![] bcast_S_S8x256x256 main_cst_4
  let main_v20 : IVec S8x256x256 1 := cmpf .olt main_v18 main_v19
  let main_c_5 : IVec S_ 1 := constantI S_ 1 1#1
  let main_v21 : IVec S_ 1 := (fun x v => Host.reduce IntOp.andi x v reducesTo_S8x256x256_S_d0_1_2 h_S_) main_v20 main_c_5
  let main_v22 : IVec S_ 1 := andi main_v16 main_v21
  let main_v23 : FVec F S8x1x256x256 .f32 := (extf .f32 · bitsLt_bf16_f32) main_arg4
  let main_v24 : FVec F S8x1x256x256 .f32 := Host.absf main_v23
  let main_cst_6 : FVec F S_ .f32 := constant S_ .f32 0x7F800000#32
  let main_v25 : FVec F S8x1x256x256 .f32 := broadcastInDim S8x1x256x256 ![] bcast_S_S8x1x256x256 main_cst_6
  let main_v26 : IVec S8x1x256x256 1 := cmpf .olt main_v24 main_v25
  let main_c_7 : IVec S_ 1 := constantI S_ 1 1#1
  let main_v27 : IVec S_ 1 := (fun x v => Host.reduce IntOp.andi x v reducesTo_S8x1x256x256_S_d0_1_2_3 h_S_) main_v26 main_c_7
  let main_v28 : IVec S_ 1 := andi main_v22 main_v27
  let main_v29 : FVec F S4x32 .f32 := Host.absf main_arg5
  let main_cst_8 : FVec F S_ .f32 := constant S_ .f32 0x7F800000#32
  let main_v30 : FVec F S4x32 .f32 := broadcastInDim S4x32 ![] bcast_S_S4x32 main_cst_8
  let main_v31 : IVec S4x32 1 := cmpf .olt main_v29 main_v30
  let main_c_9 : IVec S_ 1 := constantI S_ 1 1#1
  let main_v32 : IVec S_ 1 := (fun x v => Host.reduce IntOp.andi x v reducesTo_S4x32_S_d0_1 h_S_) main_v31 main_c_9
  let main_v33 : IVec S_ 1 := andi main_v28 main_v32
  main_v33

def fn {F : FTy → Type} [FloatOps F] (main_arg0 : FVec F S8x8192x256 .bf16) (main_arg1 : FVec F S8x8192x256 .bf16) (main_arg2 : FVec F S8x16x256x512 .bf16) (main_arg3 : FVec F S8x256x256 .bf16) (main_arg4 : FVec F S8x1x256x256 .bf16) (main_arg5 : FVec F S4x32 .f32) (main_arg6 : FVec F S64x1 .f32) : IVec S_ 1 :=
  let main_v0 : FVec F S8x8192x256 .f32 := (extf .f32 · bitsLt_bf16_f32) main_arg0
  let main_v1 : FVec F S8x8192x256 .f32 := Host.absf main_v0
  let main_cst : FVec F S_ .f32 := constant S_ .f32 0x7F800000#32
  let main_v2 : FVec F S8x8192x256 .f32 := broadcastInDim S8x8192x256 ![] bcast_S_S8x8192x256 main_cst
  let main_v3 : IVec S8x8192x256 1 := cmpf .olt main_v1 main_v2
  let main_c : IVec S_ 1 := constantI S_ 1 1#1
  let main_v4 : IVec S_ 1 := (fun x v => Host.reduce IntOp.andi x v reducesTo_S8x8192x256_S_d0_1_2 h_S_) main_v3 main_c
  let main_v5 : FVec F S8x8192x256 .f32 := (extf .f32 · bitsLt_bf16_f32) main_arg1
  let main_v6 : FVec F S8x8192x256 .f32 := Host.absf main_v5
  let main_cst_0 : FVec F S_ .f32 := constant S_ .f32 0x7F800000#32
  let main_v7 : FVec F S8x8192x256 .f32 := broadcastInDim S8x8192x256 ![] bcast_S_S8x8192x256 main_cst_0
  let main_v8 : IVec S8x8192x256 1 := cmpf .olt main_v6 main_v7
  let main_c_1 : IVec S_ 1 := constantI S_ 1 1#1
  let main_v9 : IVec S_ 1 := (fun x v => Host.reduce IntOp.andi x v reducesTo_S8x8192x256_S_d0_1_2 h_S_) main_v8 main_c_1
  let main_v10 : IVec S_ 1 := andi main_v4 main_v9
  let main_v11 : FVec F S8x16x256x512 .f32 := (extf .f32 · bitsLt_bf16_f32) main_arg2
  let main_v12 : FVec F S8x16x256x512 .f32 := Host.absf main_v11
  let main_cst_2 : FVec F S_ .f32 := constant S_ .f32 0x7F800000#32
  let main_v13 : FVec F S8x16x256x512 .f32 := broadcastInDim S8x16x256x512 ![] bcast_S_S8x16x256x512 main_cst_2
  let main_v14 : IVec S8x16x256x512 1 := cmpf .olt main_v12 main_v13
  let main_c_3 : IVec S_ 1 := constantI S_ 1 1#1
  let main_v15 : IVec S_ 1 := (fun x v => Host.reduce IntOp.andi x v reducesTo_S8x16x256x512_S_d0_1_2_3 h_S_) main_v14 main_c_3
  let main_v16 : IVec S_ 1 := andi main_v10 main_v15
  let main_v17 : FVec F S8x256x256 .f32 := (extf .f32 · bitsLt_bf16_f32) main_arg3
  fn_part1 (F := F) main_arg4 main_arg5 main_v16 main_v17
-- ==== Pre_finite_mod.lean ====
abbrev S16x1024 : Shape := ⟨2, ![16, 1024]⟩
abbrev S2x1024x3072 : Shape := ⟨3, ![2, 1024, 3072]⟩
abbrev S2x3072 : Shape := ⟨2, ![2, 3072]⟩
abbrev S_ : Shape := ⟨0, ![]⟩

class Facts : Prop where
  bcast_S_S16x1024 : S_.BroadcastsInDim S16x1024 (![] : Fin 0 → Fin S16x1024.rank)
  reducesTo_S16x1024_S_d0_1 : S16x1024.ReducesTo [0, 1] S_
  h_S_ : 0 < S_.numel
  bcast_S_S2x1024x3072 : S_.BroadcastsInDim S2x1024x3072 (![] : Fin 0 → Fin S2x1024x3072.rank)
  reducesTo_S2x1024x3072_S_d0_1_2 : S2x1024x3072.ReducesTo [0, 1, 2] S_

variable [Facts]

def fn {F : FTy → Type} [FloatOps F] (main_arg0 : FVec F S16x1024 .f32) (main_arg1 : FVec F S2x1024x3072 .f32) (main_arg2 : FVec F S2x3072 .f32) : IVec S_ 1 :=
  let main_v0 : FVec F S16x1024 .f32 := Host.absf main_arg0
  let main_cst : FVec F S_ .f32 := constant S_ .f32 0x7F800000#32
  let main_v1 : FVec F S16x1024 .f32 := broadcastInDim S16x1024 ![] bcast_S_S16x1024 main_cst
  let main_v2 : IVec S16x1024 1 := cmpf .olt main_v0 main_v1
  let main_c : IVec S_ 1 := constantI S_ 1 1#1
  let main_v3 : IVec S_ 1 := (fun x v => Host.reduce IntOp.andi x v reducesTo_S16x1024_S_d0_1 h_S_) main_v2 main_c
  let main_v4 : FVec F S2x1024x3072 .f32 := Host.absf main_arg1
  let main_cst_0 : FVec F S_ .f32 := constant S_ .f32 0x7F800000#32
  let main_v5 : FVec F S2x1024x3072 .f32 := broadcastInDim S2x1024x3072 ![] bcast_S_S2x1024x3072 main_cst_0
  let main_v6 : IVec S2x1024x3072 1 := cmpf .olt main_v4 main_v5
  let main_c_1 : IVec S_ 1 := constantI S_ 1 1#1
  let main_v7 : IVec S_ 1 := (fun x v => Host.reduce IntOp.andi x v reducesTo_S2x1024x3072_S_d0_1_2 h_S_) main_v6 main_c_1
  let main_v8 : IVec S_ 1 := andi main_v3 main_v7
  main_v8
-- ==== Pre_finite_qk.lean ====
abbrev S8x8192x512 : Shape := ⟨3, ![8, 8192, 512]⟩
abbrev S8x4x8192x128 : Shape := ⟨4, ![8, 4, 8192, 128]⟩
abbrev S8x16x256x512 : Shape := ⟨4, ![8, 16, 256, 512]⟩
abbrev S8x4x256x128 : Shape := ⟨4, ![8, 4, 256, 128]⟩
abbrev S8x1x256x256 : Shape := ⟨4, ![8, 1, 256, 256]⟩
abbrev S_ : Shape := ⟨0, ![]⟩

class Facts : Prop where
  bitsLt_bf16_f32 : FTy.bits .bf16 < FTy.bits .f32
  bcast_S_S8x8192x512 : S_.BroadcastsInDim S8x8192x512 (![] : Fin 0 → Fin S8x8192x512.rank)
  reducesTo_S8x8192x512_S_d0_1_2 : S8x8192x512.ReducesTo [0, 1, 2] S_
  h_S_ : 0 < S_.numel
  bcast_S_S8x4x8192x128 : S_.BroadcastsInDim S8x4x8192x128 (![] : Fin 0 → Fin S8x4x8192x128.rank)
  reducesTo_S8x4x8192x128_S_d0_1_2_3 : S8x4x8192x128.ReducesTo [0, 1, 2, 3] S_
  bcast_S_S8x4x256x128 : S_.BroadcastsInDim S8x4x256x128 (![] : Fin 0 → Fin S8x4x256x128.rank)
  reducesTo_S8x4x256x128_S_d0_1_2_3 : S8x4x256x128.ReducesTo [0, 1, 2, 3] S_

variable [Facts]

def fn {F : FTy → Type} [FloatOps F] (main_arg0 : FVec F S8x8192x512 .bf16) (main_arg1 : FVec F S8x4x8192x128 .bf16) (main_arg2 : FVec F S8x16x256x512 .bf16) (main_arg3 : FVec F S8x4x256x128 .bf16) (main_arg4 : FVec F S8x1x256x256 .bf16) : IVec S_ 1 :=
  let main_v0 : FVec F S8x8192x512 .f32 := (extf .f32 · bitsLt_bf16_f32) main_arg0
  let main_v1 : FVec F S8x8192x512 .f32 := Host.absf main_v0
  let main_cst : FVec F S_ .f32 := constant S_ .f32 0x7F800000#32
  let main_v2 : FVec F S8x8192x512 .f32 := broadcastInDim S8x8192x512 ![] bcast_S_S8x8192x512 main_cst
  let main_v3 : IVec S8x8192x512 1 := cmpf .olt main_v1 main_v2
  let main_c : IVec S_ 1 := constantI S_ 1 1#1
  let main_v4 : IVec S_ 1 := (fun x v => Host.reduce IntOp.andi x v reducesTo_S8x8192x512_S_d0_1_2 h_S_) main_v3 main_c
  let main_v5 : FVec F S8x4x8192x128 .f32 := (extf .f32 · bitsLt_bf16_f32) main_arg1
  let main_v6 : FVec F S8x4x8192x128 .f32 := Host.absf main_v5
  let main_cst_0 : FVec F S_ .f32 := constant S_ .f32 0x7F800000#32
  let main_v7 : FVec F S8x4x8192x128 .f32 := broadcastInDim S8x4x8192x128 ![] bcast_S_S8x4x8192x128 main_cst_0
  let main_v8 : IVec S8x4x8192x128 1 := cmpf .olt main_v6 main_v7
  let main_c_1 : IVec S_ 1 := constantI S_ 1 1#1
  let main_v9 : IVec S_ 1 := (fun x v => Host.reduce IntOp.andi x v reducesTo_S8x4x8192x128_S_d0_1_2_3 h_S_) main_v8 main_c_1
  let main_v10 : IVec S_ 1 := andi main_v4 main_v9
  let main_v11 : FVec F S8x4x256x128 .f32 := (extf .f32 · bitsLt_bf16_f32) main_arg3
  let main_v12 : FVec F S8x4x256x128 .f32 := Host.absf main_v11
  let main_cst_2 : FVec F S_ .f32 := constant S_ .f32 0x7F800000#32
  let main_v13 : FVec F S8x4x256x128 .f32 := broadcastInDim S8x4x256x128 ![] bcast_S_S8x4x256x128 main_cst_2
  let main_v14 : IVec S8x4x256x128 1 := cmpf .olt main_v12 main_v13
  let main_c_3 : IVec S_ 1 := constantI S_ 1 1#1
  let main_v15 : IVec S_ 1 := (fun x v => Host.reduce IntOp.andi x v reducesTo_S8x4x256x128_S_d0_1_2_3 h_S_) main_v14 main_c_3
  let main_v16 : IVec S_ 1 := andi main_v10 main_v15
  main_v16
-- ==== Pre_finite_win.lean ====
abbrev S8x8192x512 : Shape := ⟨3, ![8, 8192, 512]⟩
abbrev S8x8192x128 : Shape := ⟨3, ![8, 8192, 128]⟩
abbrev S8x16x128x512 : Shape := ⟨4, ![8, 16, 128, 512]⟩
abbrev S8x256x128 : Shape := ⟨3, ![8, 256, 128]⟩
abbrev S8x1x128x256 : Shape := ⟨4, ![8, 1, 128, 256]⟩
abbrev S1x4 : Shape := ⟨2, ![1, 4]⟩
abbrev S_ : Shape := ⟨0, ![]⟩

class Facts : Prop where
  bitsLt_bf16_f32 : FTy.bits .bf16 < FTy.bits .f32
  bcast_S_S8x8192x512 : S_.BroadcastsInDim S8x8192x512 (![] : Fin 0 → Fin S8x8192x512.rank)
  reducesTo_S8x8192x512_S_d0_1_2 : S8x8192x512.ReducesTo [0, 1, 2] S_
  h_S_ : 0 < S_.numel
  bcast_S_S8x8192x128 : S_.BroadcastsInDim S8x8192x128 (![] : Fin 0 → Fin S8x8192x128.rank)
  reducesTo_S8x8192x128_S_d0_1_2 : S8x8192x128.ReducesTo [0, 1, 2] S_
  bcast_S_S8x256x128 : S_.BroadcastsInDim S8x256x128 (![] : Fin 0 → Fin S8x256x128.rank)
  reducesTo_S8x256x128_S_d0_1_2 : S8x256x128.ReducesTo [0, 1, 2] S_
  bcast_S_S1x4 : S_.BroadcastsInDim S1x4 (![] : Fin 0 → Fin S1x4.rank)
  reducesTo_S1x4_S_d0_1 : S1x4.ReducesTo [0, 1] S_

variable [Facts]

def fn_part1 {F : FTy → Type} [FloatOps F] (main_v16 : IVec S_ 1) (main_v17 : FVec F S1x4 .f32) : IVec S_ 1 :=
  let main_cst_4 : FVec F S_ .f32 := constant S_ .f32 0x7F800000#32
  let main_v18 : FVec F S1x4 .f32 := broadcastInDim S1x4 ![] bcast_S_S1x4 main_cst_4
  let main_v19 : IVec S1x4 1 := cmpf .olt main_v17 main_v18
  let main_c_5 : IVec S_ 1 := constantI S_ 1 1#1
  let main_v20 : IVec S_ 1 := (fun x v => Host.reduce IntOp.andi x v reducesTo_S1x4_S_d0_1 h_S_) main_v19 main_c_5
  let main_v21 : IVec S_ 1 := andi main_v16 main_v20
  main_v21

def fn {F : FTy → Type} [FloatOps F] (main_arg0 : FVec F S8x8192x512 .bf16) (main_arg1 : FVec F S8x8192x128 .bf16) (main_arg2 : FVec F S8x16x128x512 .bf16) (main_arg3 : FVec F S8x256x128 .bf16) (main_arg4 : FVec F S8x1x128x256 .bf16) (main_arg5 : FVec F S1x4 .f32) : IVec S_ 1 :=
  let main_v0 : FVec F S8x8192x512 .f32 := (extf .f32 · bitsLt_bf16_f32) main_arg0
  let main_v1 : FVec F S8x8192x512 .f32 := Host.absf main_v0
  let main_cst : FVec F S_ .f32 := constant S_ .f32 0x7F800000#32
  let main_v2 : FVec F S8x8192x512 .f32 := broadcastInDim S8x8192x512 ![] bcast_S_S8x8192x512 main_cst
  let main_v3 : IVec S8x8192x512 1 := cmpf .olt main_v1 main_v2
  let main_c : IVec S_ 1 := constantI S_ 1 1#1
  let main_v4 : IVec S_ 1 := (fun x v => Host.reduce IntOp.andi x v reducesTo_S8x8192x512_S_d0_1_2 h_S_) main_v3 main_c
  let main_v5 : FVec F S8x8192x128 .f32 := (extf .f32 · bitsLt_bf16_f32) main_arg1
  let main_v6 : FVec F S8x8192x128 .f32 := Host.absf main_v5
  let main_cst_0 : FVec F S_ .f32 := constant S_ .f32 0x7F800000#32
  let main_v7 : FVec F S8x8192x128 .f32 := broadcastInDim S8x8192x128 ![] bcast_S_S8x8192x128 main_cst_0
  let main_v8 : IVec S8x8192x128 1 := cmpf .olt main_v6 main_v7
  let main_c_1 : IVec S_ 1 := constantI S_ 1 1#1
  let main_v9 : IVec S_ 1 := (fun x v => Host.reduce IntOp.andi x v reducesTo_S8x8192x128_S_d0_1_2 h_S_) main_v8 main_c_1
  let main_v10 : IVec S_ 1 := andi main_v4 main_v9
  let main_v11 : FVec F S8x256x128 .f32 := (extf .f32 · bitsLt_bf16_f32) main_arg3
  let main_v12 : FVec F S8x256x128 .f32 := Host.absf main_v11
  let main_cst_2 : FVec F S_ .f32 := constant S_ .f32 0x7F800000#32
  let main_v13 : FVec F S8x256x128 .f32 := broadcastInDim S8x256x128 ![] bcast_S_S8x256x128 main_cst_2
  let main_v14 : IVec S8x256x128 1 := cmpf .olt main_v12 main_v13
  let main_c_3 : IVec S_ 1 := constantI S_ 1 1#1
  let main_v15 : IVec S_ 1 := (fun x v => Host.reduce IntOp.andi x v reducesTo_S8x256x128_S_d0_1_2 h_S_) main_v14 main_c_3
  let main_v16 : IVec S_ 1 := andi main_v10 main_v15
  let main_v17 : FVec F S1x4 .f32 := Host.absf main_arg5
  fn_part1 (F := F) main_v16 main_v17
-- ==== Kernel.lean ====
abbrev S8x8192x512 : Shape := ⟨3, ![8, 8192, 512]⟩
abbrev S8x4x8192x128 : Shape := ⟨4, ![8, 4, 8192, 128]⟩
abbrev S8x16x256x512 : Shape := ⟨4, ![8, 16, 256, 512]⟩
abbrev S8x4x256x128 : Shape := ⟨4, ![8, 4, 256, 128]⟩
abbrev S8x1x256x256 : Shape := ⟨4, ![8, 1, 256, 256]⟩
abbrev S8x8192x256 : Shape := ⟨3, ![8, 8192, 256]⟩
abbrev S1x512x256 : Shape := ⟨3, ![1, 512, 256]⟩
abbrev S1x2x8192x128 : Shape := ⟨4, ![1, 2, 8192, 128]⟩
abbrev S1x16x128x512 : Shape := ⟨4, ![1, 16, 128, 512]⟩
abbrev S1x2x256x128 : Shape := ⟨4, ![1, 2, 256, 128]⟩
abbrev S1x1x128x256 : Shape := ⟨4, ![1, 1, 128, 256]⟩
abbrev S1x512x128 : Shape := ⟨3, ![1, 512, 128]⟩
abbrev S512x128 : Shape := ⟨2, ![512, 128]⟩
abbrev S1x1x256x128 : Shape := ⟨4, ![1, 1, 256, 128]⟩
abbrev S256x128 : Shape := ⟨2, ![256, 128]⟩
abbrev S256x512 : Shape := ⟨2, ![256, 512]⟩
abbrev S1x512 : Shape := ⟨2, ![1, 512]⟩
abbrev S80x512 : Shape := ⟨2, ![80, 512]⟩
abbrev S512 : Shape := ⟨1, ![512]⟩
abbrev S1x1x64x256 : Shape := ⟨4, ![1, 1, 64, 256]⟩
abbrev S64x256 : Shape := ⟨2, ![64, 256]⟩
abbrev S16x256 : Shape := ⟨2, ![16, 256]⟩
abbrev S80x256 : Shape := ⟨2, ![80, 256]⟩
abbrev S1x1x512 : Shape := ⟨3, ![1, 1, 512]⟩
abbrev S1 : Shape := ⟨1, ![1]⟩
abbrev S1x1x1 : Shape := ⟨3, ![1, 1, 1]⟩
abbrev S64x512 : Shape := ⟨2, ![64, 512]⟩
abbrev S128x512 : Shape := ⟨2, ![128, 512]⟩

abbrev nBuf : Space → Nat
  | .hbm => 6
  | .vmem => 12
  | .smem => 0
  | _ => 0

abbrev bufTy : (tb : Table) → Fin (tcTables nBuf tb) → BufTy
  | .hbm, ⟨0, _⟩ => ⟨S8x8192x512, .bf16⟩
  | .hbm, ⟨1, _⟩ => ⟨S8x4x8192x128, .bf16⟩
  | .hbm, ⟨2, _⟩ => ⟨S8x16x256x512, .bf16⟩
  | .hbm, ⟨3, _⟩ => ⟨S8x4x256x128, .bf16⟩
  | .hbm, ⟨4, _⟩ => ⟨S8x1x256x256, .bf16⟩
  | .hbm, ⟨5, _⟩ => ⟨S8x8192x256, .bf16⟩
  | .local _ .vmem, ⟨0, _⟩ => ⟨S1x512x256, .bf16⟩
  | .local _ .vmem, ⟨1, _⟩ => ⟨S1x512x256, .bf16⟩
  | .local _ .vmem, ⟨2, _⟩ => ⟨S1x2x8192x128, .bf16⟩
  | .local _ .vmem, ⟨3, _⟩ => ⟨S1x2x8192x128, .bf16⟩
  | .local _ .vmem, ⟨4, _⟩ => ⟨S1x16x128x512, .bf16⟩
  | .local _ .vmem, ⟨5, _⟩ => ⟨S1x16x128x512, .bf16⟩
  | .local _ .vmem, ⟨6, _⟩ => ⟨S1x2x256x128, .bf16⟩
  | .local _ .vmem, ⟨7, _⟩ => ⟨S1x2x256x128, .bf16⟩
  | .local _ .vmem, ⟨8, _⟩ => ⟨S1x1x128x256, .bf16⟩
  | .local _ .vmem, ⟨9, _⟩ => ⟨S1x1x128x256, .bf16⟩
  | .local _ .vmem, ⟨10, _⟩ => ⟨S1x512x128, .bf16⟩
  | .local _ .vmem, ⟨11, _⟩ => ⟨S1x512x128, .bf16⟩
  | _, _ => ⟨S8x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S8x8192x512 : Shape := ⟨3, ![8, 8192, 512]⟩
abbrev S8x4x8192x128 : Shape := ⟨4, ![8, 4, 8192, 128]⟩
abbrev S8x16x256x512 : Shape := ⟨4, ![8, 16, 256, 512]⟩
abbrev S8x4x256x128 : Shape := ⟨4, ![8, 4, 256, 128]⟩
abbrev S8x1x256x256 : Shape := ⟨4, ![8, 1, 256, 256]⟩
abbrev S8x8192x4x128 : Shape := ⟨4, ![8, 8192, 4, 128]⟩
abbrev S8x4x8448x128 : Shape := ⟨4, ![8, 4, 8448, 128]⟩
abbrev S8x4x64x256 : Shape := ⟨4, ![8, 4, 64, 256]⟩
abbrev S8x256x4x64 : Shape := ⟨4, ![8, 256, 4, 64]⟩
abbrev S8x16x4x64x512 : Shape := ⟨5, ![8, 16, 4, 64, 512]⟩
abbrev S8x16x512x4x64 : Shape := ⟨5, ![8, 16, 512, 4, 64]⟩
abbrev S8x8192x4x64 : Shape := ⟨4, ![8, 8192, 4, 64]⟩
abbrev S8x8448x4x64 : Shape := ⟨4, ![8, 8448, 4, 64]⟩
abbrev S8x4x8192x8448 : Shape := ⟨4, ![8, 4, 8192, 8448]⟩
abbrev S_ : Shape := ⟨0, ![]⟩
abbrev S8x4x8192 : Shape := ⟨3, ![8, 4, 8192]⟩
abbrev S8x4x8192x1 : Shape := ⟨4, ![8, 4, 8192, 1]⟩
abbrev S8x4x64x8192 : Shape := ⟨4, ![8, 4, 64, 8192]⟩
abbrev S8x8192x256 : Shape := ⟨3, ![8, 8192, 256]⟩

abbrev nBuf : Space → Nat
  | .hbm => 39
  | .vmem => 0
  | .smem => 0
  | _ => 0

abbrev bufTy : (tb : Table) → Fin (tcTables nBuf tb) → BufTy
  | .hbm, ⟨0, _⟩ => ⟨S8x8192x512, .bf16⟩
  | .hbm, ⟨1, _⟩ => ⟨S8x4x8192x128, .bf16⟩
  | .hbm, ⟨2, _⟩ => ⟨S8x16x256x512, .bf16⟩
  | .hbm, ⟨3, _⟩ => ⟨S8x4x256x128, .bf16⟩
  | .hbm, ⟨4, _⟩ => ⟨S8x1x256x256, .bf16⟩
  | .hbm, ⟨5, _⟩ => ⟨S8x8192x512, .f32⟩
  | .hbm, ⟨6, _⟩ => ⟨S8x8192x4x128, .f32⟩
  | .hbm, ⟨7, _⟩ => ⟨S8x4x8448x128, .bf16⟩
  | .hbm, ⟨8, _⟩ => ⟨S8x4x8448x128, .f32⟩
  | .hbm, ⟨9, _⟩ => ⟨S8x4x64x256, .bf16⟩
  | .hbm, ⟨10, _⟩ => ⟨S8x256x4x64, .bf16⟩
  | .hbm, ⟨11, _⟩ => ⟨S8x16x4x64x512, .bf16⟩
  | .hbm, ⟨12, _⟩ => ⟨S8x16x512x4x64, .bf16⟩
  | .hbm, ⟨13, _⟩ => ⟨S8x8192x4x64, .bf16⟩
  | .hbm, ⟨14, _⟩ => ⟨S8x8448x4x64, .bf16⟩
  | .hbm, ⟨15, _⟩ => ⟨S8x8448x4x64, .f32⟩
  | .hbm, ⟨16, _⟩ => ⟨S8x4x8192x8448, .f32⟩
  | .hbm, ⟨17, _⟩ => ⟨S_, .f32⟩
  | .hbm, ⟨18, _⟩ => ⟨S_, .f32⟩
  | .hbm, ⟨19, _⟩ => ⟨S8x4x8192x8448, .f32⟩
  | .hbm, ⟨20, _⟩ => ⟨S8x4x8192x8448, .f32⟩
  | .hbm, ⟨21, _⟩ => ⟨S_, .f32⟩
  | .hbm, ⟨22, _⟩ => ⟨S8x4x8192, .f32⟩
  | .hbm, ⟨23, _⟩ => ⟨S_, .f32⟩
  | .hbm, ⟨24, _⟩ => ⟨S8x4x8192, .f32⟩
  | .hbm, ⟨25, _⟩ => ⟨S8x4x8192, .f32⟩
  | .hbm, ⟨26, _⟩ => ⟨S8x4x8192x1, .f32⟩
  | .hbm, ⟨27, _⟩ => ⟨S8x4x8192x8448, .f32⟩
  | .hbm, ⟨28, _⟩ => ⟨S8x4x8192x8448, .f32⟩
  | .hbm, ⟨29, _⟩ => ⟨S8x4x8192x8448, .f32⟩
  | .hbm, ⟨30, _⟩ => ⟨S_, .f32⟩
  | .hbm, ⟨31, _⟩ => ⟨S8x4x8192, .f32⟩
  | .hbm, ⟨32, _⟩ => ⟨S8x4x8192x1, .f32⟩
  | .hbm, ⟨33, _⟩ => ⟨S8x4x8192x8448, .f32⟩
  | .hbm, ⟨34, _⟩ => ⟨S8x4x8192x8448, .f32⟩
  | .hbm, ⟨35, _⟩ => ⟨S8x4x64x8192, .f32⟩
  | .hbm, ⟨36, _⟩ => ⟨S8x8192x4x64, .f32⟩
  | .hbm, ⟨37, _⟩ => ⟨S8x8192x256, .f32⟩
  | .hbm, ⟨38, _⟩ => ⟨S8x8192x256, .bf16⟩
  | _, _ => ⟨S8x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Kernel2.lean ====
abbrev S8x8192x1024 : Shape := ⟨3, ![8, 8192, 1024]⟩
abbrev S8x1x3072 : Shape := ⟨3, ![8, 1, 3072]⟩
abbrev S1x1024 : Shape := ⟨2, ![1, 1024]⟩
abbrev S1024x1024 : Shape := ⟨2, ![1024, 1024]⟩
abbrev S1024x4096 : Shape := ⟨2, ![1024, 4096]⟩
abbrev S8x8192x256 : Shape := ⟨3, ![8, 8192, 256]⟩
abbrev S256x256 : Shape := ⟨2, ![256, 256]⟩
abbrev S1x256 : Shape := ⟨2, ![1, 256]⟩
abbrev S4x256x1024 : Shape := ⟨3, ![4, 256, 1024]⟩
abbrev S1x512x1024 : Shape := ⟨3, ![1, 512, 1024]⟩
abbrev S1x1x3072 : Shape := ⟨3, ![1, 1, 3072]⟩
abbrev S1x8x256 : Shape := ⟨3, ![1, 8, 256]⟩
abbrev S1x512x256 : Shape := ⟨3, ![1, 512, 256]⟩
abbrev S512x1024 : Shape := ⟨2, ![512, 1024]⟩
abbrev S1x3072 : Shape := ⟨2, ![1, 3072]⟩
abbrev S512 : Shape := ⟨1, ![512]⟩
abbrev S512x1 : Shape := ⟨2, ![512, 1]⟩
abbrev S512x256 : Shape := ⟨2, ![512, 256]⟩
abbrev S8x256 : Shape := ⟨2, ![8, 256]⟩
abbrev S528x256 : Shape := ⟨2, ![528, 256]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 15
  | .vmem => 26
  | .smem => 0
  | _ => 0

abbrev bufTy : (tb : Table) → Fin (tcTables nBuf tb) → BufTy
  | .hbm, ⟨0, _⟩ => ⟨S8x8192x1024, .f32⟩
  | .hbm, ⟨1, _⟩ => ⟨S8x1x3072, .f32⟩
  | .hbm, ⟨2, _⟩ => ⟨S1x1024, .f32⟩
  | .hbm, ⟨3, _⟩ => ⟨S1x1024, .f32⟩
  | .hbm, ⟨4, _⟩ => ⟨S1024x1024, .bf16⟩
  | .hbm, ⟨5, _⟩ => ⟨S1024x4096, .bf16⟩
  | .hbm, ⟨6, _⟩ => ⟨S8x8192x256, .f32⟩
  | .hbm, ⟨7, _⟩ => ⟨S256x256, .bf16⟩
  | .hbm, ⟨8, _⟩ => ⟨S1x256, .f32⟩
  | .hbm, ⟨9, _⟩ => ⟨S8x8192x256, .bf16⟩
  | .hbm, ⟨10, _⟩ => ⟨S8x8192x256, .bf16⟩
  | .hbm, ⟨11, _⟩ => ⟨S8x8192x256, .bf16⟩
  | .hbm, ⟨12, _⟩ => ⟨S4x256x1024, .bf16⟩
  | .hbm, ⟨13, _⟩ => ⟨S1024x1024, .bf16⟩
  | .hbm, ⟨14, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x4096, .bf16⟩
  | .local _ .vmem, ⟨8, _⟩ => ⟨S1x8x256, .f32⟩
  | .local _ .vmem, ⟨9, _⟩ => ⟨S1x8x256, .f32⟩
  | .local _ .vmem, ⟨10, _⟩ => ⟨S1x512x256, .f32⟩
  | .local _ .vmem, ⟨11, _⟩ => ⟨S1x512x256, .f32⟩
  | .local _ .vmem, ⟨12, _⟩ => ⟨S1x8x256, .f32⟩
  | .local _ .vmem, ⟨13, _⟩ => ⟨S1x8x256, .f32⟩
  | .local _ .vmem, ⟨14, _⟩ => ⟨S256x256, .bf16⟩
  | .local _ .vmem, ⟨15, _⟩ => ⟨S1x256, .f32⟩
  | .local _ .vmem, ⟨16, _⟩ => ⟨S1x512x256, .bf16⟩
  | .local _ .vmem, ⟨17, _⟩ => ⟨S1x512x256, .bf16⟩
  | .local _ .vmem, ⟨18, _⟩ => ⟨S1x512x256, .bf16⟩
  | .local _ .vmem, ⟨19, _⟩ => ⟨S1x512x256, .bf16⟩
  | .local _ .vmem, ⟨20, _⟩ => ⟨S1x512x256, .bf16⟩
  | .local _ .vmem, ⟨21, _⟩ => ⟨S1x512x256, .bf16⟩
  | .local _ .vmem, ⟨22, _⟩ => ⟨S4x256x1024, .bf16⟩
  | .local _ .vmem, ⟨23, _⟩ => ⟨S1024x1024, .bf16⟩
  | .local _ .vmem, ⟨24, _⟩ => ⟨S1x512x1024, .f32⟩
  | .local _ .vmem, ⟨25, _⟩ => ⟨S1x512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem15_0 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg1.toNat, v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg1.toNat, v2.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S4x256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference2Ideal.lean ====
abbrev S8x8192x1024 : Shape := ⟨3, ![8, 8192, 1024]⟩
abbrev S8x1x3072 : Shape := ⟨3, ![8, 1, 3072]⟩
abbrev S1x1024 : Shape := ⟨2, ![1, 1024]⟩
abbrev S1024x1024 : Shape := ⟨2, ![1024, 1024]⟩
abbrev S1024x4096 : Shape := ⟨2, ![1024, 4096]⟩
abbrev S8x8192x256 : Shape := ⟨3, ![8, 8192, 256]⟩
abbrev S256x256 : Shape := ⟨2, ![256, 256]⟩
abbrev S1x256 : Shape := ⟨2, ![1, 256]⟩
abbrev S4x256x1024 : Shape := ⟨3, ![4, 256, 1024]⟩
abbrev S8x1x1024 : Shape := ⟨3, ![8, 1, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8192 : Shape := ⟨1, ![8192]⟩
abbrev S8192x1 : Shape := ⟨2, ![8192, 1]⟩
abbrev S64 : Shape := ⟨1, ![64]⟩
abbrev S256 : Shape := ⟨1, ![256]⟩
abbrev S8x8208x256 : Shape := ⟨3, ![8, 8208, 256]⟩
abbrev S8x8192x64 : Shape := ⟨3, ![8, 8192, 64]⟩
abbrev S8192x256 : Shape := ⟨2, ![8192, 256]⟩
abbrev S1x8192x256 : Shape := ⟨3, ![1, 8192, 256]⟩
abbrev S1x1x256 : Shape := ⟨3, ![1, 1, 256]⟩
abbrev S8x8192x4096 : Shape := ⟨3, ![8, 8192, 4096]⟩
abbrev S1x256x1024 : Shape := ⟨3, ![1, 256, 1024]⟩
abbrev S256x1024 : Shape := ⟨2, ![256, 1024]⟩

abbrev nBuf : Space → Nat
  | .hbm => 240
  | .vmem => 0
  | .smem => 0
  | _ => 0

abbrev hbmTy0_0 (i : Nat) : BufTy := match i % 128 with
  | 0 => ⟨S8x8192x1024, .f32⟩
  | 1 => ⟨S8x1x3072, .f32⟩
  | 2 => ⟨S1x1024, .f32⟩
  | 3 => ⟨S1x1024, .f32⟩
  | 4 => ⟨S1024x1024, .bf16⟩
  | 5 => ⟨S1024x4096, .bf16⟩
  | 6 => ⟨S8x8192x256, .f32⟩
  | 7 => ⟨S256x256, .bf16⟩
  | 8 => ⟨S1x256, .f32⟩
  | 9 => ⟨S8x8192x256, .bf16⟩
  | 10 => ⟨S8x8192x256, .bf16⟩
  | 11 => ⟨S8x8192x256, .bf16⟩
  | 12 => ⟨S4x256x1024, .bf16⟩
  | 13 => ⟨S1024x1024, .bf16⟩
  | 14 => ⟨S8x1x1024, .f32⟩
  | 15 => ⟨S8x1x1024, .f32⟩
  | 16 => ⟨S8x1x1024, .f32⟩
  | 17 => ⟨S8x8192x1024, .f32⟩
  | 18 => ⟨S_, .f32⟩
  | 19 => ⟨S8x8192, .f32⟩
  | 20 => ⟨S8x8192x1, .f32⟩
  | 21 => ⟨S_, .f32⟩
  | 22 => ⟨S8x8192x1, .f32⟩
  | 23 => ⟨S8x8192x1, .f32⟩
  | 24 => ⟨S_, .f32⟩
  | 25 => ⟨S8x8192x1, .f32⟩
  | 26 => ⟨S8x8192x1, .f32⟩
  | 27 => ⟨S8x8192x1, .f32⟩
  | 28 => ⟨S8x8192x1024, .f32⟩
  | 29 => ⟨S8x8192x1024, .f32⟩
  | 30 => ⟨S1x1x1024, .f32⟩
  | 31 => ⟨S8x8192x1024, .f32⟩
  | 32 => ⟨S8x8192x1024, .f32⟩
  | 33 => ⟨S_, .f32⟩
  | 34 => ⟨S8x1x1024, .f32⟩
  | 35 => ⟨S8x1x1024, .f32⟩
  | 36 => ⟨S8x8192x1024, .f32⟩
  | 37 => ⟨S8x8192x1024, .f32⟩
  | 38 => ⟨S8x8192x1024, .f32⟩
  | 39 => ⟨S8x8192x1024, .f32⟩
  | 40 => ⟨S8192, .i32⟩
  | 41 => ⟨S8192x1, .i32⟩
  | 42 => ⟨S_, .i32⟩
  | 43 => ⟨S64, .i32⟩
  | 44 => ⟨S_, .i32⟩
  | 45 => ⟨S64, .i32⟩
  | 46 => ⟨S_, .i32⟩
  | 47 => ⟨S64, .i32⟩
  | 48 => ⟨S_, .i32⟩
  | 49 => ⟨S64, .i32⟩
  | 50 => ⟨S256, .i32⟩
  | 51 => ⟨S1x256, .i32⟩
  | 52 => ⟨S_, .i32⟩
  | 53 => ⟨S_, .f32⟩
  | 54 => ⟨S8x8208x256, .f32⟩
  | 55 => ⟨S8x8192x64, .f32⟩
  | 56 => ⟨S_, .f32⟩
  | 57 => ⟨S8x8192x64, .f32⟩
  | 58 => ⟨S8x8192x64, .f32⟩
  | 59 => ⟨S8x8192x64, .f32⟩
  | 60 => ⟨S8x8192x64, .f32⟩
  | 61 => ⟨S8x8192x64, .f32⟩
  | 62 => ⟨S_, .f32⟩
  | 63 => ⟨S8x8192x64, .f32⟩
  | 64 => ⟨S8x8192x64, .f32⟩
  | 65 => ⟨S8x8192x64, .f32⟩
  | 66 => ⟨S8x8192x64, .f32⟩
  | 67 => ⟨S8x8192x64, .f32⟩
  | 68 => ⟨S8x8192x64, .f32⟩
  | 69 => ⟨S8x8192x64, .f32⟩
  | 70 => ⟨S8x8192x64, .f32⟩
  | 71 => ⟨S8x8192x64, .f32⟩
  | 72 => ⟨S_, .f32⟩
  | 73 => ⟨S8x8192x64, .f32⟩
  | 74 => ⟨S8x8192x64, .f32⟩
  | 75 => ⟨S8x8192x64, .f32⟩
  | 76 => ⟨S8x8192x64, .f32⟩
  | 77 => ⟨S8x8192x64, .f32⟩
  | 78 => ⟨S8x8192x64, .f32⟩
  | 79 => ⟨S8x8192x64, .f32⟩
  | 80 => ⟨S8x8192x64, .f32⟩
  | 81 => ⟨S8x8192x64, .f32⟩
  | 82 => ⟨S8x8192x64, .f32⟩
  | 83 => ⟨S8x8192x64, .f32⟩
  | 84 => ⟨S8x8192x64, .f32⟩
  | 85 => ⟨S8x8192x64, .f32⟩
  | 86 => ⟨S8x8192x64, .f32⟩
  | 87 => ⟨S8x8192x64, .f32⟩
  | 88 => ⟨S8x8192x64, .f32⟩
  | 89 => ⟨S8x8192x64, .f32⟩
  | 90 => ⟨S_, .f32⟩
  | 91 => ⟨S8x8192x64, .f32⟩
  | 92 => ⟨S8x8192x64, .f32⟩
  | 93 => ⟨S8x8192x64, .f32⟩
  | 94 => ⟨S8x8192x64, .f32⟩
  | 95 => ⟨S8x8192x64, .f32⟩
  | 96 => ⟨S8x8192x64, .f32⟩
  | 97 => ⟨S8x8192x64, .f32⟩
  | 98 => ⟨S8x8192x64, .f32⟩
  | 99 => ⟨S8x8192x64, .f32⟩
  | 100 => ⟨S8x8192x64, .f32⟩
  | 101 => ⟨S8x8192x64, .f32⟩
  | 102 => ⟨S8x8192x64, .f32⟩
  | 103 => ⟨S8x8192x64, .f32⟩
  | 104 => ⟨S8x8192x64, .f32⟩
  | 105 => ⟨S8x8192x64, .f32⟩
  | 106 => ⟨S8x8192x64, .f32⟩
  | 107 => ⟨S8x8192x64, .f32⟩
  | 108 => ⟨S8x8192x64, .f32⟩
  | 109 => ⟨S8x8192x64, .f32⟩
  | 110 => ⟨S8x8192x64, .f32⟩
  | 111 => ⟨S8x8192x64, .f32⟩
  | 112 => ⟨S8x8192x64, .f32⟩
  | 113 => ⟨S8x8192x64, .f32⟩
  | 114 => ⟨S8x8192x64, .f32⟩
  | 115 => ⟨S8x8192x64, .f32⟩
  | 116 => ⟨S8x8192x64, .f32⟩
  | 117 => ⟨S8x8192x64, .f32⟩
  | 118 => ⟨S8x8192x64, .f32⟩
  | 119 => ⟨S8x8192x64, .f32⟩
  | 120 => ⟨S8x8192x64, .f32⟩
  | 121 => ⟨S8x8192x64, .f32⟩
  | 122 => ⟨S8x8192x64, .f32⟩
  | 123 => ⟨S8x8192x256, .f32⟩
  | 124 => ⟨S8192x256, .i32⟩
  | 125 => ⟨S8192x256, .i32⟩
  | 126 => ⟨S8192x256, .i32⟩
  | 127 => ⟨S_, .i32⟩
  | _ => ⟨S8x8192x1024, .f32⟩

abbrev hbmTy0_1 (i : Nat) : BufTy := match i % 128 with
  | 0 => ⟨S_, .i32⟩
  | 1 => ⟨S_, .i32⟩
  | 2 => ⟨S8192x256, .i32⟩
  | 3 => ⟨S8192x256, .i32⟩
  | 4 => ⟨S_, .i32⟩
  | 5 => ⟨S8192x256, .i32⟩
  | 6 => ⟨S8192x256, .i32⟩
  | 7 => ⟨S8192x256, .i32⟩
  | 8 => ⟨S8192x256, .i32⟩
  | 9 => ⟨S8192x256, .i32⟩
  | 10 => ⟨S_, .i32⟩
  | 11 => ⟨S_, .i32⟩
  | 12 => ⟨S_, .i32⟩
  | 13 => ⟨S8192x256, .i32⟩
  | 14 => ⟨S8192x256, .i32⟩
  | 15 => ⟨S_, .i32⟩
  | 16 => ⟨S8192x256, .i32⟩
  | 17 => ⟨S8192x256, .i32⟩
  | 18 => ⟨S8192x256, .i32⟩
  | 19 => ⟨S8192x256, .f32⟩
  | 20 => ⟨S1x8192x256, .f32⟩
  | 21 => ⟨S8x8192x256, .f32⟩
  | 22 => ⟨S8x8192x256, .f32⟩
  | 23 => ⟨S8x8192x256, .f32⟩
  | 24 => ⟨S256x256, .f32⟩
  | 25 => ⟨S8x8192x256, .f32⟩
  | 26 => ⟨S1x1x256, .f32⟩
  | 27 => ⟨S8x8192x256, .f32⟩
  | 28 => ⟨S8x8192x256, .f32⟩
  | 29 => ⟨S8x8192x256, .f32⟩
  | 30 => ⟨S8x8192x256, .f32⟩
  | 31 => ⟨S8x8192x256, .f32⟩
  | 32 => ⟨S1024x1024, .f32⟩
  | 33 => ⟨S8x8192x1024, .f32⟩
  | 34 => ⟨S8x8192x1024, .f32⟩
  | 35 => ⟨S8x8192x1024, .f32⟩
  | 36 => ⟨S_, .f32⟩
  | 37 => ⟨S8x8192x1024, .f32⟩
  | 38 => ⟨S8x8192x1024, .f32⟩
  | 39 => ⟨S_, .f32⟩
  | 40 => ⟨S8x8192x1024, .f32⟩
  | 41 => ⟨S8x8192x1024, .f32⟩
  | 42 => ⟨S8x8192x1024, .f32⟩
  | 43 => ⟨S1024x4096, .f32⟩
  | 44 => ⟨S8x8192x4096, .f32⟩
  | 45 => ⟨S8x8192x4096, .f32⟩
  | 46 => ⟨S8x8192x4096, .f32⟩
  | 47 => ⟨S_, .f32⟩
  | 48 => ⟨S8x8192x4096, .f32⟩
  | 49 => ⟨S8x8192x4096, .f32⟩
  | 50 => ⟨S_, .f32⟩
  | 51 => ⟨S8x8192x4096, .f32⟩
  | 52 => ⟨S8x8192x4096, .f32⟩
  | 53 => ⟨S8x8192x1024, .f32⟩
  | 54 => ⟨S8x8192x256, .f32⟩
  | 55 => ⟨S8x8192x256, .f32⟩
  | 56 => ⟨S1x256x1024, .bf16⟩
  | 57 => ⟨S256x1024, .bf16⟩
  | 58 => ⟨S256x1024, .f32⟩
  | 59 => ⟨S8x8192x1024, .f32⟩
  | 60 => ⟨S8x8192x1024, .f32⟩
  | 61 => ⟨S_, .f32⟩
  | 62 => ⟨S8x8192x1024, .f32⟩
  | 63 => ⟨S8x8192x1024, .f32⟩
  | 64 => ⟨S8x8192x1024, .f32⟩
  | 65 => ⟨S8x8192x256, .f32⟩
  | 66 => ⟨S8x8192x256, .f32⟩
  | 67 => ⟨S1x256x1024, .bf16⟩
  | 68 => ⟨S256x1024, .bf16⟩
  | 69 => ⟨S256x1024, .f32⟩
  | 70 => ⟨S8x8192x1024, .f32⟩
  | 71 => ⟨S8x8192x1024, .f32⟩
  | 72 => ⟨S8x8192x1024, .f32⟩
  | 73 => ⟨S8x8192x1024, .f32⟩
  | 74 => ⟨S8x8192x256, .f32⟩
  | 75 => ⟨S8x8192x256, .f32⟩
  | 76 => ⟨S1x256x1024, .bf16⟩
  | 77 => ⟨S256x1024, .bf16⟩
  | 78 => ⟨S256x1024, .f32⟩
  | 79 => ⟨S8x8192x1024, .f32⟩
  | 80 => ⟨S8x8192x1024, .f32⟩
  | 81 => ⟨S8x8192x1024, .f32⟩
  | 82 => ⟨S8x8192x1024, .f32⟩
  | 83 => ⟨S8x8192x256, .f32⟩
  | 84 => ⟨S8x8192x256, .f32⟩
  | 85 => ⟨S1x256x1024, .bf16⟩
  | 86 => ⟨S256x1024, .bf16⟩
  | 87 => ⟨S256x1024, .f32⟩
  | 88 => ⟨S8x8192x1024, .f32⟩
  | 89 => ⟨S8x8192x1024, .f32⟩
  | 90 => ⟨S8x8192x1024, .f32⟩
  | 91 => ⟨S1024x1024, .f32⟩
  | 92 => ⟨S8x8192x1024, .f32⟩
  | 93 => ⟨S8x8192x1024, .f32⟩
  | 94 => ⟨S_, .f32⟩
  | 95 => ⟨S8x8192, .f32⟩
  | 96 => ⟨S8x8192x1, .f32⟩
  | 97 => ⟨S_, .f32⟩
  | 98 => ⟨S8x8192x1, .f32⟩
  | 99 => ⟨S8x8192x1, .f32⟩
  | 100 => ⟨S_, .f32⟩
  | 101 => ⟨S8x8192x1, .f32⟩
  | 102 => ⟨S8x8192x1, .f32⟩
  | 103 => ⟨S8x8192x1, .f32⟩
  | 104 => ⟨S8x8192x1024, .f32⟩
  | 105 => ⟨S8x8192x1024, .f32⟩
  | 106 => ⟨S1x1x1024, .f32⟩
  | 107 => ⟨S8x8192x1024, .f32⟩
  | 108 => ⟨S8x8192x1024, .f32⟩
  | 109 => ⟨S8x8192x1024, .f32⟩
  | 110 => ⟨S8x8192x1024, .f32⟩
  | 111 => ⟨S8x8192x1024, .f32⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c : Ref sig .tc := ⟨.hbm, 42, rfl⟩
abbrev main_v24 : Ref sig .tc := ⟨.hbm, 43, rfl⟩
abbrev main_c_3 : Ref sig .tc := ⟨.hbm, 44, rfl⟩
abbrev main_v25 : Ref sig .tc := ⟨.hbm, 45, rfl⟩
abbrev main_c_4 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_call0_v0 : Ref sig .tc := ⟨.hbm, 53, rfl⟩
abbrev main_v30 : Ref sig .tc := ⟨.hbm, 54, rfl⟩
abbrev main_v31 : Ref sig .tc := ⟨.hbm, 55, rfl⟩
abbrev main_cst_7 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_8 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_9 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_10 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_c_11 : Ref sig .tc := ⟨.hbm, 127, rfl⟩
abbrev main_c_12 : Ref sig .tc := ⟨.hbm, 128, rfl⟩
abbrev main_call1_v0 : Ref sig .tc := ⟨.hbm, 129, rfl⟩
abbrev main_call1_v1 : Ref sig .tc := ⟨.hbm, 130, rfl⟩
abbrev main_call1_v2 : Ref sig .tc := ⟨.hbm, 131, rfl⟩
abbrev main_call1_v3 : Ref sig .tc := ⟨.hbm, 132, rfl⟩
abbrev main_call1_v4 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_c_13 : Ref sig .tc := ⟨.hbm, 138, rfl⟩
abbrev main_c_14 : Ref sig .tc := ⟨.hbm, 139, rfl⟩
abbrev main_call2_v0 : Ref sig .tc := ⟨.hbm, 140, rfl⟩
abbrev main_call2_v1 : Ref sig .tc := ⟨.hbm, 141, rfl⟩
abbrev main_call2_v2 : Ref sig .tc := ⟨.hbm, 142, rfl⟩
abbrev main_call2_v3 : Ref sig .tc := ⟨.hbm, 143, rfl⟩
abbrev main_call2_v4 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_call3_v0 : Ref sig .tc := ⟨.hbm, 162, rfl⟩
abbrev main_call3_v1 : Ref sig .tc := ⟨.hbm, 163, rfl⟩
abbrev main_call3_cst : Ref sig .tc := ⟨.hbm, 164, rfl⟩
abbrev main_call3_v2 : Ref sig .tc := ⟨.hbm, 165, rfl⟩
abbrev main_call3_v3 : Ref sig .tc := ⟨.hbm, 166, rfl⟩
abbrev main_call3_cst_0 : Ref sig .tc := ⟨.hbm, 167, rfl⟩
abbrev main_call3_v4 : Ref sig .tc := ⟨.hbm, 168, rfl⟩
abbrev main_call3_v5 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_cst_15 : Ref sig .tc := ⟨.hbm, 175, rfl⟩
abbrev main_v125 : Ref sig .tc := ⟨.hbm, 176, rfl⟩
abbrev main_v126 : Ref sig .tc := ⟨.hbm, 177, rfl⟩
abbrev main_cst_16 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_cst_17 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_cst_18 : Ref sig .tc := ⟨.hbm, 222, rfl⟩
abbrev main_v169 : Ref sig .tc := ⟨.hbm, 223, rfl⟩
abbrev main_v170 : Ref sig .tc := ⟨.hbm, 224, rfl⟩
abbrev main_cst_19 : Ref sig .tc := ⟨.hbm, 225, rfl⟩
abbrev main_v171 : Ref sig .tc := ⟨.hbm, 226, rfl⟩
abbrev main_v172 : Ref sig .tc := ⟨.hbm, 227, rfl⟩
abbrev main_cst_20 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩

abbrev nD : Nat := 1
abbrev τ : Topo := Topo.v7x

variable {F : FTy → Type} [FloatOps F]
-- ==== Kernel3.lean ====
abbrev S8x8192x256 : Shape := ⟨3, ![8, 8192, 256]⟩
abbrev S8x16x256x512 : Shape := ⟨4, ![8, 16, 256, 512]⟩
abbrev S8x256x256 : Shape := ⟨3, ![8, 256, 256]⟩
abbrev S8x1x256x256 : Shape := ⟨4, ![8, 1, 256, 256]⟩
abbrev S4x32 : Shape := ⟨2, ![4, 32]⟩
abbrev S64x1 : Shape := ⟨2, ![64, 1]⟩
abbrev S1x256x128 : Shape := ⟨3, ![1, 256, 128]⟩
abbrev S1x8192x128 : Shape := ⟨3, ![1, 8192, 128]⟩
abbrev S1x16x128x512 : Shape := ⟨4, ![1, 16, 128, 512]⟩
abbrev S1x1x128x256 : Shape := ⟨4, ![1, 1, 128, 256]⟩
abbrev S256x128 : Shape := ⟨2, ![256, 128]⟩
abbrev S256x256 : Shape := ⟨2, ![256, 256]⟩
abbrev S1x256 : Shape := ⟨2, ![1, 256]⟩
abbrev S80x256 : Shape := ⟨2, ![80, 256]⟩
abbrev S256 : Shape := ⟨1, ![256]⟩
abbrev S1x1x64x256 : Shape := ⟨4, ![1, 1, 64, 256]⟩
abbrev S64x256 : Shape := ⟨2, ![64, 256]⟩
abbrev S16x256 : Shape := ⟨2, ![16, 256]⟩
abbrev S1x1x256 : Shape := ⟨3, ![1, 1, 256]⟩
abbrev S1 : Shape := ⟨1, ![1]⟩
abbrev S1x1x1 : Shape := ⟨3, ![1, 1, 1]⟩
abbrev S1x32 : Shape := ⟨2, ![1, 32]⟩
abbrev S1x1 : Shape := ⟨2, ![1, 1]⟩
abbrev S128x256 : Shape := ⟨2, ![128, 256]⟩

abbrev nBuf : Space → Nat
  | .hbm => 8
  | .vmem => 14
  | .smem => 0
  | _ => 0

abbrev bufTy : (tb : Table) → Fin (tcTables nBuf tb) → BufTy
  | .hbm, ⟨0, _⟩ => ⟨S8x8192x256, .bf16⟩
  | .hbm, ⟨1, _⟩ => ⟨S8x8192x256, .bf16⟩
  | .hbm, ⟨2, _⟩ => ⟨S8x16x256x512, .bf16⟩
  | .hbm, ⟨3, _⟩ => ⟨S8x256x256, .bf16⟩
  | .hbm, ⟨4, _⟩ => ⟨S8x1x256x256, .bf16⟩
  | .hbm, ⟨5, _⟩ => ⟨S4x32, .f32⟩
  | .hbm, ⟨6, _⟩ => ⟨S64x1, .f32⟩
  | .hbm, ⟨7, _⟩ => ⟨S8x8192x256, .bf16⟩
  | .local _ .vmem, ⟨0, _⟩ => ⟨S1x256x128, .bf16⟩
  | .local _ .vmem, ⟨1, _⟩ => ⟨S1x256x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x16x128x512, .bf16⟩
  | .local _ .vmem, ⟨5, _⟩ => ⟨S1x16x128x512, .bf16⟩
  | .local _ .vmem, ⟨6, _⟩ => ⟨S1x256x128, .bf16⟩
  | .local _ .vmem, ⟨7, _⟩ => ⟨S1x256x128, .bf16⟩
  | .local _ .vmem, ⟨8, _⟩ => ⟨S1x1x128x256, .bf16⟩
  | .local _ .vmem, ⟨9, _⟩ => ⟨S1x1x128x256, .bf16⟩
  | .local _ .vmem, ⟨10, _⟩ => ⟨S4x32, .f32⟩
  | .local _ .vmem, ⟨11, _⟩ => ⟨S64x1, .f32⟩
  | .local _ .vmem, ⟨12, _⟩ => ⟨S1x256x128, .bf16⟩
  | .local _ .vmem, ⟨13, _⟩ => ⟨S1x256x128, .bf16⟩
  | _, _ => ⟨S8x8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![8, 2, 32], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S4x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Reference3Ideal.lean ====
abbrev S8x8192x256 : Shape := ⟨3, ![8, 8192, 256]⟩
abbrev S8x16x256x512 : Shape := ⟨4, ![8, 16, 256, 512]⟩
abbrev S8x256x256 : Shape := ⟨3, ![8, 256, 256]⟩
abbrev S8x1x256x256 : Shape := ⟨4, ![8, 1, 256, 256]⟩
abbrev S4x32 : Shape := ⟨2, ![4, 32]⟩
abbrev S64x1 : Shape := ⟨2, ![64, 1]⟩
abbrev S8x8192x8x32 : Shape := ⟨4, ![8, 8192, 8, 32]⟩
abbrev S8x8448x256 : Shape := ⟨3, ![8, 8448, 256]⟩
abbrev S8x8448x8x32 : Shape := ⟨4, ![8, 8448, 8, 32]⟩
abbrev S8x4x64x256 : Shape := ⟨4, ![8, 4, 64, 256]⟩
abbrev S8x256x4x64 : Shape := ⟨4, ![8, 256, 4, 64]⟩
abbrev S8x16x4x64x512 : Shape := ⟨5, ![8, 16, 4, 64, 512]⟩
abbrev S8x16x512x4x64 : Shape := ⟨5, ![8, 16, 512, 4, 64]⟩
abbrev S8x8192x4x64 : Shape := ⟨4, ![8, 8192, 4, 64]⟩
abbrev S8x8448x4x64 : Shape := ⟨4, ![8, 8448, 4, 64]⟩
abbrev S8x8x8192x8448 : Shape := ⟨4, ![8, 8, 8192, 8448]⟩
abbrev S_ : Shape := ⟨0, ![]⟩
abbrev S8x8x8192 : Shape := ⟨3, ![8, 8, 8192]⟩
abbrev S8x8x8192x1 : Shape := ⟨4, ![8, 8, 8192, 1]⟩
abbrev S8x4x2x8192x8448 : Shape := ⟨5, ![8, 4, 2, 8192, 8448]⟩
abbrev S1x32 : Shape := ⟨2, ![1, 32]⟩
abbrev S32 : Shape := ⟨1, ![32]⟩
abbrev S8x4x1x8192x8448 : Shape := ⟨5, ![8, 4, 1, 8192, 8448]⟩
abbrev S8x4x8192x8448 : Shape := ⟨4, ![8, 4, 8192, 8448]⟩
abbrev S8x4x64x8192 : Shape := ⟨4, ![8, 4, 64, 8192]⟩
abbrev S8x8192x4 : Shape := ⟨3, ![8, 8192, 4]⟩
abbrev S8x8192x4x1 : Shape := ⟨4, ![8, 8192, 4, 1]⟩
abbrev S64 : Shape := ⟨1, ![64]⟩
abbrev S1x1x1x64 : Shape := ⟨4, ![1, 1, 1, 64]⟩

abbrev nBuf : Space → Nat
  | .hbm => 89
  | .vmem => 0
  | .smem => 0
  | _ => 0

abbrev bufTy : (tb : Table) → Fin (tcTables nBuf tb) → BufTy
  | .hbm, ⟨0, _⟩ => ⟨S8x8192x256, .bf16⟩
  | .hbm, ⟨1, _⟩ => ⟨S8x8192x256, .bf16⟩
  | .hbm, ⟨2, _⟩ => ⟨S8x16x256x512, .bf16⟩
  | .hbm, ⟨3, _⟩ => ⟨S8x256x256, .bf16⟩
  | .hbm, ⟨4, _⟩ => ⟨S8x1x256x256, .bf16⟩
  | .hbm, ⟨5, _⟩ => ⟨S4x32, .f32⟩
  | .hbm, ⟨6, _⟩ => ⟨S64x1, .f32⟩
  | .hbm, ⟨7, _⟩ => ⟨S8x8192x256, .f32⟩
  | .hbm, ⟨8, _⟩ => ⟨S8x8192x8x32, .f32⟩
  | .hbm, ⟨9, _⟩ => ⟨S8x8448x256, .bf16⟩
  | .hbm, ⟨10, _⟩ => ⟨S8x8448x256, .f32⟩
  | .hbm, ⟨11, _⟩ => ⟨S8x8448x8x32, .f32⟩
  | .hbm, ⟨12, _⟩ => ⟨S8x4x64x256, .bf16⟩
  | .hbm, ⟨13, _⟩ => ⟨S8x256x4x64, .bf16⟩
  | .hbm, ⟨14, _⟩ => ⟨S8x16x4x64x512, .bf16⟩
  | .hbm, ⟨15, _⟩ => ⟨S8x16x512x4x64, .bf16⟩
  | .hbm, ⟨16, _⟩ => ⟨S8x8192x4x64, .bf16⟩
  | .hbm, ⟨17, _⟩ => ⟨S8x8448x4x64, .bf16⟩
  | .hbm, ⟨18, _⟩ => ⟨S8x8448x4x64, .f32⟩
  | .hbm, ⟨19, _⟩ => ⟨S8x8x8192x8448, .f32⟩
  | .hbm, ⟨20, _⟩ => ⟨S_, .f32⟩
  | .hbm, ⟨21, _⟩ => ⟨S_, .f32⟩
  | .hbm, ⟨22, _⟩ => ⟨S8x8x8192x8448, .f32⟩
  | .hbm, ⟨23, _⟩ => ⟨S8x8x8192x8448, .f32⟩
  | .hbm, ⟨24, _⟩ => ⟨S_, .f32⟩
  | .hbm, ⟨25, _⟩ => ⟨S8x8x8192, .f32⟩
  | .hbm, ⟨26, _⟩ => ⟨S_, .f32⟩
  | .hbm, ⟨27, _⟩ => ⟨S8x8x8192, .f32⟩
  | .hbm, ⟨28, _⟩ => ⟨S8x8x8192, .f32⟩
  | .hbm, ⟨29, _⟩ => ⟨S8x8x8192x1, .f32⟩
  | .hbm, ⟨30, _⟩ => ⟨S8x8x8192x8448, .f32⟩
  | .hbm, ⟨31, _⟩ => ⟨S8x8x8192x8448, .f32⟩
  | .hbm, ⟨32, _⟩ => ⟨S8x8x8192x8448, .f32⟩
  | .hbm, ⟨33, _⟩ => ⟨S_, .f32⟩
  | .hbm, ⟨34, _⟩ => ⟨S8x8x8192, .f32⟩
  | .hbm, ⟨35, _⟩ => ⟨S8x8x8192x1, .f32⟩
  | .hbm, ⟨36, _⟩ => ⟨S8x8x8192x8448, .f32⟩
  | .hbm, ⟨37, _⟩ => ⟨S8x8x8192x8448, .f32⟩
  | .hbm, ⟨38, _⟩ => ⟨S8x4x2x8192x8448, .f32⟩
  | .hbm, ⟨39, _⟩ => ⟨S1x32, .f32⟩
  | .hbm, ⟨40, _⟩ => ⟨S32, .f32⟩
  | .hbm, ⟨41, _⟩ => ⟨S1x32, .f32⟩
  | .hbm, ⟨42, _⟩ => ⟨S32, .f32⟩
  | .hbm, ⟨43, _⟩ => ⟨S32, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S1x32, .f32⟩
  | .hbm, ⟨48, _⟩ => ⟨S32, .f32⟩
  | .hbm, ⟨49, _⟩ => ⟨S1x32, .f32⟩
  | .hbm, ⟨50, _⟩ => ⟨S32, .f32⟩
  | .hbm, ⟨51, _⟩ => ⟨S32, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S8x4x1x8192x8448, .f32⟩
  | .hbm, ⟨59, _⟩ => ⟨S8x4x8192x8448, .f32⟩
  | .hbm, ⟨60, _⟩ => ⟨S8x4x1x8192x8448, .f32⟩
  | .hbm, ⟨61, _⟩ => ⟨S8x4x8192x8448, .f32⟩
  | .hbm, ⟨62, _⟩ => ⟨S8x4x8192x8448, .f32⟩
  | .hbm, ⟨63, _⟩ => ⟨S8x4x8192x8448, .f32⟩
  | .hbm, ⟨64, _⟩ => ⟨S8x4x8192x8448, .f32⟩
  | .hbm, ⟨65, _⟩ => ⟨S8x4x64x8192, .f32⟩
  | .hbm, ⟨66, _⟩ => ⟨S8x8192x4x64, .f32⟩
  | .hbm, ⟨67, _⟩ => ⟨S8x8192x4x64, .f32⟩
  | .hbm, ⟨68, _⟩ => ⟨S_, .f32⟩
  | .hbm, ⟨69, _⟩ => ⟨S8x8192x4, .f32⟩
  | .hbm, ⟨70, _⟩ => ⟨S8x8192x4x1, .f32⟩
  | .hbm, ⟨71, _⟩ => ⟨S_, .f32⟩
  | .hbm, ⟨72, _⟩ => ⟨S8x8192x4x1, .f32⟩
  | .hbm, ⟨73, _⟩ => ⟨S8x8192x4x1, .f32⟩
  | .hbm, ⟨74, _⟩ => ⟨S_, .f32⟩
  | .hbm, ⟨75, _⟩ => ⟨S8x8192x4x1, .f32⟩
  | .hbm, ⟨76, _⟩ => ⟨S8x8192x4x1, .f32⟩
  | .hbm, ⟨77, _⟩ => ⟨S8x8192x4x1, .f32⟩
  | .hbm, ⟨78, _⟩ => ⟨S8x8192x4x64, .f32⟩
  | .hbm, ⟨79, _⟩ => ⟨S8x8192x4x64, .f32⟩
  | .hbm, ⟨80, _⟩ => ⟨S64, .f32⟩
  | .hbm, ⟨81, _⟩ => ⟨S1x1x1x64, .f32⟩
  | .hbm, ⟨82, _⟩ => ⟨S8x8192x4x64, .f32⟩
  | .hbm, ⟨83, _⟩ => ⟨S8x8192x4x64, .f32⟩
  | .hbm, ⟨84, _⟩ => ⟨S_, .f32⟩
  | .hbm, ⟨85, _⟩ => ⟨S8x8192x4x64, .f32⟩
  | .hbm, ⟨86, _⟩ => ⟨S8x8192x4x64, .f32⟩
  | .hbm, ⟨87, _⟩ => ⟨S8x8192x256, .f32⟩
  | .hbm, ⟨88, _⟩ => ⟨S8x8192x256, .bf16⟩
  | _, _ => ⟨S8x8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_5 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_6 : Ref sig .tc := ⟨.hbm, 68, rfl⟩
abbrev main_v54 : Ref sig .tc := ⟨.hbm, 69, rfl⟩
abbrev main_v55 : Ref sig .tc := ⟨.hbm, 70, rfl⟩
abbrev main_cst_7 : Ref sig .tc := ⟨.hbm, 71, rfl⟩
abbrev main_v56 : Ref sig .tc := ⟨.hbm, 72, rfl⟩
abbrev main_v57 : Ref sig .tc := ⟨.hbm, 73, rfl⟩
abbrev main_cst_8 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_9 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩

abbrev nD : Nat := 1
abbrev τ : Topo := Topo.v7x

variable {F : FTy → Type} [FloatOps F]
-- ==== Kernel4.lean ====
abbrev S16x1024 : Shape := ⟨2, ![16, 1024]⟩
abbrev S2x1024x3072 : Shape := ⟨3, ![2, 1024, 3072]⟩
abbrev S2x3072 : Shape := ⟨2, ![2, 3072]⟩
abbrev S2x1x3072 : Shape := ⟨3, ![2, 1, 3072]⟩
abbrev S2x16x3072 : Shape := ⟨3, ![2, 16, 3072]⟩
abbrev S1x1024x1024 : Shape := ⟨3, ![1, 1024, 1024]⟩
abbrev S1x1x1024 : Shape := ⟨3, ![1, 1, 1024]⟩
abbrev S1x16x1024 : Shape := ⟨3, ![1, 16, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S2x1024x3072, .f32⟩
  | .hbm, ⟨2, _⟩ => ⟨S2x3072, .f32⟩
  | .hbm, ⟨3, _⟩ => ⟨S2x1x3072, .f32⟩
  | .hbm, ⟨4, _⟩ => ⟨S2x16x3072, .f32⟩
  | .local _ .vmem, ⟨0, _⟩ => ⟨S16x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S16x1024 : Shape := ⟨2, ![16, 1024]⟩
abbrev S2x1024x3072 : Shape := ⟨3, ![2, 1024, 3072]⟩
abbrev S2x3072 : Shape := ⟨2, ![2, 3072]⟩
abbrev S_ : Shape := ⟨0, ![]⟩
abbrev S2x3072x16 : Shape := ⟨3, ![2, 3072, 16]⟩
abbrev S2x16x3072 : Shape := ⟨3, ![2, 16, 3072]⟩
abbrev S2x1x3072 : Shape := ⟨3, ![2, 1, 3072]⟩

abbrev nBuf : Space → Nat
  | .hbm => 17
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x3072, .f32⟩
  | .hbm, ⟨2, _⟩ => ⟨S2x3072, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S2x3072x16, .f32⟩
  | .hbm, ⟨13, _⟩ => ⟨S2x16x3072, .f32⟩
  | .hbm, ⟨14, _⟩ => ⟨S2x1x3072, .f32⟩
  | .hbm, ⟨15, _⟩ => ⟨S2x16x3072, .f32⟩
  | .hbm, ⟨16, _⟩ => ⟨S2x16x3072, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel5.lean ====
abbrev S8x8192x1024 : Shape := ⟨3, ![8, 8192, 1024]⟩
abbrev S8x1x3072 : Shape := ⟨3, ![8, 1, 3072]⟩
abbrev S1x1024 : Shape := ⟨2, ![1, 1024]⟩
abbrev S1024x2304 : Shape := ⟨2, ![1024, 2304]⟩
abbrev S8192x768 : Shape := ⟨2, ![8192, 768]⟩
abbrev S1x256 : Shape := ⟨2, ![1, 256]⟩
abbrev S256x512 : Shape := ⟨2, ![256, 512]⟩
abbrev S1x128 : Shape := ⟨2, ![1, 128]⟩
abbrev S128x512 : Shape := ⟨2, ![128, 512]⟩
abbrev S128x256 : Shape := ⟨2, ![128, 256]⟩
abbrev S8x8192x256 : Shape := ⟨3, ![8, 8192, 256]⟩
abbrev S8x8192x512 : Shape := ⟨3, ![8, 8192, 512]⟩
abbrev S8x4x8192x128 : Shape := ⟨4, ![8, 4, 8192, 128]⟩
abbrev S8x16x256x512 : Shape := ⟨4, ![8, 16, 256, 512]⟩
abbrev S8x8192x128 : Shape := ⟨3, ![8, 8192, 128]⟩
abbrev S8x16x128x512 : Shape := ⟨4, ![8, 16, 128, 512]⟩
abbrev S1x512x1024 : Shape := ⟨3, ![1, 512, 1024]⟩
abbrev S1x1x3072 : Shape := ⟨3, ![1, 1, 3072]⟩
abbrev S512x768 : Shape := ⟨2, ![512, 768]⟩
abbrev S1x512x256 : Shape := ⟨3, ![1, 512, 256]⟩
abbrev S1x512x512 : Shape := ⟨3, ![1, 512, 512]⟩
abbrev S1x4x512x128 : Shape := ⟨4, ![1, 4, 512, 128]⟩
abbrev S1x1x256x512 : Shape := ⟨4, ![1, 1, 256, 512]⟩
abbrev S1x512x128 : Shape := ⟨3, ![1, 512, 128]⟩
abbrev S1x1x128x512 : Shape := ⟨4, ![1, 1, 128, 512]⟩
abbrev S512x1024 : Shape := ⟨2, ![512, 1024]⟩
abbrev S1x3072 : Shape := ⟨2, ![1, 3072]⟩
abbrev S512 : Shape := ⟨1, ![512]⟩
abbrev S512x1 : Shape := ⟨2, ![512, 1]⟩
abbrev S512x128 : Shape := ⟨2, ![512, 128]⟩
abbrev S1024x256 : Shape := ⟨2, ![1024, 256]⟩
abbrev S512x256 : Shape := ⟨2, ![512, 256]⟩
abbrev S512x512 : Shape := ⟨2, ![512, 512]⟩
abbrev S1024x128 : Shape := ⟨2, ![1024, 128]⟩
abbrev S1x1x512x128 : Shape := ⟨4, ![1, 1, 512, 128]⟩
abbrev S1024x512 : Shape := ⟨2, ![1024, 512]⟩

abbrev nBuf : Space → Nat
  | .hbm => 20
  | .vmem => 33
  | .smem => 0
  | _ => 0

abbrev bufTy : (tb : Table) → Fin (tcTables nBuf tb) → BufTy
  | .hbm, ⟨0, _⟩ => ⟨S8x8192x1024, .f32⟩
  | .hbm, ⟨1, _⟩ => ⟨S8x1x3072, .f32⟩
  | .hbm, ⟨2, _⟩ => ⟨S1x1024, .f32⟩
  | .hbm, ⟨3, _⟩ => ⟨S1024x2304, .bf16⟩
  | .hbm, ⟨4, _⟩ => ⟨S8192x768, .f32⟩
  | .hbm, ⟨5, _⟩ => ⟨S1x256, .f32⟩
  | .hbm, ⟨6, _⟩ => ⟨S256x512, .bf16⟩
  | .hbm, ⟨7, _⟩ => ⟨S1x128, .f32⟩
  | .hbm, ⟨8, _⟩ => ⟨S128x512, .bf16⟩
  | .hbm, ⟨9, _⟩ => ⟨S128x256, .bf16⟩
  | .hbm, ⟨10, _⟩ => ⟨S8x8192x256, .f32⟩
  | .hbm, ⟨11, _⟩ => ⟨S8x8192x512, .bf16⟩
  | .hbm, ⟨12, _⟩ => ⟨S8x4x8192x128, .bf16⟩
  | .hbm, ⟨13, _⟩ => ⟨S8x16x256x512, .bf16⟩
  | .hbm, ⟨14, _⟩ => ⟨S8x8192x256, .bf16⟩
  | .hbm, ⟨15, _⟩ => ⟨S8x8192x256, .bf16⟩
  | .hbm, ⟨16, _⟩ => ⟨S8x16x256x512, .bf16⟩
  | .hbm, ⟨17, _⟩ => ⟨S8x8192x512, .bf16⟩
  | .hbm, ⟨18, _⟩ => ⟨S8x8192x128, .bf16⟩
  | .hbm, ⟨19, _⟩ => ⟨S8x16x128x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x1024, .f32⟩
  | .local _ .vmem, ⟨5, _⟩ => ⟨S1024x2304, .bf16⟩
  | .local _ .vmem, ⟨6, _⟩ => ⟨S512x768, .f32⟩
  | .local _ .vmem, ⟨7, _⟩ => ⟨S512x768, .f32⟩
  | .local _ .vmem, ⟨8, _⟩ => ⟨S1x256, .f32⟩
  | .local _ .vmem, ⟨9, _⟩ => ⟨S256x512, .bf16⟩
  | .local _ .vmem, ⟨10, _⟩ => ⟨S1x128, .f32⟩
  | .local _ .vmem, ⟨11, _⟩ => ⟨S128x512, .bf16⟩
  | .local _ .vmem, ⟨12, _⟩ => ⟨S128x256, .bf16⟩
  | .local _ .vmem, ⟨13, _⟩ => ⟨S1x512x256, .f32⟩
  | .local _ .vmem, ⟨14, _⟩ => ⟨S1x512x256, .f32⟩
  | .local _ .vmem, ⟨15, _⟩ => ⟨S1x512x512, .bf16⟩
  | .local _ .vmem, ⟨16, _⟩ => ⟨S1x512x512, .bf16⟩
  | .local _ .vmem, ⟨17, _⟩ => ⟨S1x4x512x128, .bf16⟩
  | .local _ .vmem, ⟨18, _⟩ => ⟨S1x4x512x128, .bf16⟩
  | .local _ .vmem, ⟨19, _⟩ => ⟨S1x1x256x512, .bf16⟩
  | .local _ .vmem, ⟨20, _⟩ => ⟨S1x1x256x512, .bf16⟩
  | .local _ .vmem, ⟨21, _⟩ => ⟨S1x512x256, .bf16⟩
  | .local _ .vmem, ⟨22, _⟩ => ⟨S1x512x256, .bf16⟩
  | .local _ .vmem, ⟨23, _⟩ => ⟨S1x512x256, .bf16⟩
  | .local _ .vmem, ⟨24, _⟩ => ⟨S1x512x256, .bf16⟩
  | .local _ .vmem, ⟨25, _⟩ => ⟨S1x1x256x512, .bf16⟩
  | .local _ .vmem, ⟨26, _⟩ => ⟨S1x1x256x512, .bf16⟩
  | .local _ .vmem, ⟨27, _⟩ => ⟨S1x512x512, .bf16⟩
  | .local _ .vmem, ⟨28, _⟩ => ⟨S1x512x512, .bf16⟩
  | .local _ .vmem, ⟨29, _⟩ => ⟨S1x512x128, .bf16⟩
  | .local _ .vmem, ⟨30, _⟩ => ⟨S1x512x128, .bf16⟩
  | .local _ .vmem, ⟨31, _⟩ => ⟨S1x1x128x512, .bf16⟩
  | .local _ .vmem, ⟨32, _⟩ => ⟨S1x1x128x512, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev main_v0_8 : Ref sig .tc := ⟨.hbm, 18, rfl⟩
abbrev main_v0_9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1x128x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Reference5Ideal.lean ====
abbrev S8x8192x1024 : Shape := ⟨3, ![8, 8192, 1024]⟩
abbrev S8x1x3072 : Shape := ⟨3, ![8, 1, 3072]⟩
abbrev S1x1024 : Shape := ⟨2, ![1, 1024]⟩
abbrev S1024x2304 : Shape := ⟨2, ![1024, 2304]⟩
abbrev S8192x768 : Shape := ⟨2, ![8192, 768]⟩
abbrev S1x256 : Shape := ⟨2, ![1, 256]⟩
abbrev S256x512 : Shape := ⟨2, ![256, 512]⟩
abbrev S1x128 : Shape := ⟨2, ![1, 128]⟩
abbrev S128x512 : Shape := ⟨2, ![128, 512]⟩
abbrev S128x256 : Shape := ⟨2, ![128, 256]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x1x1024 : Shape := ⟨3, ![8, 1, 1024]⟩
abbrev S8x8192x2304 : Shape := ⟨3, ![8, 8192, 2304]⟩
abbrev S8x8192x256 : Shape := ⟨3, ![8, 8192, 256]⟩
abbrev S1x1x256 : Shape := ⟨3, ![1, 1, 256]⟩
abbrev S8x8192x512 : Shape := ⟨3, ![8, 8192, 512]⟩
abbrev S8x8192x4x128 : Shape := ⟨4, ![8, 8192, 4, 128]⟩
abbrev S8x8192x128 : Shape := ⟨3, ![8, 8192, 128]⟩
abbrev S1x1x128 : Shape := ⟨3, ![1, 1, 128]⟩
abbrev S8x8192x1x128 : Shape := ⟨4, ![8, 8192, 1, 128]⟩
abbrev S8x8192x4x80 : Shape := ⟨4, ![8, 8192, 4, 80]⟩
abbrev S8x8192x4x48 : Shape := ⟨4, ![8, 8192, 4, 48]⟩
abbrev S8192x128 : Shape := ⟨2, ![8192, 128]⟩
abbrev S1x8192x1x128 : Shape := ⟨4, ![1, 8192, 1, 128]⟩
abbrev S8x4x8192x128 : Shape := ⟨4, ![8, 4, 8192, 128]⟩
abbrev S8x8192x8x2x16 : Shape := ⟨5, ![8, 8192, 8, 2, 16]⟩
abbrev S8x8192x8x1x16 : Shape := ⟨5, ![8, 8192, 8, 1, 16]⟩
abbrev S8x8192x2x128 : Shape := ⟨4, ![8, 8192, 2, 128]⟩
abbrev S8x8192x8x2x32 : Shape := ⟨5, ![8, 8192, 8, 2, 32]⟩
abbrev S8x8192x8x1x32 : Shape := ⟨5, ![8, 8192, 8, 1, 32]⟩
abbrev S8x8192x2x2x32 : Shape := ⟨5, ![8, 8192, 2, 2, 32]⟩
abbrev S8x8192x2x1x32 : Shape := ⟨5, ![8, 8192, 2, 1, 32]⟩
abbrev S8x16x512x256 : Shape := ⟨4, ![8, 16, 512, 256]⟩
abbrev S8x16x256x512 : Shape := ⟨4, ![8, 16, 256, 512]⟩
abbrev S8x16x512x128 : Shape := ⟨4, ![8, 16, 512, 128]⟩
abbrev S8x16x128x512 : Shape := ⟨4, ![8, 16, 128, 512]⟩

abbrev nBuf : Space → Nat
  | .hbm => 204
  | .vmem => 0
  | .smem => 0
  | _ => 0

abbrev hbmTy0_0 (i : Nat) : BufTy := match i % 128 with
  | 0 => ⟨S8x8192x1024, .f32⟩
  | 1 => ⟨S8x1x3072, .f32⟩
  | 2 => ⟨S1x1024, .f32⟩
  | 3 => ⟨S1024x2304, .bf16⟩
  | 4 => ⟨S8192x768, .f32⟩
  | 5 => ⟨S1x256, .f32⟩
  | 6 => ⟨S256x512, .bf16⟩
  | 7 => ⟨S1x128, .f32⟩
  | 8 => ⟨S128x512, .bf16⟩
  | 9 => ⟨S128x256, .bf16⟩
  | 10 => ⟨S8x8192x1024, .f32⟩
  | 11 => ⟨S_, .f32⟩
  | 12 => ⟨S8x8192, .f32⟩
  | 13 => ⟨S8x8192x1, .f32⟩
  | 14 => ⟨S_, .f32⟩
  | 15 => ⟨S8x8192x1, .f32⟩
  | 16 => ⟨S8x8192x1, .f32⟩
  | 17 => ⟨S_, .f32⟩
  | 18 => ⟨S8x8192x1, .f32⟩
  | 19 => ⟨S8x8192x1, .f32⟩
  | 20 => ⟨S8x8192x1, .f32⟩
  | 21 => ⟨S8x8192x1024, .f32⟩
  | 22 => ⟨S8x8192x1024, .f32⟩
  | 23 => ⟨S1x1x1024, .f32⟩
  | 24 => ⟨S8x8192x1024, .f32⟩
  | 25 => ⟨S8x8192x1024, .f32⟩
  | 26 => ⟨S8x1x1024, .f32⟩
  | 27 => ⟨S_, .f32⟩
  | 28 => ⟨S8x1x1024, .f32⟩
  | 29 => ⟨S8x1x1024, .f32⟩
  | 30 => ⟨S8x8192x1024, .f32⟩
  | 31 => ⟨S8x8192x1024, .f32⟩
  | 32 => ⟨S8x1x1024, .f32⟩
  | 33 => ⟨S8x8192x1024, .f32⟩
  | 34 => ⟨S8x8192x1024, .f32⟩
  | 35 => ⟨S1024x2304, .f32⟩
  | 36 => ⟨S8x8192x2304, .f32⟩
  | 37 => ⟨S8x8192x256, .f32⟩
  | 38 => ⟨S8x8192x256, .f32⟩
  | 39 => ⟨S_, .f32⟩
  | 40 => ⟨S8x8192, .f32⟩
  | 41 => ⟨S8x8192x1, .f32⟩
  | 42 => ⟨S_, .f32⟩
  | 43 => ⟨S8x8192x1, .f32⟩
  | 44 => ⟨S8x8192x1, .f32⟩
  | 45 => ⟨S_, .f32⟩
  | 46 => ⟨S8x8192x1, .f32⟩
  | 47 => ⟨S8x8192x1, .f32⟩
  | 48 => ⟨S8x8192x1, .f32⟩
  | 49 => ⟨S8x8192x256, .f32⟩
  | 50 => ⟨S8x8192x256, .f32⟩
  | 51 => ⟨S1x1x256, .f32⟩
  | 52 => ⟨S8x8192x256, .f32⟩
  | 53 => ⟨S8x8192x256, .f32⟩
  | 54 => ⟨S256x512, .f32⟩
  | 55 => ⟨S8x8192x512, .f32⟩
  | 56 => ⟨S8x8192x4x128, .f32⟩
  | 57 => ⟨S8x8192x128, .f32⟩
  | 58 => ⟨S8x8192x128, .f32⟩
  | 59 => ⟨S_, .f32⟩
  | 60 => ⟨S8x8192, .f32⟩
  | 61 => ⟨S8x8192x1, .f32⟩
  | 62 => ⟨S_, .f32⟩
  | 63 => ⟨S8x8192x1, .f32⟩
  | 64 => ⟨S8x8192x1, .f32⟩
  | 65 => ⟨S_, .f32⟩
  | 66 => ⟨S8x8192x1, .f32⟩
  | 67 => ⟨S8x8192x1, .f32⟩
  | 68 => ⟨S8x8192x1, .f32⟩
  | 69 => ⟨S8x8192x128, .f32⟩
  | 70 => ⟨S8x8192x128, .f32⟩
  | 71 => ⟨S1x1x128, .f32⟩
  | 72 => ⟨S8x8192x128, .f32⟩
  | 73 => ⟨S8x8192x128, .f32⟩
  | 74 => ⟨S128x512, .f32⟩
  | 75 => ⟨S8x8192x512, .f32⟩
  | 76 => ⟨S8x8192x4x128, .f32⟩
  | 77 => ⟨S8x8192x128, .f32⟩
  | 78 => ⟨S8x8192x1x128, .f32⟩
  | 79 => ⟨S8x8192x4x128, .f32⟩
  | 80 => ⟨S8x8192x4x128, .f32⟩
  | 81 => ⟨S8x8192x4x80, .f32⟩
  | 82 => ⟨S8x8192x4x48, .f32⟩
  | 83 => ⟨S8x8192x4x128, .f32⟩
  | 84 => ⟨S8192x128, .f32⟩
  | 85 => ⟨S8192x128, .f32⟩
  | 86 => ⟨S1x8192x1x128, .f32⟩
  | 87 => ⟨S8x8192x4x128, .f32⟩
  | 88 => ⟨S8x8192x4x128, .f32⟩
  | 89 => ⟨S1x8192x1x128, .f32⟩
  | 90 => ⟨S8x8192x4x128, .f32⟩
  | 91 => ⟨S8x8192x4x128, .f32⟩
  | 92 => ⟨S8x8192x4x128, .f32⟩
  | 93 => ⟨S_, .f32⟩
  | 94 => ⟨S8x8192x4x128, .f32⟩
  | 95 => ⟨S8x8192x4x128, .f32⟩
  | 96 => ⟨S8x8192x512, .f32⟩
  | 97 => ⟨S8x8192x4x80, .f32⟩
  | 98 => ⟨S8x8192x4x48, .f32⟩
  | 99 => ⟨S8x8192x4x128, .f32⟩
  | 100 => ⟨S8192x128, .f32⟩
  | 101 => ⟨S8192x128, .f32⟩
  | 102 => ⟨S1x8192x1x128, .f32⟩
  | 103 => ⟨S8x8192x4x128, .f32⟩
  | 104 => ⟨S8x8192x4x128, .f32⟩
  | 105 => ⟨S1x8192x1x128, .f32⟩
  | 106 => ⟨S8x8192x4x128, .f32⟩
  | 107 => ⟨S8x8192x4x128, .f32⟩
  | 108 => ⟨S8x8192x4x128, .f32⟩
  | 109 => ⟨S8x4x8192x128, .f32⟩
  | 110 => ⟨S8x8192x256, .f32⟩
  | 111 => ⟨S8x8192x8x2x16, .f32⟩
  | 112 => ⟨S8x8192x8x1x16, .f32⟩
  | 113 => ⟨S8x8192x8x1x16, .f32⟩
  | 114 => ⟨S8x8192x8x2x16, .f32⟩
  | 115 => ⟨S8x8192x2x128, .f32⟩
  | 116 => ⟨S8x8192x2x128, .f32⟩
  | 117 => ⟨S8192x128, .f32⟩
  | 118 => ⟨S8192x128, .f32⟩
  | 119 => ⟨S1x8192x1x128, .f32⟩
  | 120 => ⟨S8x8192x2x128, .f32⟩
  | 121 => ⟨S8x8192x2x128, .f32⟩
  | 122 => ⟨S1x8192x1x128, .f32⟩
  | 123 => ⟨S8x8192x2x128, .f32⟩
  | 124 => ⟨S8x8192x2x128, .f32⟩
  | 125 => ⟨S8x8192x2x128, .f32⟩
  | 126 => ⟨S8x8192x256, .f32⟩
  | 127 => ⟨S_, .f32⟩
  | _ => ⟨S8x8192x1024, .f32⟩

abbrev hbmTy0_1 (i : Nat) : BufTy := match i % 128 with
  | 0 => ⟨S8x8192x256, .f32⟩
  | 1 => ⟨S8x8192x256, .f32⟩
  | 2 => ⟨S8x8192x256, .f32⟩
  | 3 => ⟨S8x8192x8x2x16, .f32⟩
  | 4 => ⟨S8x8192x8x1x16, .f32⟩
  | 5 => ⟨S8x8192x8x1x16, .f32⟩
  | 6 => ⟨S8x8192x8x2x16, .f32⟩
  | 7 => ⟨S8x8192x2x128, .f32⟩
  | 8 => ⟨S8x8192x2x128, .f32⟩
  | 9 => ⟨S8192x128, .f32⟩
  | 10 => ⟨S8192x128, .f32⟩
  | 11 => ⟨S1x8192x1x128, .f32⟩
  | 12 => ⟨S8x8192x2x128, .f32⟩
  | 13 => ⟨S8x8192x2x128, .f32⟩
  | 14 => ⟨S1x8192x1x128, .f32⟩
  | 15 => ⟨S8x8192x2x128, .f32⟩
  | 16 => ⟨S8x8192x2x128, .f32⟩
  | 17 => ⟨S8x8192x2x128, .f32⟩
  | 18 => ⟨S8x8192x256, .f32⟩
  | 19 => ⟨S8x8192x512, .f32⟩
  | 20 => ⟨S8x8192x8x2x32, .f32⟩
  | 21 => ⟨S8x8192x8x1x32, .f32⟩
  | 22 => ⟨S8x8192x8x1x32, .f32⟩
  | 23 => ⟨S8x8192x8x2x32, .f32⟩
  | 24 => ⟨S8x8192x4x128, .f32⟩
  | 25 => ⟨S8x8192x4x128, .f32⟩
  | 26 => ⟨S8192x128, .f32⟩
  | 27 => ⟨S8192x128, .f32⟩
  | 28 => ⟨S1x8192x1x128, .f32⟩
  | 29 => ⟨S8x8192x4x128, .f32⟩
  | 30 => ⟨S8x8192x4x128, .f32⟩
  | 31 => ⟨S1x8192x1x128, .f32⟩
  | 32 => ⟨S8x8192x4x128, .f32⟩
  | 33 => ⟨S8x8192x4x128, .f32⟩
  | 34 => ⟨S8x8192x4x128, .f32⟩
  | 35 => ⟨S8x8192x512, .f32⟩
  | 36 => ⟨S_, .f32⟩
  | 37 => ⟨S8x8192x512, .f32⟩
  | 38 => ⟨S8x8192x512, .f32⟩
  | 39 => ⟨S8x8192x128, .f32⟩
  | 40 => ⟨S8x8192x2x2x32, .f32⟩
  | 41 => ⟨S8x8192x2x1x32, .f32⟩
  | 42 => ⟨S8x8192x2x1x32, .f32⟩
  | 43 => ⟨S8x8192x2x2x32, .f32⟩
  | 44 => ⟨S8x8192x1x128, .f32⟩
  | 45 => ⟨S8x8192x1x128, .f32⟩
  | 46 => ⟨S8192x128, .f32⟩
  | 47 => ⟨S8192x128, .f32⟩
  | 48 => ⟨S1x8192x1x128, .f32⟩
  | 49 => ⟨S8x8192x1x128, .f32⟩
  | 50 => ⟨S8x8192x1x128, .f32⟩
  | 51 => ⟨S1x8192x1x128, .f32⟩
  | 52 => ⟨S8x8192x1x128, .f32⟩
  | 53 => ⟨S8x8192x1x128, .f32⟩
  | 54 => ⟨S8x8192x1x128, .f32⟩
  | 55 => ⟨S8x8192x128, .f32⟩
  | 56 => ⟨S8x8192x256, .f32⟩
  | 57 => ⟨S8x8192x512, .bf16⟩
  | 58 => ⟨S8x4x8192x128, .bf16⟩
  | 59 => ⟨S128x256, .f32⟩
  | 60 => ⟨S8x8192x256, .f32⟩
  | 61 => ⟨S8x16x512x256, .f32⟩
  | 62 => ⟨S8x16x256x512, .f32⟩
  | 63 => ⟨S8x16x256x512, .bf16⟩
  | 64 => ⟨S8x8192x256, .bf16⟩
  | 65 => ⟨S8x8192x256, .bf16⟩
  | 66 => ⟨S8x8192x256, .f32⟩
  | 67 => ⟨S8x16x512x256, .f32⟩
  | 68 => ⟨S8x16x256x512, .f32⟩
  | 69 => ⟨S8x16x256x512, .bf16⟩
  | 70 => ⟨S8x8192x512, .bf16⟩
  | 71 => ⟨S8x8192x128, .bf16⟩
  | 72 => ⟨S8x8192x128, .f32⟩
  | 73 => ⟨S8x16x512x128, .f32⟩
  | 74 => ⟨S8x16x128x512, .f32⟩
  | 75 => ⟨S8x16x128x512, .bf16⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_9 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_cst_10 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_cst_11 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_v170 : Ref sig .tc := ⟨.hbm, 193, rfl⟩
abbrev main_v171 : Ref sig .tc := ⟨.hbm, 194, rfl⟩
abbrev main_v172 : Ref sig .tc := ⟨.hbm, 195, rfl⟩
abbrev main_v173 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_v177 : Ref sig .tc := ⟨.hbm, 200, rfl⟩
abbrev main_v178 : Ref sig .tc := ⟨.hbm, 201, rfl⟩
abbrev main_v179 : Ref sig .tc := ⟨.hbm, 202, rfl⟩
abbrev main_v180 : Ref sig .tc := ⟨.hbm, 203, rfl⟩

abbrev nD : Nat := 1
abbrev τ : Topo := Topo.v7x

variable {F : FTy → Type} [FloatOps F]
-- ==== Kernel6.lean ====
abbrev S8x8192x512 : Shape := ⟨3, ![8, 8192, 512]⟩
abbrev S8x8192x128 : Shape := ⟨3, ![8, 8192, 128]⟩
abbrev S8x16x128x512 : Shape := ⟨4, ![8, 16, 128, 512]⟩
abbrev S8x256x128 : Shape := ⟨3, ![8, 256, 128]⟩
abbrev S8x1x128x256 : Shape := ⟨4, ![8, 1, 128, 256]⟩
abbrev S1x4 : Shape := ⟨2, ![1, 4]⟩
abbrev S8x8192x256 : Shape := ⟨3, ![8, 8192, 256]⟩
abbrev S1x512x512 : Shape := ⟨3, ![1, 512, 512]⟩
abbrev S1x128x128 : Shape := ⟨3, ![1, 128, 128]⟩
abbrev S1x512x128 : Shape := ⟨3, ![1, 512, 128]⟩
abbrev S1x1x128x128 : Shape := ⟨4, ![1, 1, 128, 128]⟩
abbrev S1x1x128x512 : Shape := ⟨4, ![1, 1, 128, 512]⟩
abbrev S1x256x128 : Shape := ⟨3, ![1, 256, 128]⟩
abbrev S1x1x128x256 : Shape := ⟨4, ![1, 1, 128, 256]⟩
abbrev S1x512x256 : Shape := ⟨3, ![1, 512, 256]⟩
abbrev S256x128 : Shape := ⟨2, ![256, 128]⟩
abbrev S128x256 : Shape := ⟨2, ![128, 256]⟩
abbrev S128x128 : Shape := ⟨2, ![128, 128]⟩
abbrev S512x128 : Shape := ⟨2, ![512, 128]⟩
abbrev S768x128 : Shape := ⟨2, ![768, 128]⟩
abbrev S128x512 : Shape := ⟨2, ![128, 512]⟩
abbrev S128x768 : Shape := ⟨2, ![128, 768]⟩
abbrev S768x512 : Shape := ⟨2, ![768, 512]⟩
abbrev S384x128 : Shape := ⟨2, ![384, 128]⟩
abbrev S1x1 : Shape := ⟨2, ![1, 1]⟩
abbrev S128 : Shape := ⟨1, ![128]⟩
abbrev S1x128 : Shape := ⟨2, ![1, 128]⟩
abbrev S64x256 : Shape := ⟨2, ![64, 256]⟩
abbrev S16x256 : Shape := ⟨2, ![16, 256]⟩
abbrev S80x256 : Shape := ⟨2, ![80, 256]⟩
abbrev S80x128 : Shape := ⟨2, ![80, 128]⟩
abbrev S64x384 : Shape := ⟨2, ![64, 384]⟩
abbrev S16x384 : Shape := ⟨2, ![16, 384]⟩
abbrev S80x384 : Shape := ⟨2, ![80, 384]⟩
abbrev S64x128 : Shape := ⟨2, ![64, 128]⟩
abbrev S256x512 : Shape := ⟨2, ![256, 512]⟩
abbrev S512x256 : Shape := ⟨2, ![512, 256]⟩

abbrev nBuf : Space → Nat
  | .hbm => 7
  | .vmem => 21
  | .smem => 0
  | _ => 0

abbrev bufTy : (tb : Table) → Fin (tcTables nBuf tb) → BufTy
  | .hbm, ⟨0, _⟩ => ⟨S8x8192x512, .bf16⟩
  | .hbm, ⟨1, _⟩ => ⟨S8x8192x128, .bf16⟩
  | .hbm, ⟨2, _⟩ => ⟨S8x16x128x512, .bf16⟩
  | .hbm, ⟨3, _⟩ => ⟨S8x256x128, .bf16⟩
  | .hbm, ⟨4, _⟩ => ⟨S8x1x128x256, .bf16⟩
  | .hbm, ⟨5, _⟩ => ⟨S1x4, .f32⟩
  | .hbm, ⟨6, _⟩ => ⟨S8x8192x256, .bf16⟩
  | .local _ .vmem, ⟨0, _⟩ => ⟨S1x512x512, .bf16⟩
  | .local _ .vmem, ⟨1, _⟩ => ⟨S1x512x512, .bf16⟩
  | .local _ .vmem, ⟨2, _⟩ => ⟨S1x128x128, .bf16⟩
  | .local _ .vmem, ⟨3, _⟩ => ⟨S1x128x128, .bf16⟩
  | .local _ .vmem, ⟨4, _⟩ => ⟨S1x512x128, .bf16⟩
  | .local _ .vmem, ⟨5, _⟩ => ⟨S1x512x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x1x128x128, .bf16⟩
  | .local _ .vmem, ⟨9, _⟩ => ⟨S1x1x128x128, .bf16⟩
  | .local _ .vmem, ⟨10, _⟩ => ⟨S1x1x128x512, .bf16⟩
  | .local _ .vmem, ⟨11, _⟩ => ⟨S1x1x128x512, .bf16⟩
  | .local _ .vmem, ⟨12, _⟩ => ⟨S1x1x128x128, .bf16⟩
  | .local _ .vmem, ⟨13, _⟩ => ⟨S1x1x128x128, .bf16⟩
  | .local _ .vmem, ⟨14, _⟩ => ⟨S1x256x128, .bf16⟩
  | .local _ .vmem, ⟨15, _⟩ => ⟨S1x256x128, .bf16⟩
  | .local _ .vmem, ⟨16, _⟩ => ⟨S1x1x128x256, .bf16⟩
  | .local _ .vmem, ⟨17, _⟩ => ⟨S1x1x128x256, .bf16⟩
  | .local _ .vmem, ⟨18, _⟩ => ⟨S1x4, .f32⟩
  | .local _ .vmem, ⟨19, _⟩ => ⟨S1x512x256, .bf16⟩
  | .local _ .vmem, ⟨20, _⟩ => ⟨S1x512x256, .bf16⟩
  | _, _ => ⟨S8x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c63_i32 : BitVec 32 := 63#32
  let v2 : BitVec 32 := Scalar.minsi v1 c63_i32
  let c0_i32 : BitVec 32 := 0#32
  let c0_i32_0 : BitVec 32 := 0#32
  ![arg0.toNat, v2.toNat, c0_i32.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c3_i32 : BitVec 32 := 3#32
  let c0_i32_1 : BitVec 32 := 0#32
  ![arg0.toNat, v1.toNat, c0_i32_0.toNat, c3_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c0_i32 : BitVec 32 := 0#32
  let c0_i32_0 : BitVec 32 := 0#32
  let c0_i32_1 : BitVec 32 := 0#32
  ![arg0.toNat, v1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel6Ideal.lean ====
variable {F : FTy → Type} [FloatOps F] [Named F]
def κ : String → Option EReal := fun
  | "log2e" => some (((Real.log 2)⁻¹ : ℝ) : EReal)
  | "mask" => some ⊥
  | _ => none
-- ==== Reference6Ideal.lean ====
abbrev S8x8192x512 : Shape := ⟨3, ![8, 8192, 512]⟩
abbrev S8x8192x128 : Shape := ⟨3, ![8, 8192, 128]⟩
abbrev S8x16x128x512 : Shape := ⟨4, ![8, 16, 128, 512]⟩
abbrev S8x256x128 : Shape := ⟨3, ![8, 256, 128]⟩
abbrev S8x1x128x256 : Shape := ⟨4, ![8, 1, 128, 256]⟩
abbrev S1x4 : Shape := ⟨2, ![1, 4]⟩
abbrev S8x8192x4x128 : Shape := ⟨4, ![8, 8192, 4, 128]⟩
abbrev S8x2x64x256 : Shape := ⟨4, ![8, 2, 64, 256]⟩
abbrev S8x256x2x64 : Shape := ⟨4, ![8, 256, 2, 64]⟩
abbrev S8x16x2x64x512 : Shape := ⟨5, ![8, 16, 2, 64, 512]⟩
abbrev S8x16x512x2x64 : Shape := ⟨5, ![8, 16, 512, 2, 64]⟩
abbrev S8x8192x2x64 : Shape := ⟨4, ![8, 8192, 2, 64]⟩
abbrev S8x256x8192x4 : Shape := ⟨4, ![8, 256, 8192, 4]⟩
abbrev S8x4x8192x256 : Shape := ⟨4, ![8, 4, 8192, 256]⟩
abbrev S_ : Shape := ⟨0, ![]⟩
abbrev S8x8192x8192x4 : Shape := ⟨4, ![8, 8192, 8192, 4]⟩
abbrev S8x4x8192x8192 : Shape := ⟨4, ![8, 4, 8192, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1x4x1x1 : Shape := ⟨4, ![1, 4, 1, 1]⟩
abbrev S8x4x8192x1 : Shape := ⟨4, ![8, 4, 8192, 1]⟩
abbrev S8x4x8192x8449 : Shape := ⟨4, ![8, 4, 8192, 8449]⟩
abbrev S8x4x8192 : Shape := ⟨3, ![8, 4, 8192]⟩
abbrev S8x2x2x8192x8449 : Shape := ⟨5, ![8, 2, 2, 8192, 8449]⟩
abbrev S8x2x2x8192x256 : Shape := ⟨5, ![8, 2, 2, 8192, 256]⟩
abbrev S8x2x64x2x8192 : Shape := ⟨5, ![8, 2, 64, 2, 8192]⟩
abbrev S8x8192x2x2x64 : Shape := ⟨5, ![8, 8192, 2, 2, 64]⟩
abbrev S8x2x2x8192x8192 : Shape := ⟨5, ![8, 2, 2, 8192, 8192]⟩
abbrev S8x8192x256 : Shape := ⟨3, ![8, 8192, 256]⟩

abbrev nBuf : Space → Nat
  | .hbm => 75
  | .vmem => 0
  | .smem => 0
  | _ => 0

abbrev bufTy : (tb : Table) → Fin (tcTables nBuf tb) → BufTy
  | .hbm, ⟨0, _⟩ => ⟨S8x8192x512, .bf16⟩
  | .hbm, ⟨1, _⟩ => ⟨S8x8192x128, .bf16⟩
  | .hbm, ⟨2, _⟩ => ⟨S8x16x128x512, .bf16⟩
  | .hbm, ⟨3, _⟩ => ⟨S8x256x128, .bf16⟩
  | .hbm, ⟨4, _⟩ => ⟨S8x1x128x256, .bf16⟩
  | .hbm, ⟨5, _⟩ => ⟨S1x4, .f32⟩
  | .hbm, ⟨6, _⟩ => ⟨S8x8192x512, .f32⟩
  | .hbm, ⟨7, _⟩ => ⟨S8x8192x4x128, .f32⟩
  | .hbm, ⟨8, _⟩ => ⟨S8x2x64x256, .bf16⟩
  | .hbm, ⟨9, _⟩ => ⟨S8x256x2x64, .bf16⟩
  | .hbm, ⟨10, _⟩ => ⟨S8x256x2x64, .f32⟩
  | .hbm, ⟨11, _⟩ => ⟨S8x16x2x64x512, .bf16⟩
  | .hbm, ⟨12, _⟩ => ⟨S8x16x512x2x64, .bf16⟩
  | .hbm, ⟨13, _⟩ => ⟨S8x8192x2x64, .bf16⟩
  | .hbm, ⟨14, _⟩ => ⟨S8x8192x2x64, .f32⟩
  | .hbm, ⟨15, _⟩ => ⟨S8x256x128, .f32⟩
  | .hbm, ⟨16, _⟩ => ⟨S8x256x8192x4, .f32⟩
  | .hbm, ⟨17, _⟩ => ⟨S8x4x8192x256, .f32⟩
  | .hbm, ⟨18, _⟩ => ⟨S_, .f32⟩
  | .hbm, ⟨19, _⟩ => ⟨S_, .f32⟩
  | .hbm, ⟨20, _⟩ => ⟨S8x4x8192x256, .f32⟩
  | .hbm, ⟨21, _⟩ => ⟨S8x4x8192x256, .f32⟩
  | .hbm, ⟨22, _⟩ => ⟨S8x8192x128, .f32⟩
  | .hbm, ⟨23, _⟩ => ⟨S8x8192x8192x4, .f32⟩
  | .hbm, ⟨24, _⟩ => ⟨S8x4x8192x8192, .f32⟩
  | .hbm, ⟨25, _⟩ => ⟨S_, .f32⟩
  | .hbm, ⟨26, _⟩ => ⟨S_, .f32⟩
  | .hbm, ⟨27, _⟩ => ⟨S8x4x8192x8192, .f32⟩
  | .hbm, ⟨28, _⟩ => ⟨S8x4x8192x8192, .f32⟩
  | .hbm, ⟨29, _⟩ => ⟨S8192, .i32⟩
  | .hbm, ⟨30, _⟩ => ⟨S8192x1, .i32⟩
  | .hbm, ⟨31, _⟩ => ⟨S8192, .i32⟩
  | .hbm, ⟨32, _⟩ => ⟨S1x8192, .i32⟩
  | .hbm, ⟨33, _⟩ => ⟨S8192x8192, .i32⟩
  | .hbm, ⟨34, _⟩ => ⟨S8192x8192, .i32⟩
  | .hbm, ⟨35, _⟩ => ⟨S8192x8192, .i32⟩
  | .hbm, ⟨36, _⟩ => ⟨S_, .i32⟩
  | .hbm, ⟨37, _⟩ => ⟨S8192x8192, .i32⟩
  | .hbm, ⟨38, _⟩ => ⟨S8192x8192, .i1⟩
  | .hbm, ⟨39, _⟩ => ⟨S_, .i32⟩
  | .hbm, ⟨40, _⟩ => ⟨S8192x8192, .i32⟩
  | .hbm, ⟨41, _⟩ => ⟨S8192x8192, .i1⟩
  | .hbm, ⟨42, _⟩ => ⟨S8192x8192, .i1⟩
  | .hbm, ⟨43, _⟩ => ⟨S_, .f32⟩
  | .hbm, ⟨44, _⟩ => ⟨S_, .f32⟩
  | .hbm, ⟨45, _⟩ => ⟨S8x4x8192x8192, .i1⟩
  | .hbm, ⟨46, _⟩ => ⟨S8x4x8192x8192, .f32⟩
  | .hbm, ⟨47, _⟩ => ⟨S8x4x8192x8192, .f32⟩
  | .hbm, ⟨48, _⟩ => ⟨S1x4x1x1, .f32⟩
  | .hbm, ⟨49, _⟩ => ⟨S8x4x8192x1, .f32⟩
  | .hbm, ⟨50, _⟩ => ⟨S8x4x8192x8449, .f32⟩
  | .hbm, ⟨51, _⟩ => ⟨S_, .f32⟩
  | .hbm, ⟨52, _⟩ => ⟨S8x4x8192, .f32⟩
  | .hbm, ⟨53, _⟩ => ⟨S_, .f32⟩
  | .hbm, ⟨54, _⟩ => ⟨S8x4x8192, .f32⟩
  | .hbm, ⟨55, _⟩ => ⟨S8x4x8192, .f32⟩
  | .hbm, ⟨56, _⟩ => ⟨S8x4x8192x1, .f32⟩
  | .hbm, ⟨57, _⟩ => ⟨S8x4x8192x8449, .f32⟩
  | .hbm, ⟨58, _⟩ => ⟨S8x4x8192x8449, .f32⟩
  | .hbm, ⟨59, _⟩ => ⟨S8x4x8192x8449, .f32⟩
  | .hbm, ⟨60, _⟩ => ⟨S_, .f32⟩
  | .hbm, ⟨61, _⟩ => ⟨S8x4x8192, .f32⟩
  | .hbm, ⟨62, _⟩ => ⟨S8x4x8192x1, .f32⟩
  | .hbm, ⟨63, _⟩ => ⟨S8x4x8192x8449, .f32⟩
  | .hbm, ⟨64, _⟩ => ⟨S8x4x8192x8449, .f32⟩
  | .hbm, ⟨65, _⟩ => ⟨S8x2x2x8192x8449, .f32⟩
  | .hbm, ⟨66, _⟩ => ⟨S8x2x2x8192x256, .f32⟩
  | .hbm, ⟨67, _⟩ => ⟨S8x2x64x2x8192, .f32⟩
  | .hbm, ⟨68, _⟩ => ⟨S8x8192x2x2x64, .f32⟩
  | .hbm, ⟨69, _⟩ => ⟨S8x2x2x8192x8192, .f32⟩
  | .hbm, ⟨70, _⟩ => ⟨S8x2x64x2x8192, .f32⟩
  | .hbm, ⟨71, _⟩ => ⟨S8x8192x2x2x64, .f32⟩
  | .hbm, ⟨72, _⟩ => ⟨S8x8192x2x2x64, .f32⟩
  | .hbm, ⟨73, _⟩ => ⟨S8x8192x256, .f32⟩
  | .hbm, ⟨74, _⟩ => ⟨S8x8192x256, .bf16⟩
  | _, _ => ⟨S8x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c : Ref sig .tc := ⟨.hbm, 36, rfl⟩
abbrev main_v28 : Ref sig .tc := ⟨.hbm, 37, rfl⟩
abbrev main_v29 : Ref sig .tc := ⟨.hbm, 38, rfl⟩
abbrev main_c_1 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_2 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_5 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩

abbrev nD : Nat := 1
abbrev τ : Topo := Topo.v7x

variable {F : FTy → Type} [FloatOps F]
-- ==== Proof.Chain.lean ====
/-
  The kernel's block, written once as recursions over the key chunks.  A block of the call holds two heads; each head's
  result is a weighted sum of value columns, collected chunk by chunk beside the sum of the weights.  Two ways of
  collecting are written here, as the kernel has them: `lag`, whose weights are taken against the running maximum as it
  was before the chunk, and `full`, whose weights are taken against the running maximum after it.  Everything here is
  at any floating-point values; `Cert.KernelIdeal.Att.sound_kernel` (Body.lean) says the printed body computes it.
-/
module

public import proofs.«01_k».proof.Proof.Gen.KernelIdeal.Frame
public import proofs.«01_k».proof.Proof.Gen.KernelIdeal.Skeleton

@[expose] public section

noncomputable section

namespace Cert.KernelIdeal.Att

open Cert.KernelIdeal Cert.KernelIdeal.Gen
open Idealize.ShloMosaic Idealize.ShloMosaic.TcCoe

variable {F : FTy → Type} [FloatOps F]

/-! ## One chunk of one head -/

/-- The scores of 256 keys against 512 queries, before any scaling. -/
def score (q : FVec F S512x128 .bf16) (k : Vec F S1x1x256x128 .bf16) : FVec F S256x512 .f32 :=
  matmul dot_S256x128_S512x128_S256x512_1_1_0_0_n_n none (shapeCast S256x128 k shapeCasts_S1x1x256x128_S256x128) q
    (constant S256x512 .f32 0x00000000#32)

/-- The largest score of each query. -/
def top (s : FVec F S256x512 .f32) : FVec F S1x512 .f32 :=
  shapeCast S1x512 (multiReduction .maximumf [0] S512 s 0xFF800000#32 reduces_S256x512_S512 (.inl rfl) rfl)
    shapeCasts_S512_S1x512

/-- The weights of a chunk against a reference score per query. -/
def weights (s : FVec F S256x512 .f32) (r : FVec F S1x512 .f32) : FVec F S256x512 .bf16 :=
  truncf .bf16 (exp2 (subf s (broadcastTo S256x512 r broadcasts_S1x512_S256x512))) bitsLt_bf16_f32

/-- A chunk's value rows with sixteen rows of ones below them. -/
def ext (v : Vec F S1x1x64x256 .bf16) : FVec F S80x256 .bf16 :=
  concatenate S80x256 0 [⟨S64x256, shapeCast S64x256 v shapeCasts_S1x1x64x256_S64x256⟩,
    ⟨S16x256, broadcast S16x256 (Scalar.ofBits .bf16 0x3F80#16)⟩] concatenates_S64x256_S16x256_S80x256_d0

/-- The chunk's contribution: value rows and ones, summed with the weights. -/
def contrib (v : Vec F S1x1x64x256 .bf16) (p : FVec F S256x512 .bf16) : FVec F S80x512 .f32 :=
  matmul dot_S80x256_S256x512_S80x512_1_0_0_1_n_n none (ext v) p (constant S80x512 .f32 0x00000000#32)

/-- What was collected against the reference `r`, restated against `r'`. -/
def rescale (r r' : FVec F S1x512 .f32) (acc : FVec F S80x512 .f32) : FVec F S80x512 .f32 :=
  mulf (broadcastTo S80x512 (exp2 (subf r r')) broadcasts_S1x512_S80x512) acc

/-! ## One head, over its chunks -/

section Head

-- the scores and values of the context, and of the latents' chunks
variable (sc : FVec F S256x512 .f32) (vc : Vec F S1x1x64x256 .bf16)
variable (s : ℕ → FVec F S256x512 .f32) (v : ℕ → Vec F S1x1x64x256 .bf16)

/-- The reference score the collection starts from. -/
def low : FVec F S1x512 .f32 := broadcast S1x512 (Scalar.ofBits .f32 0xF149F2CA#32)

/-- The running maximum after the context and the first `n` chunks. -/
def run (n : ℕ) : FVec F S1x512 .f32 :=
  Nat.rec (maximumf low (top sc)) (fun k r => maximumf r (top (s k))) n

/-- What the context contributes. -/
def start : FVec F S80x512 .f32 :=
  addf (rescale low (run sc s 0) (broadcast S80x512 (Scalar.ofBits .f32 0x00000000#32)))
    (contrib vc (weights sc (run sc s 0)))

/-- What is collected after chunk `n`, the weights of each chunk against the maximum before it. -/
def lag (n : ℕ) : FVec F S80x512 .f32 :=
  Nat.rec (addf (start sc vc s) (contrib (v 0) (weights (s 0) (run sc s 0))))
    (fun k acc => addf (rescale (run sc s k) (run sc s (k + 1)) acc)
      (contrib (v (k + 1)) (weights (s (k + 1)) (run sc s (k + 1))))) n

/-- What is collected after the first `n` chunks, the weights of each chunk against the maximum after it. -/
def full (n : ℕ) : FVec F S80x512 .f32 :=
  Nat.rec (start sc vc s)
    (fun k acc => addf (rescale (run sc s k) (run sc s (k + 1)) acc)
      (contrib (v k) (weights (s k) (run sc s (k + 1))))) n

/-- By how much the chunks up to `n` exceed the maximum before each of them. -/
def excess (n : ℕ) : FVec F S1x512 .f32 :=
  Nat.rec (subf (top (s 0)) (run sc s 0))
    (fun k e => maximumf e (subf (top (s (k + 1))) (run sc s (k + 1)))) n

end Head

/-- The collected rows divided by the collected weights. -/
def normed (acc : FVec F S80x512 .f32) : FVec F S64x512 .f32 :=
  divf (extractStridedSlice S64x512 ![0, 0] acc slices_S80x512_o0_0_S64x512)
    (broadcastTo S64x512 (extractStridedSlice S1x512 ![64, 0] acc slices_S80x512_o64_0_S1x512) broadcasts_S1x512_S64x512)

/-- Two heads' results as the block the kernel stores. -/
def pack (a b : FVec F S64x512 .f32) : FVec F S1x512x128 .bf16 :=
  shapeCast S1x512x128 (truncf .bf16 (transpose S512x128 [1, 0]
    (concatenate S128x512 0 [⟨S64x512, a⟩, ⟨S64x512, b⟩] concatenates_S64x512_S64x512_S128x512_d0)
    transposes_S128x512_p1_0_S512x128) bitsLt_bf16_f32) shapeCasts_S512x128_S1x512x128

/-! ## The block from the staged inputs -/

section Block

variable (x0 : Vec F S1x512x256 .bf16) (x1 : Vec F S1x2x8192x128 .bf16) (x2 : Vec F S1x16x128x512 .bf16)
  (x3 : Vec F S1x2x256x128 .bf16) (x4 : Vec F S1x1x128x256 .bf16)

/-- The queries of head `h` of the block. -/
def query (h : Fin 2) : FVec F S512x128 .bf16 :=
  shapeCast S512x128 (View.ld x0 (Rect.unit (s := S1x512x256) ![0, 0, 128 * h.val] S1x512x128.size (by revert h; decide)))
    shapeCasts_S1x512x128_S512x128

/-- The `n`-th chunk of the latents' keys of head `h`. -/
def keyAt (h : Fin 2) (n : ℕ) : Vec F S1x1x256x128 .bf16 :=
  View.ld x1 (Rect.unit (s := S1x2x8192x128) ![0, h.val, 256 * (n % 32), 0] S1x1x256x128.size (by
    have h1 := h.isLt; have h2 := Nat.mod_lt n (show 32 > 0 by decide)
    intro a; fin_cases a <;> simp [Shape.size] <;> omega))

/-- The `n`-th chunk of the latents' values of head `h`. -/
def valAt (h : Fin 2) (n : ℕ) : Vec F S1x1x64x256 .bf16 :=
  View.ld x2 (Rect.unit (s := S1x16x128x512) ![0, (n / 2) % 16, 64 * h.val, 256 * (n % 2)] S1x1x64x256.size (by
    have h1 := h.isLt; have h2 := Nat.mod_lt n (show 2 > 0 by decide); have h3 := Nat.mod_lt (n / 2) (show 16 > 0 by decide)
    intro a; fin_cases a <;> simp [Shape.size] <;> omega))

/-- The context's keys of head `h`. -/
def ctxKey (h : Fin 2) : Vec F S1x1x256x128 .bf16 :=
  View.ld x3 (Rect.unit (s := S1x2x256x128) ![0, h.val, 0, 0] S1x1x256x128.size (by revert h; decide))

/-- The context's values of head `h`. -/
def ctxVal (h : Fin 2) : Vec F S1x1x64x256 .bf16 :=
  View.ld x4 (Rect.unit (s := S1x1x128x256) ![0, 0, 64 * h.val, 0] S1x1x64x256.size (by revert h; decide))

/-- The context's scores of head `h`. -/
def ctxScore (h : Fin 2) : FVec F S256x512 .f32 := score (query x0 h) (ctxKey x3 h)

/-- The scores of the `n`-th chunk of the latents, of head `h`. -/
def scoreAt (h : Fin 2) (n : ℕ) : FVec F S256x512 .f32 := score (query x0 h) (keyAt x1 h n)

/-- The block collected against lagging maxima. -/
def lagBlock : FVec F S1x512x128 .bf16 :=
  pack (normed (lag (ctxScore x0 x3 0) (ctxVal x4 0) (scoreAt x0 x1 0) (valAt x2 0) 31))
    (normed (lag (ctxScore x0 x3 1) (ctxVal x4 1) (scoreAt x0 x1 1) (valAt x2 1) 31))

/-- The block collected against exact maxima. -/
def fullBlock : FVec F S1x512x128 .bf16 :=
  pack (normed (full (ctxScore x0 x3 0) (ctxVal x4 0) (scoreAt x0 x1 0) (valAt x2 0) 32))
    (normed (full (ctxScore x0 x3 1) (ctxVal x4 1) (scoreAt x0 x1 1) (valAt x2 1) 32))

/-- The bit the kernel branches on: some score exceeds its lagging maximum by more than 60. -/
def guard : BitVec 1 :=
  Scalar.cmpi .ne (Scalar.extui (Scalar.cmpf .ogt
    (k0_pay1 (excess (ctxScore x0 x3 0) (scoreAt x0 x1 0) 31) (excess (ctxScore x0 x3 1) (scoreAt x0 x1 1) 31))
    (Scalar.ofBits .f32 0x42700000#32)) : BitVec 32) 0#32

end Block

end Cert.KernelIdeal.Att

end
-- ==== Proof.Body.lean ====
module

public import proofs.«01_k».proof.Proof.Gen.KernelIdeal.Frame
public import proofs.«01_k».proof.Proof.Gen.KernelIdeal.Skeleton
public import proofs.«01_k».proof.Proof.Chain
public import Idealize.ShloMosaic.Lib.Claim

@[expose] public section

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in the output window's buffer -/

/-- The output window's buffer, whole. -/
abbrev rOut : Rect S1x512x128 := Rect.unit (s := S1x512x128) ![0, 0, 0] S1x512x128.size inb_S1x512x128_S1x512x128_0_0_0

/-- The output window's buffer after the body: the lagged block, or, when the guard is set, the exact block over it. -/
def out (x0 : Vec F S1x512x256 .bf16) (x1 : Vec F S1x2x8192x128 .bf16) (x2 : Vec F S1x16x128x512 .bf16)
    (x3 : Vec F S1x2x256x128 .bf16) (x4 : Vec F S1x1x128x256 .bf16) : Vec F S1x512x128 .bf16 :=
  if guard x0 x1 x3 = 1#1 then View.canon [⟨rOut, fullBlock x0 x1 x2 x3 x4⟩, ⟨rOut, lagBlock x0 x1 x2 x3 x4⟩]
  else View.canon [⟨rOut, lagBlock x0 x1 x2 x3 x4⟩]

/-- One store over the whole buffer covers it. -/
theorem cover_one (p : Vec F S1x512x128 .bf16) (y : S1x512x128.Idx) :
    ∃ pc ∈ ([⟨rOut, p⟩] : List (View.Piece (Elt F) S1x512x128 .bf16)), y ∈ pc.1.set :=
  View.cover_of_tiled [⟨rOut, p⟩] S1x512x128.size (by rfl) y

/-- So do two. -/
theorem cover_two (p p' : Vec F S1x512x128 .bf16) (y : S1x512x128.Idx) :
    ∃ pc ∈ ([⟨rOut, p⟩, ⟨rOut, p'⟩] : List (View.Piece (Elt F) S1x512x128 .bf16)), y ∈ pc.1.set :=
  let ⟨pc, h, hy⟩ := cover_one p y
  ⟨pc, List.mem_cons.2 (.inl (List.mem_singleton.1 h)), hy⟩

/-! ## The body's triple -/

set_option maxRecDepth 65536 in
/-- The kernel body on whole staging memrefs, the inputs' at given contents and the output's at anything, ends with the
    inputs' as they were and the output's at `out` of them. -/
theorem sound_kernel (c : Dev nD) (E : Set ℕ) (i : grid0.Coords) (arg3 : Memref sig .tc .vmem S1x512x256 .bf16) (harg3 : arg3.IsWhole)
    (arg4 : Memref sig .tc .vmem S1x2x8192x128 .bf16) (harg4 : arg4.IsWhole) (arg5 : Memref sig .tc .vmem S1x16x128x512 .bf16) (harg5 : arg5.IsWhole)
    (arg6 : Memref sig .tc .vmem S1x2x256x128 .bf16) (harg6 : arg6.IsWhole) (arg7 : Memref sig .tc .vmem S1x1x128x256 .bf16) (harg7 : arg7.IsWhole)
    (arg8 : Memref sig .tc .vmem S1x512x128 .bf16) (harg8 : arg8.IsWhole)
    (x0 : Vec F S1x512x256 .bf16) (x1 : Vec F S1x2x8192x128 .bf16) (x2 : Vec F S1x16x128x512 .bf16) (x3 : Vec F S1x2x256x128 .bf16)
    (x4 : Vec F S1x1x128x256 .bf16) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ (∃ d, owns (c : Thread nD τ) arg8 fullShare d)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare (out x0 x1 x2 x3 x4)) -∗ K ⟨⟩))
      ⊢ wp frame (wpE (defs₀ (F := F)) Variants.none c none) E (cc0_dense_mla_lat i arg3 harg3 arg4 harg4 arg5 harg5 arg6 harg6 arg7 harg7 arg8 harg8) K := by
  simp only [cc0_dense_mla_lat_eq_skeleton]; unfold cc0_dense_mla_lat_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec_parts
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  have hg : sound_kernel.sl.v1465 c arg3 arg4 arg6 f0 f1 f3
      = guard (arg3.view.read (Elt F) f0) (arg4.view.read (Elt F) f1) (arg6.view.read (Elt F) f3) := by sl_kernel_rfl
  have hl : sound_kernel.sl.H5_1 c arg3 arg4 arg5 arg6 arg7 f0 f1 f2 f3 f4
      = [⟨rOut, lagBlock (arg3.view.read (Elt F) f0) (arg4.view.read (Elt F) f1) (arg5.view.read (Elt F) f2) (arg6.view.read (Elt F) f3) (arg7.view.read (Elt F) f4)⟩] := by
    sl_kernel_rfl
  have he : k0_pay3 (sound_kernel.sl.r_763 c arg3 arg4 arg5 arg6 arg7 f0 f1 f2 f3 f4)
              (sound_kernel.sl.r_764 c arg3 arg4 arg5 arg6 arg7 f0 f1 f2 f3 f4)
              (sound_kernel.sl.r_765 c arg3 arg4 arg5 arg6 arg7 f0 f1 f2 f3 f4)
      = fullBlock (arg3.view.read (Elt F) f0) (arg4.view.read (Elt F) f1) (arg5.view.read (Elt F) f2) (arg6.view.read (Elt F) f3) (arg7.view.read (Elt F) f4) := by
    sl_kernel_rfl
  rw [hg, hl, he]
  unfold out
  split
  · exact View.read_writes_eq_canon _ _ _ (cover_two _ _)
  · exact View.read_writes_eq_canon _ _ _ (cover_one _)

/-! ## The pipeline's proof data -/

/-- The arrays as the region finds them; after the body at point `t` each input's buffer at its block and the output's at
    `out` of the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out (iblk m c 0 t) (iblk m c 1 t) (iblk m c 2 t) (iblk m c 3 t) (iblk m c 4 t)
  Φ _ := Pipeline.ΦA spec0 c
  q _ := fullShare
  owed _ := 0

/-- The proof data's arrays are those the region finds. -/
theorem A_eq (c : Dev nD) (w : Fin cfg0.W) : (dats m 0 c).A w = V m c (Pipeline.arrRef spec0 w) := by
  dsimp only [dats]

/-- The body leaves an input's buffer at its block. -/
theorem after_in (c : Dev nD) (t : Fin cfg0.N) : (dats m 0 c).after 0 t = iblk m c 0 t ∧ (dats m 0 c).after 1 t = iblk m c 1 t
    ∧ (dats m 0 c).after 2 t = iblk m c 2 t ∧ (dats m 0 c).after 3 t = iblk m c 3 t ∧ (dats m 0 c).after 4 t = iblk m c 4 t := by
  dsimp only [dats]; exact ⟨rfl, rfl, rfl, rfl, rfl⟩

/-- The body leaves the output's buffer at `out` of the blocks. -/
theorem after_out (c : Dev nD) (t : Fin cfg0.N) : (dats m 0 c).after 5 t = out (iblk m c 0 t) (iblk m c 1 t) (iblk m c 2 t) (iblk m c 3 t) (iblk m c 4 t) := by dsimp only [dats]

/-- Each input's current staging buffer holds its block at every point. -/
theorem before_in (c : Dev nD) (t : Fin cfg0.N) : (∀ d, (dats m 0 c).before 0 t d = iblk m c 0 t) ∧ (∀ d, (dats m 0 c).before 1 t d = iblk m c 1 t)
    ∧ (∀ d, (dats m 0 c).before 2 t d = iblk m c 2 t) ∧ (∀ d, (dats m 0 c).before 3 t d = iblk m c 3 t) ∧ (∀ d, (dats m 0 c).before 4 t d = iblk m c 4 t) :=
  ⟨before0_0_of m (dats m 0 c) (A_eq m c 0) (fun t => (after_in m c t).1) t, before0_1_of m (dats m 0 c) (A_eq m c 1) (fun t => (after_in m c t).2.1) t,
    before0_2_of m (dats m 0 c) (A_eq m c 2) (fun t => (after_in m c t).2.2.1) t, before0_3_of m (dats m 0 c) (A_eq m c 3) (fun t => (after_in m c t).2.2.2.1) t,
    before0_4_of m (dats m 0 c) (A_eq m c 4) (fun t => (after_in m c t).2.2.2.2) t⟩

/-! ## The body obligation, at a generic point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: `sound_kernel` at the point's blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  obtain ⟨b0, b1, b2, b3, b4⟩ := before_in m c t
  obtain ⟨a0, a1, a2, a3, a4⟩ := after_in m c t
  simp only [b0, b1, b2, b3, b4]
  rw [show (dats m 0 c).Φ t.succ = (dats m 0 c).Φ t.castSucc from rfl,
    show (dats m 0 c).owesAt () t.succ = (dats m 0 c).owesAt () t.castSucc from rfl, a0, a1, a2, a3, a4, after_out]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxRecDepth 8192 in
/-- Every execution ends with every array at what the proof data say and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every execution ends with every array at what the proof data say. -/
theorem run_main : θ_run defs (onTc (τ := τ) (main (F := F))) (s₀ m ρ) (Pipeline.FramePost cfgs (dats m) 0 (V m)) :=
  (θ_run defs _ _).mono (fun _ h => h.1) (run_main_quiescent m ρ)

/-- Every execution ends with the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Att

end
-- ==== Proof.KernelFrame.lean ====
/-
  The frame of the kernel as it is printed at machine words.  The two printings of the kernel have the same text, so what
  is proved of one at any floating-point values (Body.lean) is the other's statement too.
-/
module

public import proofs.«01_k».proof.Defs
public import proofs.«01_k».proof.Proof.Gen.Kernel
public import proofs.«01_k».proof.Proof.Body

@[expose] public section

noncomputable section

namespace Cert.Proof.Frames

open Idealize.ShloMosaic Idealize.ShloMosaic.Tactic Idealize.SL.Sem

/-- The frame of `KernelIdeal`'s text at machine words. -/
def AtBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

/-- It is `Kernel`'s frame. -/
theorem same : AtBits = quiescent_Kernel := by sl_kernel_rfl

/-- The frame of the kernel as printed at machine words. -/
theorem kernel : quiescent_Kernel := same ▸ fun m g _ => Cert.KernelIdeal.Att.frame m g

end Cert.Proof.Frames

end
-- ==== Proof.Softmax.lean ====
/-
  Sums weighted by powers of two of real scores, on the extended reals: restating the collected sum against another
  reference, dividing by the collected weights, and the softmax the quotient is.  The summed values may be infinite; the
  scores are real.
-/
module

public import Idealize.ShloMosaic.Lib.Pipeline.ValueKit

@[expose] public section

namespace Cert.Proof.Softmax

open Idealize.ShloMosaic

/-- A nonnegative real factor goes into a sum. -/
theorem coe_mul_sum {ι : Type*} (K : Finset ι) (f : ι → EReal) {c : ℝ} (hc : 0 ≤ c) :
    (c : EReal) * ∑ k ∈ K, f k = ∑ k ∈ K, (c : EReal) * f k := by
  classical
  induction K using Finset.induction_on with
  | empty => simp
  | insert a K ha ih =>
    rw [Finset.sum_insert ha, Finset.sum_insert ha,
      EReal.left_distrib_of_nonneg_of_ne_top (EReal.coe_nonneg.2 hc) (EReal.coe_ne_top c), ih]

/-- The sum of coerced reals is the coerced sum. -/
theorem coe_sum {ι : Type*} (K : Finset ι) (f : ι → ℝ) : ((∑ k ∈ K, f k : ℝ) : EReal) = ∑ k ∈ K, (f k : EReal) := by
  classical
  induction K using Finset.induction_on with
  | empty => simp
  | insert a K ha ih => rw [Finset.sum_insert ha, Finset.sum_insert ha, EReal.coe_add, ih]

/-- The power of two at a difference of reals. -/
theorem exp2_sub (x y : ℝ) : Ideal.exp2 ((x : EReal) - (y : EReal)) = (((2 : ℝ) ^ (x - y) : ℝ) : EReal) := by
  rw [← EReal.coe_sub]; rfl

/-- The exponential at a difference of reals. -/
theorem exp_sub (x y : ℝ) : Ideal.exp ((x : EReal) - (y : EReal)) = ((Real.exp (x - y) : ℝ) : EReal) := by
  rw [← EReal.coe_sub]; rfl

/-- A weighted sum against the reference `r`, restated against `r'`. -/
theorem restate {ι : Type*} (K : Finset ι) (u : ι → EReal) (σ : ι → ℝ) (r r' : ℝ) :
    (((2 : ℝ) ^ (r - r') : ℝ) : EReal) * ∑ k ∈ K, u k * (((2 : ℝ) ^ (σ k - r) : ℝ) : EReal)
      = ∑ k ∈ K, u k * (((2 : ℝ) ^ (σ k - r') : ℝ) : EReal) := by
  rw [coe_mul_sum K _ (by positivity)]
  refine Finset.sum_congr rfl fun k _ => ?_
  rw [mul_left_comm, ← EReal.coe_mul, ← Real.rpow_add (by norm_num)]
  congr 3; ring

/-- The weighted sum over the weights' sum is the sum against the normalised exponentials, whatever the two references. -/
theorem quotient {ι : Type*} [Fintype ι] [Nonempty ι] (u : ι → EReal) (σ : ι → ℝ) (r M : ℝ) :
    Ideal.div (∑ k, u k * (((2 : ℝ) ^ (σ k - r) : ℝ) : EReal)) (∑ k, 1 * (((2 : ℝ) ^ (σ k - r) : ℝ) : EReal))
      = ∑ k, u k * Ideal.div (Ideal.exp ((σ k * Real.log 2 : ℝ) - (M : EReal)))
          (∑ j, Ideal.exp ((σ j * Real.log 2 : ℝ) - (M : EReal))) := by
  simp only [one_mul, exp_sub, ← coe_sum]
  have hD : (0 : ℝ) < ∑ k, (2 : ℝ) ^ (σ k - r) := Finset.sum_pos (fun _ _ => by positivity) Finset.univ_nonempty
  have hE : (0 : ℝ) < ∑ k, Real.exp (σ k * Real.log 2 - M) := Finset.sum_pos (fun _ _ => by positivity) Finset.univ_nonempty
  have two : ∀ k, (2 : ℝ) ^ (σ k - r) = Real.exp (σ k * Real.log 2 - M) * Real.exp (M - r * Real.log 2) := fun k => by
    rw [Real.rpow_def_of_pos (by norm_num), ← Real.exp_add]; congr 1; ring
  rw [Ideal.div_coe hD.ne', mul_comm, coe_mul_sum _ _ (by positivity)]
  refine Finset.sum_congr rfl fun k _ => ?_
  rw [Ideal.div_coe hE.ne', mul_left_comm, ← EReal.coe_mul, ← EReal.coe_mul]
  congr 2
  have hs : ∑ k, (2 : ℝ) ^ (σ k - r) = (∑ k, Real.exp (σ k * Real.log 2 - M)) * Real.exp (M - r * Real.log 2) := by
    rw [Finset.sum_mul]; exact Finset.sum_congr rfl fun k _ => two k
  rw [hs, two k]
  generalize (∑ j, Real.exp (σ j * Real.log 2 - M)) = E at hE ⊢
  have := Real.exp_pos (M - r * Real.log 2)
  field_simp

/-- The maximum of the reals of a set that is not empty, from the bottom, is real. -/
theorem fold_max_real_on {ι : Type*} (f : ι → EReal) (hf : ∀ k, ∃ x : ℝ, f k = x) (K : Finset ι) (hK : K.Nonempty) :
    ∃ x : ℝ, Finset.fold max ⊥ f K = x := by
  classical
  choose g hg using hf
  induction hK using Finset.Nonempty.cons_induction with
  | singleton a => exact ⟨g a, by simp [hg]⟩
  | cons a K ha hK ih =>
    obtain ⟨x, hx⟩ := ih
    exact ⟨max (g a) x, by rw [Finset.fold_cons, hx, hg]; exact (EReal.coe_strictMono.monotone.map_max).symm⟩

/-- The maximum of a nonempty family of reals, from the bottom, is real. -/
theorem fold_max_real {n : ℕ} (f : Fin (n + 1) → EReal) (hf : ∀ k, ∃ x : ℝ, f k = x) :
    ∃ x : ℝ, Finset.fold max ⊥ f Finset.univ = x :=
  fold_max_real_on f hf _ Finset.univ_nonempty

/-- A sum of products of reals is real. -/
theorem sum_mul_real {ι : Type*} [Fintype ι] (f g : ι → EReal) (hf : ∀ k, ∃ x : ℝ, f k = x) (hg : ∀ k, ∃ x : ℝ, g k = x) :
    ∃ x : ℝ, ∑ k, f k * g k = x := by
  choose a ha using hf
  choose b hb using hg
  exact ⟨∑ k, a k * b k, by rw [coe_sum]; exact Finset.sum_congr rfl fun k _ => by rw [ha, hb, EReal.coe_mul]⟩

end Cert.Proof.Softmax
-- ==== Proof.Collect.lean ====
/-
  Collecting a weighted sum chunk by chunk, on the extended reals, for one value column and one query.  The two ways of the
  attention kernels are written for numbers here: `lag`, whose weights are taken against the running maximum before the
  chunk, and `full`, whose weights are taken against the one after it.  Both hold, after every chunk, the sum of the values
  so far against a power of two of the scores, and their quotients are the softmax-weighted sum over all keys.
-/
module

public import proofs.«01_k».proof.Proof.Softmax

@[expose] public section

noncomputable section

namespace Cert.Proof.Collect

open Cert.Proof.Softmax
open Idealize.ShloMosaic

/-- A pattern whose exponent field is not all ones denotes a real. -/
theorem ieee_real (e m : ℕ) {w : ℕ} (b : BitVec w) (h : (b.extractLsb' m e).toNat ≠ 2 ^ e - 1) :
    ∃ x : ℝ, Ideal.ieee e m b = x := by
  unfold Ideal.ieee
  rw [if_neg h]
  split <;> exact ⟨_, rfl⟩

/-- The larger of two reals is real. -/
theorem max_real {p q : EReal} (hp : ∃ x : ℝ, p = x) (hq : ∃ x : ℝ, q = x) : ∃ x : ℝ, max p q = x := by
  obtain ⟨x, rfl⟩ := hp
  obtain ⟨y, rfl⟩ := hq
  exact ⟨max x y, (EReal.coe_strictMono.monotone.map_max).symm⟩

/-- Running maxima of reals are real. -/
theorem run_real (r t : ℕ → EReal) (h0 : ∃ x : ℝ, r 0 = x) (hr : ∀ n, r (n + 1) = max (r n) (t n)) (ht : ∀ n, ∃ x : ℝ, t n = x)
    (n : ℕ) : ∃ x : ℝ, r n = x := by
  induction n with
  | zero => exact h0
  | succ n ih => rw [hr]; exact max_real ih (ht n)

/-- The contribution of a chunk of 256 keys: its values `w`, its scores `z`, the reference `r`. -/
def part (w z : Fin 256 → EReal) (r : EReal) : EReal := ∑ a, w a * Ideal.exp2 (z a - r)

section Ways

-- the context's values and scores, the chunks' values and scores, the reference at the start and the running maxima
variable (wc zc : Fin 256 → EReal) (w z : ℕ → Fin 256 → EReal) (l : EReal) (r : ℕ → EReal)

/-- What the context contributes. -/
def start : EReal := Ideal.exp2 (l - r 0) * 0 + part wc zc (r 0)

/-- What is collected after chunk `n`, the weights of each chunk against the maximum before it. -/
def lag (n : ℕ) : EReal :=
  Nat.rec (start wc zc l r + part (w 0) (z 0) (r 0))
    (fun k acc => Ideal.exp2 (r k - r (k + 1)) * acc + part (w (k + 1)) (z (k + 1)) (r (k + 1))) n

/-- What is collected after the first `n` chunks, the weights of each chunk against the maximum after it. -/
def full (n : ℕ) : EReal :=
  Nat.rec (start wc zc l r)
    (fun k acc => Ideal.exp2 (r k - r (k + 1)) * acc + part (w k) (z k) (r (k + 1))) n

end Ways

/-- The sum of the first `o` values against powers of two of the scores, the reference `x` taken off. -/
def upto (σ : ℕ → ℝ) (u : ℕ → EReal) (o : ℕ) (x : ℝ) : EReal :=
  ∑ k ∈ Finset.range o, u k * (((2 : ℝ) ^ (σ k - x) : ℝ) : EReal)

section Invariant

variable {σ : ℕ → ℝ} {u : ℕ → EReal}

/-- A sum so far restated against another reference, and the contribution of the chunk of the keys from `o` on. -/
theorem step_eq {w z : Fin 256 → EReal} (o : ℕ) (x x' : ℝ) (hw : ∀ a, w a = u (o + a.val)) (hz : ∀ a, z a = σ (o + a.val)) :
    Ideal.exp2 ((x : EReal) - (x' : EReal)) * upto σ u o x + part w z x' = upto σ u (o + 256) x' := by
  rw [upto, exp2_sub, restate, upto, Finset.sum_range_add, part, Finset.sum_range (n := 256)]
  exact congrArg _ (Finset.sum_congr rfl fun a _ => by rw [hw, hz, exp2_sub])

/-- The sum over no keys is zero. -/
theorem upto_zero (x : ℝ) : upto σ u 0 x = 0 := Finset.sum_range_zero _

variable {wc zc : Fin 256 → EReal} {w z : ℕ → Fin 256 → EReal} {l : ℝ} {ρ : ℕ → ℝ}
variable (hwc : ∀ a, wc a = u a.val) (hzc : ∀ a, zc a = σ a.val)
variable (hw : ∀ n a, w n a = u (256 * (n + 1) + a.val)) (hz : ∀ n a, z n a = σ (256 * (n + 1) + a.val))

include hwc hzc in
/-- After the context: the sum over its keys. -/
theorem start_eq : start wc zc l (fun n => ρ n) = upto σ u 256 (ρ 0) := by
  have h := step_eq (σ := σ) (u := u) (w := wc) (z := zc) 0 l (ρ 0) (fun a => by rw [hwc, zero_add]) (fun a => by rw [hzc, zero_add])
  rwa [upto_zero, zero_add] at h

include hwc hzc hw hz in
/-- Against lagging maxima: after chunk `n`, the sum over the keys so far against the maximum before it. -/
theorem lag_eq (n : ℕ) : lag wc zc w z l (fun n => ρ n) n = upto σ u (256 * (n + 2)) (ρ n) := by
  induction n with
  | zero =>
    have h := step_eq (σ := σ) (u := u) 256 (ρ 0) (ρ 0) (hw 0) (hz 0)
    rw [exp2_sub, sub_self, Real.rpow_zero, EReal.coe_one, one_mul] at h
    show start wc zc l (fun n => ρ n) + part (w 0) (z 0) (ρ 0) = _
    rw [start_eq hwc hzc]; exact h
  | succ n ih =>
    show Ideal.exp2 ((ρ n : EReal) - (ρ (n + 1) : EReal)) * lag wc zc w z l (fun n => ρ n) n + _ = _
    rw [ih]; exact step_eq (256 * (n + 2)) _ _ (hw (n + 1)) (hz (n + 1))

include hwc hzc hw hz in
/-- Against exact maxima: after `n` chunks, the sum over the keys so far against their maximum. -/
theorem full_eq (n : ℕ) : full wc zc w z l (fun n => ρ n) n = upto σ u (256 * (n + 1)) (ρ n) := by
  induction n with
  | zero => exact start_eq hwc hzc
  | succ n ih =>
    show Ideal.exp2 ((ρ n : EReal) - (ρ (n + 1) : EReal)) * full wc zc w z l (fun n => ρ n) n + _ = _
    rw [ih]; exact step_eq (256 * (n + 1)) _ _ (hw n) (hz n)

end Invariant

/-- The softmax-weighted sum of `u` over 8448 keys of scores `σ`, the exponentials taken against `M`. -/
def attend (σ : ℕ → ℝ) (u : ℕ → EReal) (M : ℝ) : EReal :=
  ∑ k : Fin 8448, u k.val * Ideal.div (Ideal.exp ((σ k.val * Real.log 2 : ℝ) - (M : EReal)))
    (∑ j : Fin 8448, Ideal.exp ((σ j.val * Real.log 2 : ℝ) - (M : EReal)))

/-- The sum of all values over the sum of all weights is the softmax-weighted sum, whatever the two references. -/
theorem upto_div (σ : ℕ → ℝ) (u : ℕ → EReal) (x M : ℝ) :
    Ideal.div (upto σ u 8448 x) (upto σ (fun _ => 1) 8448 x) = attend σ u M := by
  rw [upto, upto, Finset.sum_range, Finset.sum_range]
  exact quotient (fun k : Fin 8448 => u k.val) (fun k => σ k.val) x M

/-- Both ways of collecting, divided by the weights collected beside, give the softmax-weighted sum. -/
theorem collected {wc zc : Fin 256 → EReal} {w z : ℕ → Fin 256 → EReal} {l : EReal} {r : ℕ → EReal} (σ : ℕ → ℝ) (u : ℕ → EReal)
    (hl : ∃ x : ℝ, l = x) (hr : ∀ n, ∃ x : ℝ, r n = x)
    (hwc : ∀ a, wc a = u a.val) (hzc : ∀ a, zc a = σ a.val)
    (hw : ∀ n a, w n a = u (256 * (n + 1) + a.val)) (hz : ∀ n a, z n a = σ (256 * (n + 1) + a.val)) (M : ℝ) :
    Ideal.div (lag wc zc w z l r 31) (lag (fun _ => 1) zc (fun _ _ => 1) z l r 31) = attend σ u M
      ∧ Ideal.div (full wc zc w z l r 32) (full (fun _ => 1) zc (fun _ _ => 1) z l r 32) = attend σ u M := by
  obtain ⟨l, rfl⟩ := hl
  choose ρ hρ using hr
  obtain rfl : r = fun n => (ρ n : EReal) := funext hρ
  rw [lag_eq hwc hzc hw hz, full_eq hwc hzc hw hz, lag_eq (u := fun _ => 1) (fun _ => rfl) hzc (fun _ _ => rfl) hz,
    full_eq (u := fun _ => 1) (fun _ => rfl) hzc (fun _ _ => rfl) hz]
  exact ⟨upto_div σ u _ M, upto_div σ u _ M⟩

end Cert.Proof.Collect

end
-- ==== Proof.ChainValue.lean ====
/-
  What one head collects, on the extended reals: both ways of collecting hold, after every chunk, the sum of the value
  columns so far against a power of two of the scores, and their quotients are the softmax-weighted sum over all keys.
-/
module

public import proofs.«01_k».proof.Proof.Chain
public import proofs.«01_k».proof.Proof.Collect

@[expose] public section

set_option maxRecDepth 16384

noncomputable section

namespace Cert.KernelIdeal.Att

open Cert.KernelIdeal Cert.KernelIdeal.Gen Cert.Proof Cert.Proof.Softmax
open Cert.Proof.Collect (attend part ieee_real max_real run_real collected)
open Idealize.ShloMosaic Idealize.ShloMosaic.TcCoe

/-! ## The operations at an index -/

theorem score_at (q : FVec Ideal S512x128 .bf16) (k : Vec Ideal S1x1x256x128 .bf16) (a : Fin 256) (b : Fin 512) :
    score q k (ix2 a b) = ∑ d, k (ix4 0 0 a d) * q (ix2 b d) := by
  pointwise [score]

theorem weights_at (s : FVec Ideal S256x512 .f32) (r : FVec Ideal S1x512 .f32) (a : Fin 256) (b : Fin 512) :
    weights s r (ix2 a b) = Ideal.exp2 (s (ix2 a b) - r (ix2 0 b)) := by
  pointwise [weights]
  rfl

theorem ext_at (v : Vec Ideal S1x1x64x256 .bf16) (i : Fin 64) (a : Fin 256) :
    ext v (ix2 ⟨i.val, by omega⟩ a) = v (ix4 0 0 i a) := by
  pointwise [ext]

theorem ext_ones (v : Vec Ideal S1x1x64x256 .bf16) (a : Fin 256) : ext v (ix2 64 a) = 1 := by
  pointwise [ext]

theorem contrib_at (v : Vec Ideal S1x1x64x256 .bf16) (p : FVec Ideal S256x512 .bf16) (i : Fin 80) (b : Fin 512) :
    contrib v p (ix2 i b) = ∑ a, ext v (ix2 i a) * p (ix2 a b) := by
  pointwise [contrib]

theorem rescale_at (r r' : FVec Ideal S1x512 .f32) (acc : FVec Ideal S80x512 .f32) (i : Fin 80) (b : Fin 512) :
    rescale r r' acc (ix2 i b) = Ideal.exp2 (r (ix2 0 b) - r' (ix2 0 b)) * acc (ix2 i b) := by
  pointwise [rescale]
  rfl

theorem normed_at (acc : FVec Ideal S80x512 .f32) (i : Fin 64) (b : Fin 512) :
    normed acc (ix2 i b) = Ideal.div (acc (ix2 ⟨i.val, by omega⟩ b)) (acc (ix2 64 b)) := by
  pointwise [normed]

theorem top_real (s : FVec Ideal S256x512 .f32) (b : Fin 512) (h : ∀ a, ∃ x : ℝ, s (ix2 a b) = x) :
    ∃ x : ℝ, top s (ix2 0 b) = x := by
  obtain ⟨x, hx⟩ := fold_max_real (n := 255) (fun a => s (ix2 a b)) h
  refine ⟨x, ?_⟩
  pointwise [top]
  have hb : Ideal.ofBits FTy.f32 4286578688#32 = ⊥ := by simp [Ideal.ofBits, Ideal.ieee]
  rw [hb]; exact hx

theorem low_real (b : Fin 512) : ∃ x : ℝ, low (F := Ideal) (ix2 0 b) = x :=
  ieee_real 8 23 (0xF149F2CA#32) (by decide)

/-! ## One head -/

section Head

variable (sc : FVec Ideal S256x512 .f32) (vc : Vec Ideal S1x1x64x256 .bf16)
variable (s : ℕ → FVec Ideal S256x512 .f32) (v : ℕ → Vec Ideal S1x1x64x256 .bf16)

theorem part_at (w : Vec Ideal S1x1x64x256 .bf16) (z : FVec Ideal S256x512 .f32) (r : FVec Ideal S1x512 .f32) (i : Fin 80) (b : Fin 512) :
    contrib w (weights z r) (ix2 i b) = part (fun a => ext w (ix2 i a)) (fun a => z (ix2 a b)) (r (ix2 0 b)) :=
  (contrib_at _ _ i b).trans (Finset.sum_congr rfl fun a _ => congrArg _ (weights_at z r a b))

theorem start_at (i : Fin 80) (b : Fin 512) : start sc vc s (ix2 i b) = Collect.start (fun a => ext vc (ix2 i a)) (fun a => sc (ix2 a b))
    (low (F := Ideal) (ix2 0 b)) (fun n => run sc s n (ix2 0 b)) :=
  congrArg₂ (· + ·) ((rescale_at _ _ _ i b).trans (congrArg _ Ideal.ofBits_zero_f32)) (part_at vc sc _ i b)

theorem lag_at (i : Fin 80) (b : Fin 512) (n : ℕ) : lag sc vc s v n (ix2 i b) = Collect.lag (fun a => ext vc (ix2 i a)) (fun a => sc (ix2 a b))
    (fun n a => ext (v n) (ix2 i a)) (fun n a => s n (ix2 a b)) (low (F := Ideal) (ix2 0 b)) (fun n => run sc s n (ix2 0 b)) n := by
  induction n with
  | zero => exact congrArg₂ (· + ·) (start_at sc vc s i b) (part_at (v 0) (s 0) _ i b)
  | succ n ih => exact congrArg₂ (· + ·) ((rescale_at _ _ _ i b).trans (congrArg _ ih)) (part_at (v (n + 1)) (s (n + 1)) _ i b)

theorem full_at (i : Fin 80) (b : Fin 512) (n : ℕ) : full sc vc s v n (ix2 i b) = Collect.full (fun a => ext vc (ix2 i a)) (fun a => sc (ix2 a b))
    (fun n a => ext (v n) (ix2 i a)) (fun n a => s n (ix2 a b)) (low (F := Ideal) (ix2 0 b)) (fun n => run sc s n (ix2 0 b)) n := by
  induction n with
  | zero => exact start_at sc vc s i b
  | succ n ih => exact congrArg₂ (· + ·) ((rescale_at _ _ _ i b).trans (congrArg _ ih)) (part_at (v n) (s n) _ i b)

end Head

/-- Both ways of collecting give the softmax-weighted sum. -/
theorem head_eq (sc : FVec Ideal S256x512 .f32) (vc : Vec Ideal S1x1x64x256 .bf16) (s : ℕ → FVec Ideal S256x512 .f32)
    (v : ℕ → Vec Ideal S1x1x64x256 .bf16) (σ : ℕ → ℝ) (u : ℕ → EReal) (i : Fin 64) (b : Fin 512)
    (hσc : ∀ a : Fin 256, sc (ix2 a b) = σ a.val) (hσ : ∀ n (a : Fin 256), s n (ix2 a b) = σ (256 * (n + 1) + a.val))
    (huc : ∀ a : Fin 256, vc (ix4 0 0 i a) = u a.val) (hu : ∀ n (a : Fin 256), v n (ix4 0 0 i a) = u (256 * (n + 1) + a.val)) (M : ℝ) :
    normed (lag sc vc s v 31) (ix2 i b) = attend σ u M ∧ normed (full sc vc s v 32) (ix2 i b) = attend σ u M := by
  have hr := run_real (fun n => run sc s n (ix2 0 b)) (fun n => top (s n) (ix2 0 b))
    (max_real (low_real b) (top_real sc b fun a => ⟨_, hσc a⟩)) (fun _ => rfl) (fun n => top_real (s n) b fun a => ⟨_, hσ n a⟩)
  rw [normed_at, normed_at, lag_at, lag_at, full_at, full_at]
  simp only [ext_at, ext_ones]
  exact collected σ u (low_real b) hr huc hσc hu hσ M

end Cert.KernelIdeal.Att

end
-- ==== Proof.RefValue.lean ====
/-
  What the reference computes, entry by entry on the extended reals: the softmax-weighted sum of the values over all 8448
  positions, at any scores that are real numbers.
-/
module
public import proofs.«01_k».proof.Proof.Gen.ReferenceIdeal.Run
public import proofs.«01_k».proof.Proof.Collect
public import Idealize.ShloMosaic.Lib.Pipeline.ValueKit
public import Idealize.ShloMosaic.Lib.ReduceAll
@[expose] public section
set_option maxRecDepth 16384

noncomputable section
namespace Cert.ReferenceIdeal.Att
open Cert.ReferenceIdeal Cert.ReferenceIdeal.Gen Cert.ReferenceIdeal.Value
open Cert.Proof.Softmax
open Cert.Proof.Collect (attend)
open Idealize.ShloMosaic Idealize.ShloMosaic.TcCoe

/-- The keys of all 8448 positions, the context's first. -/
def keys (kc : FVec Ideal S8x4x256x128 .bf16) (kl : FVec Ideal S8x4x8192x128 .bf16) : FVec Ideal S8x4x8448x128 .bf16 :=
  concatenate S8x4x8448x128 2 [⟨S8x4x256x128, kc⟩, ⟨S8x4x8192x128, kl⟩] concatenates_S8x4x256x128_S8x4x8192x128_S8x4x8448x128_d2

/-- The values of all 8448 positions, the context's first, by position, head and column. -/
def vals (vc : FVec Ideal S8x1x256x256 .bf16) (vl : FVec Ideal S8x16x256x512 .bf16) : FVec Ideal S8x8448x4x64 .bf16 :=
  concatenate S8x8448x4x64 1
    [⟨S8x256x4x64, transpose S8x256x4x64 [0, 3, 1, 2] (shapeCast _ vc shapeCasts_S8x1x256x256_S8x4x64x256) transposes_S8x4x64x256_S8x256x4x64_0_3_1_2⟩,
     ⟨S8x8192x4x64, shapeCast _ (transpose S8x16x512x4x64 [0, 1, 4, 2, 3] (shapeCast _ vl shapeCasts_S8x16x256x512_S8x16x4x64x512) transposes_S8x16x4x64x512_S8x16x512x4x64_0_1_4_2_3) shapeCasts_S8x16x512x4x64_S8x8192x4x64⟩]
    concatenates_S8x256x4x64_S8x8192x4x64_S8x8448x4x64_d1

/-- The scores of every query against every key, in natural units: the products' sums times the logarithm of two. -/
def scores (q : FVec Ideal S8x8192x512 .bf16) (k : FVec Ideal S8x4x8448x128 .bf16) : FVec Ideal S8x4x8192x8448 .f32 :=
  mulf (Host.dotGeneral dot_S8x8192x4x128_S8x4x8448x128_S8x4x8192x8448_3_3_1_2_02_01 none
      (shapeCast _ (extf .f32 q bitsLt_bf16_f32) shapeCasts_S8x8192x512_S8x8192x4x128) (extf .f32 k bitsLt_bf16_f32))
    (broadcastInDim S8x4x8192x8448 ![] bcast_S_S8x4x8192x8448 (Host.log (constant S_ .f32 0x40000000#32)))

/-- The largest score of every query, as the reduction leaves it. -/
def most (s : FVec Ideal S8x4x8192x8448 .f32) : FVec Ideal S8x4x8192 .f32 :=
  Host.reduce FloatOps.maximumf s (constant S_ .f32 0xFF800000#32) reducesTo_S8x4x8192x8448_S8x4x8192_d3 h_S_

/-- The largest score of every query. -/
def tops (s : FVec Ideal S8x4x8192x8448 .f32) : FVec Ideal S8x4x8192 .f32 :=
  maximumf (broadcastInDim S8x4x8192 ![] bcast_S_S8x4x8192 (constant S_ .f32 0xFF800000#32)) (most s)

/-- One number of every query, repeated along the keys. -/
def along (x : FVec Ideal S8x4x8192 .f32) : FVec Ideal S8x4x8192x8448 .f32 :=
  broadcastInDim S8x4x8192x8448 ![0, 1, 2, 3] bcast_S8x4x8192x1_S8x4x8192x8448_0_1_2_3
    (broadcastInDim S8x4x8192x1 ![0, 1, 2] bcast_S8x4x8192_S8x4x8192x1_0_1_2 x)

/-- The exponentials of the scores less a number of the query. -/
def powers (s : FVec Ideal S8x4x8192x8448 .f32) (x : FVec Ideal S8x4x8192 .f32) : FVec Ideal S8x4x8192x8448 .f32 :=
  Host.exp (subf s (along x))

/-- Every entry over the sum of its query's entries. -/
def shares (p : FVec Ideal S8x4x8192x8448 .f32) : FVec Ideal S8x4x8192x8448 .f32 :=
  Host.divf p (along (Host.reduceAdd p (constant S_ .f32 0x00000000#32) reducesTo_S8x4x8192x8448_S8x4x8192_d3 h_S_))

/-- The values summed with the shares, the heads' columns side by side. -/
def mix (v : FVec Ideal S8x8448x4x64 .bf16) (w : FVec Ideal S8x4x8192x8448 .f32) : FVec Ideal S8x8192x256 .bf16 :=
  truncf .bf16 (shapeCast _ (transpose S8x8192x4x64 [0, 3, 1, 2]
    (Host.dotGeneral dot_S8x8448x4x64_S8x4x8192x8448_S8x4x64x8192_1_3_3_2_02_01 none (extf .f32 v bitsLt_bf16_f32) w)
    transposes_S8x4x64x8192_S8x8192x4x64_0_3_1_2) shapeCasts_S8x8192x4x64_S8x8192x256) bitsLt_bf16_f32

theorem res_eq (m : (ℓ : Loc nD τ sig) → Buf (Elt Ideal) ℓ) (c : Dev nD) :
    res_main_v29 m c = mix (vals (m ((c.tc : Thread nD τ).loc main_arg4)) (m ((c.tc : Thread nD τ).loc main_arg2)))
      (shares (powers (scores (m ((c.tc : Thread nD τ).loc main_arg0)) (keys (m ((c.tc : Thread nD τ).loc main_arg3)) (m ((c.tc : Thread nD τ).loc main_arg1))))
        (tops (scores (m ((c.tc : Thread nD τ).loc main_arg0)) (keys (m ((c.tc : Thread nD τ).loc main_arg3)) (m ((c.tc : Thread nD τ).loc main_arg1))))))) := rfl

theorem bottom : Ideal.ofBits FTy.f32 0xFF800000#32 = ⊥ := by simp [Ideal.ofBits, Ideal.ieee]

/-- A maximum over a part of a real array that is not empty, taken from minus infinity, is a real number. -/
theorem reduce_max_real {s t u : Shape} {axes : List (Fin s.rank)} (x : FVec Ideal s .f32) (hx : ∀ i, ∃ r : ℝ, x i = r)
    (h : s.ReducesTo axes t) (hu : 0 < u.numel) (j : t.Idx) (i : s.Idx) (hi : h.drop i = j) :
    ∃ r : ℝ, Host.reduce FloatOps.maximumf x (constant u .f32 0xFF800000#32) h hu j = r := by
  rw [Host.reduce_eq_fold]
  have hb : (constant (F := Ideal) u .f32 0xFF800000#32) (Shape.Idx.first hu) = (⊥ : EReal) := bottom
  rw [hb]
  exact fold_max_real_on x hx _ ⟨i, Finset.mem_filter.mpr ⟨Finset.mem_univ _, hi⟩⟩

theorem max_at {t u : Shape} (d) (hb : u.BroadcastsInDim t d) (y : FVec Ideal t .f32) (j : t.Idx) :
    maximumf (broadcastInDim t d hb (constant (F := Ideal) u .f32 0xFF800000#32)) y j = y j :=
  (congrArg (max · (y j)) bottom).trans (max_eq_right bot_le)

theorem drop_at (h : S8x4x8192x8448.ReducesTo [3] S8x4x8192) (b : Fin 8) (g : Fin 4) (n : Fin 8192) (k : Fin 8448) :
    h.drop (ix4 b g n k) = ix3 b g n := by
  funext a
  refine Fin.ext ?_
  match a with
  | 0 => exact h.drop_apply_val_of_eq (ix4 b g n k) 0 0
  | 1 => exact h.drop_apply_val_of_eq (ix4 b g n k) 1 1
  | 2 => exact h.drop_apply_val_of_eq (ix4 b g n k) 2 2

theorem most_real (s : FVec Ideal S8x4x8192x8448 .f32) (b : Fin 8) (h : Fin 4) (n : Fin 8192) (hs : ∀ i, ∃ r : ℝ, s i = r) :
    ∃ r : ℝ, most s (ix3 b h n) = r :=
  reduce_max_real s hs reducesTo_S8x4x8192x8448_S8x4x8192_d3 h_S_ (ix3 b h n) (ix4 b h n 0) (drop_at _ b h n 0)

theorem tops_real (s : FVec Ideal S8x4x8192x8448 .f32) (b : Fin 8) (h : Fin 4) (n : Fin 8192) (hs : ∀ i, ∃ r : ℝ, s i = r) :
    ∃ r : ℝ, tops s (ix3 b h n) = r := by
  obtain ⟨r, hr⟩ := most_real s b h n hs
  exact ⟨r, (max_at _ _ (most s) _).trans hr⟩

theorem mix_at (v : FVec Ideal S8x8448x4x64 .bf16) (w : FVec Ideal S8x4x8192x8448 .f32) (b : Fin 8) (n : Fin 8192) (l : Fin 256) :
    mix v w (ix3 b n l) = ∑ k, v (ix4 b k ⟨l.val / 64, by omega⟩ ⟨l.val % 64, by omega⟩) * w (ix4 b ⟨l.val / 64, by omega⟩ n k) := by
  pointwise [mix]

theorem shares_at (p : FVec Ideal S8x4x8192x8448 .f32) (b : Fin 8) (h : Fin 4) (n : Fin 8192) (k : Fin 8448) :
    shares p (ix4 b h n k) = Ideal.div (p (ix4 b h n k)) (∑ j, p (ix4 b h n j)) := by
  pointwise [shares, along]

theorem powers_at (s : FVec Ideal S8x4x8192x8448 .f32) (x : FVec Ideal S8x4x8192 .f32) (b : Fin 8) (h : Fin 4) (n : Fin 8192)
    (k : Fin 8448) : powers s x (ix4 b h n k) = Ideal.exp (s (ix4 b h n k) - x (ix3 b h n)) := by
  pointwise [powers, along]

/-! ## Keys and values by position -/

/-- Entry `d` of the key of position `k` of head `h`: the context's positions first, then the latents'. -/
def keyOf (kc : FVec Ideal S8x4x256x128 .bf16) (kl : FVec Ideal S8x4x8192x128 .bf16) (b : Fin 8) (h : Fin 4) (k : ℕ) (d : Fin 128) :
    EReal :=
  if hk : k < 256 then kc (ix4 b h ⟨k, hk⟩ d) else kl (ix4 b h ⟨(k - 256) % 8192, by omega⟩ d)

/-- Entry `i` of the value of position `k` of head `h`: the context's positions first, then the latents'. -/
def valOf (vc : FVec Ideal S8x1x256x256 .bf16) (vl : FVec Ideal S8x16x256x512 .bf16) (b : Fin 8) (h : Fin 4) (i : Fin 64) (k : ℕ) :
    EReal :=
  if hk : k < 256 then vc (ix4 b 0 ⟨h.val * 64 + i.val, by omega⟩ ⟨k, hk⟩)
  else vl (ix4 b ⟨(k - 256) / 512 % 16, by omega⟩ ⟨h.val * 64 + i.val, by omega⟩ ⟨(k - 256) % 512, by omega⟩)

theorem keyOf_ctx (kc : FVec Ideal S8x4x256x128 .bf16) (kl : FVec Ideal S8x4x8192x128 .bf16) (b : Fin 8) (h : Fin 4) (d : Fin 128)
    (a : Fin 256) : keyOf kc kl b h a.val d = kc (ix4 b h a d) :=
  dif_pos a.isLt

theorem keyOf_lat (kc : FVec Ideal S8x4x256x128 .bf16) (kl : FVec Ideal S8x4x8192x128 .bf16) (b : Fin 8) (h : Fin 4) (d : Fin 128)
    (j : ℕ) (a : Fin 256) : keyOf kc kl b h (256 * (j + 1) + a.val) d = kl (ix4 b h ⟨256 * (j % 32) + a.val, by omega⟩ d) := by
  unfold keyOf
  refine (dif_neg (by omega)).trans (congrArg (fun k => kl (ix4 b h k d)) (Fin.ext ?_))
  show (256 * (j + 1) + a.val - 256) % 8192 = 256 * (j % 32) + a.val
  omega

theorem valOf_ctx (vc : FVec Ideal S8x1x256x256 .bf16) (vl : FVec Ideal S8x16x256x512 .bf16) (b : Fin 8) (h : Fin 4) (i : Fin 64)
    (a : Fin 256) : valOf vc vl b h i a.val = vc (ix4 b 0 ⟨h.val * 64 + i.val, by omega⟩ a) :=
  dif_pos a.isLt

theorem valOf_lat (vc : FVec Ideal S8x1x256x256 .bf16) (vl : FVec Ideal S8x16x256x512 .bf16) (b : Fin 8) (h : Fin 4) (i : Fin 64)
    (j : ℕ) (a : Fin 256) : valOf vc vl b h i (256 * (j + 1) + a.val)
      = vl (ix4 b ⟨j / 2 % 16, by omega⟩ ⟨h.val * 64 + i.val, by omega⟩ ⟨256 * (j % 2) + a.val, by omega⟩) := by
  unfold valOf
  refine (dif_neg (by omega)).trans (congrArg₂ (fun k l => vl (ix4 b k ⟨h.val * 64 + i.val, by omega⟩ l)) (Fin.ext ?_) (Fin.ext ?_))
  · show (256 * (j + 1) + a.val - 256) / 512 % 16 = j / 2 % 16
    omega
  · show (256 * (j + 1) + a.val - 256) % 512 = 256 * (j % 2) + a.val
    omega

/-- The sum of products of the key of position `k` with query `n`. -/
def dotOf (q : FVec Ideal S8x8192x512 .bf16) (kc : FVec Ideal S8x4x256x128 .bf16) (kl : FVec Ideal S8x4x8192x128 .bf16)
    (b : Fin 8) (h : Fin 4) (n : Fin 8192) (k : ℕ) : EReal :=
  ∑ d : Fin 128, keyOf kc kl b h k d * q (ix3 b n ⟨h.val * 128 + d.val, by omega⟩)

theorem log_two : Ideal.log (Ideal.ofBits FTy.f32 0x40000000#32) = ((Real.log 2 : ℝ) : EReal) := by
  have h2 : Ideal.ofBits FTy.f32 0x40000000#32 = ((2 : ℝ) : EReal) := by
    simp [Ideal.ofBits, Ideal.ieee]; rw [← EReal.coe_mul]; norm_num
  rw [h2, Ideal.log_coe, if_neg (by norm_num)]

theorem scores_at (q : FVec Ideal S8x8192x512 .bf16) (kc : FVec Ideal S8x4x256x128 .bf16) (kl : FVec Ideal S8x4x8192x128 .bf16)
    (b : Fin 8) (h : Fin 4) (n : Fin 8192) (k : Fin 8448) :
    scores q (keys kc kl) (ix4 b h n k) = dotOf q kc kl b h n k.val * ((Real.log 2 : ℝ) : EReal) := by
  rw [← log_two]
  pointwise [scores, keys]
  refine congrArg (· * _) (Finset.sum_congr rfl fun d _ => ?_)
  rw [mul_comm]
  unfold keyOf
  split
  · rfl
  · rw! [Nat.mod_eq_of_lt (show k.val - 256 < 8192 by omega)]
    rfl

theorem vals_at (vc : FVec Ideal S8x1x256x256 .bf16) (vl : FVec Ideal S8x16x256x512 .bf16) (b : Fin 8) (h : Fin 4) (i : Fin 64)
    (k : Fin 8448) : vals vc vl (ix4 b k h i) = valOf vc vl b h i k.val := by
  pointwise [vals]
  unfold valOf
  split
  · rfl
  · rw! [Nat.mod_eq_of_lt (show (k.val - 256) / 512 < 16 by omega)]
    rfl

/-- The reference at an entry: the softmax-weighted sum of the values, where the scores are real. -/
theorem attend_at (q : FVec Ideal S8x8192x512 .bf16) (kc : FVec Ideal S8x4x256x128 .bf16) (kl : FVec Ideal S8x4x8192x128 .bf16)
    (vc : FVec Ideal S8x1x256x256 .bf16) (vl : FVec Ideal S8x16x256x512 .bf16)
    (σ : Fin 8 → Fin 4 → Fin 8192 → ℕ → ℝ) (hσ : ∀ b h n k, dotOf q kc kl b h n k = σ b h n k)
    (b : Fin 8) (n : Fin 8192) (l : Fin 256) :
    ∃ M : ℝ, mix (vals vc vl) (shares (powers (scores q (keys kc kl)) (tops (scores q (keys kc kl))))) (ix3 b n l)
      = attend (σ b ⟨l.val / 64, by omega⟩ n) (valOf vc vl b ⟨l.val / 64, by omega⟩ ⟨l.val % 64, by omega⟩) M := by
  have hs : ∀ (b : Fin 8) (h : Fin 4) (n : Fin 8192) (k : Fin 8448),
      scores q (keys kc kl) (ix4 b h n k) = ((σ b h n k.val * Real.log 2 : ℝ) : EReal) := fun b h n k =>
    (scores_at q kc kl b h n k).trans (by rw [hσ, ← EReal.coe_mul])
  obtain ⟨M, hM⟩ := tops_real (scores q (keys kc kl)) b ⟨l.val / 64, by omega⟩ n
    fun i => ⟨_, (congrArg _ (ix4_eta i).symm).trans (hs (i 0) (i 1) (i 2) (i 3))⟩
  refine ⟨M, (mix_at _ _ b n l).trans (Finset.sum_congr rfl fun k _ => congrArg₂ (· * ·) (vals_at vc vl b _ _ k) ?_)⟩
  have hp : ∀ k : Fin 8448, powers (scores q (keys kc kl)) (tops (scores q (keys kc kl))) (ix4 b ⟨l.val / 64, by omega⟩ n k)
      = Ideal.exp ((σ b ⟨l.val / 64, by omega⟩ n k.val * Real.log 2 : ℝ) - (M : EReal)) := fun k =>
    (powers_at _ _ b _ n k).trans (by rw [hM, hs])
  refine (shares_at _ b _ n k).trans (congrArg₂ Ideal.div (hp k) (Finset.sum_congr rfl fun j _ => hp j))

end Cert.ReferenceIdeal.Att
-- ==== Proof.BlockValue.lean ====
/-
  The array the attention leaves, on the extended reals: every entry is the softmax-weighted sum of the values over the
  keys of its batch and head, whichever way the block collected it.
-/
module

public import proofs.«01_k».proof.Proof.Body
public import proofs.«01_k».proof.Proof.ChainValue
public import proofs.«01_k».proof.Proof.RefValue
public import Idealize.ShloMosaic.Lib.Pipeline.ValueKit

@[expose] public section

set_option maxRecDepth 16384

noncomputable section

namespace Cert.KernelIdeal.Att

open Cert.KernelIdeal Cert.KernelIdeal.Gen Cert.Proof.Softmax
open Cert.Proof.Collect (attend)
open Cert.ReferenceIdeal.Att (keyOf valOf dotOf)
open Idealize.ShloMosaic Idealize.ShloMosaic.TcCoe

/-! ## The blocks' reads -/

section Reads

variable (x0 : Vec Ideal S1x512x256 .bf16) (x1 : Vec Ideal S1x2x8192x128 .bf16) (x2 : Vec Ideal S1x16x128x512 .bf16)
variable (x3 : Vec Ideal S1x2x256x128 .bf16) (x4 : Vec Ideal S1x1x128x256 .bf16)

theorem cast_at (w : FVec Ideal S1x512x128 .bf16) (b : Fin 512) (d : Fin 128) :
    shapeCast S512x128 w shapeCasts_S1x512x128_S512x128 (ix2 b d) = w (ix3 0 b d) := by
  pointwise []

theorem query_at (h : Fin 2) (b : Fin 512) (d : Fin 128) :
    query x0 h (ix2 b d) = x0 (ix3 0 b ⟨128 * h.val + d.val, by omega⟩) := by
  refine (cast_at _ b d).trans (congrArg x0 (funext fun c => Fin.ext ?_))
  match c with
  | 0 => rfl
  | 1 => exact (Nat.zero_add _).trans (Nat.one_mul _)
  | 2 => exact congrArg (128 * h.val + ·) (Nat.one_mul _)

theorem keyAt_at (h : Fin 2) (n : ℕ) (a : Fin 256) (d : Fin 128) :
    keyAt x1 h n (ix4 0 0 a d) = x1 (ix4 0 h ⟨256 * (n % 32) + a.val, by omega⟩ d) := by
  refine congrArg x1 (funext fun c => Fin.ext ?_)
  match c with
  | 0 => exact Nat.zero_add _
  | 1 => exact Nat.add_zero _
  | 2 => exact congrArg (256 * (n % 32) + ·) (Nat.one_mul _)
  | 3 => exact (Nat.zero_add _).trans (Nat.one_mul _)

theorem valAt_at (h : Fin 2) (n : ℕ) (i : Fin 64) (a : Fin 256) :
    valAt x2 h n (ix4 0 0 i a) = x2 (ix4 0 ⟨n / 2 % 16, by omega⟩ ⟨64 * h.val + i.val, by omega⟩ ⟨256 * (n % 2) + a.val, by omega⟩) := by
  pointwise [valAt]

theorem ctxKey_at (h : Fin 2) (a : Fin 256) (d : Fin 128) : ctxKey x3 h (ix4 0 0 a d) = x3 (ix4 0 h a d) := by
  pointwise [ctxKey]

theorem ctxVal_at (h : Fin 2) (i : Fin 64) (a : Fin 256) :
    ctxVal x4 h (ix4 0 0 i a) = x4 (ix4 0 0 ⟨64 * h.val + i.val, by omega⟩ a) := by
  pointwise [ctxVal]

theorem pack_at (x y : FVec Ideal S64x512 .f32) (b : Fin 512) (l : Fin 128) :
    pack x y (ix3 0 b l) = if h : l.val < 64 then x (ix2 ⟨l.val, h⟩ b) else y (ix2 ⟨l.val - 64, by omega⟩ b) := by
  pointwise [pack]

theorem canon_rOut (p : Vec Ideal S1x512x128 .bf16) (L) : View.canon (⟨rOut, p⟩ :: L) = p :=
  View.canon_cons_unit_lit _ _ _ (by decide)

/-- An entry of the output block, where the scores of its query are the reals `σ` and its value column is `u`. -/
theorem out_at (b : Fin 512) (h : Fin 2) (i : Fin 64) (σ : ℕ → ℝ) (u : ℕ → EReal) (M : ℝ)
    (hσc : ∀ a : Fin 256, ctxScore x0 x3 h (ix2 a b) = σ a.val)
    (hσ : ∀ n (a : Fin 256), scoreAt x0 x1 h n (ix2 a b) = σ (256 * (n + 1) + a.val))
    (huc : ∀ a : Fin 256, ctxVal x4 h (ix4 0 0 i a) = u a.val)
    (hu : ∀ n (a : Fin 256), valAt x2 h n (ix4 0 0 i a) = u (256 * (n + 1) + a.val)) :
    out x0 x1 x2 x3 x4 (ix3 0 b ⟨64 * h.val + i.val, by omega⟩) = attend σ u M := by
  have hh := head_eq (ctxScore x0 x3 h) (ctxVal x4 h) (scoreAt x0 x1 h) (valAt x2 h) σ u i b hσc hσ huc hu M
  have pk : ∀ z : Fin 2 → FVec Ideal S64x512 .f32, z h (ix2 i b) = attend σ u M →
      pack (z 0) (z 1) (ix3 0 b ⟨64 * h.val + i.val, by omega⟩) = attend σ u M := fun z hz => by
    refine (pack_at (z 0) (z 1) b _).trans ?_
    clear hσc hσ huc hu hh
    match h, hz with
    | 0, hz =>
      refine (dif_pos (show 64 * (0 : Fin 2).val + i.val < 64 by simp)).trans ?_
      simpa using hz
    | 1, hz =>
      refine (dif_neg (show ¬ 64 * (1 : Fin 2).val + i.val < 64 by simp)).trans ?_
      simpa using hz
  unfold out
  split
  · rw [canon_rOut]
    exact pk (fun h => normed (full (ctxScore x0 x3 h) (ctxVal x4 h) (scoreAt x0 x1 h) (valAt x2 h) 32)) hh.2
  · rw [canon_rOut]
    exact pk (fun h => normed (lag (ctxScore x0 x3 h) (ctxVal x4 h) (scoreAt x0 x1 h) (valAt x2 h) 31)) hh.1

end Reads

/-! ## The array -/

variable (m : (ℓ : Loc nD τ sig) → Buf (Elt Ideal) ℓ)

/-- The windows' block indices at a grid point: the batch, the pair of heads and the part of the queries. -/
theorem idx : ∀ t : Fin cfg0.N,
    win0_0.index t = ![(grid0.coords t 0).val, (grid0.coords t 2).val, (grid0.coords t 1).val]
    ∧ win0_1.index t = ![(grid0.coords t 0).val, (grid0.coords t 1).val, 0, 0]
    ∧ win0_2.index t = ![(grid0.coords t 0).val, 0, (grid0.coords t 1).val, 0]
    ∧ win0_3.index t = ![(grid0.coords t 0).val, (grid0.coords t 1).val, 0, 0]
    ∧ win0_4.index t = ![(grid0.coords t 0).val, 0, (grid0.coords t 1).val, 0]
    ∧ win0_5.index t = ![(grid0.coords t 0).val, (grid0.coords t 2).val, (grid0.coords t 1).val] :=
  (by decide +kernel : ∀ t : Fin grid0.N, _)

theorem lt0 : ∀ t : Fin cfg0.N, (grid0.coords t 0).val < 8 ∧ (grid0.coords t 1).val < 2 ∧ (grid0.coords t 2).val < 16 :=
  (by decide +kernel : ∀ t : Fin grid0.N, _)

section Points

variable (c : Dev nD) (t : Fin cfg0.N) (b : Fin 8) (p : Fin 2) (g : Fin 16)
variable (hb : (grid0.coords t 0).val = b.val) (hp : (grid0.coords t 1).val = p.val) (hg : (grid0.coords t 2).val = g.val)

include hb hp hg

theorem iblk0 (n : Fin 512) (e : Fin 256) : iblk m c 0 t (ix3 0 n e)
    = m ((c.tc : Thread nD τ).loc main_arg0) (ix3 b ⟨512 * g.val + n.val, by omega⟩ ⟨256 * p.val + e.val, by omega⟩) := by
  blk_ext [iblk, V, idx t]

theorem iblk1 (h : Fin 2) (k : Fin 8192) (d : Fin 128) : iblk m c 1 t (ix4 0 h k d)
    = m ((c.tc : Thread nD τ).loc main_arg1) (ix4 b ⟨2 * p.val + h.val, by omega⟩ k d) := by
  blk_ext [iblk, V, idx t]

theorem iblk2 (a : Fin 16) (i : Fin 128) (k : Fin 512) : iblk m c 2 t (ix4 0 a i k)
    = m ((c.tc : Thread nD τ).loc main_arg2) (ix4 b a ⟨128 * p.val + i.val, by omega⟩ k) := by
  blk_ext [iblk, V, idx t]

theorem iblk3 (h : Fin 2) (k : Fin 256) (d : Fin 128) : iblk m c 3 t (ix4 0 h k d)
    = m ((c.tc : Thread nD τ).loc main_arg3) (ix4 b ⟨2 * p.val + h.val, by omega⟩ k d) := by
  blk_ext [iblk, V, idx t]

theorem iblk4 (i : Fin 128) (k : Fin 256) : iblk m c 4 t (ix4 0 0 i k)
    = m ((c.tc : Thread nD τ).loc main_arg4) (ix4 b 0 ⟨128 * p.val + i.val, by omega⟩ k) := by
  blk_ext [iblk, V, idx t]

theorem emb5 (n : Fin 512) (e : Fin 128) : ((cfg0.win 5).blk t).view.emb (ix3 0 n e)
    = ix3 b ⟨512 * g.val + n.val, by omega⟩ ⟨128 * p.val + e.val, by omega⟩ := by
  blk_ext [idx t]

end Points

end Cert.KernelIdeal.Att
-- ==== Proof.ArrayValue.lean ====
/-
  The whole result: the array the kernel leaves is the array the reference computes, where the scores are real numbers.
-/
module

public import proofs.«01_k».proof.Proof.BlockValue

@[expose] public section

set_option maxRecDepth 16384

noncomputable section

namespace Cert.KernelIdeal.Att

open Cert.KernelIdeal Cert.KernelIdeal.Gen Cert.Proof.Softmax
open Cert.Proof.Collect (attend)
open Cert.ReferenceIdeal.Att (keyOf valOf dotOf keyOf_ctx keyOf_lat valOf_ctx valOf_lat)
open Idealize.ShloMosaic Idealize.ShloMosaic.TcCoe

variable (m : (ℓ : Loc nD τ sig) → Buf (Elt Ideal) ℓ) (c : Dev nD)

/-- The products' sum of query `n` with the key of position `k`, of the arguments as launched. -/
abbrev dotArg (b : Fin 8) (h : Fin 4) (n : Fin 8192) (k : ℕ) : EReal :=
  dotOf (m ((c.tc : Thread nD τ).loc main_arg0)) (m ((c.tc : Thread nD τ).loc main_arg3)) (m ((c.tc : Thread nD τ).loc main_arg1)) b h n k

/-- Entry `i` of the value of position `k`, of the arguments as launched. -/
abbrev valArg (b : Fin 8) (h : Fin 4) (i : Fin 64) (k : ℕ) : EReal :=
  valOf (m ((c.tc : Thread nD τ).loc main_arg4)) (m ((c.tc : Thread nD τ).loc main_arg2)) b h i k

section Points

variable (t : Fin cfg0.N) (b : Fin 8) (p : Fin 2) (g : Fin 16)
variable (hb : (grid0.coords t 0).val = b.val) (hp : (grid0.coords t 1).val = p.val) (hg : (grid0.coords t 2).val = g.val)

include hb hp hg

theorem ctxScore_eq (h : Fin 2) (n : Fin 512) (a : Fin 256) :
    ctxScore (iblk m c 0 t) (iblk m c 3 t) h (ix2 a n)
      = dotArg m c b ⟨2 * p.val + h.val, by omega⟩ ⟨512 * g.val + n.val, by omega⟩ a.val := by
  refine (score_at _ _ a n).trans (Finset.sum_congr rfl fun d _ => congrArg₂ (· * ·) ?_ ?_)
  · refine (ctxKey_at _ h a d).trans ((iblk3 m c t b p g hb hp hg h a d).trans ?_)
    exact (keyOf_ctx _ _ b _ d a).symm
  · refine (query_at _ h n d).trans ((iblk0 m c t b p g hb hp hg n _).trans
      (congrArg (fun e => m ((c.tc : Thread nD τ).loc main_arg0) (ix3 b _ e)) (Fin.ext ?_)))
    show 256 * p.val + (128 * h.val + d.val) = (2 * p.val + h.val) * 128 + d.val
    omega

theorem scoreAt_eq (h : Fin 2) (n : Fin 512) (j : ℕ) (a : Fin 256) :
    scoreAt (iblk m c 0 t) (iblk m c 1 t) h j (ix2 a n)
      = dotArg m c b ⟨2 * p.val + h.val, by omega⟩ ⟨512 * g.val + n.val, by omega⟩ (256 * (j + 1) + a.val) := by
  refine (score_at _ _ a n).trans (Finset.sum_congr rfl fun d _ => congrArg₂ (· * ·) ?_ ?_)
  · refine (keyAt_at _ h j a d).trans ((iblk1 m c t b p g hb hp hg h _ d).trans ?_)
    exact (keyOf_lat _ _ b _ d j a).symm
  · refine (query_at _ h n d).trans ((iblk0 m c t b p g hb hp hg n _).trans
      (congrArg (fun e => m ((c.tc : Thread nD τ).loc main_arg0) (ix3 b _ e)) (Fin.ext ?_)))
    show 256 * p.val + (128 * h.val + d.val) = (2 * p.val + h.val) * 128 + d.val
    omega

theorem ctxVal_eq (h : Fin 2) (i : Fin 64) (a : Fin 256) :
    ctxVal (iblk m c 4 t) h (ix4 0 0 i a) = valArg m c b ⟨2 * p.val + h.val, by omega⟩ i a.val := by
  refine (ctxVal_at _ h i a).trans ((iblk4 m c t b p g hb hp hg _ a).trans (Eq.trans ?_ (valOf_ctx _ _ b _ i a).symm))
  refine congrArg (fun e => m ((c.tc : Thread nD τ).loc main_arg4) (ix4 b 0 e a)) (Fin.ext ?_)
  show 128 * p.val + (64 * h.val + i.val) = (2 * p.val + h.val) * 64 + i.val
  omega

theorem valAt_eq (h : Fin 2) (i : Fin 64) (j : ℕ) (a : Fin 256) :
    valAt (iblk m c 2 t) h j (ix4 0 0 i a) = valArg m c b ⟨2 * p.val + h.val, by omega⟩ i (256 * (j + 1) + a.val) := by
  refine (valAt_at _ h j i a).trans ((iblk2 m c t b p g hb hp hg _ _ _).trans (Eq.trans ?_ (valOf_lat _ _ b _ i j a).symm))
  refine congrArg (fun e => m ((c.tc : Thread nD τ).loc main_arg2) (ix4 b _ e _)) (Fin.ext ?_)
  show 128 * p.val + (64 * h.val + i.val) = (2 * p.val + h.val) * 64 + i.val
  omega

end Points

/-- The result array is any array that is, entry by entry, the softmax-weighted sum of the values. -/
theorem array (σ : Fin 8 → Fin 4 → Fin 8192 → ℕ → ℝ) (hσ : ∀ b h n k, dotArg m c b h n k = σ b h n k)
    (R : FVec Ideal S8x8192x256 .bf16)
    (hR : ∀ (b : Fin 8) (n : Fin 8192) (l : Fin 256), ∃ M : ℝ, R (ix3 b n l)
      = attend (σ b ⟨l.val / 64, by omega⟩ n) (valArg m c b ⟨l.val / 64, by omega⟩ ⟨l.val % 64, by omega⟩) M) :
    (dats m 0 c).arrAt 5 (cfgs 0).N = R := by
  refine (dats m 0 c).arrAt_eq_of_covers 5 R (by decide +kernel) fun t _ y => ?_
  blk_simp
  rw [after_out]
  obtain ⟨h0, h1, h2⟩ := lt0 t
  have ey : ∃ (n : Fin 512) (h : Fin 2) (i : Fin 64), y = ix3 0 n ⟨64 * h.val + i.val, by omega⟩ := by
    refine ⟨y 1, ⟨(y 2).val / 64, ?_⟩, ⟨(y 2).val % 64, by omega⟩, ?_⟩
    · have : (y 2).val < 128 := (y 2).isLt
      omega
    · blk_ext []
  obtain ⟨n, h, i, rfl⟩ := ey
  have e := emb5 t ⟨_, h0⟩ ⟨_, h1⟩ ⟨_, h2⟩ rfl rfl rfl n ⟨64 * h.val + i.val, by omega⟩
  obtain ⟨M, hM⟩ := hR ⟨_, h0⟩ ⟨512 * (grid0.coords t 2).val + n.val, by omega⟩
    ⟨128 * (grid0.coords t 1).val + (64 * h.val + i.val), by omega⟩
  refine Eq.trans ?_ ((congrArg R e).trans hM).symm
  have d1 : (128 * (grid0.coords t 1).val + (64 * h.val + i.val)) / 64 = 2 * (grid0.coords t 1).val + h.val := by omega
  have d2 : (128 * (grid0.coords t 1).val + (64 * h.val + i.val)) % 64 = i.val := by omega
  simp only [d1, d2, Fin.eta]
  exact out_at _ _ _ _ _ n h i _ _ M
    (fun a => (ctxScore_eq m c t ⟨_, h0⟩ ⟨_, h1⟩ ⟨_, h2⟩ rfl rfl rfl h n a).trans (hσ _ _ _ _))
    (fun j a => (scoreAt_eq m c t ⟨_, h0⟩ ⟨_, h1⟩ ⟨_, h2⟩ rfl rfl rfl h n j a).trans (hσ _ _ _ _))
    (fun a => ctxVal_eq m c t ⟨_, h0⟩ ⟨_, h1⟩ ⟨_, h2⟩ rfl rfl rfl h i a)
    (fun j a => valAt_eq m c t ⟨_, h0⟩ ⟨_, h1⟩ ⟨_, h2⟩ rfl rfl rfl h i j a)

end Cert.KernelIdeal.Att
-- ==== Proof.Finite.lean ====
/-
  The precondition read back: where it holds, every query and every key is a real number.
-/
module

public import proofs.«01_k».proof.Defs
public import proofs.«01_k».proof.Proof.Gen.Pre_finite_qk
public import Idealize.ShloMosaic.Lib.ReduceAll
public import Idealize.ShloMosaic.Lib.Pipeline.ValueKit

@[expose] public section

set_option maxRecDepth 16384

noncomputable section

namespace Cert.Proof.Finite

open Idealize.ShloMosaic Idealize.ShloMosaic.TcCoe
open Cert.Pre_finite_qk

theorem top_bits : Ideal.ofBits FTy.f32 0x7F800000#32 = ⊤ := by simp [Ideal.ofBits, Ideal.ieee]

theorem real_of_abs_lt (x : EReal) (h : max x (-x) < ⊤) : ∃ r : ℝ, x = r := by
  induction x with
  | bot => simp at h
  | top => simp at h
  | coe r => exact ⟨r, rfl⟩

/-- Where the conjunction of `|x| < ∞` over all entries is one, every entry is a real number. -/
theorem real_of_all {s : Shape} {axes : List (Fin s.rank)} (x : FVec Ideal s .bf16) (hx : FTy.bits .bf16 < FTy.bits .f32)
    (hb : S_.BroadcastsInDim s ![]) (hr : s.ReducesTo axes S_) (hu : 0 < S_.numel) (j : S_.Idx)
    (h : Host.reduce IntOp.andi (cmpf .olt (Host.absf (extf .f32 x hx)) (broadcastInDim s ![] hb (constant (F := Ideal) S_ .f32 0x7F800000#32)))
      (constantI S_ 1 1#1) hr hu j = 1#1) (i : s.Idx) : ∃ r : ℝ, x i = r := by
  haveI : Subsingleton S_.Idx := ⟨fun a b => funext fun k => k.elim0⟩
  have hi := Host.reduce_andi_all _ _ hr hu j h i
  refine real_of_abs_lt _ ?_
  have e : BitVec.ofBool (decide (max (x i) (-(x i)) < Ideal.ofBits FTy.f32 0x7F800000#32)) = 1#1 := hi
  rw [top_bits] at e
  by_contra hn
  simp [hn] at e

/-- Where the precondition's word is one, the queries and the keys are real numbers throughout. -/
theorem reals [Facts] (q : FVec Ideal S8x8192x512 .bf16) (kl : FVec Ideal S8x4x8192x128 .bf16) (vl : FVec Ideal S8x16x256x512 .bf16)
    (kc : FVec Ideal S8x4x256x128 .bf16) (vc : FVec Ideal S8x1x256x256 .bf16)
    (h : fn (F := Ideal) q kl vl kc vc = fun _ => 1#1) :
    (∀ i, ∃ r : ℝ, q i = r) ∧ (∀ i, ∃ r : ℝ, kl i = r) ∧ (∀ i, ∃ r : ℝ, kc i = r) := by
  have h0 := congrFun h ix0
  unfold fn at h0
  obtain ⟨h1, h3⟩ := IntOp.andi_eq_one.1 h0
  obtain ⟨h1, h2⟩ := IntOp.andi_eq_one.1 h1
  exact ⟨real_of_all q _ _ _ _ _ h1, real_of_all kl _ _ _ _ _ h2, real_of_all kc _ _ _ _ _ h3⟩

end Cert.Proof.Finite
-- ==== Proof.Claims.lean ====
/-
  The claims about the attention: its runs, the reference's runs, and the equality of their results.
-/
module

public import proofs.«01_k».proof.Defs
public import proofs.«01_k».proof.Proof.KernelFrame
public import proofs.«01_k».proof.Proof.ArrayValue
public import proofs.«01_k».proof.Proof.Finite
public import Idealize.ShloMosaic.Lib.Claim

@[expose] public section

set_option maxRecDepth 16384

noncomputable section

namespace Cert.Proof.Attention

open Idealize.ShloMosaic Idealize.ShloMosaic.TcCoe Idealize.SL.Sem
open Cert.Proof.Softmax
open Cert.ReferenceIdeal.Att (keyOf valOf dotOf attend_at res_eq)

/-- The products' sums are real where the queries and the keys are. -/
theorem dot_real (q : FVec Ideal Cert.KernelIdeal.S8x8192x512 .bf16) (kc : FVec Ideal Cert.KernelIdeal.S8x4x256x128 .bf16)
    (kl : FVec Ideal Cert.KernelIdeal.S8x4x8192x128 .bf16) (hq : ∀ i, ∃ r : ℝ, q i = r) (hc : ∀ i, ∃ r : ℝ, kc i = r)
    (hl : ∀ i, ∃ r : ℝ, kl i = r) (b : Fin 8) (h : Fin 4) (n : Fin 8192) (k : ℕ) : ∃ r : ℝ, dotOf q kc kl b h n k = r :=
  sum_mul_real _ _ (fun d => by unfold keyOf; split; exacts [hc _, hl _]) fun _ => hq _

/-- The idealized program runs, keeps its arguments and leaves every counter at zero. -/
theorem frame_ideal : Cert.quiescent_KernelIdeal := fun m g _ => Cert.KernelIdeal.Att.frame m g

/-- The same where the queries and keys are finite. -/
theorem frame_ideal_pre : Cert.quiescent_KernelIdeal_pre_finite_qk := fun m g _ => Cert.KernelIdeal.Att.frame m g

/-- The reference runs, keeps its arguments and leaves every counter at zero. -/
theorem frame_ref : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The same where the queries and keys are finite. -/
theorem frame_ref_pre : Cert.quiescent_ReferenceIdeal_pre_finite_qk := fun m g _ => frame_ref m g trivial

/-- The kernel's result is the reference's, where the queries and keys are finite. -/
theorem value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_finite_qk m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    (Cert.KernelIdeal.Att.dats m 0 c).arrAt 5 (Cert.KernelIdeal.cfgs 0).N = Cert.ReferenceIdeal.Value.res_out0 m' c := by
  obtain ⟨hq, hl, hc⟩ := Finite.reals _ _ _ _ _ (hpre c)
  choose σ hσ using fun b h n k => dot_real _ _ _ hq hc hl b h n k
  refine Cert.KernelIdeal.Att.array m c σ hσ _ fun b n l => ?_
  have e := res_eq m' c
  rw [h0, h1, h2, h3, h4] at e
  obtain ⟨M, hM⟩ := attend_at _ _ _
    (m ((c.tc : Thread Cert.KernelIdeal.nD Cert.KernelIdeal.τ).loc Cert.KernelIdeal.main_arg4))
    (m ((c.tc : Thread Cert.KernelIdeal.nD Cert.KernelIdeal.τ).loc Cert.KernelIdeal.main_arg2)) σ hσ b n l
  exact ⟨M, (congrFun e _).trans hM⟩

/-- From equal arguments with finite queries and keys, the kernel and the reference end with equal results. -/
theorem equal : Cert.algebraic_KernelIdeal_ReferenceIdeal_pre_finite_qk := by
  intro m g m' g' hpre hag
  refine ⟨fun c => Cert.ReferenceIdeal.Value.res_out0 m' c, ?_, ?_⟩
  · have hv : ∀ c, (Cert.KernelIdeal.Att.dats m 0 c).arrAt 5 (Cert.KernelIdeal.cfgs 0).N = Cert.ReferenceIdeal.Value.res_out0 m' c :=
      fun c => value m m' hpre c (hag c).1 (hag c).2.1 (hag c).2.2.1 (hag c).2.2.2.1 (hag c).2.2.2.2
    run_from (Cert.KernelIdeal.Att.run_main m g)
    exact hv c
  · exact Cert.ReferenceIdeal.Value.run m' g'

end Cert.Proof.Attention
-- ==== Proof.WinSum.lean ====
/-
  The arithmetic of the windowed attention, for one query and one value column, in numbers: the kernel's quotient of two sums
  against powers of two and the reference's sum of values times shares are both one expression, `mixed`.
-/
module

public import proofs.«01_k».proof.Proof.Collect
public import Idealize.ShloMosaic.Lib.Pipeline.ValueKit

@[expose] public section

noncomputable section

namespace Cert.Proof.Win

open Cert.Proof.Softmax
open Idealize.ShloMosaic

/-- Position `j` is within 128 of position `n`. -/
abbrev near (n j : ℕ) : Prop := j ≤ n + 128 ∧ n ≤ j + 128

/-- The values summed with their weights, over the sum of the weights and one more weight, the sink's. -/
def mixed {ι κ : Type} [Fintype ι] [Fintype κ] (uc : ι → EReal) (u : κ → EReal) (wc : ι → ℝ) (w : κ → ℝ) (e : ℝ) : EReal :=
  Ideal.div (∑ k, uc k * (wc k : EReal) + ∑ j, u j * (w j : EReal)) ((∑ k, wc k + ∑ j, w j + e : ℝ) : EReal)

section Scale

variable {ι κ : Type} [Fintype ι] [Fintype κ] (uc : ι → EReal) (u : κ → EReal) (wc : ι → ℝ) (w : κ → ℝ) (e c : ℝ)

theorem sum_scaled {α : Type} [Fintype α] (v : α → EReal) (x : α → ℝ) (hc : 0 ≤ c) :
    ∑ k, v k * ((c * x k : ℝ) : EReal) = (c : EReal) * ∑ k, v k * (x k : EReal) := by
  rw [coe_mul_sum _ _ hc]
  exact Finset.sum_congr rfl fun k _ => by rw [EReal.coe_mul, mul_left_comm]

theorem add_scaled (hc : 0 ≤ c) : ∑ k, uc k * ((c * wc k : ℝ) : EReal) + ∑ j, u j * ((c * w j : ℝ) : EReal)
    = (c : EReal) * (∑ k, uc k * (wc k : EReal) + ∑ j, u j * (w j : EReal)) := by
  rw [sum_scaled c uc wc hc, sum_scaled c u w hc,
    EReal.left_distrib_of_nonneg_of_ne_top (EReal.coe_nonneg.2 hc) (EReal.coe_ne_top c)]

variable (hwc : ∀ k, 0 ≤ wc k) (hw : ∀ j, 0 ≤ w j) (he : 0 < e)
include hwc hw he

theorem total_pos : 0 < ∑ k, wc k + ∑ j, w j + e := by
  have h1 := Finset.sum_nonneg fun k (_ : k ∈ Finset.univ) => hwc k
  have h2 := Finset.sum_nonneg fun k (_ : k ∈ Finset.univ) => hw k
  linarith

/-- Scaling all the weights leaves the quotient as it is. -/
theorem scaled (hc : 0 < c) : mixed uc u (fun k => c * wc k) (fun j => c * w j) (c * e) = mixed uc u wc w e := by
  have hD := total_pos wc w e hwc hw he
  have hs : ∑ k, c * wc k + ∑ j, c * w j + c * e = c * (∑ k, wc k + ∑ j, w j + e) := by
    rw [← Finset.mul_sum, ← Finset.mul_sum]; ring
  unfold mixed
  rw [add_scaled uc u wc w c hc.le, hs, Ideal.div_coe (mul_pos hc hD).ne', Ideal.div_coe hD.ne', mul_comm (c : EReal), mul_assoc, ← EReal.coe_mul]
  congr 2
  field_simp

/-- The values summed with the weights' shares. -/
theorem shared (S : EReal) (hS : S = ((c * (∑ k, wc k + ∑ j, w j + e) : ℝ) : EReal)) (hc : 0 < c) :
    ∑ k, uc k * Ideal.div ((c * wc k : ℝ) : EReal) S + ∑ j, u j * Ideal.div ((c * w j : ℝ) : EReal) S = mixed uc u wc w e := by
  have hD := total_pos wc w e hwc hw he
  subst hS
  unfold mixed
  generalize ∑ k, wc k + ∑ j, w j + e = D at hD
  have hq : ∀ x : ℝ, Ideal.div ((c * x : ℝ) : EReal) ((c * D : ℝ) : EReal) = ((D⁻¹ * x : ℝ) : EReal) := fun x => by
    rw [Ideal.div_coe (mul_pos hc hD).ne', ← EReal.coe_mul]
    congr 1
    field_simp
  simp only [hq]
  rw [add_scaled uc u wc w D⁻¹ (inv_pos.2 hD).le, Ideal.div_coe hD.ne', mul_comm, one_div]

end Scale

/-! ## Exponentials of scores, hidden ones included -/

theorem bot_sub (x : ℝ) : (⊥ : EReal) - (x : EReal) = ⊥ := by rw [sub_eq_add_neg, EReal.bot_add]

theorem exp2_hidden (p : Prop) [Decidable p] (x μ : ℝ) :
    Ideal.exp2 ((if p then (x : EReal) else ⊥) - (μ : EReal)) = (((2 : ℝ) ^ (-μ) * (if p then (2 : ℝ) ^ x else 0) : ℝ) : EReal) := by
  split
  · rw [exp2_sub, ← Real.rpow_add (by norm_num)]; congr 2; ring
  · rw [bot_sub, mul_zero]; rfl

theorem exp2_seen (x μ : ℝ) : Ideal.exp2 ((x : EReal) - (μ : EReal)) = (((2 : ℝ) ^ (-μ) * (2 : ℝ) ^ x : ℝ) : EReal) := by
  rw [exp2_sub, ← Real.rpow_add (by norm_num)]; congr 2; ring

theorem exp2_sink (x μ : ℝ) : Ideal.exp2 ((x : EReal) * (((Real.log 2)⁻¹ : ℝ) : EReal) - (μ : EReal))
    = (((2 : ℝ) ^ (-μ) * Real.exp x : ℝ) : EReal) := by
  have h : Real.log 2 ≠ 0 := (Real.log_pos (by norm_num)).ne'
  rw [← EReal.coe_mul, exp2_seen, Real.rpow_def_of_pos (by norm_num) (x * _)]
  congr 4
  field_simp

theorem exp_seen (x M : ℝ) : Ideal.exp (((x * Real.log 2 : ℝ) : EReal) - (M : EReal)) = ((Real.exp (-M) * (2 : ℝ) ^ x : ℝ) : EReal) := by
  rw [exp_sub, Real.rpow_def_of_pos (by norm_num), ← Real.exp_add]; congr 2; ring

theorem exp_hidden (p : Prop) [Decidable p] (x M : ℝ) :
    Ideal.exp ((if p then ((x * Real.log 2 : ℝ) : EReal) else ⊥) - (M : EReal)) = ((Real.exp (-M) * (if p then (2 : ℝ) ^ x else 0) : ℝ) : EReal) := by
  split
  · exact exp_seen x M
  · rw [bot_sub, mul_zero]; rfl

theorem exp_sink (x M : ℝ) : Ideal.exp ((x : EReal) - (M : EReal)) = ((Real.exp (-M) * Real.exp x : ℝ) : EReal) := by
  rw [exp_sub, ← Real.exp_add]; congr 2; ring

theorem hidden_nonneg (p : Prop) [Decidable p] (x : ℝ) : 0 ≤ if p then (2 : ℝ) ^ x else 0 := by
  split
  · positivity
  · exact le_rfl

section Both

variable {ι κ : Type} [Fintype ι] [Fintype κ] (uc : ι → EReal) (u : κ → EReal) (σc : ι → ℝ) (σ : κ → ℝ) (p : κ → Prop)
variable [DecidablePred p] (e μ : ℝ)

/-- The kernel's way. -/
theorem kernel_mixed :
    Ideal.div (∑ k, uc k * Ideal.exp2 ((σc k : EReal) - (μ : EReal)) + ∑ j, u j * Ideal.exp2 ((if p j then (σ j : EReal) else ⊥) - (μ : EReal)))
      (∑ k, 1 * Ideal.exp2 ((σc k : EReal) - (μ : EReal)) + ∑ j, 1 * Ideal.exp2 ((if p j then (σ j : EReal) else ⊥) - (μ : EReal))
        + Ideal.exp2 ((e : EReal) * (((Real.log 2)⁻¹ : ℝ) : EReal) - (μ : EReal)))
      = mixed uc u (fun k => (2 : ℝ) ^ σc k) (fun j => if p j then (2 : ℝ) ^ σ j else 0) (Real.exp e) := by
  simp only [exp2_hidden, exp2_seen, exp2_sink, one_mul, ← coe_sum, ← EReal.coe_add]
  exact scaled uc u _ _ _ _ (fun _ => by positivity) (fun _ => hidden_nonneg _ _) (Real.exp_pos e) (by positivity)

/-- The reference's way. -/
theorem ref_mixed (S : EReal) (hS : S = ∑ k, Ideal.exp (((σc k * Real.log 2 : ℝ) : EReal) - (μ : EReal))
      + ∑ j, Ideal.exp ((if p j then ((σ j * Real.log 2 : ℝ) : EReal) else ⊥) - (μ : EReal)) + Ideal.exp ((e : EReal) - (μ : EReal))) :
    ∑ k, uc k * Ideal.div (Ideal.exp (((σc k * Real.log 2 : ℝ) : EReal) - (μ : EReal))) S
      + ∑ j, u j * Ideal.div (Ideal.exp ((if p j then ((σ j * Real.log 2 : ℝ) : EReal) else ⊥) - (μ : EReal))) S
      = mixed uc u (fun k => (2 : ℝ) ^ σc k) (fun j => if p j then (2 : ℝ) ^ σ j else 0) (Real.exp e) := by
  have hS' : S = ((Real.exp (-μ) * (∑ k, (2 : ℝ) ^ σc k + ∑ j, (if p j then (2 : ℝ) ^ σ j else 0) + Real.exp e) : ℝ) : EReal) := by
    rw [hS]
    simp only [exp_hidden, exp_seen]
    simp only [exp_sink, ← coe_sum, ← EReal.coe_add, ← Finset.mul_sum, ← mul_add]
  simp only [exp_hidden, exp_seen]
  exact shared uc u _ _ _ _ (fun _ => by positivity) (fun _ => hidden_nonneg _ _) (Real.exp_pos e) S hS' (Real.exp_pos _)

end Both

/-! ## The window's positions -/

/-- Row `a` of the window of query `n` in the band from `o` is position `o + a - 128`: it is seen if it is a position at all and near. -/
abbrev seen (o n a : ℕ) : Prop := 128 ≤ o + a ∧ o + a < 8320 ∧ near (n + 128) (o + a)

/-- A sum over the seen rows of the window is the sum over the near positions. -/
theorem window_sum {M : Type} [AddCommMonoid M] (o n : ℕ) (ho : o + 128 ≤ 8192) (h1 : o ≤ n) (h2 : n < o + 128) (G : Fin 8192 → M) :
    ∑ a : Fin 384, (if seen o n a.val then G ⟨(o + a.val - 128) % 8192, by omega⟩ else 0)
      = ∑ j : Fin 8192, (if near n j.val then G j else 0) := by
  rw [← Finset.sum_filter, ← Finset.sum_filter]
  refine Finset.sum_bij' (fun a _ => (⟨(o + a.val - 128) % 8192, by omega⟩ : Fin 8192))
    (fun j _ => (⟨(j.val + 128 - o) % 384, by omega⟩ : Fin 384)) ?_ ?_ ?_ ?_ ?_
  · intro a ha
    simp only [Finset.mem_filter, Finset.mem_univ, true_and] at ha ⊢
    omega
  · intro j hj
    simp only [Finset.mem_filter, Finset.mem_univ, true_and] at hj ⊢
    omega
  · intro a ha
    simp only [Finset.mem_filter, Finset.mem_univ, true_and] at ha
    refine Fin.ext ?_
    show ((o + a.val - 128) % 8192 + 128 - o) % 384 = a.val
    omega
  · intro j hj
    simp only [Finset.mem_filter, Finset.mem_univ, true_and] at hj
    refine Fin.ext ?_
    show (o + (j.val + 128 - o) % 384 - 128) % 8192 = j.val
    omega
  · intro a _
    rfl

/-- The same expression over the window's rows and over all positions. -/
theorem mixed_window {ι : Type} [Fintype ι] (o n : ℕ) (ho : o + 128 ≤ 8192) (h1 : o ≤ n) (h2 : n < o + 128)
    (uc : ι → EReal) (wc : ι → ℝ) (e : ℝ) (u : Fin 8192 → EReal) (w : Fin 8192 → ℝ) :
    mixed uc (fun a : Fin 384 => u ⟨(o + a.val - 128) % 8192, by omega⟩) wc
        (fun a : Fin 384 => if seen o n a.val then w ⟨(o + a.val - 128) % 8192, by omega⟩ else 0) e
      = mixed uc u wc (fun j => if near n j.val then w j else 0) e := by
  have hz : ∀ (q : Prop) [Decidable q] (v : EReal) (x : ℝ), v * ((if q then x else 0 : ℝ) : EReal) = if q then v * (x : EReal) else 0 := by
    intro q _ v x
    split
    · rfl
    · rw [EReal.coe_zero, mul_zero]
  unfold mixed
  simp only [hz]
  rw [window_sum o n ho h1 h2 (fun j => u j * (w j : EReal)), window_sum o n ho h1 h2 w]

/-! ## Largest scores -/

/-- A maximum of numbers that are real or minus infinity is one of these. -/
theorem fold_max_low {ι : Type*} (f : ι → EReal) (hf : ∀ k, (∃ x : ℝ, f k = x) ∨ f k = ⊥) (K : Finset ι) :
    (∃ x : ℝ, Finset.fold max ⊥ f K = x) ∨ Finset.fold max ⊥ f K = ⊥ := by
  classical
  induction K using Finset.induction_on with
  | empty => exact .inr rfl
  | insert a K ha ih =>
    rw [Finset.fold_insert ha]
    rcases hf a with h | h
    · rcases ih with h' | h'
      · exact .inl (Collect.max_real h h')
      · rw [h', max_eq_left bot_le]; exact .inl h
    · rw [h, max_eq_right bot_le]; exact ih

theorem max_low {x y : EReal} (hx : ∃ r : ℝ, x = r) (hy : (∃ r : ℝ, y = r) ∨ y = ⊥) : ∃ r : ℝ, max x y = r := by
  rcases hy with h | h
  · exact Collect.max_real hx h
  · rw [h, max_eq_left bot_le]; exact hx

/-- Where one of them is real, so is the maximum. -/
theorem fold_max_some {ι : Type*} (f : ι → EReal) (hf : ∀ k, (∃ x : ℝ, f k = x) ∨ f k = ⊥) (K : Finset ι) (i : ι) (hi : i ∈ K)
    (hr : ∃ x : ℝ, f i = x) : ∃ x : ℝ, Finset.fold max ⊥ f K = x := by
  classical
  rw [← Finset.insert_erase hi, Finset.fold_insert (Finset.notMem_erase i K)]
  exact max_low hr (fold_max_low f hf _)

/-! ## The comparisons of positions, on words -/

theorem andi_ite (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

/-- The kernel's word of a window row's position. -/
abbrev rowWord (s a : ℕ) : BitVec 32 := IntOp.addi (IntOp.subi (IntOp.muli (BitVec.ofNat 32 s) 512#32) 128#32) (BitVec.ofNat 32 a)

/-- The kernel's word of the distance of a query from a window row. -/
abbrev farWord (s a r : ℕ) : BitVec 32 := IntOp.subi (IntOp.addi (IntOp.muli (BitVec.ofNat 32 s) 512#32) (BitVec.ofNat 32 r)) (rowWord s a)

theorem bmod_small (x : ℤ) (h : -2147483648 ≤ x) (h' : x < 2147483648) : x.bmod (2 ^ 32) = x := by
  rw [Int.bmod_def]
  norm_num
  omega

theorem nat_int (n : ℕ) (h : n < 2147483648) : (BitVec.ofNat 32 n).toInt = n := by
  rw [BitVec.toInt_ofNat', bmod_small _ (by omega) (by omega)]

theorem add_int (x y : BitVec 32) (a b : ℤ) (hx : x.toInt = a) (hy : y.toInt = b) (h : -2147483648 ≤ a + b) (h' : a + b < 2147483648) :
    (IntOp.addi x y).toInt = a + b := by
  unfold IntOp.addi
  rw [BitVec.toInt_add, hx, hy, bmod_small _ h h']

theorem sub_int (x y : BitVec 32) (a b : ℤ) (hx : x.toInt = a) (hy : y.toInt = b) (h : -2147483648 ≤ a - b) (h' : a - b < 2147483648) :
    (IntOp.subi x y).toInt = a - b := by
  unfold IntOp.subi
  rw [BitVec.toInt_sub, hx, hy, bmod_small _ h h']

theorem mul_int (x y : BitVec 32) (a b : ℤ) (hx : x.toInt = a) (hy : y.toInt = b) (h : -2147483648 ≤ a * b) (h' : a * b < 2147483648) :
    (IntOp.muli x y).toInt = a * b := by
  unfold IntOp.muli
  rw [BitVec.toInt_mul, hx, hy, bmod_small _ h h']

theorem rowWord_toInt (s a : ℕ) (hs : s < 16) (ha : a < 768) : (rowWord s a).toInt = 512 * (s : ℤ) - 128 + a := by
  have h1 := mul_int _ _ _ _ (nat_int s (by omega)) (nat_int 512 (by omega)) (by omega) (by omega)
  have h2 := sub_int _ _ _ _ h1 (nat_int 128 (by omega)) (by omega) (by omega)
  have h3 := add_int _ _ _ _ h2 (nat_int a (by omega)) (by omega) (by omega)
  refine h3.trans ?_
  omega

theorem farWord_toInt (s a r : ℕ) (hs : s < 16) (ha : a < 768) (hr : r < 512) : (farWord s a r).toInt = (r : ℤ) - a + 128 := by
  have h1 := mul_int _ _ _ _ (nat_int s (by omega)) (nat_int 512 (by omega)) (by omega) (by omega)
  have h2 := add_int _ _ _ _ h1 (nat_int r (by omega)) (by omega) (by omega)
  have h3 := sub_int _ _ _ _ h2 (rowWord_toInt s a hs ha) (by omega) (by omega)
  refine h3.trans ?_
  omega

/-- The distance of two positions as a word. -/
theorem dist_toInt (n j : ℕ) (hn : n < 8192) (hj : j < 8192) : (IntOp.subi (BitVec.ofNat 32 n) (BitVec.ofNat 32 j)).toInt = (n : ℤ) - j :=
  sub_int _ _ _ _ (nat_int n (by omega)) (nat_int j (by omega)) (by omega) (by omega)

theorem sle_word (x y : BitVec 32) : IntOp.cmpi .sle x y = BitVec.ofBool (decide (x.toInt ≤ y.toInt)) := rfl
theorem sge_word (x y : BitVec 32) : IntOp.cmpi .sge x y = BitVec.ofBool (decide (y.toInt ≤ x.toInt)) := rfl
theorem slt_word (x y : BitVec 32) : IntOp.cmpi .slt x y = BitVec.ofBool (decide (x.toInt < y.toInt)) := rfl

theorem near_word (n j : ℕ) (hn : n < 8192) (hj : j < 8192) :
    IntOp.andi (IntOp.cmpi .sle (IntOp.subi (BitVec.ofNat 32 n) (BitVec.ofNat 32 j)) 128#32)
      (IntOp.cmpi .sge (IntOp.subi (BitVec.ofNat 32 n) (BitVec.ofNat 32 j)) 4294967168#32) = BitVec.ofBool (decide (near n j)) := by
  rw [sle_word, sge_word, andi_ite, dist_toInt n j hn hj]
  refine congrArg BitVec.ofBool (decide_eq_decide.2 ?_)
  have h1 : (128#32 : BitVec 32).toInt = 128 := by decide
  have h2 : (4294967168#32 : BitVec 32).toInt = -128 := by decide
  rw [h1, h2]
  omega

theorem seen_word (s a r : ℕ) (hs : s < 16) (ha : a < 768) (hr : r < 512) :
    IntOp.andi (IntOp.andi (IntOp.andi (IntOp.cmpi .sle (farWord s a r) 128#32) (IntOp.cmpi .sge (farWord s a r) 4294967168#32))
      (IntOp.cmpi .sge (rowWord s a) 0#32)) (IntOp.cmpi .slt (rowWord s a) 8192#32) = BitVec.ofBool (decide (seen (512 * s) (512 * s + r) a)) := by
  rw [sle_word, sge_word, sge_word, slt_word, andi_ite, andi_ite, andi_ite, farWord_toInt s a r hs ha hr, rowWord_toInt s a hs ha]
  refine congrArg BitVec.ofBool (decide_eq_decide.2 ?_)
  have h1 : (128#32 : BitVec 32).toInt = 128 := by decide
  have h2 : (4294967168#32 : BitVec 32).toInt = -128 := by decide
  have h3 : (0#32 : BitVec 32).toInt = 0 := by decide
  have h4 : (8192#32 : BitVec 32).toInt = 8192 := by decide
  rw [h1, h2, h3, h4]
  omega

end Cert.Proof.Win
-- ==== Proof.WinBlock.lean ====
/-
  The windowed attention: what a block computes from its windows, entry by entry on the extended reals.
-/
module

public import proofs.«01_k».proof.Proof.Gen.Kernel6Ideal.Frame
public import proofs.«01_k».proof.Proof.WinSum

@[expose] public section

set_option maxRecDepth 65536

noncomputable section

namespace Cert.Kernel6Ideal.Win

open Cert.Kernel6Ideal Cert.Kernel6Ideal.Gen
open Idealize.ShloMosaic Idealize.ShloMosaic.TcCoe

variable {F : FTy → Type} [FloatOps F] [Named F]

/-! ## One head of one band of 128 queries -/

/-- The scores of the queries against the context's keys. -/
def ctxScore (kc : FVec F S256x128 .bf16) (q : FVec F S128x128 .bf16) : FVec F S256x128 .f32 :=
  matmul dot_S256x128_S128x128_S256x128_1_1_0_0_n_n none kc q (constant S256x128 .f32 0x00000000#32)

/-- The scores of the queries against the window's keys, the hidden ones' lowered. -/
def winScore (kw : FVec F S384x128 .bf16) (hide : FVec F S384x128 .f32) (q : FVec F S128x128 .bf16) : FVec F S384x128 .f32 :=
  addf (matmul dot_S384x128_S128x128_S384x128_1_1_0_0_n_n none kw q (constant S384x128 .f32 0x00000000#32)) hide

/-- The largest of a query's scores and the sink. -/
def top (z : FVec F S1x1 .f32) (s : FVec F S256x128 .f32) (w : FVec F S384x128 .f32) : FVec F S1x128 .f32 :=
  maximumf (maximumf (shapeCast S1x128 (multiReduction .maximumf [0] S128 s 0xFF800000#32 reduces_S256x128_S128 (.inl rfl) rfl) shapeCasts_S128_S1x128)
      (broadcastTo S1x128 z broadcasts_S1x1_S1x128))
    (shapeCast S1x128 (multiReduction .maximumf [0] S128 w 0xFF800000#32 reduces_S384x128_S128 (.inl rfl) rfl) shapeCasts_S128_S1x128)

/-- The value columns and, below them, the weights themselves, summed over the context and the window. -/
def sums (vc : FVec F S64x256 .bf16) (vw : FVec F S64x384 .bf16) (s : FVec F S256x128 .f32) (w : FVec F S384x128 .f32)
    (t : FVec F S1x128 .f32) : FVec F S80x128 .f32 :=
  addf (matmul dot_S80x256_S256x128_S80x128_1_0_0_1_n_n none
      (concatenate S80x256 0 [⟨S64x256, vc⟩, ⟨S16x256, broadcast S16x256 (Scalar.ofBits .bf16 0x3F80#16)⟩] concatenates_S64x256_S16x256_S80x256_d0)
      (truncf .bf16 (exp2 (subf s (broadcastTo S256x128 t broadcasts_S1x128_S256x128))) bitsLt_bf16_f32) (constant S80x128 .f32 0x00000000#32))
    (matmul dot_S80x384_S384x128_S80x128_1_0_0_1_n_n none
      (concatenate S80x384 0 [⟨S64x384, vw⟩, ⟨S16x384, broadcast S16x384 (Scalar.ofBits .bf16 0x3F80#16)⟩] concatenates_S64x384_S16x384_S80x384_d0)
      (truncf .bf16 (exp2 (subf w (broadcastTo S384x128 t broadcasts_S1x128_S384x128))) bitsLt_bf16_f32) (constant S80x128 .f32 0x00000000#32))

/-- The quotient of the value rows and the weights' row, the sink's weight added. -/
def quot (z : FVec F S1x1 .f32) (t : FVec F S1x128 .f32) (a : FVec F S80x128 .f32) : FVec F S64x128 .f32 :=
  divf (extractStridedSlice S64x128 ![0, 0] a slices_S80x128_o0_0_S64x128)
    (broadcastTo S64x128 (addf (extractStridedSlice S1x128 ![64, 0] a slices_S80x128_o64_0_S1x128)
      (exp2 (subf (broadcastTo S1x128 z broadcasts_S1x1_S1x128) t))) broadcasts_S1x128_S64x128)

/-- One head of one band. -/
def head (vc : FVec F S64x256 .bf16) (vw : FVec F S64x384 .bf16) (z : FVec F S1x1 .f32) (s : FVec F S256x128 .f32) (w : FVec F S384x128 .f32) :
    FVec F S64x128 .f32 :=
  quot z (top z s w) (sums vc vw s w (top z s w))

/-! ## The block -/

theorem slK (g : Fin 4) : S768x128.Slices ![128 * g.val, 0] S384x128 := by revert g; decide
theorem slM (g : Fin 4) : S768x512.Slices ![128 * g.val, 128 * g.val] S384x128 := by revert g; decide
theorem slV (p : Fin 2) (g : Fin 4) : S128x768.Slices ![64 * p.val, 128 * g.val] S64x384 := by revert p g; decide
theorem slC (p : Fin 2) : S128x256.Slices ![64 * p.val, 0] S64x256 := by revert p; decide
theorem slZ (h : Fin 4) : S1x4.Slices ![0, h.val] S1x1 := by revert h; decide
theorem inQ (g h : Fin 4) : ∀ a : Fin 3, (![0, 128 * g.val, 128 * h.val] : Fin 3 → ℕ) a + S1x128x128.size a ≤ S1x512x512.size a := by
  revert g h; decide

/-- The queries of a band's head in the block. -/
abbrev rQ (g h : Fin 4) : Rect S1x512x512 := Rect.unit (s := S1x512x512) ![0, 128 * g.val, 128 * h.val] S1x128x128.size (inQ g h)

/-- One head of one band, of the block's arrays. -/
def part (i : grid0.Coords) (kc : FVec F S256x128 .bf16) (vc : FVec F S128x256 .bf16) (kw : FVec F S768x128 .bf16) (vw : FVec F S128x768 .bf16)
    (z : FVec F S1x4 .f32) (q : Vec F S1x512x512 .bf16) (g h : Fin 4) (p : Fin 2) : FVec F S64x128 .f32 :=
  head (extractStridedSlice S64x256 ![64 * p.val, 0] vc (slC p)) (extractStridedSlice S64x384 ![64 * p.val, 128 * g.val] vw (slV p g))
    (extractStridedSlice S1x1 ![0, h.val] z (slZ h))
    (ctxScore kc (shapeCast S128x128 (View.ld q (rQ g h)) shapeCasts_S1x128x128_S128x128))
    (winScore (extractStridedSlice S384x128 ![128 * g.val, 0] kw (slK g))
      (extractStridedSlice S384x128 ![128 * g.val, 128 * g.val] (k0_pay8 (F := F) (k0_pay6 i) (k0_pay7 i) 128#32) (slM g))
      (shapeCast S128x128 (View.ld q (rQ g h)) shapeCasts_S1x128x128_S128x128))

/-- The four heads of a band. -/
def stack (f : Fin 4 → FVec F S64x128 .f32) : FVec F S256x128 .f32 :=
  concatenate S256x128 0 [⟨S64x128, f 0⟩, ⟨S64x128, f 1⟩, ⟨S64x128, f 2⟩, ⟨S64x128, f 3⟩] concatenates_S64x128_S64x128_S64x128_S64x128_S256x128_d0

/-- The four bands of a block. -/
def bands (f : Fin 4 → FVec F S256x128 .f32) : FVec F S1x512x256 .bf16 :=
  shapeCast S1x512x256 (truncf .bf16 (transpose S512x256 [1, 0]
    (concatenate S256x512 1 [⟨S256x128, f 0⟩, ⟨S256x128, f 1⟩, ⟨S256x128, f 2⟩, ⟨S256x128, f 3⟩] concatenates_S256x128_S256x128_S256x128_S256x128_S256x512_d1)
    transposes_S256x512_p1_0_S512x256) bitsLt_bf16_f32) shapeCasts_S512x256_S1x512x256

/-- The value column pair of a head. -/
def pair : Fin 4 → Fin 2 := ![0, 0, 1, 1]

/-- The whole block, of its windows. -/
def block (i : grid0.Coords) (x0 : Vec F S1x512x512 .bf16) (x1 : Vec F S1x128x128 .bf16) (x2 : Vec F S1x512x128 .bf16) (x3 : Vec F S1x128x128 .bf16)
    (x4 : Vec F S1x1x128x128 .bf16) (x5 : Vec F S1x1x128x512 .bf16) (x6 : Vec F S1x1x128x128 .bf16) (x7 : Vec F S1x256x128 .bf16)
    (x8 : Vec F S1x1x128x256 .bf16) (x9 : Vec F S1x4 .f32) : FVec F S1x512x256 .bf16 :=
  bands fun g => stack fun h => part i (k0_pay2 (View.ld x7 r0_0)) (k0_pay3 (View.ld x8 r0_1)) (k0_pay4 (View.ld x1 r0_2) (View.ld x2 r0_3) (View.ld x3 r0_2))
    (k0_pay5 (View.ld x4 r0_4) (View.ld x5 r0_5) (View.ld x6 r0_4)) (k0_pay9 (View.ld x9 r0_6)) x0 g h (pair h)

theorem out_eq (i : grid0.Coords) (x0 : Vec F S1x512x512 .bf16) (x1 : Vec F S1x128x128 .bf16) (x2 : Vec F S1x512x128 .bf16) (x3 : Vec F S1x128x128 .bf16)
    (x4 : Vec F S1x1x128x128 .bf16) (x5 : Vec F S1x1x128x512 .bf16) (x6 : Vec F S1x1x128x128 .bf16) (x7 : Vec F S1x256x128 .bf16)
    (x8 : Vec F S1x1x128x256 .bf16) (x9 : Vec F S1x4 .f32) :
    out0_10 i x0 x1 x2 x3 x4 x5 x6 x7 x8 x9 = View.canon [⟨r0_23, block i x0 x1 x2 x3 x4 x5 x6 x7 x8 x9⟩] := rfl

end Cert.Kernel6Ideal.Win
-- ==== Proof.WinEntry.lean ====
/-
  The windowed attention: the entries of a block, in numbers.
-/
module

public import proofs.«01_k».proof.Proof.WinBlock

@[expose] public section

set_option maxRecDepth 16384

noncomputable section

namespace Cert.Kernel6Ideal.Win

open Cert.Kernel6Ideal Cert.Kernel6Ideal.Gen
open Cert.Proof Cert.Proof.Softmax Cert.Proof.Win
open Idealize.ShloMosaic Idealize.ShloMosaic.TcCoe

/-! ## One head -/

theorem ctxScore_at (kc : FVec Ideal S256x128 .bf16) (q : FVec Ideal S128x128 .bf16) (k : Fin 256) (n : Fin 128) :
    ctxScore kc q (ix2 k n) = ∑ d, kc (ix2 k d) * q (ix2 n d) := by
  pointwise [ctxScore]

theorem winScore_at (kw : FVec Ideal S384x128 .bf16) (hide : FVec Ideal S384x128 .f32) (q : FVec Ideal S128x128 .bf16) (a : Fin 384) (n : Fin 128) :
    winScore kw hide q (ix2 a n) = (∑ d, kw (ix2 a d) * q (ix2 n d)) + hide (ix2 a n) := by
  pointwise [winScore]

theorem bottom : Ideal.ofBits FTy.f32 0xFF800000#32 = ⊥ := by simp [Ideal.ofBits, Ideal.ieee]

theorem top_at (z : FVec Ideal S1x1 .f32) (s : FVec Ideal S256x128 .f32) (w : FVec Ideal S384x128 .f32) (n : Fin 128) :
    top z s w (ix2 0 n) = max (max (Finset.fold max ⊥ (fun a => s (ix2 a n)) Finset.univ) (z (ix2 0 0)))
      (Finset.fold max ⊥ (fun a => w (ix2 a n)) Finset.univ) := by
  rw [← bottom]
  pointwise [top]

theorem sums_value (vc : FVec Ideal S64x256 .bf16) (vw : FVec Ideal S64x384 .bf16) (s : FVec Ideal S256x128 .f32) (w : FVec Ideal S384x128 .f32)
    (t : FVec Ideal S1x128 .f32) (d : Fin 64) (n : Fin 128) : sums vc vw s w t (ix2 ⟨d.val, by omega⟩ n)
      = ∑ k, vc (ix2 d k) * Ideal.exp2 (s (ix2 k n) - t (ix2 0 n)) + ∑ a, vw (ix2 d a) * Ideal.exp2 (w (ix2 a n) - t (ix2 0 n)) := by
  pointwise [sums]
  rfl

theorem sums_weight (vc : FVec Ideal S64x256 .bf16) (vw : FVec Ideal S64x384 .bf16) (s : FVec Ideal S256x128 .f32) (w : FVec Ideal S384x128 .f32)
    (t : FVec Ideal S1x128 .f32) (n : Fin 128) : sums vc vw s w t (ix2 64 n)
      = ∑ k, 1 * Ideal.exp2 (s (ix2 k n) - t (ix2 0 n)) + ∑ a, 1 * Ideal.exp2 (w (ix2 a n) - t (ix2 0 n)) := by
  pointwise [sums]
  rfl

theorem quot_at (z : FVec Ideal S1x1 .f32) (t : FVec Ideal S1x128 .f32) (a : FVec Ideal S80x128 .f32) (d : Fin 64) (n : Fin 128) :
    quot z t a (ix2 d n) = Ideal.div (a (ix2 ⟨d.val, by omega⟩ n)) (a (ix2 64 n) + Ideal.exp2 (z (ix2 0 0) - t (ix2 0 n))) := by
  pointwise [quot]
  rfl

theorem fold_real {n : ℕ} (f : Fin (n + 1) → EReal) (σ : Fin (n + 1) → ℝ) (h : ∀ k, f k = σ k) : ∃ x : ℝ, Finset.fold max ⊥ f Finset.univ = x :=
  fold_max_real f fun k => ⟨σ k, h k⟩

/-- One head, where its scores are real or hidden and the sink is real. -/
theorem head_at (vc : FVec Ideal S64x256 .bf16) (vw : FVec Ideal S64x384 .bf16) (z : FVec Ideal S1x1 .f32) (s : FVec Ideal S256x128 .f32)
    (w : FVec Ideal S384x128 .f32) (d : Fin 64) (n : Fin 128) (σc : Fin 256 → ℝ) (hc : ∀ k, s (ix2 k n) = σc k) (p : Fin 384 → Prop)
    [DecidablePred p] (σ : Fin 384 → ℝ) (hw : ∀ a, w (ix2 a n) = if p a then (σ a : EReal) else ⊥) (e : ℝ)
    (hz : z (ix2 0 0) = (e : EReal) * (((Real.log 2)⁻¹ : ℝ) : EReal)) :
    head vc vw z s w (ix2 d n) = mixed (fun k => vc (ix2 d k)) (fun a => vw (ix2 d a)) (fun k => (2 : ℝ) ^ σc k)
      (fun a => if p a then (2 : ℝ) ^ σ a else 0) (Real.exp e) := by
  have ht : ∃ μ : ℝ, top z s w (ix2 0 n) = μ := by
    rw [top_at]
    refine max_low (Collect.max_real (fold_real (n := 255) _ σc hc) ⟨e * (Real.log 2)⁻¹, by rw [hz, EReal.coe_mul]⟩) (fold_max_low _ (fun a => ?_) _)
    rw [hw]
    split
    · exact .inl ⟨_, rfl⟩
    · exact .inr rfl
  obtain ⟨μ, hμ⟩ := ht
  unfold head
  rw [quot_at, sums_value, sums_weight, hμ, hz]
  simp only [hc, hw]
  exact kernel_mixed (fun k => vc (ix2 d k)) (fun a => vw (ix2 d a)) σc σ p e μ

/-! ## The block's arrays -/

theorem stack_at (f : Fin 4 → FVec Ideal S64x128 .f32) (e : Fin 256) (n : Fin 128) :
    stack f (ix2 e n) = f ⟨e.val / 64, by omega⟩ (ix2 ⟨e.val % 64, by omega⟩ n) := by
  obtain ⟨h, d, rfl⟩ : ∃ (h : Fin 4) (d : Fin 64), e = ⟨64 * h.val + d.val, by omega⟩ :=
    ⟨⟨e.val / 64, by omega⟩, ⟨e.val % 64, by omega⟩, Fin.ext (by show e.val = 64 * (e.val / 64) + e.val % 64; omega)⟩
  have e1 : (⟨(64 * h.val + d.val) / 64, by omega⟩ : Fin 4) = h := Fin.ext (by show (64 * h.val + d.val) / 64 = h.val; omega)
  have e2 : (⟨(64 * h.val + d.val) % 64, by omega⟩ : Fin 64) = d := Fin.ext (by show (64 * h.val + d.val) % 64 = d.val; omega)
  refine Eq.trans ?_ (congrArg₂ (fun h d => f h (ix2 d n)) e1 e2).symm
  fin_cases h
  · pointwise [stack]
  · pointwise [stack]
  · pointwise [stack]
    refine (dif_neg (by omega)).trans ((dif_neg (by omega)).trans ((dif_pos (by omega)).trans (congrArg (fun d => f 2 (ix2 d n)) (Fin.ext ?_))))
    show 128 + d.val - 64 - 64 = d.val
    omega
  · pointwise [stack]
    refine (dif_neg (by omega)).trans ((dif_neg (by omega)).trans ((dif_neg (by omega)).trans (congrArg (fun d => f 3 (ix2 d n)) (Fin.ext ?_))))
    show 192 + d.val - 64 - 64 - 64 = d.val
    omega

theorem bands_at (f : Fin 4 → FVec Ideal S256x128 .f32) (r : Fin 512) (e : Fin 256) :
    bands f (ix3 0 r e) = f ⟨r.val / 128, by omega⟩ (ix2 e ⟨r.val % 128, by omega⟩) := by
  obtain ⟨h, d, rfl⟩ : ∃ (h : Fin 4) (d : Fin 128), r = ⟨128 * h.val + d.val, by omega⟩ :=
    ⟨⟨r.val / 128, by omega⟩, ⟨r.val % 128, by omega⟩, Fin.ext (by show r.val = 128 * (r.val / 128) + r.val % 128; omega)⟩
  have e1 : (⟨(128 * h.val + d.val) / 128, by omega⟩ : Fin 4) = h := Fin.ext (by show (128 * h.val + d.val) / 128 = h.val; omega)
  have e2 : (⟨(128 * h.val + d.val) % 128, by omega⟩ : Fin 128) = d := Fin.ext (by show (128 * h.val + d.val) % 128 = d.val; omega)
  refine Eq.trans ?_ (congrArg₂ (fun h d => f h (ix2 e d)) e1 e2).symm
  fin_cases h
  · pointwise [bands]
  · pointwise [bands]
  · pointwise [bands]
    refine (dif_neg (by omega)).trans ((dif_neg (by omega)).trans ((dif_pos (by omega)).trans (congrArg (fun d => f 2 (ix2 e d)) (Fin.ext ?_))))
    show 256 + d.val - 128 - 128 = d.val
    omega
  · pointwise [bands]
    refine (dif_neg (by omega)).trans ((dif_neg (by omega)).trans ((dif_neg (by omega)).trans (congrArg (fun d => f 3 (ix2 e d)) (Fin.ext ?_))))
    show 384 + d.val - 128 - 128 - 128 = d.val
    omega

theorem mask_low : Named.named (F := Ideal) κ "mask" (φ := .f32) 0xF149F2CA#32 = ⊥ := IdealRules.named_const.ideal_named_scalar _ _ _ _ rfl

theorem log2e : Named.named (F := Ideal) κ "log2e" (φ := .f32) 0x3FB8AA3B#32 = (((Real.log 2)⁻¹ : ℝ) : EReal) :=
  IdealRules.named_const.ideal_named_scalar _ _ _ _ rfl

/-- A window row is hidden from a query exactly when it is not seen. -/
theorem hide_at (i : grid0.Coords) (hi : (i 1).val < 16) (a : Fin 768) (r : Fin 512) :
    k0_pay8 (F := Ideal) (k0_pay6 i) (k0_pay7 i) 128#32 (ix2 a r)
      = if seen (512 * (i 1).val) (512 * (i 1).val + r.val) a.val then 0 else ⊥ := by
  have e : k0_pay8 (F := Ideal) (k0_pay6 i) (k0_pay7 i) 128#32 (ix2 a r)
      = Scalar.select (IntOp.andi (IntOp.andi (IntOp.andi (IntOp.cmpi .sle (farWord (i 1).val a.val r.val) 128#32)
          (IntOp.cmpi .sge (farWord (i 1).val a.val r.val) 4294967168#32)) (IntOp.cmpi .sge (rowWord (i 1).val a.val) 0#32))
          (IntOp.cmpi .slt (rowWord (i 1).val a.val) 8192#32)) (0 : EReal) (Named.named (F := Ideal) κ "mask" (φ := .f32) 0xF149F2CA#32) := by
    pointwise [k0_pay8, k0_pay7, k0_pay6]
    rfl
  rw [e, seen_word _ _ _ hi a.isLt r.isLt, mask_low]
  by_cases hp : seen (512 * (i 1).val) (512 * (i 1).val + r.val) a.val
  · rw [if_pos hp, decide_eq_true hp]; rfl
  · rw [if_neg hp, decide_eq_false hp]; rfl

theorem sink_at (x : Vec Ideal S1x4 .f32) (h : Fin 4) :
    k0_pay9 (View.ld x r0_6) (ix2 0 h) = x (ix2 0 h) * (((Real.log 2)⁻¹ : ℝ) : EReal) := by
  rw [← log2e]
  pointwise [k0_pay9]

theorem query_at (x : Vec Ideal S1x512x512 .bf16) (g h : Fin 4) (n d : Fin 128) :
    shapeCast S128x128 (View.ld x (rQ g h)) shapeCasts_S1x128x128_S128x128 (ix2 n d)
      = x (ix3 0 ⟨128 * g.val + n.val, by omega⟩ ⟨h.val * 128 + d.val, by omega⟩) := by
  have e : ∀ y : Vec Ideal S1x128x128 .bf16, shapeCast S128x128 y shapeCasts_S1x128x128_S128x128 (ix2 n d) = y (ix3 0 n d) := fun y => by
    pointwise []
  rw [e]
  refine congrArg x (funext fun a => Fin.ext ?_)
  match a with
  | 0 => rfl
  | 1 =>
    show 128 * g.val + 1 * n.val = 128 * g.val + n.val
    omega
  | 2 =>
    show 128 * h.val + 1 * d.val = h.val * 128 + d.val
    omega

theorem ctxKey_at (x : Vec Ideal S1x256x128 .bf16) (k : Fin 256) (d : Fin 128) : k0_pay2 (View.ld x r0_0) (ix2 k d) = x (ix3 0 k d) := by
  pointwise [k0_pay2]

theorem ctxVal_at (x : Vec Ideal S1x1x128x256 .bf16) (j : Fin 128) (k : Fin 256) : k0_pay3 (View.ld x r0_1) (ix2 j k) = x (ix4 0 0 j k) := by
  pointwise [k0_pay3]

/-- The keys of the window: the block before, the block, the block after. -/
def keyRow (x1 : Vec Ideal S1x128x128 .bf16) (x2 : Vec Ideal S1x512x128 .bf16) (x3 : Vec Ideal S1x128x128 .bf16) (a : Fin 768) (d : Fin 128) : EReal :=
  if h : a.val < 128 then x1 (ix3 0 ⟨a.val, h⟩ d) else if h' : a.val - 128 < 512 then x2 (ix3 0 ⟨a.val - 128, by omega⟩ d) else x3 (ix3 0 ⟨a.val - 128 - 512, by omega⟩ d)

/-- The values of the window. -/
def valRow (x4 : Vec Ideal S1x1x128x128 .bf16) (x5 : Vec Ideal S1x1x128x512 .bf16) (x6 : Vec Ideal S1x1x128x128 .bf16) (j : Fin 128) (a : Fin 768) : EReal :=
  if h : a.val < 128 then x4 (ix4 0 0 j ⟨a.val, h⟩) else if h' : a.val - 128 < 512 then x5 (ix4 0 0 j ⟨a.val - 128, by omega⟩) else x6 (ix4 0 0 j ⟨a.val - 128 - 512, by omega⟩)

theorem winKey_at (x1 : Vec Ideal S1x128x128 .bf16) (x2 : Vec Ideal S1x512x128 .bf16) (x3 : Vec Ideal S1x128x128 .bf16) (a : Fin 768) (d : Fin 128) :
    k0_pay4 (View.ld x1 r0_2) (View.ld x2 r0_3) (View.ld x3 r0_2) (ix2 a d) = keyRow x1 x2 x3 a d := by
  unfold keyRow
  pointwise [k0_pay4]

theorem winVal_at (x4 : Vec Ideal S1x1x128x128 .bf16) (x5 : Vec Ideal S1x1x128x512 .bf16) (x6 : Vec Ideal S1x1x128x128 .bf16) (j : Fin 128) (a : Fin 768) :
    k0_pay5 (View.ld x4 r0_4) (View.ld x5 r0_5) (View.ld x6 r0_4) (ix2 j a) = valRow x4 x5 x6 j a := by
  unfold valRow
  pointwise [k0_pay5]

theorem cutK_at (x : FVec Ideal S768x128 .bf16) (g : Fin 4) (a : Fin 384) (d : Fin 128) :
    extractStridedSlice S384x128 ![128 * g.val, 0] x (slK g) (ix2 a d) = x (ix2 ⟨128 * g.val + a.val, by omega⟩ d) := by
  pointwise []

theorem cutM_at (x : FVec Ideal S768x512 .f32) (g : Fin 4) (a : Fin 384) (n : Fin 128) :
    extractStridedSlice S384x128 ![128 * g.val, 128 * g.val] x (slM g) (ix2 a n)
      = x (ix2 ⟨128 * g.val + a.val, by omega⟩ ⟨128 * g.val + n.val, by omega⟩) := by
  pointwise []

theorem cutV_at (x : FVec Ideal S128x768 .bf16) (p : Fin 2) (g : Fin 4) (d : Fin 64) (a : Fin 384) :
    extractStridedSlice S64x384 ![64 * p.val, 128 * g.val] x (slV p g) (ix2 d a)
      = x (ix2 ⟨64 * p.val + d.val, by omega⟩ ⟨128 * g.val + a.val, by omega⟩) := by
  pointwise []

theorem cutC_at (x : FVec Ideal S128x256 .bf16) (p : Fin 2) (d : Fin 64) (k : Fin 256) :
    extractStridedSlice S64x256 ![64 * p.val, 0] x (slC p) (ix2 d k) = x (ix2 ⟨64 * p.val + d.val, by omega⟩ k) := by
  pointwise []

theorem cutZ_at (x : FVec Ideal S1x4 .f32) (h : Fin 4) :
    extractStridedSlice S1x1 ![0, h.val] x (slZ h) (ix2 0 0) = x (ix2 0 h) := by
  pointwise []

theorem pair_val (h : Fin 4) : (pair h).val = h.val / 2 := by revert h; decide

/-! ## A head of a band, of the block's arrays -/

/-- A band's window row is seen by a band's query exactly when the block's is by the block's. -/
theorem hide_band (i : grid0.Coords) (hi : (i 1).val < 16) (g : Fin 4) (a : Fin 384) (n : Fin 128) :
    extractStridedSlice S384x128 ![128 * g.val, 128 * g.val] (k0_pay8 (F := Ideal) (k0_pay6 i) (k0_pay7 i) 128#32) (slM g) (ix2 a n)
      = if seen (512 * (i 1).val + 128 * g.val) (512 * (i 1).val + (128 * g.val + n.val)) a.val then 0 else ⊥ := by
  rw [cutM_at, hide_at i hi]
  refine if_congr ?_ rfl rfl
  show seen (512 * (i 1).val) (512 * (i 1).val + (128 * g.val + n.val)) (128 * g.val + a.val) ↔ _
  omega

theorem add_hidden (p : Prop) [Decidable p] (x : ℝ) : (x : EReal) + (if p then 0 else ⊥) = if p then (x : EReal) else ⊥ := by
  split
  · rw [add_zero]
  · rw [EReal.add_bot]

theorem part_at (i : grid0.Coords) (hi : (i 1).val < 16) (kc : FVec Ideal S256x128 .bf16) (vc : FVec Ideal S128x256 .bf16)
    (kw : FVec Ideal S768x128 .bf16) (vw : FVec Ideal S128x768 .bf16) (z : FVec Ideal S1x4 .f32) (q : Vec Ideal S1x512x512 .bf16)
    (g h : Fin 4) (p : Fin 2) (d : Fin 64) (n : Fin 128) (σc : Fin 256 → ℝ)
    (hc : ∀ k, (∑ l : Fin 128, kc (ix2 k l) * q (ix3 0 ⟨128 * g.val + n.val, by omega⟩ ⟨h.val * 128 + l.val, by omega⟩)) = σc k)
    (σ : Fin 384 → ℝ) (hw : ∀ a : Fin 384, (∑ l : Fin 128, kw (ix2 ⟨128 * g.val + a.val, by omega⟩ l)
      * q (ix3 0 ⟨128 * g.val + n.val, by omega⟩ ⟨h.val * 128 + l.val, by omega⟩)) = σ a)
    (e : ℝ) (hz : z (ix2 0 h) = (e : EReal) * (((Real.log 2)⁻¹ : ℝ) : EReal)) :
    part i kc vc kw vw z q g h p (ix2 d n) = mixed (fun k => vc (ix2 ⟨64 * p.val + d.val, by omega⟩ k))
      (fun a : Fin 384 => vw (ix2 ⟨64 * p.val + d.val, by omega⟩ ⟨128 * g.val + a.val, by omega⟩)) (fun k => (2 : ℝ) ^ σc k)
      (fun a => if seen (512 * (i 1).val + 128 * g.val) (512 * (i 1).val + (128 * g.val + n.val)) a.val then (2 : ℝ) ^ σ a else 0) (Real.exp e) := by
  unfold part
  refine (head_at _ _ _ _ _ d n σc (fun k => ?_) (fun a => seen (512 * (i 1).val + 128 * g.val) (512 * (i 1).val + (128 * g.val + n.val)) a.val) σ
    (fun a => ?_) e ?_).trans ?_
  · rw [ctxScore_at, ← hc]
    exact Finset.sum_congr rfl fun l _ => congrArg _ (query_at q g h n l)
  · rw [winScore_at, hide_band i hi, ← add_hidden, ← hw]
    exact congrArg (· + _) (Finset.sum_congr rfl fun l _ => congrArg₂ (· * ·) (cutK_at kw g a l) (query_at q g h n l))
  · exact (cutZ_at z h).trans hz
  · rw [funext fun k => cutC_at vc p d k, funext fun a => cutV_at vw p g d a]

/-- An entry of the block, of its windows. -/
theorem block_at (i : grid0.Coords) (hi : (i 1).val < 16) (x0 : Vec Ideal S1x512x512 .bf16) (x1 : Vec Ideal S1x128x128 .bf16)
    (x2 : Vec Ideal S1x512x128 .bf16) (x3 : Vec Ideal S1x128x128 .bf16) (x4 : Vec Ideal S1x1x128x128 .bf16) (x5 : Vec Ideal S1x1x128x512 .bf16)
    (x6 : Vec Ideal S1x1x128x128 .bf16) (x7 : Vec Ideal S1x256x128 .bf16) (x8 : Vec Ideal S1x1x128x256 .bf16) (x9 : Vec Ideal S1x4 .f32)
    (g h : Fin 4) (d : Fin 64) (n : Fin 128) (σc : Fin 256 → ℝ)
    (hc : ∀ k, (∑ l : Fin 128, x7 (ix3 0 k l) * x0 (ix3 0 ⟨128 * g.val + n.val, by omega⟩ ⟨h.val * 128 + l.val, by omega⟩)) = σc k)
    (σ : Fin 384 → ℝ) (hw : ∀ a : Fin 384, (∑ l : Fin 128, keyRow x1 x2 x3 ⟨128 * g.val + a.val, by omega⟩ l
      * x0 (ix3 0 ⟨128 * g.val + n.val, by omega⟩ ⟨h.val * 128 + l.val, by omega⟩)) = σ a)
    (e : ℝ) (hz : x9 (ix2 0 h) = (e : EReal)) :
    out0_10 i x0 x1 x2 x3 x4 x5 x6 x7 x8 x9 (ix3 0 ⟨128 * g.val + n.val, by omega⟩ ⟨64 * h.val + d.val, by omega⟩)
      = mixed (fun k => x8 (ix4 0 0 ⟨64 * (h.val / 2) + d.val, by omega⟩ k))
      (fun a : Fin 384 => valRow x4 x5 x6 ⟨64 * (h.val / 2) + d.val, by omega⟩ ⟨128 * g.val + a.val, by omega⟩) (fun k => (2 : ℝ) ^ σc k)
      (fun a => if seen (512 * (i 1).val + 128 * g.val) (512 * (i 1).val + (128 * g.val + n.val)) a.val then (2 : ℝ) ^ σ a else 0) (Real.exp e) := by
  rw [out_eq, View.canon_cons_unit_lit _ _ _ (by decide)]
  unfold block
  rw [bands_at, stack_at]
  have e1 : (⟨(128 * g.val + n.val) / 128, by omega⟩ : Fin 4) = g := Fin.ext (by show (128 * g.val + n.val) / 128 = g.val; omega)
  have e2 : (⟨(128 * g.val + n.val) % 128, by omega⟩ : Fin 128) = n := Fin.ext (by show (128 * g.val + n.val) % 128 = n.val; omega)
  have e3 : (⟨(64 * h.val + d.val) / 64, by omega⟩ : Fin 4) = h := Fin.ext (by show (64 * h.val + d.val) / 64 = h.val; omega)
  have e4 : (⟨(64 * h.val + d.val) % 64, by omega⟩ : Fin 64) = d := Fin.ext (by show (64 * h.val + d.val) % 64 = d.val; omega)
  rw [e1, e2, e3, e4]
  refine (part_at i hi _ _ _ _ _ x0 g h (pair h) d n σc (fun k => ?_) σ (fun a => ?_) e ?_).trans ?_
  · rw [← hc]
    exact Finset.sum_congr rfl fun l _ => congrArg (· * _) (ctxKey_at x7 k l)
  · rw [← hw]
    exact Finset.sum_congr rfl fun l _ => congrArg (· * _) (winKey_at x1 x2 x3 _ l)
  · rw [sink_at, hz]
  · have ep : (⟨64 * (pair h).val + d.val, by omega⟩ : Fin 128) = ⟨64 * (h.val / 2) + d.val, by omega⟩ :=
      Fin.ext (by show 64 * (pair h).val + d.val = 64 * (h.val / 2) + d.val; rw [pair_val])
    rw [ep, funext fun k => ctxVal_at x8 _ k, funext fun a => winVal_at x4 x5 x6 _ _]

end Cert.Kernel6Ideal.Win
-- ==== Proof.WinArray.lean ====
/-
  The windowed attention: the windows at a grid point, and the array the call leaves, entry by entry on the extended reals.
-/
module

public import proofs.«01_k».proof.Proof.Gen.Kernel6Ideal.Value
public import proofs.«01_k».proof.Proof.WinEntry

@[expose] public section

set_option maxRecDepth 16384

noncomputable section

namespace Cert.Kernel6Ideal.Win

open Cert.Kernel6Ideal Cert.Kernel6Ideal.Gen
open Cert.Proof Cert.Proof.Softmax Cert.Proof.Win
open Idealize.ShloMosaic Idealize.ShloMosaic.TcCoe

/-- Two values' sums with the same weights agree where they agree under the weights. -/
theorem mixed_congr {ι κ : Type} [Fintype ι] [Fintype κ] (uc uc' : ι → EReal) (u u' : κ → EReal) (wc wc' : ι → ℝ) (w w' : κ → ℝ) (e : ℝ)
    (huc : uc = uc') (hwc : wc = wc') (hw : ∀ j, w j = w' j) (hu : ∀ j, w' j ≠ 0 → u j = u' j) : mixed uc u wc w e = mixed uc' u' wc' w' e := by
  subst huc hwc
  have hw' : w = w' := funext hw
  subst hw'
  unfold mixed
  refine congrArg (fun s => Ideal.div (_ + s) _) (Finset.sum_congr rfl fun j _ => ?_)
  by_cases h : w j = 0
  · rw [h, EReal.coe_zero, mul_zero, mul_zero]
  · rw [hu j h]

variable (m : (ℓ : Loc nD τ sig) → Buf (Elt Ideal) ℓ)

/-! ## The windows -/

/-- The windows' block indices at a grid point: the batch entry, the block, and the clamped neighbours. -/
theorem idx : ∀ t : Fin cfg0.N,
    win0_0.index t = ![(grid0.coords t 0).val, (grid0.coords t 1).val, 0]
    ∧ win0_1.index t = ![(grid0.coords t 0).val, 4 * (grid0.coords t 1).val - 1, 0]
    ∧ win0_2.index t = ![(grid0.coords t 0).val, (grid0.coords t 1).val, 0]
    ∧ win0_3.index t = ![(grid0.coords t 0).val, min (4 * (grid0.coords t 1).val + 4) 63, 0]
    ∧ win0_4.index t = ![(grid0.coords t 0).val, (grid0.coords t 1).val - 1, 0, 3]
    ∧ win0_5.index t = ![(grid0.coords t 0).val, (grid0.coords t 1).val, 0, 0]
    ∧ win0_6.index t = ![(grid0.coords t 0).val, min ((grid0.coords t 1).val + 1) 15, 0, 0]
    ∧ win0_7.index t = ![(grid0.coords t 0).val, 0, 0]
    ∧ win0_8.index t = ![(grid0.coords t 0).val, 0, 0, 0]
    ∧ win0_9.index t = ![0, 0]
    ∧ win0_10.index t = ![(grid0.coords t 0).val, (grid0.coords t 1).val, 0] :=
  (by decide +kernel : ∀ t : Fin grid0.N, _)

theorem lt0 : ∀ t : Fin cfg0.N, (grid0.coords t 0).val < 8 ∧ (grid0.coords t 1).val < 16 :=
  (by decide +kernel : ∀ t : Fin grid0.N, _)

section Points

variable (c : Dev nD) (t : Fin cfg0.N) (b : Fin 8) (s : Fin 16)

theorem iblk9 (h : Fin 4) : iblk m c 9 t (ix2 0 h) = m ((c.tc : Thread nD τ).loc main_arg5) (ix2 0 h) := by
  rw [← V_main_arg5 m c]
  blk_ext [iblk, idx t]

variable (hb : (grid0.coords t 0).val = b.val)
include hb

theorem iblk7 (k : Fin 256) (l : Fin 128) : iblk m c 7 t (ix3 0 k l) = m ((c.tc : Thread nD τ).loc main_arg3) (ix3 b k l) := by
  rw [← V_main_arg3 m c]
  blk_ext [iblk, idx t]

theorem iblk8 (j : Fin 128) (k : Fin 256) : iblk m c 8 t (ix4 0 0 j k) = m ((c.tc : Thread nD τ).loc main_arg4) (ix4 b 0 j k) := by
  rw [← V_main_arg4 m c]
  blk_ext [iblk, idx t]

variable (hs : (grid0.coords t 1).val = s.val)
include hs

theorem iblk0 (r : Fin 512) (l : Fin 512) : iblk m c 0 t (ix3 0 r l)
    = m ((c.tc : Thread nD τ).loc main_arg0) (ix3 b ⟨512 * s.val + r.val, by omega⟩ l) := by
  rw [← V_main_arg0 m c]
  blk_ext [iblk, idx t]

theorem iblk1 (a l : Fin 128) : iblk m c 1 t (ix3 0 a l)
    = m ((c.tc : Thread nD τ).loc main_arg1) (ix3 b ⟨128 * (4 * s.val - 1) + a.val, by omega⟩ l) := by
  rw [← V_main_arg1 m c]
  blk_ext [iblk, idx t]

theorem iblk2 (a : Fin 512) (l : Fin 128) : iblk m c 2 t (ix3 0 a l)
    = m ((c.tc : Thread nD τ).loc main_arg1) (ix3 b ⟨512 * s.val + a.val, by omega⟩ l) := by
  rw [← V_main_arg1 m c]
  blk_ext [iblk, idx t]

theorem iblk3 (a l : Fin 128) : iblk m c 3 t (ix3 0 a l)
    = m ((c.tc : Thread nD τ).loc main_arg1) (ix3 b ⟨128 * min (4 * s.val + 4) 63 + a.val, by omega⟩ l) := by
  rw [← V_main_arg1 m c]
  blk_ext [iblk, idx t]

theorem iblk4 (j a : Fin 128) : iblk m c 4 t (ix4 0 0 j a)
    = m ((c.tc : Thread nD τ).loc main_arg2) (ix4 b ⟨s.val - 1, by omega⟩ j ⟨384 + a.val, by omega⟩) := by
  rw [← V_main_arg2 m c]
  blk_ext [iblk, idx t]

theorem iblk5 (j : Fin 128) (a : Fin 512) : iblk m c 5 t (ix4 0 0 j a)
    = m ((c.tc : Thread nD τ).loc main_arg2) (ix4 b s j a) := by
  rw [← V_main_arg2 m c]
  blk_ext [iblk, idx t]

theorem iblk6 (j a : Fin 128) : iblk m c 6 t (ix4 0 0 j a)
    = m ((c.tc : Thread nD τ).loc main_arg2) (ix4 b ⟨min (s.val + 1) 15, by omega⟩ j ⟨a.val, by omega⟩) := by
  rw [← V_main_arg2 m c]
  blk_ext [iblk, idx t]

theorem emb10 (r : Fin 512) (e : Fin 256) : ((cfg0.win 10).blk t).view.emb (ix3 0 r e) = ix3 b ⟨512 * s.val + r.val, by omega⟩ e := by
  blk_ext [idx t]

/-- A window row that is a position holds that position's key. -/
theorem key_seen (a : Fin 768) (l : Fin 128) (h1 : 128 ≤ 512 * s.val + a.val) (h2 : 512 * s.val + a.val < 8320) :
    keyRow (iblk m c 1 t) (iblk m c 2 t) (iblk m c 3 t) a l
      = m ((c.tc : Thread nD τ).loc main_arg1) (ix3 b ⟨(512 * s.val + a.val - 128) % 8192, by omega⟩ l) := by
  unfold keyRow
  split
  · rw [iblk1 m c t b s hb hs]
    refine congrArg (fun j => m ((c.tc : Thread nD τ).loc main_arg1) (ix3 b j l)) (Fin.ext ?_)
    show 128 * (4 * s.val - 1) + a.val = (512 * s.val + a.val - 128) % 8192
    omega
  · split
    · rw [iblk2 m c t b s hb hs]
      refine congrArg (fun j => m ((c.tc : Thread nD τ).loc main_arg1) (ix3 b j l)) (Fin.ext ?_)
      show 512 * s.val + (a.val - 128) = (512 * s.val + a.val - 128) % 8192
      omega
    · rw [iblk3 m c t b s hb hs]
      refine congrArg (fun j => m ((c.tc : Thread nD τ).loc main_arg1) (ix3 b j l)) (Fin.ext ?_)
      show 128 * min (4 * s.val + 4) 63 + (a.val - 128 - 512) = (512 * s.val + a.val - 128) % 8192
      omega

/-- Any window row holds some position's key. -/
theorem key_some (a : Fin 768) : ∃ j : Fin 8192, ∀ l : Fin 128,
    keyRow (iblk m c 1 t) (iblk m c 2 t) (iblk m c 3 t) a l = m ((c.tc : Thread nD τ).loc main_arg1) (ix3 b j l) := by
  unfold keyRow
  split
  · exact ⟨_, fun l => iblk1 m c t b s hb hs _ l⟩
  · split
    · exact ⟨_, fun l => iblk2 m c t b s hb hs _ l⟩
    · exact ⟨_, fun l => iblk3 m c t b s hb hs _ l⟩

/-- A window column that is a position holds that position's value. -/
theorem val_seen (j : Fin 128) (a : Fin 768) (h1 : 128 ≤ 512 * s.val + a.val) (h2 : 512 * s.val + a.val < 8320) :
    valRow (iblk m c 4 t) (iblk m c 5 t) (iblk m c 6 t) j a
      = m ((c.tc : Thread nD τ).loc main_arg2) (ix4 b ⟨(512 * s.val + a.val - 128) % 8192 / 512, by omega⟩ j ⟨(512 * s.val + a.val - 128) % 8192 % 512, by omega⟩) := by
  unfold valRow
  split
  · rw [iblk4 m c t b s hb hs]
    refine congrArg₂ (fun k l => m ((c.tc : Thread nD τ).loc main_arg2) (ix4 b k j l)) (Fin.ext ?_) (Fin.ext ?_)
    · show s.val - 1 = (512 * s.val + a.val - 128) % 8192 / 512
      omega
    · show 384 + a.val = (512 * s.val + a.val - 128) % 8192 % 512
      omega
  · split
    · rw [iblk5 m c t b s hb hs]
      refine congrArg₂ (fun k l => m ((c.tc : Thread nD τ).loc main_arg2) (ix4 b k j l)) (Fin.ext ?_) (Fin.ext ?_)
      · show s.val = (512 * s.val + a.val - 128) % 8192 / 512
        omega
      · show a.val - 128 = (512 * s.val + a.val - 128) % 8192 % 512
        omega
    · rw [iblk6 m c t b s hb hs]
      refine congrArg₂ (fun k l => m ((c.tc : Thread nD τ).loc main_arg2) (ix4 b k j l)) (Fin.ext ?_) (Fin.ext ?_)
      · show min (s.val + 1) 15 = (512 * s.val + a.val - 128) % 8192 / 512
        omega
      · show a.val - 128 - 512 = (512 * s.val + a.val - 128) % 8192 % 512
        omega

end Points

/-! ## The array -/

/-- The sum of products of a context key with a query. -/
def ctxDot (q : FVec Ideal S8x8192x512 .bf16) (kc : FVec Ideal S8x256x128 .bf16) (b : Fin 8) (h : Fin 4) (n : Fin 8192) (k : Fin 256) : EReal :=
  ∑ d : Fin 128, kc (ix3 b k d) * q (ix3 b n ⟨h.val * 128 + d.val, by omega⟩)

/-- The sum of products of a key with a query. -/
def keyDot (q : FVec Ideal S8x8192x512 .bf16) (k : FVec Ideal S8x8192x128 .bf16) (b : Fin 8) (h : Fin 4) (n j : Fin 8192) : EReal :=
  ∑ d : Fin 128, k (ix3 b j d) * q (ix3 b n ⟨h.val * 128 + d.val, by omega⟩)

section Array

variable (c : Dev nD)
variable (σc : Fin 8 → Fin 4 → Fin 8192 → Fin 256 → ℝ)
variable (hc : ∀ b h n k, ctxDot (m ((c.tc : Thread nD τ).loc main_arg0)) (m ((c.tc : Thread nD τ).loc main_arg3)) b h n k = σc b h n k)
variable (σ : Fin 8 → Fin 4 → Fin 8192 → Fin 8192 → ℝ)
variable (hk : ∀ b h n j, keyDot (m ((c.tc : Thread nD τ).loc main_arg0)) (m ((c.tc : Thread nD τ).loc main_arg1)) b h n j = σ b h n j)
variable (z : Fin 4 → ℝ) (hz : ∀ h, m ((c.tc : Thread nD τ).loc main_arg5) (ix2 0 h) = (z h : EReal))

/-- The context's values of a result's column. -/
def ctxOf (b : Fin 8) (l : Fin 256) (k : Fin 256) : EReal :=
  m ((c.tc : Thread nD τ).loc main_arg4) (ix4 b 0 ⟨l.val / 128 * 64 + l.val % 64, by omega⟩ k)

/-- The values of a result's column, by position. -/
def valOf (b : Fin 8) (l : Fin 256) (j : Fin 8192) : EReal :=
  m ((c.tc : Thread nD τ).loc main_arg2) (ix4 b ⟨j.val / 512, by omega⟩ ⟨l.val / 128 * 64 + l.val % 64, by omega⟩ ⟨j.val % 512, by omega⟩)

/-- An entry of the result. -/
def entry (b : Fin 8) (n : Fin 8192) (l : Fin 256) : EReal :=
  mixed (ctxOf m c b l) (valOf m c b l) (fun j => (2 : ℝ) ^ σc b ⟨l.val / 64, by omega⟩ n j)
    (fun j => if near n.val j.val then (2 : ℝ) ^ σ b ⟨l.val / 64, by omega⟩ n j else 0) (Real.exp (z ⟨l.val / 64, by omega⟩))

include hc hk hz in
/-- What the block at a point holds, of the arguments as launched. -/
theorem block_eq (t : Fin cfg0.N) (b : Fin 8) (s : Fin 16) (hb : (grid0.coords t 0).val = b.val) (hs : (grid0.coords t 1).val = s.val)
    (g h : Fin 4) (d : Fin 64) (n : Fin 128) :
    out0_10 (grid0.coords t) (iblk m c 0 t) (iblk m c 1 t) (iblk m c 2 t) (iblk m c 3 t) (iblk m c 4 t) (iblk m c 5 t) (iblk m c 6 t) (iblk m c 7 t)
      (iblk m c 8 t) (iblk m c 9 t) (ix3 0 ⟨128 * g.val + n.val, by omega⟩ ⟨64 * h.val + d.val, by omega⟩)
      = entry m c σc σ z b ⟨512 * s.val + (128 * g.val + n.val), by omega⟩ ⟨64 * h.val + d.val, by omega⟩ := by
  have hq : ∀ l : Fin 128, iblk m c 0 t (ix3 0 ⟨128 * g.val + n.val, by omega⟩ ⟨h.val * 128 + l.val, by omega⟩)
      = m ((c.tc : Thread nD τ).loc main_arg0) (ix3 b ⟨512 * s.val + (128 * g.val + n.val), by omega⟩ ⟨h.val * 128 + l.val, by omega⟩) := fun l =>
    iblk0 m c t b s hb hs _ _
  have hw : ∀ a : Fin 384, ∃ x : ℝ, (∑ l : Fin 128, keyRow (iblk m c 1 t) (iblk m c 2 t) (iblk m c 3 t) ⟨128 * g.val + a.val, by omega⟩ l
      * iblk m c 0 t (ix3 0 ⟨128 * g.val + n.val, by omega⟩ ⟨h.val * 128 + l.val, by omega⟩)) = x := fun a => by
    obtain ⟨j, hj⟩ := key_some m c t b s hb hs ⟨128 * g.val + a.val, by omega⟩
    refine ⟨σ b h ⟨512 * s.val + (128 * g.val + n.val), by omega⟩ j, Eq.trans ?_ (hk b h ⟨512 * s.val + (128 * g.val + n.val), by omega⟩ j)⟩
    exact Finset.sum_congr rfl fun l _ => congrArg₂ (fun x y : EReal => x * y) (hj l) (hq l)
  choose σw hσ using hw
  have eh : (⟨(64 * h.val + d.val) / 64, by omega⟩ : Fin 4) = h := Fin.ext (by show (64 * h.val + d.val) / 64 = h.val; omega)
  have ev : (⟨(64 * h.val + d.val) / 128 * 64 + (64 * h.val + d.val) % 64, by omega⟩ : Fin 128) = ⟨64 * (h.val / 2) + d.val, by omega⟩ :=
    Fin.ext (by show (64 * h.val + d.val) / 128 * 64 + (64 * h.val + d.val) % 64 = 64 * (h.val / 2) + d.val; omega)
  refine (block_at (grid0.coords t) (by omega) _ _ _ _ _ _ _ _ _ _ g h d n (σc b h ⟨512 * s.val + (128 * g.val + n.val), by omega⟩) (fun k => ?_)
    σw hσ (z h) ?_).trans ?_
  · refine Eq.trans ?_ (hc b h ⟨512 * s.val + (128 * g.val + n.val), by omega⟩ k)
    exact Finset.sum_congr rfl fun l _ => congrArg₂ (fun x y : EReal => x * y) (iblk7 m c t b hb k l) (hq l)
  · exact (iblk9 m c t h).trans (hz h)
  · unfold entry
    rw [eh, hs]
    rw [← mixed_window (512 * s.val + 128 * g.val) (512 * s.val + (128 * g.val + n.val)) (by omega) (by omega) (by omega)]
    refine mixed_congr _ _ _ _ _ _ _ _ _ (funext fun k => ?_) rfl (fun a => ?_) (fun a ha => ?_)
    · refine (iblk8 m c t b hb _ k).trans ?_
      unfold ctxOf
      exact congrArg (fun j => m ((c.tc : Thread nD τ).loc main_arg4) (ix4 b 0 j k)) ev.symm
    · by_cases hp : seen (512 * s.val + 128 * g.val) (512 * s.val + (128 * g.val + n.val)) a.val
      · rw [if_pos hp, if_pos hp]
        have hx : (σw a : EReal) = σ b h ⟨512 * s.val + (128 * g.val + n.val), by omega⟩ ⟨(512 * s.val + 128 * g.val + a.val - 128) % 8192, by omega⟩ := by
          rw [← hσ, ← hk]
          unfold keyDot
          refine Finset.sum_congr rfl fun l _ => congrArg₂ (fun x y : EReal => x * y) ((key_seen m c t b s hb hs ⟨128 * g.val + a.val, by omega⟩ l
            (by show 128 ≤ 512 * s.val + (128 * g.val + a.val); omega) (by show 512 * s.val + (128 * g.val + a.val) < 8320; omega)).trans ?_) (hq l)
          refine congrArg (fun j => m ((c.tc : Thread nD τ).loc main_arg1) (ix3 b j l)) (Fin.ext ?_)
          show (512 * s.val + (128 * g.val + a.val) - 128) % 8192 = (512 * s.val + 128 * g.val + a.val - 128) % 8192
          rw [Nat.add_assoc]
        rw [EReal.coe_injective hx]
      · rw [if_neg hp, if_neg hp]
    · have hp : seen (512 * s.val + 128 * g.val) (512 * s.val + (128 * g.val + n.val)) a.val := by
        by_contra hp
        exact ha (if_neg hp)
      refine (val_seen m c t b s hb hs _ ⟨128 * g.val + a.val, by omega⟩
        (by show 128 ≤ 512 * s.val + (128 * g.val + a.val); omega) (by show 512 * s.val + (128 * g.val + a.val) < 8320; omega)).trans ?_
      unfold valOf
      rw [ev]
      refine congrArg₂ (fun k l => m ((c.tc : Thread nD τ).loc main_arg2) (ix4 b k _ l)) (Fin.ext ?_) (Fin.ext ?_)
      · show (512 * s.val + (128 * g.val + a.val) - 128) % 8192 / 512 = (512 * s.val + 128 * g.val + a.val - 128) % 8192 / 512
        rw [Nat.add_assoc]
      · show (512 * s.val + (128 * g.val + a.val) - 128) % 8192 % 512 = (512 * s.val + 128 * g.val + a.val - 128) % 8192 % 512
        rw [Nat.add_assoc]

include hc hk hz in
/-- The same by the block's row and column. -/
theorem block_entry (t : Fin cfg0.N) (b : Fin 8) (s : Fin 16) (hb : (grid0.coords t 0).val = b.val) (hs : (grid0.coords t 1).val = s.val)
    (r : Fin 512) (e : Fin 256) :
    out0_10 (grid0.coords t) (iblk m c 0 t) (iblk m c 1 t) (iblk m c 2 t) (iblk m c 3 t) (iblk m c 4 t) (iblk m c 5 t) (iblk m c 6 t) (iblk m c 7 t)
      (iblk m c 8 t) (iblk m c 9 t) (ix3 0 r e) = entry m c σc σ z b ⟨512 * s.val + r.val, by omega⟩ e := by
  obtain ⟨g, n, rfl⟩ : ∃ (g : Fin 4) (n : Fin 128), r = ⟨128 * g.val + n.val, by omega⟩ :=
    ⟨⟨r.val / 128, by omega⟩, ⟨r.val % 128, by omega⟩, Fin.ext (by show r.val = 128 * (r.val / 128) + r.val % 128; omega)⟩
  obtain ⟨h, d, rfl⟩ : ∃ (h : Fin 4) (d : Fin 64), e = ⟨64 * h.val + d.val, by omega⟩ :=
    ⟨⟨e.val / 64, by omega⟩, ⟨e.val % 64, by omega⟩, Fin.ext (by show e.val = 64 * (e.val / 64) + e.val % 64; omega)⟩
  exact block_eq m c σc hc σ hk z hz t b s hb hs g h d n

include hc hk hz in
/-- The result array is any array that holds these entries. -/
theorem array (R : FVec Ideal S8x8192x256 .bf16) (hR : ∀ (b : Fin 8) (n : Fin 8192) (l : Fin 256), R (ix3 b n l) = entry m c σc σ z b n l) :
    (dats m 0 c).arrAt 10 (cfgs 0).N = R := by
  refine (dats m 0 c).arrAt_eq_of_covers 10 R (by decide +kernel) fun t _ y => ?_
  blk_simp
  rw [after0_10]
  obtain ⟨hb, hs⟩ := lt0 t
  have ey : ∃ (r : Fin 512) (e : Fin 256), y = ix3 0 r e := by
    refine ⟨y 1, y 2, ?_⟩
    blk_ext []
  obtain ⟨r, e, rfl⟩ := ey
  refine (block_entry m c σc hc σ hk z hz t ⟨_, hb⟩ ⟨_, hs⟩ rfl rfl r e).trans ?_
  exact ((congrArg R (emb10 t ⟨_, hb⟩ ⟨_, hs⟩ rfl rfl _ _)).trans (hR _ _ _)).symm

end Array

end Cert.Kernel6Ideal.Win
-- ==== Proof.WinRef.lean ====
/-
  The windowed attention's reference, entry by entry on the extended reals, at scores that are real numbers.
-/
module

public import proofs.«01_k».proof.Proof.Gen.Reference6Ideal.Run
public import proofs.«01_k».proof.Proof.RefValue
public import proofs.«01_k».proof.Proof.WinSum

@[expose] public section

set_option maxRecDepth 16384

noncomputable section

namespace Cert.Reference6Ideal.Win

open Cert.Reference6Ideal Cert.Reference6Ideal.Gen Cert.Reference6Ideal.Value
open Cert.Proof.Softmax Cert.Proof.Win
open Cert.ReferenceIdeal.Att (bottom log_two max_at)
open Idealize.ShloMosaic Idealize.ShloMosaic.TcCoe

/-- The scores against the context's keys. -/
def ctxScores (q : FVec Ideal S8x8192x512 .bf16) (kc : FVec Ideal S8x256x128 .bf16) : FVec Ideal S8x4x8192x256 .f32 :=
  mulf (transpose S8x4x8192x256 [0, 3, 2, 1] (Host.dotGeneral dot_S8x256x128_S8x8192x4x128_S8x256x8192x4_2_3_1_12_0_0 none
      (extf .f32 kc bitsLt_bf16_f32) (shapeCast _ (extf .f32 q bitsLt_bf16_f32) shapeCasts_S8x8192x512_S8x8192x4x128))
      transposes_S8x256x8192x4_S8x4x8192x256_0_3_2_1)
    (broadcastInDim S8x4x8192x256 ![] bcast_S_S8x4x8192x256 (Host.log (constant S_ .f32 0x40000000#32)))

/-- The scores against all the keys. -/
def keyScores (q : FVec Ideal S8x8192x512 .bf16) (k : FVec Ideal S8x8192x128 .bf16) : FVec Ideal S8x4x8192x8192 .f32 :=
  mulf (transpose S8x4x8192x8192 [0, 3, 2, 1] (Host.dotGeneral dot_S8x8192x128_S8x8192x4x128_S8x8192x8192x4_2_3_1_12_0_0 none
      (extf .f32 k bitsLt_bf16_f32) (shapeCast _ (extf .f32 q bitsLt_bf16_f32) shapeCasts_S8x8192x512_S8x8192x4x128))
      transposes_S8x8192x8192x4_S8x4x8192x8192_0_3_2_1)
    (broadcastInDim S8x4x8192x8192 ![] bcast_S_S8x4x8192x8192 (Host.log (constant S_ .f32 0x40000000#32)))

/-- The differences of positions. -/
def far : IVec S8192x8192 32 :=
  subi (broadcastInDim S8192x8192 ![0, 1] bcast_S8192x1_S8192x8192_0_1 (broadcastInDim S8192x1 ![0] bcast_S8192_S8192x1_0 (iotaInDim S8192 32 0)))
    (broadcastInDim S8192x8192 ![0, 1] bcast_S1x8192_S8192x8192_0_1 (broadcastInDim S1x8192 ![1] bcast_S8192_S1x8192_1 (iotaInDim S8192 32 0)))

/-- Whether a key is near. -/
def nearWords : IVec S8192x8192 1 :=
  andi (cmpi .sle far (broadcastInDim S8192x8192 ![] bcast_S_S8192x8192 (constantI S_ 32 128#32)))
    (cmpi .sge far (broadcastInDim S8192x8192 ![] bcast_S_S8192x8192 (constantI S_ 32 4294967168#32)))

/-- The scores of the near keys, minus infinity for the others. -/
def hidden (s : FVec Ideal S8x4x8192x8192 .f32) : FVec Ideal S8x4x8192x8192 .f32 :=
  select (broadcastInDim S8x4x8192x8192 ![2, 3] bcast_S8192x8192_S8x4x8192x8192_2_3 nearWords) s
    (broadcastInDim S8x4x8192x8192 ![] bcast_S_S8x4x8192x8192 (id (constant S_ .f32 0xFF800000#32)))

/-- The context's scores, the keys' and the sink. -/
def joined (s : FVec Ideal S8x4x8192x256 .f32) (w : FVec Ideal S8x4x8192x8192 .f32) (z : FVec Ideal S1x4 .f32) : FVec Ideal S8x4x8192x8449 .f32 :=
  concatenate S8x4x8192x8449 3 [⟨S8x4x8192x256, s⟩, ⟨S8x4x8192x8192, w⟩,
    ⟨S8x4x8192x1, broadcastInDim S8x4x8192x1 ![0, 1, 2, 3] bcast_S1x4x1x1_S8x4x8192x1_0_1_2_3 (shapeCast _ z shapeCasts_S1x4_S1x4x1x1)⟩]
    concatenates_S8x4x8192x256_S8x4x8192x8192_S8x4x8192x1_S8x4x8192x8449_d3

/-- The largest score of every query, as the reduction leaves it. -/
def most (s : FVec Ideal S8x4x8192x8449 .f32) : FVec Ideal S8x4x8192 .f32 :=
  Host.reduce FloatOps.maximumf s (constant S_ .f32 0xFF800000#32) reducesTo_S8x4x8192x8449_S8x4x8192_d3 h_S_

/-- The largest score of every query. -/
def tops (s : FVec Ideal S8x4x8192x8449 .f32) : FVec Ideal S8x4x8192 .f32 :=
  maximumf (broadcastInDim S8x4x8192 ![] bcast_S_S8x4x8192 (constant S_ .f32 0xFF800000#32)) (most s)

/-- One number of every query, repeated along the scores. -/
def along (x : FVec Ideal S8x4x8192 .f32) : FVec Ideal S8x4x8192x8449 .f32 :=
  broadcastInDim S8x4x8192x8449 ![0, 1, 2, 3] bcast_S8x4x8192x1_S8x4x8192x8449_0_1_2_3
    (broadcastInDim S8x4x8192x1 ![0, 1, 2] bcast_S8x4x8192_S8x4x8192x1_0_1_2 x)

/-- The exponentials of the scores less a number of the query. -/
def powers (s : FVec Ideal S8x4x8192x8449 .f32) (x : FVec Ideal S8x4x8192 .f32) : FVec Ideal S8x4x8192x8449 .f32 :=
  Host.exp (subf s (along x))

/-- Every entry over the sum of its query's entries. -/
def shares (p : FVec Ideal S8x4x8192x8449 .f32) : FVec Ideal S8x4x8192x8449 .f32 :=
  Host.divf p (along (Host.reduceAdd p (constant S_ .f32 0x00000000#32) reducesTo_S8x4x8192x8449_S8x4x8192_d3 h_S_))

/-- The context's values summed with their shares. -/
def ctxMix (vc : FVec Ideal S8x1x128x256 .bf16) (p : FVec Ideal S8x4x8192x8449 .f32) : FVec Ideal S8x8192x2x2x64 .f32 :=
  transpose S8x8192x2x2x64 [0, 4, 1, 3, 2] (Host.dotGeneral dot_S8x256x2x64_S8x2x2x8192x256_S8x2x64x2x8192_1_4_3_23_02_01 none
    (extf .f32 (transpose S8x256x2x64 [0, 3, 1, 2] (shapeCast _ vc shapeCasts_S8x1x128x256_S8x2x64x256) transposes_S8x2x64x256_S8x256x2x64_0_3_1_2) bitsLt_bf16_f32)
    (extractStridedSlice S8x2x2x8192x256 ![0, 0, 0, 0, 0] (shapeCast _ p shapeCasts_S8x4x8192x8449_S8x2x2x8192x8449) slices_S8x2x2x8192x8449_S8x2x2x8192x256_0_0_0_0_0))
    transposes_S8x2x64x2x8192_S8x8192x2x2x64_0_4_1_3_2

/-- All the values summed with their shares. -/
def keyMix (v : FVec Ideal S8x16x128x512 .bf16) (p : FVec Ideal S8x4x8192x8449 .f32) : FVec Ideal S8x8192x2x2x64 .f32 :=
  transpose S8x8192x2x2x64 [0, 4, 1, 3, 2] (Host.dotGeneral dot_S8x8192x2x64_S8x2x2x8192x8192_S8x2x64x2x8192_1_4_3_23_02_01 none
    (extf .f32 (shapeCast _ (transpose S8x16x512x2x64 [0, 1, 4, 2, 3] (shapeCast _ v shapeCasts_S8x16x128x512_S8x16x2x64x512) transposes_S8x16x2x64x512_S8x16x512x2x64_0_1_4_2_3) shapeCasts_S8x16x512x2x64_S8x8192x2x64) bitsLt_bf16_f32)
    (extractStridedSlice S8x2x2x8192x8192 ![0, 0, 0, 0, 256] (shapeCast _ p shapeCasts_S8x4x8192x8449_S8x2x2x8192x8449) slices_S8x2x2x8192x8449_S8x2x2x8192x8192_0_0_0_0_256))
    transposes_S8x2x64x2x8192_S8x8192x2x2x64_0_4_1_3_2

/-- Both sums, the heads' columns side by side. -/
def total (x y : FVec Ideal S8x8192x2x2x64 .f32) : FVec Ideal S8x8192x256 .bf16 :=
  truncf .bf16 (shapeCast _ (addf x y) shapeCasts_S8x8192x2x2x64_S8x8192x256) bitsLt_bf16_f32

/-- All the scores of the call. -/
def scores (q : FVec Ideal S8x8192x512 .bf16) (k : FVec Ideal S8x8192x128 .bf16) (kc : FVec Ideal S8x256x128 .bf16) (z : FVec Ideal S1x4 .f32) :
    FVec Ideal S8x4x8192x8449 .f32 :=
  joined (ctxScores q kc) (hidden (keyScores q k)) z

/-- The result, of the arguments. -/
def result (q : FVec Ideal S8x8192x512 .bf16) (k : FVec Ideal S8x8192x128 .bf16) (v : FVec Ideal S8x16x128x512 .bf16) (kc : FVec Ideal S8x256x128 .bf16)
    (vc : FVec Ideal S8x1x128x256 .bf16) (z : FVec Ideal S1x4 .f32) : FVec Ideal S8x8192x256 .bf16 :=
  total (ctxMix vc (shares (powers (scores q k kc z) (tops (scores q k kc z))))) (keyMix v (shares (powers (scores q k kc z) (tops (scores q k kc z)))))

theorem res_eq (m : (ℓ : Loc nD τ sig) → Buf (Elt Ideal) ℓ) (c : Dev nD) :
    res_main_v57 m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := rfl

/-! ## Entries -/

/-- The sum of products of a context key with a query. -/
def ctxDot (q : FVec Ideal S8x8192x512 .bf16) (kc : FVec Ideal S8x256x128 .bf16) (b : Fin 8) (h : Fin 4) (n : Fin 8192) (k : Fin 256) : EReal :=
  ∑ d : Fin 128, kc (ix3 b k d) * q (ix3 b n ⟨h.val * 128 + d.val, by omega⟩)

/-- The sum of products of a key with a query. -/
def keyDot (q : FVec Ideal S8x8192x512 .bf16) (k : FVec Ideal S8x8192x128 .bf16) (b : Fin 8) (h : Fin 4) (n j : Fin 8192) : EReal :=
  ∑ d : Fin 128, k (ix3 b j d) * q (ix3 b n ⟨h.val * 128 + d.val, by omega⟩)

theorem ctxScores_at (q : FVec Ideal S8x8192x512 .bf16) (kc : FVec Ideal S8x256x128 .bf16) (b : Fin 8) (h : Fin 4) (n : Fin 8192) (k : Fin 256) :
    ctxScores q kc (ix4 b h n k) = ctxDot q kc b h n k * ((Real.log 2 : ℝ) : EReal) := by
  rw [← log_two]
  unfold ctxDot
  pointwise [ctxScores]

theorem keyScores_at (q : FVec Ideal S8x8192x512 .bf16) (k : FVec Ideal S8x8192x128 .bf16) (b : Fin 8) (h : Fin 4) (n j : Fin 8192) :
    keyScores q k (ix4 b h n j) = keyDot q k b h n j * ((Real.log 2 : ℝ) : EReal) := by
  rw [← log_two]
  unfold keyDot
  pointwise [keyScores]

theorem nearWords_at (n j : Fin 8192) : nearWords (ix2 n j) = BitVec.ofBool (decide (near n.val j.val)) := by
  rw [← near_word n.val j.val n.isLt j.isLt]
  pointwise [nearWords, far]

theorem hidden_at (s : FVec Ideal S8x4x8192x8192 .f32) (b : Fin 8) (h : Fin 4) (n j : Fin 8192) :
    hidden s (ix4 b h n j) = if near n.val j.val then s (ix4 b h n j) else ⊥ := by
  have e : hidden s (ix4 b h n j) = Scalar.select (nearWords (ix2 n j)) (s (ix4 b h n j)) (Ideal.ofBits FTy.f32 0xFF800000#32) := by
    pointwise [hidden]
    rfl
  rw [e, nearWords_at, bottom]
  by_cases hp : near n.val j.val
  · rw [if_pos hp, decide_eq_true hp]; rfl
  · rw [if_neg hp, decide_eq_false hp]; rfl

theorem joined_ctx (s : FVec Ideal S8x4x8192x256 .f32) (w : FVec Ideal S8x4x8192x8192 .f32) (z : FVec Ideal S1x4 .f32) (b : Fin 8) (h : Fin 4)
    (n : Fin 8192) (k : Fin 256) : joined s w z (ix4 b h n ⟨k.val, by omega⟩) = s (ix4 b h n k) := by
  pointwise [joined]

theorem joined_key (s : FVec Ideal S8x4x8192x256 .f32) (w : FVec Ideal S8x4x8192x8192 .f32) (z : FVec Ideal S1x4 .f32) (b : Fin 8) (h : Fin 4)
    (n j : Fin 8192) : joined s w z (ix4 b h n ⟨256 + j.val, by omega⟩) = w (ix4 b h n j) := by
  pointwise [joined]

theorem joined_sink (s : FVec Ideal S8x4x8192x256 .f32) (w : FVec Ideal S8x4x8192x8192 .f32) (z : FVec Ideal S1x4 .f32) (b : Fin 8) (h : Fin 4)
    (n : Fin 8192) : joined s w z (ix4 b h n ⟨8448, by omega⟩) = z (ix2 0 h) := by
  pointwise [joined]

theorem shares_at (p : FVec Ideal S8x4x8192x8449 .f32) (b : Fin 8) (h : Fin 4) (n : Fin 8192) (k : Fin 8449) :
    shares p (ix4 b h n k) = Ideal.div (p (ix4 b h n k)) (∑ j, p (ix4 b h n j)) := by
  pointwise [shares, along]

theorem powers_at (s : FVec Ideal S8x4x8192x8449 .f32) (x : FVec Ideal S8x4x8192 .f32) (b : Fin 8) (h : Fin 4) (n : Fin 8192)
    (k : Fin 8449) : powers s x (ix4 b h n k) = Ideal.exp (s (ix4 b h n k) - x (ix3 b h n)) := by
  pointwise [powers, along]

theorem ctxMix_at (vc : FVec Ideal S8x1x128x256 .bf16) (p : FVec Ideal S8x4x8192x8449 .f32) (b : Fin 8) (n : Fin 8192) (g r : Fin 2) (d : Fin 64) :
    ctxMix vc p (ix5 b n g r d) = ∑ k : Fin 256, vc (ix4 b 0 ⟨g.val * 64 + d.val, by omega⟩ k) * p (ix4 b ⟨g.val * 2 + r.val, by omega⟩ n ⟨k.val, by omega⟩) := by
  pointwise [ctxMix]

theorem keyMix_at (v : FVec Ideal S8x16x128x512 .bf16) (p : FVec Ideal S8x4x8192x8449 .f32) (b : Fin 8) (n : Fin 8192) (g r : Fin 2) (d : Fin 64) :
    keyMix v p (ix5 b n g r d) = ∑ j : Fin 8192, v (ix4 b ⟨j.val / 512, by omega⟩ ⟨g.val * 64 + d.val, by omega⟩ ⟨j.val % 512, by omega⟩)
      * p (ix4 b ⟨g.val * 2 + r.val, by omega⟩ n ⟨256 + j.val, by omega⟩) := by
  pointwise [keyMix]

theorem total_at (x y : FVec Ideal S8x8192x2x2x64 .f32) (b : Fin 8) (n : Fin 8192) (l : Fin 256) :
    total x y (ix3 b n l) = x (ix5 b n ⟨l.val / 128, by omega⟩ ⟨l.val / 64 % 2, by omega⟩ ⟨l.val % 64, by omega⟩)
      + y (ix5 b n ⟨l.val / 128, by omega⟩ ⟨l.val / 64 % 2, by omega⟩ ⟨l.val % 64, by omega⟩) := by
  pointwise [total]

/-! ## The result -/

theorem every (P : Fin 8449 → Prop) (h1 : ∀ k : Fin 256, P ⟨k.val, by omega⟩) (h2 : ∀ j : Fin 8192, P ⟨256 + j.val, by omega⟩)
    (h3 : P ⟨8448, by omega⟩) (k : Fin 8449) : P k := by
  rcases lt_or_ge k.val 256 with h | h
  · exact h1 ⟨k.val, h⟩
  · rcases lt_or_ge k.val 8448 with h' | h'
    · have e : k = ⟨256 + (k.val - 256), by omega⟩ := Fin.ext (by show k.val = 256 + (k.val - 256); omega)
      rw [e]
      exact h2 ⟨k.val - 256, by omega⟩
    · have e : k = ⟨8448, by omega⟩ := Fin.ext (by show k.val = 8448; omega)
      rw [e]
      exact h3

theorem split_sum (f : Fin 8449 → EReal) :
    ∑ k, f k = ∑ k : Fin 256, f ⟨k.val, by omega⟩ + ∑ j : Fin 8192, f ⟨256 + j.val, by omega⟩ + f ⟨8448, by omega⟩ :=
  (Fin.sum_univ_castSucc (n := 8448) f).trans
    (congrArg (· + f ⟨8448, by omega⟩) (Fin.sum_univ_add (a := 256) (b := 8192) fun k => f k.castSucc))

theorem drop_at (h : S8x4x8192x8449.ReducesTo [3] S8x4x8192) (b : Fin 8) (g : Fin 4) (n : Fin 8192) (k : Fin 8449) :
    h.drop (ix4 b g n k) = ix3 b g n := by
  funext a
  refine Fin.ext ?_
  match a with
  | 0 => exact h.drop_apply_val_of_eq (ix4 b g n k) 0 0
  | 1 => exact h.drop_apply_val_of_eq (ix4 b g n k) 1 1
  | 2 => exact h.drop_apply_val_of_eq (ix4 b g n k) 2 2

/-- The largest score of a query is real where every score is real or minus infinity and the query's sink is real. -/
theorem tops_real (s : FVec Ideal S8x4x8192x8449 .f32) (hs : ∀ i, (∃ r : ℝ, s i = r) ∨ s i = ⊥) (b : Fin 8) (h : Fin 4) (n : Fin 8192)
    (hz : ∃ r : ℝ, s (ix4 b h n ⟨8448, by omega⟩) = r) : ∃ r : ℝ, tops s (ix3 b h n) = r := by
  have hm : ∃ r : ℝ, most s (ix3 b h n) = r := by
    unfold most
    rw [Host.reduce_eq_fold]
    have hb : (constant (F := Ideal) S_ .f32 0xFF800000#32) (Shape.Idx.first h_S_) = (⊥ : EReal) := bottom
    rw [hb]
    exact fold_max_some s hs _ _ (Finset.mem_filter.mpr ⟨Finset.mem_univ _, drop_at _ b h n _⟩) hz
  obtain ⟨r, hr⟩ := hm
  exact ⟨r, (max_at _ _ (most s) _).trans hr⟩

section Result

variable (q : FVec Ideal S8x8192x512 .bf16) (k : FVec Ideal S8x8192x128 .bf16) (v : FVec Ideal S8x16x128x512 .bf16) (kc : FVec Ideal S8x256x128 .bf16)
variable (vc : FVec Ideal S8x1x128x256 .bf16) (z : FVec Ideal S1x4 .f32)
variable (σc : Fin 8 → Fin 4 → Fin 8192 → Fin 256 → ℝ) (hc : ∀ b h n j, ctxDot q kc b h n j = σc b h n j)
variable (σ : Fin 8 → Fin 4 → Fin 8192 → Fin 8192 → ℝ) (hk : ∀ b h n j, keyDot q k b h n j = σ b h n j)
variable (e : Fin 4 → ℝ) (hz : ∀ h, z (ix2 0 h) = e h)

include hc in
theorem scores_ctx (b : Fin 8) (h : Fin 4) (n : Fin 8192) (j : Fin 256) :
    scores q k kc z (ix4 b h n ⟨j.val, by omega⟩) = ((σc b h n j * Real.log 2 : ℝ) : EReal) := by
  rw [EReal.coe_mul, ← hc]
  exact (joined_ctx _ _ _ b h n j).trans (ctxScores_at q kc b h n j)

include hk in
theorem scores_key (b : Fin 8) (h : Fin 4) (n : Fin 8192) (j : Fin 8192) :
    scores q k kc z (ix4 b h n ⟨256 + j.val, by omega⟩) = if near n.val j.val then ((σ b h n j * Real.log 2 : ℝ) : EReal) else ⊥ := by
  rw [EReal.coe_mul, ← hk, ← keyScores_at]
  exact (joined_key _ _ _ b h n j).trans (hidden_at _ b h n j)

include hz in
theorem scores_sink (b : Fin 8) (h : Fin 4) (n : Fin 8192) : scores q k kc z (ix4 b h n ⟨8448, by omega⟩) = (e h : EReal) :=
  (joined_sink _ _ _ b h n).trans (hz h)

include hc hk hz in
theorem scores_low (i : S8x4x8192x8449.Idx) : (∃ r : ℝ, scores q k kc z i = r) ∨ scores q k kc z i = ⊥ := by
  obtain ⟨b, h, n, j, rfl⟩ : ∃ b h n j, i = ix4 b h n j := ⟨i 0, i 1, i 2, i 3, (ix4_eta i).symm⟩
  refine every (fun j => (∃ r : ℝ, scores q k kc z (ix4 b h n j) = r) ∨ scores q k kc z (ix4 b h n j) = ⊥)
    (fun j => .inl ⟨_, scores_ctx q k kc z σc hc b h n j⟩) (fun j => ?_) (.inl ⟨_, scores_sink q k kc z e hz b h n⟩) j
  rw [scores_key q k kc z σ hk]
  split
  · exact .inl ⟨_, rfl⟩
  · exact .inr rfl

/-- The values of a result's column, by position. -/
def valOf (v : FVec Ideal S8x16x128x512 .bf16) (b : Fin 8) (l : Fin 256) (j : Fin 8192) : EReal :=
  v (ix4 b ⟨j.val / 512, by omega⟩ ⟨l.val / 128 * 64 + l.val % 64, by omega⟩ ⟨j.val % 512, by omega⟩)

/-- The context's values of a result's column. -/
def ctxOf (vc : FVec Ideal S8x1x128x256 .bf16) (b : Fin 8) (l : Fin 256) (k : Fin 256) : EReal :=
  vc (ix4 b 0 ⟨l.val / 128 * 64 + l.val % 64, by omega⟩ k)

include hc hk hz in
theorem result_at (b : Fin 8) (n : Fin 8192) (l : Fin 256) :
    result q k v kc vc z (ix3 b n l) = mixed (ctxOf vc b l) (valOf v b l) (fun j => (2 : ℝ) ^ σc b ⟨l.val / 64, by omega⟩ n j)
      (fun j => if near n.val j.val then (2 : ℝ) ^ σ b ⟨l.val / 64, by omega⟩ n j else 0) (Real.exp (e ⟨l.val / 64, by omega⟩)) := by
  have eh : (⟨l.val / 128 * 2 + l.val / 64 % 2, by omega⟩ : Fin 4) = ⟨l.val / 64, by omega⟩ :=
    Fin.ext (by show l.val / 128 * 2 + l.val / 64 % 2 = l.val / 64; omega)
  unfold result
  rw [total_at, ctxMix_at, keyMix_at, eh]
  generalize (⟨l.val / 64, by omega⟩ : Fin 4) = h
  obtain ⟨M, hM⟩ := tops_real (scores q k kc z) (scores_low q k kc z σc hc σ hk e hz) b h n ⟨_, scores_sink q k kc z e hz b h n⟩
  simp only [shares_at, powers_at, hM, split_sum]
  simp only [scores_ctx q k kc z σc hc, scores_key q k kc z σ hk, scores_sink q k kc z e hz]
  exact ref_mixed (ctxOf vc b l) (valOf v b l) (σc b h n) (σ b h n) (fun j => near n.val j.val) (e h) M _ rfl

end Result

end Cert.Reference6Ideal.Win
-- ==== Proof.DiffFinite.lean ====
/-
  The differential attention's precondition read back: where it holds, every query, key, value and entry of the
  coefficient's vectors is a real number.
-/
module

public import proofs.«01_k».proof.Defs
public import proofs.«01_k».proof.Proof.Gen.Pre_finite_diff
public import proofs.«01_k».proof.Proof.Finite

@[expose] public section

set_option maxRecDepth 16384

noncomputable section

namespace Cert.Proof.DiffFinite

open Idealize.ShloMosaic Idealize.ShloMosaic.TcCoe
open Cert.Pre_finite_diff
open Cert.Proof.Finite (real_of_all real_of_abs_lt top_bits)

/-- `real_of_all` of an array that is of single precision as it stands. -/
theorem real_of_all_f32 {s : Shape} {axes : List (Fin s.rank)} (x : FVec Ideal s .f32)
    (hb : S_.BroadcastsInDim s ![]) (hr : s.ReducesTo axes S_) (hu : 0 < S_.numel) (j : S_.Idx)
    (h : Host.reduce IntOp.andi (cmpf .olt (Host.absf x) (broadcastInDim s ![] hb (constant (F := Ideal) S_ .f32 0x7F800000#32)))
      (constantI S_ 1 1#1) hr hu j = 1#1) (i : s.Idx) : ∃ r : ℝ, x i = r :=
  real_of_all (show FVec Ideal s .bf16 from x) (by decide) hb hr hu j h i

/-- Where the precondition's word is one, those arguments are real numbers throughout. -/
theorem reals [Facts] (q kl : FVec Ideal S8x8192x256 .bf16) (vl : FVec Ideal S8x16x256x512 .bf16) (kc : FVec Ideal S8x256x256 .bf16)
    (vc : FVec Ideal S8x1x256x256 .bf16) (l : FVec Ideal S4x32 .f32) (g : FVec Ideal S64x1 .f32)
    (h : fn (F := Ideal) q kl vl kc vc l g = fun _ => 1#1) :
    (∀ i, ∃ r : ℝ, q i = r) ∧ (∀ i, ∃ r : ℝ, kl i = r) ∧ (∀ i, ∃ r : ℝ, vl i = r) ∧ (∀ i, ∃ r : ℝ, kc i = r)
      ∧ (∀ i, ∃ r : ℝ, vc i = r) ∧ (∀ i, ∃ r : ℝ, l i = r) := by
  have h0 := congrFun h ix0
  unfold fn fn_part1 at h0
  obtain ⟨h1, h6⟩ := IntOp.andi_eq_one.1 h0
  obtain ⟨h1, h5⟩ := IntOp.andi_eq_one.1 h1
  obtain ⟨h1, h4⟩ := IntOp.andi_eq_one.1 h1
  obtain ⟨h1, h3⟩ := IntOp.andi_eq_one.1 h1
  obtain ⟨h1, h2⟩ := IntOp.andi_eq_one.1 h1
  exact ⟨real_of_all q _ _ _ _ _ h1, real_of_all kl _ _ _ _ _ h2, real_of_all vl _ _ _ _ _ h3, real_of_all kc _ _ _ _ _ h4,
    real_of_all vc _ _ _ _ _ h5, real_of_all_f32 l _ _ _ _ h6⟩

end Cert.Proof.DiffFinite
-- ==== Proof.WinClaims.lean ====
/-
  The claims about the windowed attention: the precondition read back, the runs, and the equality of the results.
-/
module

public import proofs.«01_k».proof.Defs
public import proofs.«01_k».proof.Proof.WinArray
public import proofs.«01_k».proof.Proof.WinRef
public import proofs.«01_k».proof.Proof.DiffFinite
public import proofs.«01_k».proof.Proof.Gen.Kernel6.Frame
public import proofs.«01_k».proof.Proof.Gen.Reference6Ideal.Run
public import proofs.«01_k».proof.Proof.Gen.Pre_finite_win
public import Idealize.ShloMosaic.Lib.Claim

@[expose] public section

set_option maxRecDepth 16384

noncomputable section

namespace Cert.Proof.Win

open Cert.Proof.Softmax
open Idealize.ShloMosaic Idealize.ShloMosaic.TcCoe Idealize.SL.Sem

/-- Where the precondition's word is one, the queries, the keys and the sinks are real numbers throughout. -/
theorem reals (q : FVec Ideal Cert.Pre_finite_win.S8x8192x512 .bf16) (k : FVec Ideal Cert.Pre_finite_win.S8x8192x128 .bf16)
    (v : FVec Ideal Cert.Pre_finite_win.S8x16x128x512 .bf16) (kc : FVec Ideal Cert.Pre_finite_win.S8x256x128 .bf16)
    (vc : FVec Ideal Cert.Pre_finite_win.S8x1x128x256 .bf16) (z : FVec Ideal Cert.Pre_finite_win.S1x4 .f32)
    (h : Cert.Pre_finite_win.fn (F := Ideal) q k v kc vc z = fun _ => 1#1) :
    (∀ i, ∃ r : ℝ, q i = r) ∧ (∀ i, ∃ r : ℝ, k i = r) ∧ (∀ i, ∃ r : ℝ, kc i = r) ∧ (∀ i, ∃ r : ℝ, z i = r) := by
  have h0 := congrFun h ix0
  unfold Cert.Pre_finite_win.fn Cert.Pre_finite_win.fn_part1 at h0
  obtain ⟨h1, h4⟩ := IntOp.andi_eq_one.1 h0
  obtain ⟨h1, h3⟩ := IntOp.andi_eq_one.1 h1
  obtain ⟨h1, h2⟩ := IntOp.andi_eq_one.1 h1
  exact ⟨Finite.real_of_all q _ _ _ _ _ h1, Finite.real_of_all k _ _ _ _ _ h2, Finite.real_of_all kc _ _ _ _ _ h3,
    DiffFinite.real_of_all_f32 z _ _ _ _ h4⟩

/-- The kernel runs, keeps its arguments and leaves every counter at zero. -/
theorem frame_kernel : Cert.quiescent_Kernel6 := fun m g _ => Cert.Kernel6.Gen.frame m g

/-- The idealized program runs, keeps its arguments and leaves every counter at zero. -/
theorem frame_ideal : Cert.quiescent_Kernel6Ideal := fun m g _ => Cert.Kernel6Ideal.Gen.frame m g

/-- The same under the precondition. -/
theorem frame_ideal_pre : Cert.quiescent_Kernel6Ideal_pre_finite_win := fun m g _ => Cert.Kernel6Ideal.Gen.frame m g

/-- The reference runs, keeps its arguments and leaves every counter at zero. -/
theorem frame_ref : Cert.quiescent_Reference6Ideal := fun m g _ =>
  (θ_run Cert.Reference6Ideal.defs _ _).mono (fun r h => ⟨fun c => (h c).2, sem_eq_zero_of_no_sems (by decide) r.2⟩)
    (Cert.Reference6Ideal.Value.run (F := Ideal) m g)

/-- The same under the precondition. -/
theorem frame_ref_pre : Cert.quiescent_Reference6Ideal_pre_finite_win := fun m g _ => frame_ref m g trivial

/-- The two named constants: the mask stands for minus infinity, the factor on the sinks for one over the logarithm of two. -/
theorem preserves : Cert.preserves_Kernel6_Kernel6Ideal :=
  ⟨IdealRules.named_const.statement Cert.Kernel6Ideal.κ "mask" .f32 0xF149F2CA#32 ⊥ rfl,
    IdealRules.named_const.statement Cert.Kernel6Ideal.κ "log2e" .f32 0x3FB8AA3B#32 (((Real.log 2)⁻¹ : ℝ) : EReal) rfl⟩

/-- The kernel's result is the reference's, under the precondition. -/
theorem value (m : (ℓ : Loc Cert.Kernel6Ideal.nD Cert.Kernel6Ideal.τ Cert.Kernel6Ideal.sig) → Buf (Elt Ideal) ℓ)
    (m' : (ℓ : Loc Cert.Reference6Ideal.nD Cert.Reference6Ideal.τ Cert.Reference6Ideal.sig) → Buf (Elt Ideal) ℓ)
    (hpre : Cert.Pre_Kernel6Ideal_finite_win m) (c : Dev Cert.Kernel6Ideal.nD)
    (h0 : m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0))
    (h1 : m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1))
    (h2 : m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2))
    (h3 : m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3))
    (h4 : m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4))
    (h5 : m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) :
    (Cert.Kernel6Ideal.Gen.dats m 0 c).arrAt 10 (Cert.Kernel6Ideal.cfgs 0).N = Cert.Reference6Ideal.Value.res_main_v57 m' c := by
  obtain ⟨hq, hk, hc, hz⟩ := reals _ _ _ _ _ _ (hpre c)
  choose σc hσc using fun b h n k => sum_mul_real (fun d : Fin 128 => m ((c.tc : Thread Cert.Kernel6Ideal.nD Cert.Kernel6Ideal.τ).loc Cert.Kernel6Ideal.main_arg3) (ix3 b k d))
    (fun d : Fin 128 => m ((c.tc : Thread Cert.Kernel6Ideal.nD Cert.Kernel6Ideal.τ).loc Cert.Kernel6Ideal.main_arg0) (ix3 b n ⟨(h : Fin 4).val * 128 + d.val, by omega⟩)) (fun _ => hc _) (fun _ => hq _)
  choose σ hσ using fun b h n k => sum_mul_real (fun d : Fin 128 => m ((c.tc : Thread Cert.Kernel6Ideal.nD Cert.Kernel6Ideal.τ).loc Cert.Kernel6Ideal.main_arg1) (ix3 b k d))
    (fun d : Fin 128 => m ((c.tc : Thread Cert.Kernel6Ideal.nD Cert.Kernel6Ideal.τ).loc Cert.Kernel6Ideal.main_arg0) (ix3 b n ⟨(h : Fin 4).val * 128 + d.val, by omega⟩)) (fun _ => hk _) (fun _ => hq _)
  choose z hz' using fun h : Fin 4 => hz (ix2 0 h)
  have er := Cert.Reference6Ideal.Win.res_eq m' c
  rw [h0, h1, h2, h3, h4, h5] at er
  refine Cert.Kernel6Ideal.Win.array m c σc hσc σ hσ z hz' _ fun b n l => (congrFun er _).trans ?_
  exact Cert.Reference6Ideal.Win.result_at _ _ _ _ _ _ σc hσc σ hσ z hz' b n l

/-- From equal arguments that satisfy the precondition, the kernel and the reference end with equal results. -/
theorem equal : Cert.algebraic_Kernel6Ideal_Reference6Ideal_pre_finite_win := by
  intro m g m' g' hpre hag
  refine ⟨fun c => Cert.Reference6Ideal.Value.res_main_v57 m' c, ?_, ?_⟩
  · have hv : ∀ c, (Cert.Kernel6Ideal.Gen.dats m 0 c).arrAt 10 (Cert.Kernel6Ideal.cfgs 0).N = Cert.Reference6Ideal.Value.res_main_v57 m' c :=
      fun c => value m m' hpre c (hag c).1 (hag c).2.1 (hag c).2.2.1 (hag c).2.2.2.1 (hag c).2.2.2.2.1 (hag c).2.2.2.2.2
    run_from (Cert.Kernel6Ideal.Value.run_blocks m g)
    exact hv c
  · exact Cert.Reference6Ideal.Value.run m' g'

end Cert.Proof.Win
-- ==== Proof.MergeRow.lean ====
/-
  One token of the layer's merge, on the extended reals: the mathematics of a row, written once for the kernel's blocks and
  for the reference's arrays.
-/
module

public import Idealize.ShloMosaic.Lib.Pipeline.ValueKit

@[expose] public section

noncomputable section

namespace Cert.Proof.Merge

open Idealize.ShloMosaic

/-- The literal `1.0`. -/
abbrev one : EReal := Ideal.ofBits FTy.f32 0x3F800000#32

/-- The literal `1e-6` as a 32-bit word says it. -/
abbrev eps : EReal := Ideal.ofBits FTy.f32 0x358637BD#32

theorem one_eq : one = 1 := by simp [Ideal.ofBits, Ideal.ieee]

theorem half_eq : Ideal.ofBits FTy.f32 0x3F000000#32 = ((1 / 2 : ℝ) : EReal) := by
  simp [Ideal.ofBits, Ideal.ieee]
  rw [← EReal.coe_mul]
  norm_num

theorem width_eq : Ideal.ofBits FTy.f32 0x44800000#32 = ((1024 : ℝ) : EReal) := by
  simp [Ideal.ofBits, Ideal.ieee]
  rw [← EReal.coe_mul]
  norm_num

theorem part_eq : Ideal.ofBits FTy.f32 0x3A800000#32 = ((1 / 1024 : ℝ) : EReal) := by
  simp [Ideal.ofBits, Ideal.ieee]
  rw [← EReal.coe_mul]
  norm_num

theorem zero_eq : Ideal.ofBits FTy.f32 0x00000000#32 = 0 := by simp [Ideal.ofBits, Ideal.ieee]

/-- Dividing by the width is multiplying by its exact reciprocal. -/
theorem mean_eq (s : EReal) : Ideal.div s (Ideal.ofBits FTy.f32 0x44800000#32) = s * Ideal.ofBits FTy.f32 0x3A800000#32 := by
  rw [width_eq, part_eq]
  exact Ideal.div_coe (by norm_num) s

/-- The logistic function of a real number, by a hyperbolic tangent at half of it. -/
theorem half_tanh_real (r : ℝ) : 1 / 2 * Real.tanh (1 / 2 * r) + 1 / 2 = (1 + Real.exp (-r))⁻¹ := by
  have e : Real.exp (-r) = Real.exp (-(1 / 2 * r)) * Real.exp (-(1 / 2 * r)) := by
    rw [← Real.exp_add]; congr 1; ring
  have p := Real.exp_pos (1 / 2 * r)
  have q := Real.exp_pos (-(1 / 2 * r))
  have u : Real.exp (1 / 2 * r) * Real.exp (-(1 / 2 * r)) = 1 := by rw [← Real.exp_add]; simp
  rw [Real.tanh_eq_sinh_div_cosh, Real.sinh_eq, Real.cosh_eq, e]
  generalize Real.exp (1 / 2 * r) = a at p u
  generalize Real.exp (-(1 / 2 * r)) = b at q u
  have h1 : (a + b) / 2 ≠ 0 := by positivity
  have h2 : 1 + b * b ≠ 0 := by positivity
  rw [eq_comm, inv_eq_iff_eq_inv, eq_comm, inv_eq_iff_eq_inv]
  field_simp
  nlinarith

/-- The logistic function, by a hyperbolic tangent at half the argument. -/
theorem half_tanh (x : EReal) : Ideal.ofBits FTy.f32 0x3F000000#32 * Ideal.tanh (Ideal.ofBits FTy.f32 0x3F000000#32 * x)
    + Ideal.ofBits FTy.f32 0x3F000000#32 = Ideal.logistic x := by
  rw [half_eq]
  induction x using EReal.rec with
  | bot =>
    rw [EReal.coe_mul_bot_of_pos (by norm_num), Ideal.tanh_bot, Ideal.logistic_bot, show (-1 : EReal) = ((-1 : ℝ) : EReal) by simp,
      ← EReal.coe_mul, ← EReal.coe_add]
    norm_num
  | top =>
    rw [EReal.coe_mul_top_of_pos (by norm_num), Ideal.tanh_top, Ideal.logistic_top, show (1 : EReal) = ((1 : ℝ) : EReal) by simp,
      ← EReal.coe_mul, ← EReal.coe_add]
    norm_num
  | coe r =>
    rw [← EReal.coe_mul, Ideal.tanh_coe, ← EReal.coe_mul, ← EReal.coe_add, Ideal.logistic_coe, half_tanh_real]

/-- The logistic function as a quotient. -/
theorem quot_logistic (x : EReal) : Ideal.div one (one + Ideal.exp (-x)) = Ideal.logistic x := by
  rw [one_eq]; rfl

/-- An entry of a row scaled to unit mean square and multiplied by a gain. -/
def normed (x g : Fin 1024 → EReal) (i : Fin 1024) : EReal :=
  x i * Ideal.rsqrt ((∑ j, x j * x j) * Ideal.ofBits FTy.f32 0x3A800000#32 + eps) * g i

/-- An entry of the modulated normalised row. -/
def hidden (x g : Fin 1024 → EReal) (md : Fin 3072 → EReal) (i : Fin 1024) : EReal :=
  normed x g i * (one + md ⟨1024 + i.val, by omega⟩) + md ⟨i.val, by omega⟩

/-- The sigmoid-weighted linear unit. -/
def silu (s : EReal) : EReal := s * Ideal.logistic s

/-- What one branch adds to the merged row: its mixing gate times the projection of its gated result. -/
def branch (h wm : Fin 1024 → EReal) (y : Fin 256 → EReal) (gate : Fin 256 → Fin 1024 → EReal)
    (w : Fin 256 → EReal) : EReal :=
  Ideal.logistic (∑ k, h k * wm k) * ∑ c, y c * silu (∑ k, h k * gate c k) * w c

theorem normed_congr {x x' g g' : Fin 1024 → EReal} (hx : ∀ j, x j = x' j) (hg : ∀ j, g j = g' j) (i : Fin 1024) :
    normed x g i = normed x' g' i := by
  rw [funext hx, funext hg]

theorem branch_congr {h h' wm wm' : Fin 1024 → EReal} {y y' : Fin 256 → EReal} {gate gate' : Fin 256 → Fin 1024 → EReal}
    {w w' : Fin 256 → EReal} (hh : ∀ k, h k = h' k) (hm : ∀ k, wm k = wm' k) (hy : ∀ c, y c = y' c)
    (hg : ∀ c k, gate c k = gate' c k) (hw : ∀ c, w c = w' c) : branch h wm y gate w = branch h' wm' y' gate' w' := by
  rw [funext hh, funext hm, funext hy, funext fun c => funext (hg c), funext hw]

/-- What branch `r` adds to column `j` of the merged row. -/
def addend (h : Fin 1024 → EReal) (y : Fin 4 → Fin 256 → EReal) (wm : Fin 1024 → Fin 4096 → EReal) (wg : Fin 1024 → Fin 1024 → EReal)
    (w : Fin 4 → Fin 256 → Fin 1024 → EReal) (r : Fin 4) (j : Fin 1024) : EReal :=
  branch h (fun k => wm k ⟨1024 * r.val + j.val, by omega⟩) (y r) (fun c k => wg k ⟨256 * r.val + c.val, by omega⟩) (fun c => w r c j)

/-- An entry of the merged row: the four branches together. -/
def merged (h : Fin 1024 → EReal) (y : Fin 4 → Fin 256 → EReal) (wm : Fin 1024 → Fin 4096 → EReal) (wg : Fin 1024 → Fin 1024 → EReal)
    (w : Fin 4 → Fin 256 → Fin 1024 → EReal) (j : Fin 1024) : EReal :=
  addend h y wm wg w 0 j + addend h y wm wg w 1 j + addend h y wm wg w 2 j + addend h y wm wg w 3 j

/-- An entry of the row the layer leaves: the input plus the gated normalised projection of the merged row. -/
def rowOut (x md' : Fin 1024 → EReal) (m gq : Fin 1024 → EReal) (wo : Fin 1024 → Fin 1024 → EReal) (i : Fin 1024) : EReal :=
  x i + md' i * normed (fun j => ∑ k, m k * wo k j) gq i

/-- A column of the pooled branch: the pooled row projected and scaled. -/
def pooledBranch (p : Fin 256 → EReal) (wp : Fin 256 → Fin 256 → EReal) (sp : Fin 256 → EReal) (c : Fin 256) : EReal :=
  (∑ k, p k * wp k c) * sp c

theorem pooledBranch_congr {p p' : Fin 256 → EReal} {wp wp' : Fin 256 → Fin 256 → EReal} {sp sp' : Fin 256 → EReal} (hp : ∀ k, p k = p' k)
    (hw : ∀ k c, wp k c = wp' k c) (hs : ∀ c, sp c = sp' c) (c : Fin 256) : pooledBranch p wp sp c = pooledBranch p' wp' sp' c := by
  rw [funext hp, funext fun k => funext (hw k), funext hs]

/-- Half the width of the window of a column of the pooled branch. -/
def halfOf (c : Fin 256) : ℕ := if c.val < 64 then 1 else if c.val < 128 then 2 else if c.val < 192 then 4 else 8

/-- Row `r` of a column padded by eight zeros on either side. -/
def padded (u : Fin 8192 → EReal) (r : ℕ) : EReal := if h : 8 ≤ r ∧ r < 8200 then u ⟨r - 8, by omega⟩ else 0

/-- The sum over the window of `2 * half` rows about row `n`, of a column padded by eight rows. -/
def windowSum (P : ℕ → EReal) (n half : ℕ) : EReal := ∑ k ∈ Finset.range (2 * half), P (n + (8 - half) + k)

/-- How many rows of the window lie in the column, of the token's number and the half width as 32-bit words. -/
def count (t h : BitVec 32) : EReal :=
  (((IntOp.minsi 8192#32 (IntOp.maxsi 0#32 (t + h)) - IntOp.minsi 8192#32 (IntOp.maxsi 0#32 (t - h))).toInt : ℝ) : EReal)

/-- An entry of the pooled row: the mean over the window less the entry itself. -/
def pooledOf (u : Fin 8192 → EReal) (n : Fin 8192) (c : Fin 256) : EReal :=
  Ideal.div (windowSum (padded u) n.val (halfOf c)) (count (BitVec.ofNat 32 n.val) (BitVec.ofNat 32 (halfOf c))) - u n

end Cert.Proof.Merge
-- ==== Proof.MergeBlock.lean ====
/-
  What a block of the merge computes from its windows, entry by entry on the extended reals, apart from the pooled window:
  normalisation, gates, branches and the output projection.
-/
module

public import proofs.«01_k».proof.Proof.Gen.Kernel2Ideal.Value
public import proofs.«01_k».proof.Proof.MergeRow

@[expose] public section

set_option maxRecDepth 16384

noncomputable section

namespace Cert.Kernel2Ideal.Mrg

open Cert.Kernel2Ideal Cert.Kernel2Ideal.Gen Cert.Proof.Merge
open Idealize.ShloMosaic Idealize.ShloMosaic.TcCoe

/-- The reciprocal root mean square of each row. -/
def scaleOf (x : FVec Ideal S512x1024 .f32) : FVec Ideal S512x1 .f32 :=
  rsqrt (addf (mulf (shapeCast S512x1 (multiReduction .add [1] S512 (mulf x x) 0x00000000#32 reduces_S512x1024_S512 (.inl rfl) rfl)
    shapeCasts_S512_S512x1) (broadcast S512x1 (Scalar.ofBits .f32 0x3A800000#32))) (broadcast S512x1 (Scalar.ofBits .f32 0x358637BD#32)))

/-- The rows scaled to unit mean square, times a gain. -/
def normRows (x : FVec Ideal S512x1024 .f32) (g : Vec Ideal S1x1024 .f32) : FVec Ideal S512x1024 .f32 :=
  mulf (mulf x (broadcastTo S512x1024 (scaleOf x) broadcasts_S512x1_S512x1024)) (broadcastTo S512x1024 g broadcasts_S1x1024_S512x1024)

theorem scaleOf_at (x : FVec Ideal S512x1024 .f32) (n : Fin 512) : scaleOf x (ix2 n 0)
    = Ideal.rsqrt ((∑ j, x (ix2 n j) * x (ix2 n j)) * Ideal.ofBits FTy.f32 0x3A800000#32 + eps) := by
  pointwise [scaleOf]

theorem normRows_at (x : FVec Ideal S512x1024 .f32) (g : Vec Ideal S1x1024 .f32) (n : Fin 512) (i : Fin 1024) :
    normRows x g (ix2 n i) = normed (fun j => x (ix2 n j)) (fun j => g (ix2 0 j)) i := by
  have e : normRows x g (ix2 n i) = x (ix2 n i) * scaleOf x (ix2 n 0) * g (ix2 0 i) := by pointwise [normRows]
  rw [e, scaleOf_at]; rfl

/-- The modulation: a gain about one and a shift, both of a column. -/
def modulate (a : FVec Ideal S512x1024 .f32) (md : FVec Ideal S1x3072 .f32) : FVec Ideal S512x1024 .bf16 :=
  truncf .bf16 (addf (mulf a (broadcastTo S512x1024 (addf (broadcast S1x1024 (Scalar.ofBits .f32 0x3F800000#32))
    (extractStridedSlice S1x1024 ![0, 1024] md slices_S1x3072_o0_1024_S1x1024)) broadcasts_S1x1024_S512x1024))
    (broadcastTo S512x1024 (extractStridedSlice S1x1024 ![0, 0] md slices_S1x3072_o0_0_S1x1024) broadcasts_S1x1024_S512x1024)) bitsLt_bf16_f32

theorem modulate_at (a : FVec Ideal S512x1024 .f32) (md : FVec Ideal S1x3072 .f32) (n : Fin 512) (i : Fin 1024) :
    modulate a md (ix2 n i) = a (ix2 n i) * (one + md (ix2 0 ⟨1024 + i.val, by omega⟩)) + md (ix2 0 ⟨i.val, by omega⟩) := by
  pointwise [modulate]

/-- The logistic function as the kernel computes it, by a hyperbolic tangent. -/
def sigmoid {s : Shape} (x : FVec Ideal s .f32) : FVec Ideal s .f32 :=
  addf (mulf (broadcast s (Scalar.ofBits .f32 0x3F000000#32)) (tanh (mulf (broadcast s (Scalar.ofBits .f32 0x3F000000#32)) x)))
    (broadcast s (Scalar.ofBits .f32 0x3F000000#32))

theorem sigmoid_at {s : Shape} (x : FVec Ideal s .f32) (i : s.Idx) : sigmoid x i = Ideal.logistic (x i) := half_tanh (x i)

/-- The product behind a branch's gate. -/
def gateDot (h : FVec Ideal S512x1024 .bf16) (w : Vec Ideal S1024x256 .bf16) : FVec Ideal S512x256 .f32 :=
  matmul dot_S512x1024_S1024x256_S512x256_1_0_0_1_n_n none (φ₂ := .bf16) h w (constant S512x256 .f32 0x00000000#32)

theorem gateDot_at (h : FVec Ideal S512x1024 .bf16) (w : Vec Ideal S1024x256 .bf16) (n : Fin 512) (c : Fin 256) :
    gateDot h w (ix2 n c) = ∑ k, h (ix2 n k) * w (ix2 k c) := by
  pointwise [gateDot]

/-- A product of rows of the model's width with a square matrix. -/
def wideDot (h : FVec Ideal S512x1024 .bf16) (w : Vec Ideal S1024x1024 .bf16) : FVec Ideal S512x1024 .f32 :=
  matmul dot_S512x1024_S1024x1024_S512x1024_1_0_0_1_n_n none (φ₂ := .bf16) h w (constant S512x1024 .f32 0x00000000#32)

theorem wideDot_at (h : FVec Ideal S512x1024 .bf16) (w : Vec Ideal S1024x1024 .bf16) (n : Fin 512) (j : Fin 1024) :
    wideDot h w (ix2 n j) = ∑ k, h (ix2 n k) * w (ix2 k j) := by
  pointwise [wideDot]

/-- A branch's projection. -/
def branchDot (y : FVec Ideal S512x256 .f32) (w : Vec Ideal S1x256x1024 .bf16) : FVec Ideal S512x1024 .f32 :=
  matmul dot_S512x256_S256x1024_S512x1024_1_0_0_1_n_n none (truncf .bf16 y bitsLt_bf16_f32 : FVec Ideal S512x256 .bf16)
    (shapeCast S256x1024 w shapeCasts_S1x256x1024_S256x1024 : FVec Ideal S256x1024 .bf16) (constant S512x1024 .f32 0x00000000#32)

theorem branchDot_at (y : FVec Ideal S512x256 .f32) (w : Vec Ideal S1x256x1024 .bf16) (n : Fin 512) (j : Fin 1024) :
    branchDot y w (ix2 n j) = ∑ c, y (ix2 n c) * w (ix3 0 c j) := by
  pointwise [branchDot]

/-- What one branch adds to the merged rows. -/
def part (h : FVec Ideal S512x1024 .bf16) (y : FVec Ideal S512x256 .f32) (wg : Vec Ideal S1024x256 .bf16) (wm : Vec Ideal S1024x1024 .bf16)
    (w : Vec Ideal S1x256x1024 .bf16) : FVec Ideal S512x1024 .f32 :=
  mulf (sigmoid (wideDot h wm)) (branchDot (mulf y (mulf (gateDot h wg) (sigmoid (gateDot h wg)))) w)

theorem part_at (h : FVec Ideal S512x1024 .bf16) (y : FVec Ideal S512x256 .f32) (wg : Vec Ideal S1024x256 .bf16)
    (wm : Vec Ideal S1024x1024 .bf16) (w : Vec Ideal S1x256x1024 .bf16) (n : Fin 512) (j : Fin 1024) :
    part h y wg wm w (ix2 n j) = branch (fun k => h (ix2 n k)) (fun k => wm (ix2 k j)) (fun c => y (ix2 n c))
      (fun c k => wg (ix2 k c)) (fun c => w (ix3 0 c j)) := by
  refine congrArg₂ (· * ·) ((sigmoid_at _ _).trans (congrArg _ (wideDot_at h wm n j)))
    ((branchDot_at _ w n j).trans (Finset.sum_congr rfl fun c _ => congrArg (· * _) ?_))
  show y (ix2 n c) * (gateDot h wg (ix2 n c) * sigmoid (gateDot h wg) (ix2 n c)) = _
  rw [sigmoid_at, gateDot_at]; rfl

/-- The pooled branch: pooled rows projected and scaled. -/
def pooledRows (p : FVec Ideal S512x256 .bf16) (wp : Vec Ideal S256x256 .bf16) (sp : Vec Ideal S1x256 .f32) : FVec Ideal S512x256 .f32 :=
  mulf (matmul dot_S512x256_S256x256_S512x256_1_0_0_1_n_n none (φ₂ := .bf16) p wp (constant S512x256 .f32 0x00000000#32))
    (broadcastTo S512x256 sp broadcasts_S1x256_S512x256)

theorem pooledRows_at (p : FVec Ideal S512x256 .bf16) (wp : Vec Ideal S256x256 .bf16) (sp : Vec Ideal S1x256 .f32) (n : Fin 512) (c : Fin 256) :
    pooledRows p wp sp (ix2 n c) = pooledBranch (fun k => p (ix2 n k)) (fun k c => wp (ix2 k c)) (fun c => sp (ix2 0 c)) c := by
  have e : pooledRows p wp sp (ix2 n c) = (∑ k, p (ix2 n k) * wp (ix2 k c)) * sp (ix2 0 c) := by pointwise [pooledRows]
  exact e

/-- A branch's rows as its window holds them. -/
def widen (y : Vec Ideal S1x512x256 .bf16) : FVec Ideal S512x256 .f32 :=
  extf .f32 (shapeCast S512x256 y shapeCasts_S1x512x256_S512x256 : FVec Ideal S512x256 .bf16) bitsLt_bf16_f32

theorem widen_at (y : Vec Ideal S1x512x256 .bf16) (n : Fin 512) (c : Fin 256) : widen y (ix2 n c) = y (ix3 0 n c) := by
  pointwise [widen]

/-- The merged rows. -/
def mergedRows (b0 b1 b2 b3 : FVec Ideal S512x1024 .f32) : FVec Ideal S512x1024 .bf16 :=
  truncf .bf16 (addf (addf (addf (addf (broadcast S512x1024 (Scalar.ofBits .f32 0x00000000#32)) b0) b1) b2) b3) bitsLt_bf16_f32

theorem mergedRows_at (b0 b1 b2 b3 : FVec Ideal S512x1024 .f32) (n : Fin 512) (j : Fin 1024) :
    mergedRows b0 b1 b2 b3 (ix2 n j) = b0 (ix2 n j) + b1 (ix2 n j) + b2 (ix2 n j) + b3 (ix2 n j) := by
  show Ideal.ofBits FTy.f32 0x00000000#32 + b0 (ix2 n j) + b1 (ix2 n j) + b2 (ix2 n j) + b3 (ix2 n j) = _
  rw [zero_eq, zero_add]

/-- The rows the block leaves. -/
def finish (x : FVec Ideal S512x1024 .f32) (md : FVec Ideal S1x3072 .f32) (o : FVec Ideal S512x1024 .f32) (g : Vec Ideal S1x1024 .f32) :
    FVec Ideal S1x512x1024 .f32 :=
  shapeCast S1x512x1024 (addf x (mulf (broadcastTo S512x1024 (extractStridedSlice S1x1024 ![0, 2048] md slices_S1x3072_o0_2048_S1x1024)
    broadcasts_S1x1024_S512x1024) (normRows o g))) shapeCasts_S512x1024_S1x512x1024

theorem finish_at (x : FVec Ideal S512x1024 .f32) (md : FVec Ideal S1x3072 .f32) (o : FVec Ideal S512x1024 .f32) (g : Vec Ideal S1x1024 .f32)
    (n : Fin 512) (i : Fin 1024) :
    finish x md o g (ix3 0 n i) = x (ix2 n i) + md (ix2 0 ⟨2048 + i.val, by omega⟩) * normRows o g (ix2 n i) := by
  pointwise [finish]

theorem canon_r (p : Vec Ideal S1x512x1024 .f32) (L) : View.canon (⟨r0_0, p⟩ :: L) = p :=
  View.canon_cons_unit_lit _ _ _ (by decide)

end Cert.Kernel2Ideal.Mrg
-- ==== Proof.MergeOut.lean ====
/-
  A row of the block the merge leaves, of the rows its windows hold and of the pooled rows.
-/
module

public import proofs.«01_k».proof.Proof.MergeBlock

@[expose] public section

set_option maxRecDepth 16384

noncomputable section

namespace Cert.Kernel2Ideal.Mrg

open Cert.Kernel2Ideal Cert.Kernel2Ideal.Gen Cert.Proof.Merge
open Idealize.ShloMosaic Idealize.ShloMosaic.TcCoe

section Out

variable (i : grid0.Coords) (x0 : Vec Ideal S1x512x1024 .f32) (x1 : Vec Ideal S1x1x3072 .f32) (x2 x3 : Vec Ideal S1x1024 .f32)
variable (x4 : Vec Ideal S1024x1024 .bf16) (x5 : Vec Ideal S1024x4096 .bf16) (x6 : Vec Ideal S1x8x256 .f32) (x7 : Vec Ideal S1x512x256 .f32)
variable (x8 : Vec Ideal S1x8x256 .f32) (x9 : Vec Ideal S256x256 .bf16) (x10 : Vec Ideal S1x256 .f32) (x11 x12 x13 : Vec Ideal S1x512x256 .bf16)
variable (x14 : Vec Ideal S4x256x1024 .bf16) (x15 : Vec Ideal S1024x1024 .bf16)

/-- The input rows. -/
def rowsIn : FVec Ideal S512x1024 .f32 := shapeCast S512x1024 (View.ld x0 r0_0) shapeCasts_S1x512x1024_S512x1024

/-- The modulation's row. -/
def modRow : FVec Ideal S1x3072 .f32 := shapeCast S1x3072 (View.ld x1 r0_1) shapeCasts_S1x1x3072_S1x3072

/-- The modulated normalised rows. -/
def hiddenRows : FVec Ideal S512x1024 .bf16 := modulate (normRows (rowsIn x0) (View.ld x2 r0_2)) (modRow x1)

/-- The first token of the block. -/
def firstTok : BitVec 32 := Scalar.muli (BitVec.ofNat 32 (i 0).val) 512#32

/-- The pooled rows of the block. -/
def pooled : FVec Ideal S512x256 .bf16 :=
  k0_pay17 (k0_pay5 (View.ld x7 r0_3)) (firstTok i)
    (k0_pay9 (k0_pay5 (View.ld x7 r0_3)) (k0_pay6 (View.ld x6 r0_4)) (k0_pay7 (View.ld x8 r0_4)) (firstTok i) (Scalar.cmpi .sgt (firstTok i) 0#32) (Scalar.ofBits .f32 0x00000000#32))
    (k0_pay11 (k0_pay5 (View.ld x7 r0_3)) (k0_pay6 (View.ld x6 r0_4)) (k0_pay7 (View.ld x8 r0_4)) (firstTok i) (Scalar.cmpi .sgt (firstTok i) 0#32) (Scalar.ofBits .f32 0x00000000#32))
    (k0_pay13 (k0_pay5 (View.ld x7 r0_3)) (k0_pay6 (View.ld x6 r0_4)) (k0_pay7 (View.ld x8 r0_4)) (firstTok i) (Scalar.cmpi .sgt (firstTok i) 0#32) (Scalar.ofBits .f32 0x00000000#32))
    (k0_pay14 (k0_pay5 (View.ld x7 r0_3)) (k0_pay6 (View.ld x6 r0_4)) (k0_pay7 (View.ld x8 r0_4)) (firstTok i) (Scalar.cmpi .sgt (firstTok i) 0#32) (Scalar.ofBits .f32 0x00000000#32))
    k0_pay15 k0_pay16

/-- The merged rows of the block. -/
def mergedOf (h : FVec Ideal S512x1024 .bf16) (p : FVec Ideal S512x256 .bf16) : FVec Ideal S512x1024 .bf16 :=
  mergedRows
    (part h (pooledRows p (View.ld x9 r0_5) (View.ld x10 r0_6)) (View.ld x4 r0_7) (View.ld x5 r0_8) (View.ld x14 r0_9))
    (part h (widen (View.ld x11 r0_3)) (View.ld x4 r0_10) (View.ld x5 r0_11) (View.ld x14 r0_12))
    (part h (widen (View.ld x12 r0_3)) (View.ld x4 r0_13) (View.ld x5 r0_14) (View.ld x14 r0_15))
    (part h (widen (View.ld x13 r0_3)) (View.ld x4 r0_16) (View.ld x5 r0_17) (View.ld x14 r0_18))

/-- The block the body leaves. -/
theorem out_eq : out0_16 i x0 x1 x2 x3 x4 x5 x6 x7 x8 x9 x10 x11 x12 x13 x14 x15
    = finish (rowsIn x0) (modRow x1)
        (wideDot (mergedOf x4 x5 x9 x10 x11 x12 x13 x14 (hiddenRows x0 x1 x2) (pooled i x6 x7 x8)) (View.ld x15 r0_19)) (View.ld x3 r0_2) :=
  (canon_r _ _).trans rfl

theorem rowsIn_at (n : Fin 512) (j : Fin 1024) : rowsIn x0 (ix2 n j) = x0 (ix3 0 n j) := by
  pointwise [rowsIn]

theorem modRow_at (j : Fin 3072) : modRow x1 (ix2 0 j) = x1 (ix3 0 0 j) := by
  pointwise [modRow]

theorem gateCol_at (r : Fin 4) (h) (k : Fin 1024) (c : Fin 256) :
    View.ld x4 (Rect.unit (s := S1024x1024) ![0, 256 * r.val] S1024x256.size h) (ix2 k c) = x4 (ix2 k ⟨256 * r.val + c.val, by omega⟩) := by
  refine congrArg x4 (funext fun a => Fin.ext ?_)
  match a with
  | 0 => exact (Nat.zero_add _).trans (Nat.one_mul _)
  | 1 => exact congrArg (256 * r.val + ·) (Nat.one_mul _)

theorem mixCol_at (r : Fin 4) (h) (k : Fin 1024) (j : Fin 1024) :
    View.ld x5 (Rect.unit (s := S1024x4096) ![0, 1024 * r.val] S1024x1024.size h) (ix2 k j) = x5 (ix2 k ⟨1024 * r.val + j.val, by omega⟩) := by
  refine congrArg x5 (funext fun a => Fin.ext ?_)
  match a with
  | 0 => exact (Nat.zero_add _).trans (Nat.one_mul _)
  | 1 => exact congrArg (1024 * r.val + ·) (Nat.one_mul _)

theorem proj_at (r : Fin 4) (h) (c : Fin 256) (j : Fin 1024) :
    View.ld x14 (Rect.unit (s := S4x256x1024) ![r.val, 0, 0] S1x256x1024.size h) (ix3 0 c j) = x14 (ix3 r c j) := by
  refine congrArg x14 (funext fun a => Fin.ext ?_)
  match a with
  | 0 => exact Nat.add_zero _
  | 1 => exact (Nat.zero_add _).trans (Nat.one_mul _)
  | 2 => exact (Nat.zero_add _).trans (Nat.one_mul _)

theorem ld_rows (y : Vec Ideal S1x512x256 .bf16) (n : Fin 512) (c : Fin 256) : View.ld y r0_3 (ix3 0 n c) = y (ix3 0 n c) := by
  pointwise []

theorem ld_gain (y : Vec Ideal S1x1024 .f32) (j : Fin 1024) : View.ld y r0_2 (ix2 0 j) = y (ix2 0 j) := by
  pointwise []

theorem ld_pool (y : Vec Ideal S256x256 .bf16) (k c : Fin 256) : View.ld y r0_5 (ix2 k c) = y (ix2 k c) := by
  pointwise []

theorem ld_scale (y : Vec Ideal S1x256 .f32) (c : Fin 256) : View.ld y r0_6 (ix2 0 c) = y (ix2 0 c) := by
  pointwise []

theorem ld_out (y : Vec Ideal S1024x1024 .bf16) (k j : Fin 1024) : View.ld y r0_19 (ix2 k j) = y (ix2 k j) := by
  pointwise []

theorem hiddenRows_at (n : Fin 512) (j : Fin 1024) : hiddenRows x0 x1 x2 (ix2 n j)
    = hidden (fun k => x0 (ix3 0 n k)) (fun k => x2 (ix2 0 k)) (fun k => x1 (ix3 0 0 k)) j := by
  refine (modulate_at _ _ n j).trans (congrArg₂ (· + ·) (congrArg₂ (· * ·) ?_ (congrArg (one + ·) (modRow_at x1 _))) (modRow_at x1 _))
  exact (normRows_at _ _ n j).trans (normed_congr (rowsIn_at x0 n) (ld_gain x2) j)

/-- One branch with its parameters' columns. -/
theorem part_col (h : FVec Ideal S512x1024 .bf16) (y : FVec Ideal S512x256 .f32) (r : Fin 4) (h4 h5 h14) (Y : Fin 4 → Fin 256 → EReal)
    (n : Fin 512) (hy : ∀ c, y (ix2 n c) = Y r c) (j : Fin 1024) :
    part h y (View.ld x4 (Rect.unit (s := S1024x1024) ![0, 256 * r.val] S1024x256.size h4))
        (View.ld x5 (Rect.unit (s := S1024x4096) ![0, 1024 * r.val] S1024x1024.size h5))
        (View.ld x14 (Rect.unit (s := S4x256x1024) ![r.val, 0, 0] S1x256x1024.size h14)) (ix2 n j)
      = addend (fun k => h (ix2 n k)) Y (fun k l => x5 (ix2 k l)) (fun k l => x4 (ix2 k l)) (fun s c j => x14 (ix3 s c j)) r j := by
  exact (part_at _ _ _ _ _ n j).trans (branch_congr (fun _ => rfl) (fun k => mixCol_at x5 r h5 k j) hy
    (fun c k => gateCol_at x4 r h4 k c) (fun c => proj_at x14 r h14 c j))

/-- The four branches' rows. -/
def branches (p : Fin 256 → EReal) (n : Fin 512) : Fin 4 → Fin 256 → EReal
  | 0 => pooledBranch p (fun k c => x9 (ix2 k c)) (fun c => x10 (ix2 0 c))
  | 1 => fun c => x11 (ix3 0 n c)
  | 2 => fun c => x12 (ix3 0 n c)
  | 3 => fun c => x13 (ix3 0 n c)

theorem mergedOf_at (h : FVec Ideal S512x1024 .bf16) (p : FVec Ideal S512x256 .bf16) (n : Fin 512) (j : Fin 1024) :
    mergedOf x4 x5 x9 x10 x11 x12 x13 x14 h p (ix2 n j)
      = merged (fun k => h (ix2 n k)) (branches x9 x10 x11 x12 x13 (fun k => p (ix2 n k)) n) (fun k l => x5 (ix2 k l)) (fun k l => x4 (ix2 k l))
          (fun s c j => x14 (ix3 s c j)) j := by
  refine (mergedRows_at _ _ _ _ n j).trans ?_
  refine congrArg₂ (· + ·) (congrArg₂ (· + ·) (congrArg₂ (· + ·) ?_ ?_) ?_) ?_
  · refine part_col x4 x5 x14 h _ 0 _ _ _ (branches x9 x10 x11 x12 x13 (fun k => p (ix2 n k)) n) n (fun c => ?_) j
    exact (pooledRows_at _ _ _ n c).trans (pooledBranch_congr (fun _ => rfl) (ld_pool x9) (ld_scale x10) c)
  · exact part_col x4 x5 x14 h _ 1 _ _ _ _ n (fun c => (widen_at _ n c).trans (ld_rows x11 n c)) j
  · exact part_col x4 x5 x14 h _ 2 _ _ _ _ n (fun c => (widen_at _ n c).trans (ld_rows x12 n c)) j
  · exact part_col x4 x5 x14 h _ 3 _ _ _ _ n (fun c => (widen_at _ n c).trans (ld_rows x13 n c)) j

/-- An entry of the block. -/
theorem out_at (n : Fin 512) (j : Fin 1024) : out0_16 i x0 x1 x2 x3 x4 x5 x6 x7 x8 x9 x10 x11 x12 x13 x14 x15 (ix3 0 n j)
    = rowOut (fun k => x0 (ix3 0 n k)) (fun k => x1 (ix3 0 0 ⟨2048 + k.val, by omega⟩))
        (merged (hidden (fun k => x0 (ix3 0 n k)) (fun k => x2 (ix2 0 k)) (fun k => x1 (ix3 0 0 k)))
          (branches x9 x10 x11 x12 x13 (fun k => pooled i x6 x7 x8 (ix2 n k)) n) (fun k l => x5 (ix2 k l)) (fun k l => x4 (ix2 k l))
          (fun s c j => x14 (ix3 s c j)))
        (fun k => x3 (ix2 0 k)) (fun k l => x15 (ix2 k l)) j := by
  rw [out_eq]
  refine (finish_at _ _ _ _ n j).trans (congrArg₂ (· + ·) (rowsIn_at x0 n j) (congrArg₂ (· * ·) (modRow_at x1 _) ?_))
  refine (normRows_at _ _ n j).trans (normed_congr (fun l => ?_) (ld_gain x3) j)
  refine (wideDot_at _ _ n l).trans (Finset.sum_congr rfl fun k _ => congrArg₂ (· * ·) ?_ (ld_out x15 k l))
  refine (mergedOf_at _ _ _ _ _ _ _ _ _ _ n k).trans ?_
  rw [funext (hiddenRows_at x0 x1 x2 n)]

end Out

end Cert.Kernel2Ideal.Mrg
-- ==== Proof.MergePool.lean ====
/-
  The pooled window of a block of the merge, entry by entry on the extended reals: sums of rotated copies are sums over
  windows, and the columns' selections are those of the half widths one, two, four and eight.
-/
module

public import proofs.«01_k».proof.Proof.Gen.Kernel2Ideal.Value
public import proofs.«01_k».proof.Proof.MergeRow
public import Idealize.ShloMosaic.Lib.KernelVsHost

@[expose] public section

set_option maxRecDepth 16384

noncomputable section

namespace Cert.Kernel2Ideal.Mrg

open Cert.Kernel2Ideal Cert.Kernel2Ideal.Gen Cert.Proof.Merge
open Idealize.ShloMosaic Idealize.ShloMosaic.TcCoe

/-- A rotation by `a` rows at a row that does not come from around the end. -/
theorem rotate_at (x : FVec Ideal S528x256 .f32) (w : BitVec 32) (a : ℕ) (hw : w.toNat = a) (ha : 0 < a ∧ a < 528) (hr : S528x256.Rotates 0 none)
    (r : ℕ) (c : Fin 256) (h : r + (528 - a) < 528) :
    dynamicRotate 0 w none x hr (ix2 ⟨r, by omega⟩ c) = x (ix2 ⟨r + (528 - a), h⟩ c) := by
  refine dynamicRotate_apply (0 : Fin 2) w _ hr _ (ix2 ⟨r + (528 - a), h⟩ c) ?_
  intro b
  match b with
  | ⟨0, _⟩ =>
    show r + (528 - a) = (r + 528 - w.toNat % 528) % 528
    rw [hw, Nat.mod_eq_of_lt (by omega : a < 528), Nat.mod_eq_of_lt (by omega : r + 528 - a < 528)]
    omega
  | ⟨1, _⟩ => rfl

section Windows

variable (v27 : FVec Ideal S512x256 .f32) (v29 v31 : FVec Ideal S8x256 .f32) (v32 : BitVec 32) (v33 : BitVec 1) (z : Ideal .f32)

/-- The rows of the block between the eight rows before and the eight after it. -/
def extRows : FVec Ideal S528x256 .f32 :=
  concatenate S528x256 0 [⟨S8x256, (Scalar.select v33 v29 (broadcast S8x256 z) : FVec Ideal S8x256 .f32)⟩, ⟨S512x256, v27⟩,
    ⟨S8x256, (Scalar.select (Scalar.cmpi .slt (Scalar.addi v32 512#32) 8192#32) v31
      (broadcast S8x256 (Scalar.ofBits .f32 0x00000000#32)) : FVec Ideal S8x256 .f32)⟩]
    concatenates_S8x256_S512x256_S8x256_S528x256_d0

theorem extRows_at (r : Fin 528) (c : Fin 256) : extRows v27 v29 v31 v32 v33 z (ix2 r c)
    = if h : r.val < 8 then Scalar.select v33 (v29 (ix2 ⟨r.val, h⟩ c)) z
      else if h' : r.val - 8 < 512 then v27 (ix2 ⟨r.val - 8, h'⟩ c)
      else Scalar.select (Scalar.cmpi .slt (Scalar.addi v32 512#32) 8192#32) (v31 (ix2 ⟨r.val - 8 - 512, by omega⟩ c)) 0 := by
  pointwise [extRows]

/-- A block of a column is between the eight rows on either side, and the column's ends are padded by zeros. -/
theorem extRows_eq (u : Fin 8192 → EReal) (g : Fin 16) (c : Fin 256)
    (h27 : ∀ n : Fin 512, v27 (ix2 n c) = u ⟨512 * g.val + n.val, by omega⟩)
    (h29 : ∀ (k : Fin 8) (hg : 0 < g.val), v29 (ix2 k c) = u ⟨512 * g.val - 8 + k.val, by omega⟩)
    (h31 : ∀ (k : Fin 8) (hg : g.val < 15), v31 (ix2 k c) = u ⟨512 * g.val + 512 + k.val, by omega⟩) (hz : z = 0)
    (h33 : v33 = if 0 < g.val then 1#1 else 0#1)
    (h32 : Scalar.cmpi .slt (Scalar.addi v32 512#32) 8192#32 = if g.val < 15 then 1#1 else 0#1) (r : ℕ) (h : r < 528) :
    extRows v27 v29 v31 v32 v33 z (ix2 ⟨r, h⟩ c) = padded u (512 * g.val + r) := by
  rw [extRows_at, h32, h33, hz]
  have hgl := g.isLt
  by_cases h8 : r < 8
  · rw [dif_pos h8]
    by_cases hg : 0 < g.val
    · rw [if_pos hg, h29 _ hg, padded, dif_pos (by omega)]
      exact congrArg u (Fin.ext (by show 512 * g.val - 8 + r = 512 * g.val + r - 8; omega))
    · rw [if_neg hg, padded, dif_neg (by omega)]
      rfl
  · rw [dif_neg h8]
    by_cases h5 : r - 8 < 512
    · rw [dif_pos h5, h27, padded, dif_pos (by omega)]
      exact congrArg u (Fin.ext (by show 512 * g.val + (r - 8) = 512 * g.val + r - 8; omega))
    · rw [dif_neg h5]
      by_cases hg : g.val < 15
      · rw [if_pos hg, h31 _ hg, padded, dif_pos (by omega)]
        exact congrArg u (Fin.ext (by show 512 * g.val + 512 + (r - 8 - 512) = 512 * g.val + r - 8; omega))
      · rw [if_neg hg, padded, dif_neg (by omega)]
        rfl

variable (P : ℕ → EReal) (c : Fin 256) (hP : ∀ (r : ℕ) (h : r < 528), extRows v27 v29 v31 v32 v33 z (ix2 ⟨r, h⟩ c) = P r)

include hP

theorem two_at (r : ℕ) (h : r + 1 < 528) : k0_pay8 v27 v29 v31 v32 v33 z (ix2 ⟨r, by omega⟩ c) = P r + P (r + 1) :=
  congrArg₂ (· + ·) (hP _ _) ((rotate_at (extRows v27 v29 v31 v32 v33 z) 527#32 527 rfl (by omega) _ r c h).trans (hP _ _))

theorem four_at (r : ℕ) (h : r + 3 < 528) : k0_pay10 v27 v29 v31 v32 v33 z (ix2 ⟨r, by omega⟩ c)
    = P r + P (r + 1) + (P (r + 2) + P (r + 3)) :=
  congrArg₂ (· + ·) (two_at v27 v29 v31 v32 v33 z P c hP r (by omega))
    ((rotate_at (k0_pay8 v27 v29 v31 v32 v33 z) 526#32 526 rfl (by omega) _ r c (by omega)).trans
      (two_at v27 v29 v31 v32 v33 z P c hP (r + 2) (by omega)))

theorem eight_at (r : ℕ) (h : r + 7 < 528) : k0_pay12 v27 v29 v31 v32 v33 z (ix2 ⟨r, by omega⟩ c)
    = P r + P (r + 1) + (P (r + 2) + P (r + 3)) + (P (r + 4) + P (r + 5) + (P (r + 6) + P (r + 7))) :=
  congrArg₂ (· + ·) (four_at v27 v29 v31 v32 v33 z P c hP r (by omega))
    ((rotate_at (k0_pay10 v27 v29 v31 v32 v33 z) 524#32 524 rfl (by omega) _ r c (by omega)).trans
      (four_at v27 v29 v31 v32 v33 z P c hP (r + 4) (by omega)))

omit hP in
/-- The first rows of an array. -/
theorem head_at (x : FVec Ideal S528x256 .f32) (n : Fin 512) :
    extractStridedSlice S512x256 ![0, 0] x slices_S528x256_o0_0_S512x256 (ix2 n c) = x (ix2 ⟨n.val, by omega⟩ c) := by
  pointwise []

theorem win1 (n : Fin 512) : k0_pay9 v27 v29 v31 v32 v33 z (ix2 n c) = windowSum P n.val 1 := by
  refine (head_at c _ n).trans ((rotate_at (k0_pay8 v27 v29 v31 v32 v33 z) 521#32 521 rfl (by omega) _ n.val c (by omega)).trans
    ((two_at v27 v29 v31 v32 v33 z P c hP (n.val + 7) (by omega)).trans ?_))
  simp only [windowSum, Finset.sum_range_succ, Finset.sum_range_zero, zero_add, Nat.reduceMul, Nat.reduceSub, Nat.add_assoc, Nat.reduceAdd,
    add_zero]

theorem win2 (n : Fin 512) : k0_pay11 v27 v29 v31 v32 v33 z (ix2 n c) = windowSum P n.val 2 := by
  refine (head_at c _ n).trans ((rotate_at (k0_pay10 v27 v29 v31 v32 v33 z) 522#32 522 rfl (by omega) _ n.val c (by omega)).trans
    ((four_at v27 v29 v31 v32 v33 z P c hP (n.val + 6) (by omega)).trans ?_))
  simp only [windowSum, Finset.sum_range_succ, Finset.sum_range_zero, zero_add, Nat.reduceMul, Nat.reduceSub, Nat.add_assoc, Nat.reduceAdd,
    add_zero, add_assoc]

theorem win4 (n : Fin 512) : k0_pay13 v27 v29 v31 v32 v33 z (ix2 n c) = windowSum P n.val 4 := by
  refine (head_at c _ n).trans ((rotate_at (k0_pay12 v27 v29 v31 v32 v33 z) 524#32 524 rfl (by omega) _ n.val c (by omega)).trans
    ((eight_at v27 v29 v31 v32 v33 z P c hP (n.val + 4) (by omega)).trans ?_))
  simp only [windowSum, Finset.sum_range_succ, Finset.sum_range_zero, zero_add, Nat.reduceMul, Nat.reduceSub, Nat.add_assoc, Nat.reduceAdd,
    add_zero, add_assoc]

theorem win8 (n : Fin 512) : k0_pay14 v27 v29 v31 v32 v33 z (ix2 n c) = windowSum P n.val 8 := by
  have e : k0_pay14 v27 v29 v31 v32 v33 z (ix2 n c) = k0_pay12 v27 v29 v31 v32 v33 z (ix2 ⟨n.val, by omega⟩ c)
      + dynamicRotate 0 520#32 none (k0_pay12 v27 v29 v31 v32 v33 z) rotates_S528x256_d0 (ix2 ⟨n.val, by omega⟩ c) :=
    head_at c (addf (k0_pay12 v27 v29 v31 v32 v33 z) (dynamicRotate 0 520#32 none (k0_pay12 v27 v29 v31 v32 v33 z) rotates_S528x256_d0)) n
  have e2 := rotate_at (k0_pay12 v27 v29 v31 v32 v33 z) 520#32 520 rfl (by omega) rotates_S528x256_d0 n.val c (by omega)
  rw [e, e2, eight_at v27 v29 v31 v32 v33 z P c hP n.val (by omega)]
  rw [show (ix2 ⟨n.val + (528 - 520), by omega⟩ c : S528x256.Idx) = ix2 ⟨n.val + 8, by omega⟩ c from rfl]
  rw [eight_at v27 v29 v31 v32 v33 z P c hP (n.val + 8) (by omega)]
  simp only [windowSum, Finset.sum_range_succ, Finset.sum_range_zero, zero_add, Nat.reduceMul, Nat.reduceSub, Nat.add_assoc, Nat.reduceAdd,
    add_zero, add_assoc]

end Windows

/-! ## The columns -/

/-- The number of a column's group, as the block finds it by a rounded-down division. -/
def groupOf : IVec S512x256 32 := select k0_pay16 (subi k0_pay15 (broadcast S512x256 1#32)) k0_pay15

/-- The selection by group of four arrays of integers. -/
def pick {α : Type} (x0 x1 x2 x3 : S512x256.Idx → α) : S512x256.Idx → α :=
  select (cmpi .eq groupOf (broadcast S512x256 0#32)) x0 (select (cmpi .eq groupOf (broadcast S512x256 1#32)) x1
    (select (cmpi .eq groupOf (broadcast S512x256 2#32)) x2 x3))

theorem groupOf_at (n : Fin 512) (c : Fin 256) : groupOf (ix2 n c) = BitVec.ofNat 32 (c.val / 64) := by
  pointwise [groupOf, k0_pay15, k0_pay16]
  clear n
  revert c
  decide +kernel

theorem pick_at {α : Type} (x0 x1 x2 x3 : S512x256.Idx → α) (n : Fin 512) (c : Fin 256) : pick x0 x1 x2 x3 (ix2 n c)
    = if c.val < 64 then x0 (ix2 n c) else if c.val < 128 then x1 (ix2 n c) else if c.val < 192 then x2 (ix2 n c) else x3 (ix2 n c) := by
  have e : pick x0 x1 x2 x3 (ix2 n c) = Scalar.select (IntOp.cmpi .eq (groupOf (ix2 n c)) 0#32) (x0 (ix2 n c))
      (Scalar.select (IntOp.cmpi .eq (groupOf (ix2 n c)) 1#32) (x1 (ix2 n c))
        (Scalar.select (IntOp.cmpi .eq (groupOf (ix2 n c)) 2#32) (x2 (ix2 n c)) (x3 (ix2 n c)))) := rfl
  rw [e, groupOf_at]
  clear e
  have h0 := (by decide +kernel : ∀ c : Fin 256, IntOp.cmpi .eq (BitVec.ofNat 32 (c.val / 64)) 0#32 = if c.val < 64 then 1#1 else 0#1) c
  have h1 := (by decide +kernel : ∀ c : Fin 256, IntOp.cmpi .eq (BitVec.ofNat 32 (c.val / 64)) 1#32
    = if 64 ≤ c.val ∧ c.val < 128 then 1#1 else 0#1) c
  have h2 := (by decide +kernel : ∀ c : Fin 256, IntOp.cmpi .eq (BitVec.ofNat 32 (c.val / 64)) 2#32
    = if 128 ≤ c.val ∧ c.val < 192 then 1#1 else 0#1) c
  rw [h0, h1, h2]
  by_cases a : c.val < 64
  · rw [if_pos a, if_pos a]; rfl
  · rw [if_neg a, if_neg a]
    by_cases b : c.val < 128
    · rw [if_pos b, if_pos (by omega : 64 ≤ c.val ∧ c.val < 128)]; rfl
    · rw [if_neg b, if_neg (by omega : ¬ (64 ≤ c.val ∧ c.val < 128))]
      by_cases d : c.val < 192
      · rw [if_pos d, if_pos (by omega : 128 ≤ c.val ∧ c.val < 192)]; rfl
      · rw [if_neg d, if_neg (by omega : ¬ (128 ≤ c.val ∧ c.val < 192))]; rfl

/-- The half width of each column's window. -/
def halfWord : IVec S512x256 32 :=
  pick (broadcast S512x256 1#32) (broadcast S512x256 2#32) (broadcast S512x256 4#32) (broadcast S512x256 8#32)

theorem halfWord_at (n : Fin 512) (c : Fin 256) : halfWord (ix2 n c) = BitVec.ofNat 32 (halfOf c) := by
  refine (pick_at _ _ _ _ n c).trans ?_
  unfold halfOf
  by_cases a : c.val < 64
  · rw [if_pos a, if_pos a]; rfl
  · rw [if_neg a, if_neg a]
    by_cases b : c.val < 128
    · rw [if_pos b, if_pos b]; rfl
    · rw [if_neg b, if_neg b]
      by_cases d : c.val < 192
      · rw [if_pos d, if_pos d]; rfl
      · rw [if_neg d, if_neg d]; rfl

/-- The tokens' numbers in the block that starts at `t`. -/
def tokens (t : BitVec 32) : IVec S512x256 32 :=
  addi (broadcast S512x256 t) (iota .tc S512x256 32 [0] iota_S512x256_d0_w32)

theorem tokens_at (t : BitVec 32) (n : Fin 512) (c : Fin 256) : tokens t (ix2 n c) = t + BitVec.ofNat 32 n.val := by
  pointwise [tokens]
  rfl

/-- How many tokens of each window there are. -/
def counts (t h : IVec S512x256 32) : FVec Ideal S512x256 .f32 :=
  sitofp .f32 (subi (minsi (broadcast S512x256 8192#32) (maxsi (broadcast S512x256 0#32) (addi t h)))
    (minsi (broadcast S512x256 8192#32) (maxsi (broadcast S512x256 0#32) (subi t h))))

theorem counts_at (t h : IVec S512x256 32) (n : Fin 512) (c : Fin 256) : counts t h (ix2 n c) = count (t (ix2 n c)) (h (ix2 n c)) := rfl

theorem pay17_eq (v27 : FVec Ideal S512x256 .f32) (t : BitVec 32) (w0 w1 w2 w3 : FVec Ideal S512x256 .f32) :
    k0_pay17 v27 t w0 w1 w2 w3 k0_pay15 k0_pay16
      = truncf .bf16 (subf (divf (pick w0 w1 w2 w3 : FVec Ideal S512x256 .f32) (counts (tokens t) halfWord)) v27) bitsLt_bf16_f32 := rfl

theorem pay17_at (v27 : FVec Ideal S512x256 .f32) (t : BitVec 32) (w0 w1 w2 w3 : FVec Ideal S512x256 .f32) (P : ℕ → EReal) (n : Fin 512) (c : Fin 256)
    (h0 : w0 (ix2 n c) = windowSum P n.val 1) (h1 : w1 (ix2 n c) = windowSum P n.val 2) (h2 : w2 (ix2 n c) = windowSum P n.val 4)
    (h3 : w3 (ix2 n c) = windowSum P n.val 8) :
    k0_pay17 v27 t w0 w1 w2 w3 k0_pay15 k0_pay16 (ix2 n c)
      = Ideal.div (windowSum P n.val (halfOf c)) (count (t + BitVec.ofNat 32 n.val) (BitVec.ofNat 32 (halfOf c))) - v27 (ix2 n c) := by
  have e : k0_pay17 v27 t w0 w1 w2 w3 k0_pay15 k0_pay16 (ix2 n c)
      = Ideal.div ((pick w0 w1 w2 w3 : FVec Ideal S512x256 .f32) (ix2 n c)) (counts (tokens t) halfWord (ix2 n c)) - v27 (ix2 n c) :=
    (congrFun (pay17_eq v27 t w0 w1 w2 w3) _).trans rfl
  have hp : (pick w0 w1 w2 w3 : FVec Ideal S512x256 .f32) (ix2 n c) = windowSum P n.val (halfOf c) := by
    refine (pick_at _ _ _ _ n c).trans ?_
    rw [h0, h1, h2, h3]
    unfold halfOf
    split_ifs <;> rfl
  rw [e, hp, counts_at, tokens_at, halfWord_at]

end Cert.Kernel2Ideal.Mrg
-- ==== Proof.MergeArray.lean ====
/-
  The array the merge leaves, entry by entry on the extended reals, of the arguments as launched.
-/
module

public import proofs.«01_k».proof.Proof.MergeOut
public import proofs.«01_k».proof.Proof.MergePool

@[expose] public section

set_option maxRecDepth 16384

noncomputable section

namespace Cert.Kernel2Ideal.Mrg

open Cert.Kernel2Ideal Cert.Kernel2Ideal.Gen Cert.Proof.Merge
open Idealize.ShloMosaic Idealize.ShloMosaic.TcCoe

variable (m : (ℓ : Loc nD τ sig) → Buf (Elt Ideal) ℓ)

/-- The windows' block indices at a grid point: the batch and the part of the tokens. -/
theorem idx : ∀ t : Fin cfg0.N,
    win0_0.index t = ![(grid0.coords t 1).val, (grid0.coords t 0).val, 0]
    ∧ win0_1.index t = ![(grid0.coords t 1).val, 0, 0] ∧ win0_2.index t = ![0, 0] ∧ win0_3.index t = ![0, 0]
    ∧ win0_4.index t = ![0, 0] ∧ win0_5.index t = ![0, 0]
    ∧ win0_6.index t = ![(grid0.coords t 1).val, 64 * (grid0.coords t 0).val - 1, 0]
    ∧ win0_7.index t = ![(grid0.coords t 1).val, (grid0.coords t 0).val, 0]
    ∧ win0_8.index t = ![(grid0.coords t 1).val, min (64 * (grid0.coords t 0).val + 64) 1023, 0]
    ∧ win0_9.index t = ![0, 0] ∧ win0_10.index t = ![0, 0]
    ∧ win0_11.index t = ![(grid0.coords t 1).val, (grid0.coords t 0).val, 0]
    ∧ win0_12.index t = ![(grid0.coords t 1).val, (grid0.coords t 0).val, 0]
    ∧ win0_13.index t = ![(grid0.coords t 1).val, (grid0.coords t 0).val, 0]
    ∧ win0_14.index t = ![0, 0, 0] ∧ win0_15.index t = ![0, 0]
    ∧ win0_16.index t = ![(grid0.coords t 1).val, (grid0.coords t 0).val, 0] :=
  (by decide +kernel : ∀ t : Fin grid0.N, _)

theorem lt0 : ∀ t : Fin cfg0.N, (grid0.coords t 0).val < 16 ∧ (grid0.coords t 1).val < 8 :=
  (by decide +kernel : ∀ t : Fin grid0.N, _)

section Points

variable (c : Dev nD) (t : Fin cfg0.N) (b : Fin 8) (g : Fin 16)
variable (hb : (grid0.coords t 1).val = b.val) (hg : (grid0.coords t 0).val = g.val)

include hb hg

theorem iblk0 (n : Fin 512) (j : Fin 1024) : iblk m c 0 t (ix3 0 n j)
    = m ((c.tc : Thread nD τ).loc main_arg0) (ix3 b ⟨512 * g.val + n.val, by omega⟩ j) := by
  blk_ext [iblk, V, idx t]

theorem iblk1 (j : Fin 3072) : iblk m c 1 t (ix3 0 0 j) = m ((c.tc : Thread nD τ).loc main_arg1) (ix3 b 0 j) := by
  blk_ext [iblk, V, idx t]

theorem iblk6 (k : Fin 8) (e : Fin 256) : iblk m c 6 t (ix3 0 k e)
    = m ((c.tc : Thread nD τ).loc main_arg6) (ix3 b ⟨8 * (64 * g.val - 1) + k.val, by omega⟩ e) := by
  blk_ext [iblk, V, idx t]

theorem iblk7 (n : Fin 512) (e : Fin 256) : iblk m c 7 t (ix3 0 n e)
    = m ((c.tc : Thread nD τ).loc main_arg6) (ix3 b ⟨512 * g.val + n.val, by omega⟩ e) := by
  blk_ext [iblk, V, idx t]

theorem iblk8 (k : Fin 8) (e : Fin 256) : iblk m c 8 t (ix3 0 k e)
    = m ((c.tc : Thread nD τ).loc main_arg6) (ix3 b ⟨8 * min (64 * g.val + 64) 1023 + k.val, by omega⟩ e) := by
  blk_ext [iblk, V, idx t]

theorem iblk11 (n : Fin 512) (e : Fin 256) : iblk m c 11 t (ix3 0 n e)
    = m ((c.tc : Thread nD τ).loc main_arg9) (ix3 b ⟨512 * g.val + n.val, by omega⟩ e) := by
  blk_ext [iblk, V, idx t]

theorem iblk12 (n : Fin 512) (e : Fin 256) : iblk m c 12 t (ix3 0 n e)
    = m ((c.tc : Thread nD τ).loc main_arg10) (ix3 b ⟨512 * g.val + n.val, by omega⟩ e) := by
  blk_ext [iblk, V, idx t]

theorem iblk13 (n : Fin 512) (e : Fin 256) : iblk m c 13 t (ix3 0 n e)
    = m ((c.tc : Thread nD τ).loc main_arg11) (ix3 b ⟨512 * g.val + n.val, by omega⟩ e) := by
  blk_ext [iblk, V, idx t]

theorem emb16 (n : Fin 512) (j : Fin 1024) : ((cfg0.win 16).blk t).view.emb (ix3 0 n j)
    = ix3 b ⟨512 * g.val + n.val, by omega⟩ j := by
  blk_ext [idx t]

end Points

section Whole

variable (c : Dev nD) (t : Fin cfg0.N)

theorem iblk2 (j : Fin 1024) : iblk m c 2 t (ix2 0 j) = m ((c.tc : Thread nD τ).loc main_arg2) (ix2 0 j) := by
  blk_ext [iblk, V, idx t]

theorem iblk3 (j : Fin 1024) : iblk m c 3 t (ix2 0 j) = m ((c.tc : Thread nD τ).loc main_arg3) (ix2 0 j) := by
  blk_ext [iblk, V, idx t]

theorem iblk4 (k j : Fin 1024) : iblk m c 4 t (ix2 k j) = m ((c.tc : Thread nD τ).loc main_arg4) (ix2 k j) := by
  blk_ext [iblk, V, idx t]

theorem iblk5 (k : Fin 1024) (j : Fin 4096) : iblk m c 5 t (ix2 k j) = m ((c.tc : Thread nD τ).loc main_arg5) (ix2 k j) := by
  blk_ext [iblk, V, idx t]

theorem iblk9 (k e : Fin 256) : iblk m c 9 t (ix2 k e) = m ((c.tc : Thread nD τ).loc main_arg7) (ix2 k e) := by
  blk_ext [iblk, V, idx t]

theorem iblk10 (e : Fin 256) : iblk m c 10 t (ix2 0 e) = m ((c.tc : Thread nD τ).loc main_arg8) (ix2 0 e) := by
  blk_ext [iblk, V, idx t]

theorem iblk14 (s : Fin 4) (e : Fin 256) (j : Fin 1024) : iblk m c 14 t (ix3 s e j) = m ((c.tc : Thread nD τ).loc main_arg12) (ix3 s e j) := by
  blk_ext [iblk, V, idx t]

theorem iblk15 (k j : Fin 1024) : iblk m c 15 t (ix2 k j) = m ((c.tc : Thread nD τ).loc main_arg13) (ix2 k j) := by
  blk_ext [iblk, V, idx t]

end Whole

/-! ## The pooled rows of a block -/

theorem cast_rows (y : Vec Ideal S1x512x256 .f32) (n : Fin 512) (e : Fin 256) : k0_pay5 (View.ld y r0_3) (ix2 n e) = y (ix3 0 n e) := by
  pointwise [k0_pay5]

theorem cast_before (y : Vec Ideal S1x8x256 .f32) (k : Fin 8) (e : Fin 256) : k0_pay6 (View.ld y r0_4) (ix2 k e) = y (ix3 0 k e) := by
  pointwise [k0_pay6]

theorem cast_after (y : Vec Ideal S1x8x256 .f32) (k : Fin 8) (e : Fin 256) : k0_pay7 (View.ld y r0_4) (ix2 k e) = y (ix3 0 k e) := by
  pointwise [k0_pay7]

/-- The words of the first token of a part: its number, and whether there are tokens before and after the part. -/
theorem tok_words : ∀ g : Fin 16, Scalar.muli (BitVec.ofNat 32 g.val) 512#32 = BitVec.ofNat 32 (512 * g.val)
    ∧ Scalar.cmpi .sgt (BitVec.ofNat 32 (512 * g.val)) 0#32 = (if 0 < g.val then 1#1 else 0#1)
    ∧ Scalar.cmpi .slt (Scalar.addi (BitVec.ofNat 32 (512 * g.val)) 512#32) 8192#32 = (if g.val < 15 then 1#1 else 0#1) := by
  decide +kernel

/-- A pooled entry of the block, of the column of the whole array. -/
theorem pooled_at (i : grid0.Coords) (x6 : Vec Ideal S1x8x256 .f32) (x7 : Vec Ideal S1x512x256 .f32) (x8 : Vec Ideal S1x8x256 .f32) (g : Fin 16)
    (hi : (i 0).val = g.val) (u : Fin 8192 → EReal) (e : Fin 256) (h7 : ∀ n : Fin 512, x7 (ix3 0 n e) = u ⟨512 * g.val + n.val, by omega⟩)
    (h6 : ∀ (k : Fin 8) (_ : 0 < g.val), x6 (ix3 0 k e) = u ⟨512 * g.val - 8 + k.val, by omega⟩)
    (h8 : ∀ (k : Fin 8) (_ : g.val < 15), x8 (ix3 0 k e) = u ⟨512 * g.val + 512 + k.val, by omega⟩) (n : Fin 512) :
    pooled i x6 x7 x8 (ix2 n e) = pooledOf u ⟨512 * g.val + n.val, by omega⟩ e := by
  have ht : firstTok i = BitVec.ofNat 32 (512 * g.val) := by
    unfold firstTok
    rw [hi]
    exact (tok_words g).1
  have hP := extRows_eq (k0_pay5 (View.ld x7 r0_3)) (k0_pay6 (View.ld x6 r0_4)) (k0_pay7 (View.ld x8 r0_4)) (firstTok i)
    (Scalar.cmpi .sgt (firstTok i) 0#32) (Scalar.ofBits .f32 0x00000000#32) u g e
    (fun n => (cast_rows x7 n e).trans (h7 n)) (fun k hg => (cast_before x6 k e).trans (h6 k hg)) (fun k hg => (cast_after x8 k e).trans (h8 k hg))
    zero_eq (by rw [ht]; exact (tok_words g).2.1) (by rw [ht]; exact (tok_words g).2.2)
  refine (pay17_at _ (firstTok i) _ _ _ _ (fun r => padded u (512 * g.val + r)) n e (win1 _ _ _ _ _ _ _ e hP n) (win2 _ _ _ _ _ _ _ e hP n)
    (win4 _ _ _ _ _ _ _ e hP n) (win8 _ _ _ _ _ _ _ e hP n)).trans ?_
  rw [cast_rows, h7, ht, ← BitVec.ofNat_add]
  unfold pooledOf windowSum
  simp only [Nat.add_assoc]

/-! ## The array -/

/-- The row of the result for a token, of the arguments as launched. -/
def rowAt (y : Fin 4 → Fin 256 → EReal) (c : Dev nD) (b : Fin 8) (n : Fin 8192) (i : Fin 1024) : EReal :=
  rowOut (fun k => m ((c.tc : Thread nD τ).loc main_arg0) (ix3 b n k)) (fun k => m ((c.tc : Thread nD τ).loc main_arg1) (ix3 b 0 ⟨2048 + k.val, by omega⟩))
    (merged (hidden (fun k => m ((c.tc : Thread nD τ).loc main_arg0) (ix3 b n k)) (fun k => m ((c.tc : Thread nD τ).loc main_arg2) (ix2 0 k))
        (fun k => m ((c.tc : Thread nD τ).loc main_arg1) (ix3 b 0 k)))
      y (fun k l => m ((c.tc : Thread nD τ).loc main_arg5) (ix2 k l)) (fun k l => m ((c.tc : Thread nD τ).loc main_arg4) (ix2 k l))
      (fun s e j => m ((c.tc : Thread nD τ).loc main_arg12) (ix3 s e j)))
    (fun k => m ((c.tc : Thread nD τ).loc main_arg3) (ix2 0 k)) (fun k l => m ((c.tc : Thread nD τ).loc main_arg13) (ix2 k l)) i

/-- The four branches' rows of a token, of the arguments as launched. -/
def branchAt (c : Dev nD) (b : Fin 8) (n : Fin 8192) : Fin 4 → Fin 256 → EReal
  | 0 => pooledBranch (fun e => pooledOf (fun n => m ((c.tc : Thread nD τ).loc main_arg6) (ix3 b n e)) n e)
      (fun k e => m ((c.tc : Thread nD τ).loc main_arg7) (ix2 k e)) (fun e => m ((c.tc : Thread nD τ).loc main_arg8) (ix2 0 e))
  | 1 => fun e => m ((c.tc : Thread nD τ).loc main_arg9) (ix3 b n e)
  | 2 => fun e => m ((c.tc : Thread nD τ).loc main_arg10) (ix3 b n e)
  | 3 => fun e => m ((c.tc : Thread nD τ).loc main_arg11) (ix3 b n e)

section Block

variable (c : Dev nD) (t : Fin cfg0.N) (b : Fin 8) (g : Fin 16)
variable (hb : (grid0.coords t 1).val = b.val) (hg : (grid0.coords t 0).val = g.val)

include hb hg

theorem pooled_eq (n : Fin 512) (e : Fin 256) : pooled (grid0.coords t) (iblk m c 6 t) (iblk m c 7 t) (iblk m c 8 t) (ix2 n e)
    = pooledOf (fun n => m ((c.tc : Thread nD τ).loc main_arg6) (ix3 b n e)) ⟨512 * g.val + n.val, by omega⟩ e := by
  refine pooled_at (grid0.coords t) _ _ _ g hg (fun n => m ((c.tc : Thread nD τ).loc main_arg6) (ix3 b n e)) e (fun n => iblk7 m c t b g hb hg n e)
    (fun k h => (iblk6 m c t b g hb hg k e).trans ?_) (fun k h => (iblk8 m c t b g hb hg k e).trans ?_) n
  · refine congrArg (fun l => m ((c.tc : Thread nD τ).loc main_arg6) (ix3 b l e)) (Fin.ext ?_)
    show 8 * (64 * g.val - 1) + k.val = 512 * g.val - 8 + k.val
    omega
  · refine congrArg (fun l => m ((c.tc : Thread nD τ).loc main_arg6) (ix3 b l e)) (Fin.ext ?_)
    show 8 * min (64 * g.val + 64) 1023 + k.val = 512 * g.val + 512 + k.val
    omega

theorem branches_eq (n : Fin 512) (r : Fin 4) (e : Fin 256) :
    branches (iblk m c 9 t) (iblk m c 10 t) (iblk m c 11 t) (iblk m c 12 t) (iblk m c 13 t)
        (fun k => pooled (grid0.coords t) (iblk m c 6 t) (iblk m c 7 t) (iblk m c 8 t) (ix2 n k)) n r e
      = branchAt m c b ⟨512 * g.val + n.val, by omega⟩ r e := by
  match r with
  | 0 => exact pooledBranch_congr (pooled_eq m c t b g hb hg n) (iblk9 m c t) (iblk10 m c t) e
  | 1 => exact iblk11 m c t b g hb hg n e
  | 2 => exact iblk12 m c t b g hb hg n e
  | 3 => exact iblk13 m c t b g hb hg n e

theorem block_eq (n : Fin 512) (j : Fin 1024) :
    out0_16 (grid0.coords t) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t) (iblk m c 14 t) (iblk m c 15 t)
        (ix3 0 n j)
      = rowAt m (branchAt m c b ⟨512 * g.val + n.val, by omega⟩) c b ⟨512 * g.val + n.val, by omega⟩ j := by
  refine (out_at _ _ _ _ _ _ _ _ _ _ _ _ _ _ _ _ _ n j).trans ?_
  have e0 := funext (iblk0 m c t b g hb hg n)
  have e1 := funext (iblk1 m c t b g hb hg)
  have e2 := funext (iblk2 m c t)
  have e3 := funext (iblk3 m c t)
  have e4 := funext fun k => funext (iblk4 m c t k)
  have e5 := funext fun k => funext (iblk5 m c t k)
  have e14 := funext fun s => funext fun e => funext (iblk14 m c t s e)
  have e15 := funext fun k => funext (iblk15 m c t k)
  have ey := funext fun r => funext (branches_eq m c t b g hb hg n r)
  unfold rowAt
  rw [e0, e1, e2, e3, e4, e5, e14, e15, ey]
  refine congrArg (fun md => rowOut _ md _ _ _ j) (funext fun k => congrFun e1 _)

end Block

/-- The result array is any array that holds these rows. -/
theorem array (c : Dev nD) (R : FVec Ideal S8x8192x1024 .f32)
    (hR : ∀ (b : Fin 8) (n : Fin 8192) (i : Fin 1024), R (ix3 b n i) = rowAt m (branchAt m c b n) c b n i) :
    (dats m 0 c).arrAt 16 (cfgs 0).N = R := by
  refine (dats m 0 c).arrAt_eq_of_covers 16 R (by decide +kernel) fun t _ y => ?_
  blk_simp
  rw [after0_16]
  obtain ⟨h0, h1⟩ := lt0 t
  have ey : ∃ (n : Fin 512) (j : Fin 1024), y = ix3 0 n j := by
    refine ⟨y 1, y 2, ?_⟩
    blk_ext []
  obtain ⟨n, j, rfl⟩ := ey
  refine (block_eq m c t ⟨_, h1⟩ ⟨_, h0⟩ rfl rfl n j).trans ?_
  exact ((congrArg R (emb16 t ⟨_, h1⟩ ⟨_, h0⟩ rfl rfl n j)).trans (hR _ _ _)).symm

end Cert.Kernel2Ideal.Mrg
-- ==== Proof.MergeRef.lean ====
/-
  What the merge's reference computes, entry by entry on the extended reals.
-/
module

public import proofs.«01_k».proof.Proof.Gen.Reference2Ideal.Run
public import proofs.«01_k».proof.Proof.MergeRow

@[expose] public section

set_option maxRecDepth 16384

noncomputable section

namespace Cert.Reference2Ideal.Mrg

open Cert.Reference2Ideal Cert.Reference2Ideal.Gen Cert.Reference2Ideal.Value Cert.Proof.Merge
open Idealize.ShloMosaic Idealize.ShloMosaic.TcCoe

/-! ## Normalisation and modulation -/

/-- The reciprocal root mean square of each row. -/
def scaleOf (x : FVec Ideal S8x8192x1024 .f32) : FVec Ideal S8x8192x1 .f32 :=
  Host.rsqrt (addf (Host.divf (broadcastInDim S8x8192x1 ![0, 1] bcast_S8x8192_S8x8192x1_0_1 (Host.reduceAdd (mulf x x)
    (constant S_ .f32 0x00000000#32) reducesTo_S8x8192x1024_S8x8192_d2 h_S_)) (broadcastInDim S8x8192x1 ![] bcast_S_S8x8192x1
    (constant S_ .f32 0x44800000#32))) (broadcastInDim S8x8192x1 ![] bcast_S_S8x8192x1 (constant S_ .f32 0x358637BD#32)))

/-- The rows scaled to unit mean square, times a gain. -/
def normRows (x : FVec Ideal S8x8192x1024 .f32) (g : FVec Ideal S1x1024 .f32) : FVec Ideal S8x8192x1024 .f32 :=
  mulf (mulf x (broadcastInDim S8x8192x1024 ![0, 1, 2] bcast_S8x8192x1_S8x8192x1024_0_1_2 (scaleOf x)))
    (broadcastInDim S8x8192x1024 ![0, 1, 2] bcast_S1x1x1024_S8x8192x1024_0_1_2 (broadcastInDim S1x1x1024 ![1, 2] bcast_S1x1024_S1x1x1024_1_2 g))

theorem scaleOf_at (x : FVec Ideal S8x8192x1024 .f32) (b : Fin 8) (n : Fin 8192) : scaleOf x (ix3 b n 0)
    = Ideal.rsqrt (Ideal.div (∑ j, x (ix3 b n j) * x (ix3 b n j)) (Ideal.ofBits FTy.f32 0x44800000#32) + eps) := by
  pointwise [scaleOf]

theorem normRows_at (x : FVec Ideal S8x8192x1024 .f32) (g : FVec Ideal S1x1024 .f32) (b : Fin 8) (n : Fin 8192) (i : Fin 1024) :
    normRows x g (ix3 b n i) = normed (fun j => x (ix3 b n j)) (fun j => g (ix2 0 j)) i := by
  have e : normRows x g (ix3 b n i) = x (ix3 b n i) * scaleOf x (ix3 b n 0) * g (ix2 0 i) := by pointwise [normRows]
  rw [e, scaleOf_at, mean_eq]; rfl

/-- The modulated normalised rows. -/
def hiddenRows (x : FVec Ideal S8x8192x1024 .f32) (md : FVec Ideal S8x1x3072 .f32) (g : FVec Ideal S1x1024 .f32) : FVec Ideal S8x8192x1024 .f32 :=
  addf (mulf (normRows x g) (broadcastInDim S8x8192x1024 ![0, 1, 2] bcast_S8x1x1024_S8x8192x1024_0_1_2
    (addf (broadcastInDim S8x1x1024 ![] bcast_S_S8x1x1024 (constant S_ .f32 0x3F800000#32))
      (extractStridedSlice S8x1x1024 ![0, 0, 1024] md slices_S8x1x3072_S8x1x1024_0_0_1024))))
    (broadcastInDim S8x8192x1024 ![0, 1, 2] bcast_S8x1x1024_S8x8192x1024_0_1_2
      (extractStridedSlice S8x1x1024 ![0, 0, 0] md slices_S8x1x3072_S8x1x1024_0_0_0))

theorem hiddenRows_at (x : FVec Ideal S8x8192x1024 .f32) (md : FVec Ideal S8x1x3072 .f32) (g : FVec Ideal S1x1024 .f32) (b : Fin 8)
    (n : Fin 8192) (i : Fin 1024) : hiddenRows x md g (ix3 b n i)
      = hidden (fun k => x (ix3 b n k)) (fun k => g (ix2 0 k)) (fun k => md (ix3 b 0 k)) i := by
  have e : hiddenRows x md g (ix3 b n i)
      = normRows x g (ix3 b n i) * (one + md (ix3 b 0 ⟨1024 + i.val, by omega⟩)) + md (ix3 b 0 ⟨i.val, by omega⟩) := by
    pointwise [hiddenRows]
  rw [e, normRows_at]; rfl

/-! ## The pooled windows -/

/-- A column group of the padded rows, from row `k` on. -/
def shifted (p : FVec Ideal S8x8208x256 .f32) (k o : ℕ) (h : k ≤ 16 ∧ o ≤ 192) : FVec Ideal S8x8192x64 .f32 :=
  extractStridedSlice S8x8192x64 ![0, k, o] p ⟨rfl, fun a => by
    match a with
    | ⟨0, _⟩ => exact Nat.le_refl 8
    | ⟨1, _⟩ => exact (by omega : k + 8192 ≤ 8208)
    | ⟨2, _⟩ => exact (by omega : o + 64 ≤ 256)⟩

theorem shifted_at (p : FVec Ideal S8x8208x256 .f32) (k o : ℕ) (h : k ≤ 16 ∧ o ≤ 192) (b : Fin 8) (n : Fin 8192) (c : Fin 64) :
    shifted p k o h (ix3 b n c) = p (ix3 b ⟨k + n.val, by omega⟩ ⟨o + c.val, by omega⟩) := by
  refine congrArg p (funext fun a => Fin.ext ?_)
  match a with
  | 0 => exact Nat.zero_add _
  | 1 => rfl
  | 2 => rfl

/-- The sum of `j` shifted copies, from row `k` on. -/
def collect (p : FVec Ideal S8x8208x256 .f32) (k o : ℕ) : (j : ℕ) → k + j ≤ 17 ∧ o ≤ 192 → FVec Ideal S8x8192x64 .f32
  | 0, _ => broadcastInDim S8x8192x64 ![] bcast_S_S8x8192x64 (constant S_ .f32 0x00000000#32)
  | j + 1, h => addf (collect p k o j (by omega)) (shifted p (k + j) o (by omega))

theorem collect_at (p : FVec Ideal S8x8208x256 .f32) (k o : ℕ) (b : Fin 8) (n : Fin 8192) (c : Fin 64) (Q : ℕ → EReal) (ho : o ≤ 192)
    (hQ : ∀ (r : ℕ) (h : r < 8208), p (ix3 b ⟨r, h⟩ ⟨o + c.val, by omega⟩) = Q r) : ∀ (j : ℕ) (h : k + j ≤ 17 ∧ o ≤ 192),
    collect p k o j h (ix3 b n c) = ∑ i ∈ Finset.range j, Q (n.val + k + i)
  | 0, _ => zero_eq
  | j + 1, h => by
    rw [Finset.sum_range_succ]
    refine congrArg₂ (· + ·) (collect_at p k o b n c Q ho hQ j _) ((shifted_at p (k + j) o _ b n c).trans ((hQ _ _).trans (congrArg Q ?_)))
    omega

/-- The sums over the windows of the four column groups. -/
def windows (p : FVec Ideal S8x8208x256 .f32) : FVec Ideal S8x8192x256 .f32 :=
  concatenate S8x8192x256 2 [⟨S8x8192x64, collect p 7 0 2 (by omega)⟩, ⟨S8x8192x64, collect p 6 64 4 (by omega)⟩,
    ⟨S8x8192x64, collect p 4 128 8 (by omega)⟩, ⟨S8x8192x64, collect p 0 192 16 (by omega)⟩]
    concatenates_S8x8192x64_S8x8192x64_S8x8192x64_S8x8192x64_S8x8192x256_d2

/-- Four column groups side by side, at a column. -/
theorem cat_at (w0 w1 w2 w3 : FVec Ideal S8x8192x64 .f32) (b : Fin 8) (n : Fin 8192) (c : Fin 256) :
    (concatenate S8x8192x256 2 [⟨S8x8192x64, w0⟩, ⟨S8x8192x64, w1⟩, ⟨S8x8192x64, w2⟩, ⟨S8x8192x64, w3⟩]
      concatenates_S8x8192x64_S8x8192x64_S8x8192x64_S8x8192x64_S8x8192x256_d2 : FVec Ideal S8x8192x256 .f32) (ix3 b n c)
    = if h : c.val < 64 then w0 (ix3 b n ⟨c.val, h⟩) else if h' : c.val - 64 < 64 then w1 (ix3 b n ⟨c.val - 64, h'⟩)
      else if h'' : c.val - 64 - 64 < 64 then w2 (ix3 b n ⟨c.val - 64 - 64, h''⟩) else w3 (ix3 b n ⟨c.val - 64 - 64 - 64, by omega⟩) := by
  pointwise []

/-- The column padded by eight rows on either side. -/
def padRows (u : FVec Ideal S8x8192x256 .f32) : FVec Ideal S8x8208x256 .f32 :=
  pad S8x8208x256 ![0, 8, 0] ![0, 8, 0] ![0, 0, 0] u (sitofp .f32 (constantI S_ 32 0#32)) pads_S8x8192x256_S8x8208x256_000_880_000 h_S_

theorem padRows_at (u : FVec Ideal S8x8192x256 .f32) (b : Fin 8) (r : ℕ) (h : r < 8208) (c : Fin 256) :
    padRows u (ix3 b ⟨r, h⟩ c) = padded (fun n => u (ix3 b n c)) r := by
  have e : padRows u (ix3 b ⟨r, h⟩ c) = if h' : 8 ≤ r ∧ r - 8 < 8192 then u (ix3 b ⟨r - 8, h'.2⟩ c) else FloatOps.sitofp FTy.f32 0#32 := by
    pointwise [padRows]
  rw [e]
  by_cases h' : 8 ≤ r ∧ r - 8 < 8192
  · rw [dif_pos h', padded, dif_pos (by omega)]
  · rw [dif_neg h', padded, dif_neg (by omega)]
    show (((0#32 : BitVec 32).toInt : ℝ) : EReal) = 0
    simp

theorem windows_at (u : FVec Ideal S8x8192x256 .f32) (b : Fin 8) (n : Fin 8192) (c : Fin 256) :
    windows (padRows u) (ix3 b n c) = windowSum (padded fun n => u (ix3 b n c)) n.val (halfOf c) := by
  have key : ∀ (k o : ℕ) (d : Fin 64) (j : ℕ) (h : k + j ≤ 17 ∧ o ≤ 192), o + d.val = c.val →
      collect (padRows u) k o j h (ix3 b n d) = ∑ i ∈ Finset.range j, padded (fun n => u (ix3 b n c)) (n.val + k + i) := by
    intro k o d j h hd
    refine collect_at (padRows u) k o b n d _ h.2 (fun r hr => ?_) j h
    rw [show (⟨o + d.val, by omega⟩ : Fin 256) = c from Fin.ext hd]
    exact padRows_at u b r hr c
  refine (cat_at _ _ _ _ b n c).trans ?_
  unfold halfOf
  by_cases h0 : c.val < 64
  · rw [dif_pos h0, if_pos h0]; exact key 7 0 _ 2 _ (Nat.zero_add _)
  · rw [dif_neg h0, if_neg h0]
    by_cases h1 : c.val < 128
    · rw [dif_pos (by omega), if_pos h1]; exact key 6 64 _ 4 _ (by show 64 + (c.val - 64) = c.val; omega)
    · rw [dif_neg (by omega), if_neg h1]
      by_cases h2 : c.val < 192
      · rw [dif_pos (by omega), if_pos h2]; exact key 4 128 _ 8 _ (by show 128 + (c.val - 64 - 64) = c.val; omega)
      · rw [dif_neg (by omega), if_neg h2]; exact key 0 192 _ 16 _ (by show 192 + (c.val - 64 - 64 - 64) = c.val; omega)

/-- The tokens' numbers. -/
def tokens : IVec S8192x1 32 := broadcastInDim S8192x1 ![0] bcast_S8192_S8192x1_0 (iotaInDim S8192 32 0)

theorem tokens_at (n : Fin 8192) : tokens (ix2 n 0) = BitVec.ofNat 32 n.val := by pointwise [tokens]

/-- The half width of each column's window. -/
def halves : IVec S1x256 32 :=
  broadcastInDim S1x256 ![1] bcast_S256_S1x256_1 (concatenate S256 0 [⟨S64, (broadcastInDim S64 ![] bcast_S_S64 (constantI S_ 32 1#32) : IVec S64 32)⟩,
    ⟨S64, (broadcastInDim S64 ![] bcast_S_S64 (constantI S_ 32 2#32) : IVec S64 32)⟩, ⟨S64, (broadcastInDim S64 ![] bcast_S_S64 (constantI S_ 32 4#32) : IVec S64 32)⟩,
    ⟨S64, (broadcastInDim S64 ![] bcast_S_S64 (constantI S_ 32 8#32) : IVec S64 32)⟩] concatenates_S64_S64_S64_S64_S256_d0 : IVec S256 32)

theorem halves_at (c : Fin 256) : halves (ix2 0 c) = BitVec.ofNat 32 (halfOf c) := by
  pointwise [halves]
  revert c
  decide +kernel

/-- How many tokens of each window there are. -/
def counts (t : IVec S8192x1 32) (h : IVec S1x256 32) : FVec Ideal S8192x256 .f32 :=
  sitofp .f32 (subi (minsi (broadcastInDim S8192x256 ![] bcast_S_S8192x256 (id (constantI S_ 32 8192#32))) (maxsi (broadcastInDim S8192x256 ![] bcast_S_S8192x256 (id (constantI S_ 32 0#32))) (addi (broadcastInDim S8192x256 ![0, 1] bcast_S8192x1_S8192x256_0_1 t) (broadcastInDim S8192x256 ![0, 1] bcast_S1x256_S8192x256_0_1 h)))) (minsi (broadcastInDim S8192x256 ![] bcast_S_S8192x256 (id (constantI S_ 32 8192#32))) (maxsi (broadcastInDim S8192x256 ![] bcast_S_S8192x256 (id (constantI S_ 32 0#32))) (subi (broadcastInDim S8192x256 ![0, 1] bcast_S8192x1_S8192x256_0_1 t) (broadcastInDim S8192x256 ![0, 1] bcast_S1x256_S8192x256_0_1 h)))))

theorem counts_at (t : IVec S8192x1 32) (h : IVec S1x256 32) (n : Fin 8192) (c : Fin 256) :
    counts t h (ix2 n c) = count (t (ix2 n 0)) (h (ix2 0 c)) := by
  pointwise [counts]
  rfl

/-- The pooled rows. -/
def pooled (u : FVec Ideal S8x8192x256 .f32) : FVec Ideal S8x8192x256 .f32 :=
  subf (Host.divf (windows (padRows u)) (broadcastInDim S8x8192x256 ![0, 1, 2] bcast_S1x8192x256_S8x8192x256_0_1_2
    (broadcastInDim S1x8192x256 ![1, 2] bcast_S8192x256_S1x8192x256_1_2 (counts tokens halves)))) u

theorem pooled_at (u : FVec Ideal S8x8192x256 .f32) (b : Fin 8) (n : Fin 8192) (c : Fin 256) :
    pooled u (ix3 b n c) = pooledOf (fun n => u (ix3 b n c)) n c := by
  have e : pooled u (ix3 b n c) = Ideal.div (windows (padRows u) (ix3 b n c)) (counts tokens halves (ix2 n c)) - u (ix3 b n c) := by
    pointwise [pooled]
  rw [e, windows_at, counts_at, tokens_at, halves_at]; rfl

/-! ## Gates, branches and the projection -/

/-- A product of rows of the model's width with a square matrix. -/
def wideDot (h : FVec Ideal S8x8192x1024 .f32) (w : FVec Ideal S1024x1024 .bf16) : FVec Ideal S8x8192x1024 .f32 :=
  Host.dotGeneral dot_S8x8192x1024_S1024x1024_S8x8192x1024_2_0_01_1_n_n none h (extf .f32 w bitsLt_bf16_f32)

theorem wideDot_at (h : FVec Ideal S8x8192x1024 .f32) (w : FVec Ideal S1024x1024 .bf16) (b : Fin 8) (n : Fin 8192) (j : Fin 1024) :
    wideDot h w (ix3 b n j) = ∑ k, h (ix3 b n k) * w (ix2 k j) := by
  pointwise [wideDot]

/-- The sigmoid-weighted linear unit. -/
def siluRows (s : FVec Ideal S8x8192x1024 .f32) : FVec Ideal S8x8192x1024 .f32 :=
  mulf s (Host.divf (broadcastInDim S8x8192x1024 ![] bcast_S_S8x8192x1024 (constant S_ .f32 0x3F800000#32))
    (addf (broadcastInDim S8x8192x1024 ![] bcast_S_S8x8192x1024 (constant S_ .f32 0x3F800000#32)) (Host.exp (Host.negf s))))

theorem siluRows_at (s : FVec Ideal S8x8192x1024 .f32) (b : Fin 8) (n : Fin 8192) (j : Fin 1024) :
    siluRows s (ix3 b n j) = silu (s (ix3 b n j)) := by
  have e : siluRows s (ix3 b n j) = s (ix3 b n j) * Ideal.div one (one + Ideal.exp (-s (ix3 b n j))) := by pointwise [siluRows]
  rw [e, quot_logistic]; rfl

/-- The products behind the mixing gates. -/
def mixDot (h : FVec Ideal S8x8192x1024 .f32) (w : FVec Ideal S1024x4096 .bf16) : FVec Ideal S8x8192x4096 .f32 :=
  Host.dotGeneral dot_S8x8192x1024_S1024x4096_S8x8192x4096_2_0_01_1_n_n none h (extf .f32 w bitsLt_bf16_f32)

theorem mixDot_at (h : FVec Ideal S8x8192x1024 .f32) (w : FVec Ideal S1024x4096 .bf16) (b : Fin 8) (n : Fin 8192) (j : Fin 4096) :
    mixDot h w (ix3 b n j) = ∑ k, h (ix3 b n k) * w (ix2 k j) := by
  pointwise [mixDot]

/-- The mixing gates. -/
def mixRows (s : FVec Ideal S8x8192x4096 .f32) : FVec Ideal S8x8192x4096 .f32 :=
  Host.divf (broadcastInDim S8x8192x4096 ![] bcast_S_S8x8192x4096 (constant S_ .f32 0x3F800000#32))
    (addf (broadcastInDim S8x8192x4096 ![] bcast_S_S8x8192x4096 (constant S_ .f32 0x3F800000#32)) (Host.exp (Host.negf s)))

theorem mixRows_at (s : FVec Ideal S8x8192x4096 .f32) (b : Fin 8) (n : Fin 8192) (j : Fin 4096) :
    mixRows s (ix3 b n j) = Ideal.logistic (s (ix3 b n j)) := by
  have e : mixRows s (ix3 b n j) = Ideal.div one (one + Ideal.exp (-s (ix3 b n j))) := by pointwise [mixRows]
  rw [e, quot_logistic]

/-- What a branch adds to the merged rows: its share of the gates, times its projection. -/
def part (y : FVec Ideal S8x8192x256 .f32) (g : FVec Ideal S8x8192x1024 .f32) (m : FVec Ideal S8x8192x4096 .f32) (w : FVec Ideal S4x256x1024 .bf16)
    (r : ℕ) (hm : S8x8192x4096.Slices ![0, 0, 1024 * r] S8x8192x1024) (hg : S8x8192x1024.Slices ![0, 0, 256 * r] S8x8192x256)
    (hw : S4x256x1024.Slices ![r, 0, 0] S1x256x1024) : FVec Ideal S8x8192x1024 .f32 :=
  mulf (extractStridedSlice S8x8192x1024 ![0, 0, 1024 * r] m hm)
    (Host.dotGeneral dot_S8x8192x256_S256x1024_S8x8192x1024_2_0_01_1_n_n none (mulf y (extractStridedSlice S8x8192x256 ![0, 0, 256 * r] g hg))
      (extf .f32 (shapeCast S256x1024 (extractStridedSlice S1x256x1024 ![r, 0, 0] w hw) shapeCasts_S1x256x1024_S256x1024 : FVec Ideal S256x1024 .bf16) bitsLt_bf16_f32))

theorem mixCol_at (m : FVec Ideal S8x8192x4096 .f32) (r : Fin 4) (h) (b : Fin 8) (n : Fin 8192) (j : Fin 1024) :
    extractStridedSlice S8x8192x1024 ![0, 0, 1024 * r.val] m h (ix3 b n j) = m (ix3 b n ⟨1024 * r.val + j.val, by omega⟩) := by
  refine congrArg m (funext fun a => Fin.ext ?_)
  match a with
  | 0 => exact Nat.zero_add _
  | 1 => exact Nat.zero_add _
  | 2 => rfl

theorem gateCol_at (g : FVec Ideal S8x8192x1024 .f32) (r : Fin 4) (h) (b : Fin 8) (n : Fin 8192) (c : Fin 256) :
    extractStridedSlice S8x8192x256 ![0, 0, 256 * r.val] g h (ix3 b n c) = g (ix3 b n ⟨256 * r.val + c.val, by omega⟩) := by
  refine congrArg g (funext fun a => Fin.ext ?_)
  match a with
  | 0 => exact Nat.zero_add _
  | 1 => exact Nat.zero_add _
  | 2 => rfl

theorem projOf_at (w : FVec Ideal S4x256x1024 .bf16) (r : Fin 4) (h) (c : Fin 256) (j : Fin 1024) :
    extractStridedSlice S1x256x1024 ![r.val, 0, 0] w h (ix3 0 c j) = w (ix3 r c j) := by
  refine congrArg w (funext fun a => Fin.ext ?_)
  match a with
  | 0 => exact Nat.add_zero _
  | 1 => exact Nat.zero_add _
  | 2 => exact Nat.zero_add _

theorem dot_at (y : FVec Ideal S8x8192x256 .f32) (w : FVec Ideal S1x256x1024 .bf16) (b : Fin 8) (n : Fin 8192) (j : Fin 1024) :
    Host.dotGeneral dot_S8x8192x256_S256x1024_S8x8192x1024_2_0_01_1_n_n none y
      (extf .f32 (shapeCast S256x1024 w shapeCasts_S1x256x1024_S256x1024 : FVec Ideal S256x1024 .bf16) bitsLt_bf16_f32 : FVec Ideal S256x1024 .f32) (ix3 b n j)
      = ∑ c, y (ix3 b n c) * w (ix3 0 c j) := by
  pointwise []

theorem part_at (y : FVec Ideal S8x8192x256 .f32) (h : FVec Ideal S8x8192x1024 .f32) (wg : FVec Ideal S1024x1024 .bf16) (wm : FVec Ideal S1024x4096 .bf16)
    (w : FVec Ideal S4x256x1024 .bf16) (r : Fin 4) (hm hg hw) (b : Fin 8) (n : Fin 8192) (Y : Fin 4 → Fin 256 → EReal)
    (hy : ∀ c, y (ix3 b n c) = Y r c) (j : Fin 1024) :
    part y (siluRows (wideDot h wg)) (mixRows (mixDot h wm)) w r.val hm hg hw (ix3 b n j)
      = addend (fun k => h (ix3 b n k)) Y (fun k l => wm (ix2 k l)) (fun k l => wg (ix2 k l)) (fun s c j => w (ix3 s c j)) r j := by
  refine congrArg₂ (· * ·) ((mixCol_at _ r hm b n j).trans ((mixRows_at _ b n _).trans (congrArg _ (mixDot_at h wm b n _))))
    ((dot_at _ _ b n j).trans (Finset.sum_congr rfl fun c _ => congrArg₂ (· * ·) (congrArg₂ (· * ·) (hy c) ?_) (projOf_at w r hw c j)))
  exact (gateCol_at _ r hg b n c).trans ((siluRows_at _ b n _).trans (congrArg silu (wideDot_at h wg b n _)))

/-- The pooled branch's rows. -/
def pooledRows (p : FVec Ideal S8x8192x256 .f32) (wp : FVec Ideal S256x256 .bf16) (sp : FVec Ideal S1x256 .f32) : FVec Ideal S8x8192x256 .f32 :=
  mulf (Host.dotGeneral dot_S8x8192x256_S256x256_S8x8192x256_2_0_01_1_n_n none p (extf .f32 wp bitsLt_bf16_f32))
    (broadcastInDim S8x8192x256 ![0, 1, 2] bcast_S1x1x256_S8x8192x256_0_1_2 (broadcastInDim S1x1x256 ![1, 2] bcast_S1x256_S1x1x256_1_2 sp))

theorem pooledRows_at (p : FVec Ideal S8x8192x256 .f32) (wp : FVec Ideal S256x256 .bf16) (sp : FVec Ideal S1x256 .f32) (b : Fin 8) (n : Fin 8192)
    (c : Fin 256) : pooledRows p wp sp (ix3 b n c)
      = pooledBranch (fun k => p (ix3 b n k)) (fun k c => wp (ix2 k c)) (fun c => sp (ix2 0 c)) c := by
  have e : pooledRows p wp sp (ix3 b n c) = (∑ k, p (ix3 b n k) * wp (ix2 k c)) * sp (ix2 0 c) := by pointwise [pooledRows]
  exact e

/-- A branch's rows, at 32 bits. -/
def widen (y : FVec Ideal S8x8192x256 .bf16) : FVec Ideal S8x8192x256 .f32 := extf .f32 y bitsLt_bf16_f32

section Result

variable (a0 : FVec Ideal S8x8192x1024 .f32) (a1 : FVec Ideal S8x1x3072 .f32) (a2 a3 : FVec Ideal S1x1024 .f32) (a4 : FVec Ideal S1024x1024 .bf16)
variable (a5 : FVec Ideal S1024x4096 .bf16) (a6 : FVec Ideal S8x8192x256 .f32) (a7 : FVec Ideal S256x256 .bf16) (a8 : FVec Ideal S1x256 .f32)
variable (a9 a10 a11 : FVec Ideal S8x8192x256 .bf16) (a12 : FVec Ideal S4x256x1024 .bf16) (a13 : FVec Ideal S1024x1024 .bf16)

/-- The merged rows, of the modulated normalised rows and the gates. -/
def mergedRows (g : FVec Ideal S8x8192x1024 .f32) (m : FVec Ideal S8x8192x4096 .f32) : FVec Ideal S8x8192x1024 .f32 :=
  addf (addf (addf (addf (broadcastInDim S8x8192x1024 ![] bcast_S_S8x8192x1024 (constant S_ .f32 0x00000000#32))
    (part (pooledRows (pooled a6) a7 a8) g m a12 0 slices_S8x8192x4096_S8x8192x1024_0_0_0 slices_S8x8192x1024_S8x8192x256_0_0_0 slices_S4x256x1024_S1x256x1024_0_0_0))
    (part (widen a9) g m a12 1 slices_S8x8192x4096_S8x8192x1024_0_0_1024 slices_S8x8192x1024_S8x8192x256_0_0_256 slices_S4x256x1024_S1x256x1024_1_0_0))
    (part (widen a10) g m a12 2 slices_S8x8192x4096_S8x8192x1024_0_0_2048 slices_S8x8192x1024_S8x8192x256_0_0_512 slices_S4x256x1024_S1x256x1024_2_0_0))
    (part (widen a11) g m a12 3 slices_S8x8192x4096_S8x8192x1024_0_0_3072 slices_S8x8192x1024_S8x8192x256_0_0_768 slices_S4x256x1024_S1x256x1024_3_0_0)

/-- The four branches' rows of a token. -/
def branches (b : Fin 8) (n : Fin 8192) : Fin 4 → Fin 256 → EReal
  | 0 => pooledBranch (fun c => pooledOf (fun n => a6 (ix3 b n c)) n c) (fun k c => a7 (ix2 k c)) (fun c => a8 (ix2 0 c))
  | 1 => fun c => a9 (ix3 b n c)
  | 2 => fun c => a10 (ix3 b n c)
  | 3 => fun c => a11 (ix3 b n c)

theorem mergedRows_at (h : FVec Ideal S8x8192x1024 .f32) (b : Fin 8) (n : Fin 8192) (j : Fin 1024) :
    mergedRows a6 a7 a8 a9 a10 a11 a12 (siluRows (wideDot h a4)) (mixRows (mixDot h a5)) (ix3 b n j)
      = merged (fun k => h (ix3 b n k)) (branches a6 a7 a8 a9 a10 a11 b n) (fun k l => a5 (ix2 k l)) (fun k l => a4 (ix2 k l))
          (fun s c j => a12 (ix3 s c j)) j := by
  refine congrArg₂ (· + ·) (congrArg₂ (· + ·) (congrArg₂ (· + ·) ?_ ?_) ?_) ?_
  · refine (congrArg₂ (· + ·) zero_eq (part_at _ h a4 a5 a12 0 _ _ _ b n (branches a6 a7 a8 a9 a10 a11 b n) (fun c => ?_) j)).trans (zero_add _)
    exact (pooledRows_at _ _ _ b n c).trans (pooledBranch_congr (pooled_at a6 b n) (fun _ _ => rfl) (fun _ => rfl) c)
  · exact part_at _ h a4 a5 a12 1 _ _ _ b n (branches a6 a7 a8 a9 a10 a11 b n) (fun c => rfl) j
  · exact part_at _ h a4 a5 a12 2 _ _ _ b n (branches a6 a7 a8 a9 a10 a11 b n) (fun c => rfl) j
  · exact part_at _ h a4 a5 a12 3 _ _ _ b n (branches a6 a7 a8 a9 a10 a11 b n) (fun c => rfl) j

/-- The projection of the merged rows. -/
def projected : FVec Ideal S8x8192x1024 .f32 :=
  wideDot (mergedRows a6 a7 a8 a9 a10 a11 a12 (siluRows (wideDot (hiddenRows a0 a1 a2) a4)) (mixRows (mixDot (hiddenRows a0 a1 a2) a5))) a13

/-- The rows the layer leaves, of the projection of the merged rows. -/
def finish (o : FVec Ideal S8x8192x1024 .f32) : FVec Ideal S8x8192x1024 .f32 :=
  addf a0 (mulf (broadcastInDim S8x8192x1024 ![0, 1, 2] bcast_S8x1x1024_S8x8192x1024_0_1_2
    (extractStridedSlice S8x1x1024 ![0, 0, 2048] a1 slices_S8x1x3072_S8x1x1024_0_0_2048)) (normRows o a3))

theorem finish_at (o : FVec Ideal S8x8192x1024 .f32) (b : Fin 8) (n : Fin 8192) (i : Fin 1024) :
    finish a0 a1 a3 o (ix3 b n i) = a0 (ix3 b n i) + a1 (ix3 b 0 ⟨2048 + i.val, by omega⟩) * normRows o a3 (ix3 b n i) := by
  pointwise [finish]

/-- The reference's result. -/
def result : FVec Ideal S8x8192x1024 .f32 := finish a0 a1 a3 (projected a0 a1 a2 a4 a5 a6 a7 a8 a9 a10 a11 a12 a13)

/-- An entry of the reference's result. -/
theorem result_at (b : Fin 8) (n : Fin 8192) (i : Fin 1024) : result a0 a1 a2 a3 a4 a5 a6 a7 a8 a9 a10 a11 a12 a13 (ix3 b n i)
    = rowOut (fun k => a0 (ix3 b n k)) (fun k => a1 (ix3 b 0 ⟨2048 + k.val, by omega⟩))
        (merged (hidden (fun k => a0 (ix3 b n k)) (fun k => a2 (ix2 0 k)) (fun k => a1 (ix3 b 0 k)))
          (branches a6 a7 a8 a9 a10 a11 b n) (fun k l => a5 (ix2 k l)) (fun k l => a4 (ix2 k l)) (fun s c j => a12 (ix3 s c j)))
        (fun k => a3 (ix2 0 k)) (fun k l => a13 (ix2 k l)) i := by
  refine (finish_at a0 a1 a3 _ b n i).trans (congrArg₂ (· + ·) rfl (congrArg₂ (· * ·) rfl ?_))
  refine (normRows_at _ _ b n i).trans (normed_congr (fun l => ?_) (fun _ => rfl) i)
  refine (wideDot_at _ _ b n l).trans (Finset.sum_congr rfl fun k _ => congrArg₂ (· * ·) ?_ rfl)
  refine (mergedRows_at a4 a5 a6 a7 a8 a9 a10 a11 a12 _ b n k).trans ?_
  rw [funext (hiddenRows_at a0 a1 a2 b n)]

end Result

/-! ## The program's own terms -/

section Terms

variable (V : Valuation τ sig (Elt Ideal))

theorem hidden_term : res_main_v21 V = hiddenRows (V (Proc.devRef .tc main_arg0)) (V (Proc.devRef .tc main_arg1)) (V (Proc.devRef .tc main_arg2)) := rfl

theorem windows_term : res_main_v95 V = windows (padRows (V (Proc.devRef .tc main_arg6))) := rfl

theorem gate_term : res_main_v120 V = siluRows (wideDot (res_main_v21 V) (V (Proc.devRef .tc main_arg4))) := rfl

theorem mix_term : res_main_v128 V = mixRows (mixDot (res_main_v21 V) (V (Proc.devRef .tc main_arg5))) := rfl

theorem projected_term : res_main_v167 V = projected (V (Proc.devRef .tc main_arg0)) (V (Proc.devRef .tc main_arg1)) (V (Proc.devRef .tc main_arg2))
    (V (Proc.devRef .tc main_arg4)) (V (Proc.devRef .tc main_arg5)) (V (Proc.devRef .tc main_arg6)) (V (Proc.devRef .tc main_arg7))
    (V (Proc.devRef .tc main_arg8)) (V (Proc.devRef .tc main_arg9)) (V (Proc.devRef .tc main_arg10)) (V (Proc.devRef .tc main_arg11))
    (V (Proc.devRef .tc main_arg12)) (V (Proc.devRef .tc main_arg13)) := by
  have e : res_main_v167 V = wideDot (mergedRows (V (Proc.devRef .tc main_arg6)) (V (Proc.devRef .tc main_arg7)) (V (Proc.devRef .tc main_arg8))
      (V (Proc.devRef .tc main_arg9)) (V (Proc.devRef .tc main_arg10)) (V (Proc.devRef .tc main_arg11)) (V (Proc.devRef .tc main_arg12))
      (res_main_v120 V) (res_main_v128 V)) (V (Proc.devRef .tc main_arg13)) := rfl
  rw [e, gate_term, mix_term, hidden_term]; rfl

end Terms

/-- The rows left, with the projection as the program names it. -/
def last (V : Valuation τ sig (Elt Ideal)) : FVec Ideal S8x8192x1024 .f32 :=
  finish (V (Proc.devRef .tc main_arg0)) (V (Proc.devRef .tc main_arg1)) (V (Proc.devRef .tc main_arg3)) (res_main_v167 V)

theorem last_eq (V : Valuation τ sig (Elt Ideal)) : last V = result (V (Proc.devRef .tc main_arg0)) (V (Proc.devRef .tc main_arg1))
    (V (Proc.devRef .tc main_arg2)) (V (Proc.devRef .tc main_arg3)) (V (Proc.devRef .tc main_arg4)) (V (Proc.devRef .tc main_arg5))
    (V (Proc.devRef .tc main_arg6)) (V (Proc.devRef .tc main_arg7)) (V (Proc.devRef .tc main_arg8)) (V (Proc.devRef .tc main_arg9))
    (V (Proc.devRef .tc main_arg10)) (V (Proc.devRef .tc main_arg11)) (V (Proc.devRef .tc main_arg12)) (V (Proc.devRef .tc main_arg13)) :=
  congrArg (finish (V (Proc.devRef .tc main_arg0)) (V (Proc.devRef .tc main_arg1)) (V (Proc.devRef .tc main_arg3))) (projected_term V)

end Cert.Reference2Ideal.Mrg
-- ==== Proof.MergeClaims.lean ====
/-
  The claims about the merge: the reference's runs, and the equality of its result and the kernel's.
-/
module

public import proofs.«01_k».proof.Defs
public import proofs.«01_k».proof.Proof.MergeArray
public import proofs.«01_k».proof.Proof.MergeRef
public import proofs.«01_k».proof.Proof.Gen.Kernel2.Frame
public import proofs.«01_k».proof.Proof.Gen.Kernel2Ideal.Value
public import Idealize.ShloMosaic.Lib.Claim

@[expose] public section

set_option maxRecDepth 16384

noncomputable section

namespace Cert.Proof.Merge

open Idealize.ShloMosaic Idealize.ShloMosaic.TcCoe Idealize.ShloMosaic.StableHlo Idealize.SL.Sem

/-- The kernel runs, keeps its arguments and leaves every counter at zero. -/
theorem frame_kernel : Cert.quiescent_Kernel2 := fun m g _ => Cert.Kernel2.Gen.frame m g

/-- The idealized program runs, keeps its arguments and leaves every counter at zero. -/
theorem frame_ideal : Cert.quiescent_Kernel2Ideal := fun m g _ => Cert.Kernel2Ideal.Gen.frame m g

/-- The reference runs, keeps its arguments and leaves every counter at zero. -/
theorem frame_ref : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- The array the kernel leaves is the reference's function of the kernel's arguments. -/
theorem array_eq (m : (ℓ : Loc Cert.Kernel2Ideal.nD Cert.Kernel2Ideal.τ Cert.Kernel2Ideal.sig) → Buf (Elt Ideal) ℓ) (c : Dev Cert.Kernel2Ideal.nD) :
    (Cert.Kernel2Ideal.Gen.dats m 0 c).arrAt 16 (Cert.Kernel2Ideal.cfgs 0).N = Cert.Reference2Ideal.Mrg.result
      (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4))
      (m ((c.tc : Thread Cert.Kernel2Ideal.nD Cert.Kernel2Ideal.τ).loc Cert.Kernel2Ideal.main_arg5))
      (m ((c.tc : Thread Cert.Kernel2Ideal.nD Cert.Kernel2Ideal.τ).loc Cert.Kernel2Ideal.main_arg6))
      (m ((c.tc : Thread Cert.Kernel2Ideal.nD Cert.Kernel2Ideal.τ).loc Cert.Kernel2Ideal.main_arg7))
      (m ((c.tc : Thread Cert.Kernel2Ideal.nD Cert.Kernel2Ideal.τ).loc Cert.Kernel2Ideal.main_arg8))
      (m ((c.tc : Thread Cert.Kernel2Ideal.nD Cert.Kernel2Ideal.τ).loc Cert.Kernel2Ideal.main_arg9))
      (m ((c.tc : Thread Cert.Kernel2Ideal.nD Cert.Kernel2Ideal.τ).loc Cert.Kernel2Ideal.main_arg10))
      (m ((c.tc : Thread Cert.Kernel2Ideal.nD Cert.Kernel2Ideal.τ).loc Cert.Kernel2Ideal.main_arg11))
      (m ((c.tc : Thread Cert.Kernel2Ideal.nD Cert.Kernel2Ideal.τ).loc Cert.Kernel2Ideal.main_arg12))
      (m ((c.tc : Thread Cert.Kernel2Ideal.nD Cert.Kernel2Ideal.τ).loc Cert.Kernel2Ideal.main_arg13)) := by
  refine Cert.Kernel2Ideal.Mrg.array m c _ fun b n i => (Cert.Reference2Ideal.Mrg.result_at _ _ _ _ _ _ _ _ _ _ _ _ _ _ b n i).trans ?_
  have ey : ∀ r, Cert.Reference2Ideal.Mrg.branches
      (m ((c.tc : Thread Cert.Kernel2Ideal.nD Cert.Kernel2Ideal.τ).loc Cert.Kernel2Ideal.main_arg6))
      (m ((c.tc : Thread Cert.Kernel2Ideal.nD Cert.Kernel2Ideal.τ).loc Cert.Kernel2Ideal.main_arg7))
      (m ((c.tc : Thread Cert.Kernel2Ideal.nD Cert.Kernel2Ideal.τ).loc Cert.Kernel2Ideal.main_arg8))
      (m ((c.tc : Thread Cert.Kernel2Ideal.nD Cert.Kernel2Ideal.τ).loc Cert.Kernel2Ideal.main_arg9))
      (m ((c.tc : Thread Cert.Kernel2Ideal.nD Cert.Kernel2Ideal.τ).loc Cert.Kernel2Ideal.main_arg10))
      (m ((c.tc : Thread Cert.Kernel2Ideal.nD Cert.Kernel2Ideal.τ).loc Cert.Kernel2Ideal.main_arg11))
      b n r = Cert.Kernel2Ideal.Mrg.branchAt m c b n r := fun r =>
    match r with
    | 0 => rfl
    | 1 => rfl
    | 2 => rfl
    | 3 => rfl
  rw [funext ey]
  rfl

/-- From equal arguments, the kernel and the reference end with equal results. -/
theorem equal : Cert.algebraic_Kernel2Ideal_Reference2Ideal := by
  intro m g m' g' _ hag
  refine ⟨fun c => Cert.Reference2Ideal.Mrg.last (launchContents m' c), ?_, ?_⟩
  · have hv : ∀ c, (Cert.Kernel2Ideal.Gen.dats m 0 c).arrAt 16 (Cert.Kernel2Ideal.cfgs 0).N
        = Cert.Reference2Ideal.Mrg.last (launchContents m' c) := by
      intro c
      obtain ⟨h0, h1, h2, h3, h4, h5, h6, h7, h8, h9, h10, h11, h12, h13⟩ := hag c
      refine (array_eq m c).trans ?_
      rw [← h0, ← h1, ← h2, ← h3, ← h4, ← h5, ← h6, ← h7, ← h8, ← h9, ← h10, ← h11, ← h12, ← h13]
      exact (Cert.Reference2Ideal.Mrg.last_eq (launchContents m' c)).symm
    run_from (Cert.Kernel2Ideal.Value.run_blocks m g)
    exact hv c
  · exact Cert.Reference2Ideal.Value.run m' g'

end Cert.Proof.Merge
-- ==== Proof.DiffChain.lean ====
/-
  The differential attention kernel's block, written once as recursions over the key chunks.  A block holds two heads,
  and each head has two chains: the same keys and values against two thirty-two lane parts of the query, the other lanes
  of which are set to zero.  A chain's result is a weighted sum of value columns, collected chunk by chunk beside the sum
  of the weights.  Two ways of collecting are written here, as the kernel has them: `lag`, whose weights are taken
  against the running maximum as it was before the chunk, and `full`, whose weights are taken against the running
  maximum after it.  A head's result is the difference of its chains, put to unit mean square.  Everything here is at
  any floating-point values; `Cert.Kernel3Ideal.Dif.sound_kernel` (DiffBody.lean) says the printed body computes it.
-/
module

public import proofs.«01_k».proof.Proof.Gen.Kernel3Ideal.Frame
public import proofs.«01_k».proof.Proof.Gen.Kernel3Ideal.Skeleton

@[expose] public section

noncomputable section

namespace Cert.Kernel3Ideal.Dif

open Cert.Kernel3Ideal Cert.Kernel3Ideal.Gen
open Idealize.ShloMosaic Idealize.ShloMosaic.TcCoe

variable {F : FTy → Type} [FloatOps F]

/-! ## One chunk of one chain -/

/-- The scores of 256 keys against 256 queries, before any scaling. -/
def score (q : FVec F S256x128 .bf16) (k : Vec F S1x256x128 .bf16) : FVec F S256x256 .f32 :=
  matmul dot_S256x128_S256x128_S256x256_1_1_0_0_n_n none (shapeCast S256x128 k shapeCasts_S1x256x128_S256x128) q
    (constant S256x256 .f32 0x00000000#32)

/-- The largest score of each query. -/
def top (s : FVec F S256x256 .f32) : FVec F S1x256 .f32 :=
  shapeCast S1x256 (multiReduction .maximumf [0] S256 s 0xFF800000#32 reduces_S256x256_S256 (.inl rfl) rfl)
    shapeCasts_S256_S1x256

/-- The weights of a chunk against a reference score per query. -/
def weights (s : FVec F S256x256 .f32) (r : FVec F S1x256 .f32) : FVec F S256x256 .bf16 :=
  truncf .bf16 (exp2 (subf s (broadcastTo S256x256 r broadcasts_S1x256_S256x256))) bitsLt_bf16_f32

/-- A chunk's value rows with sixteen rows of ones below them. -/
def ext (v : Vec F S1x1x64x256 .bf16) : FVec F S80x256 .bf16 :=
  concatenate S80x256 0 [⟨S64x256, shapeCast S64x256 v shapeCasts_S1x1x64x256_S64x256⟩,
    ⟨S16x256, broadcast S16x256 (Scalar.ofBits .bf16 0x3F80#16)⟩] concatenates_S64x256_S16x256_S80x256_d0

/-- The chunk's contribution: value rows and ones, summed with the weights. -/
def contrib (v : Vec F S1x1x64x256 .bf16) (p : FVec F S256x256 .bf16) : FVec F S80x256 .f32 :=
  matmul dot_S80x256_S256x256_S80x256_1_0_0_1_n_n none (ext v) p (constant S80x256 .f32 0x00000000#32)

/-- What was collected against the reference `r`, restated against `r'`. -/
def rescale (r r' : FVec F S1x256 .f32) (acc : FVec F S80x256 .f32) : FVec F S80x256 .f32 :=
  mulf (broadcastTo S80x256 (exp2 (subf r r')) broadcasts_S1x256_S80x256) acc

/-! ## One chain, over its chunks -/

section Head

-- the scores and values of the context, and of the latents' chunks
variable (sc : FVec F S256x256 .f32) (vc : Vec F S1x1x64x256 .bf16)
variable (s : ℕ → FVec F S256x256 .f32) (v : ℕ → Vec F S1x1x64x256 .bf16)

/-- The reference score the collection starts from. -/
def low : FVec F S1x256 .f32 := broadcast S1x256 (Scalar.ofBits .f32 0xF149F2CA#32)

/-- The running maximum after the context and the first `n` chunks. -/
def run (n : ℕ) : FVec F S1x256 .f32 :=
  Nat.rec (maximumf low (top sc)) (fun k r => maximumf r (top (s k))) n

/-- What the context contributes. -/
def start : FVec F S80x256 .f32 :=
  addf (rescale low (run sc s 0) (broadcast S80x256 (Scalar.ofBits .f32 0x00000000#32)))
    (contrib vc (weights sc (run sc s 0)))

/-- What is collected after chunk `n`, the weights of each chunk against the maximum before it. -/
def lag (n : ℕ) : FVec F S80x256 .f32 :=
  Nat.rec (addf (start sc vc s) (contrib (v 0) (weights (s 0) (run sc s 0))))
    (fun k acc => addf (rescale (run sc s k) (run sc s (k + 1)) acc)
      (contrib (v (k + 1)) (weights (s (k + 1)) (run sc s (k + 1))))) n

/-- What is collected after the first `n` chunks, the weights of each chunk against the maximum after it. -/
def full (n : ℕ) : FVec F S80x256 .f32 :=
  Nat.rec (start sc vc s)
    (fun k acc => addf (rescale (run sc s k) (run sc s (k + 1)) acc)
      (contrib (v k) (weights (s k) (run sc s (k + 1))))) n

/-- By how much the chunks up to `n` exceed the maximum before each of them. -/
def excess (n : ℕ) : FVec F S1x256 .f32 :=
  Nat.rec (subf (top (s 0)) (run sc s 0))
    (fun k e => maximumf e (subf (top (s (k + 1))) (run sc s (k + 1)))) n

end Head

/-- The collected rows divided by the collected weights. -/
def normed (acc : FVec F S80x256 .f32) : FVec F S64x256 .f32 :=
  divf (extractStridedSlice S64x256 ![0, 0] acc slices_S80x256_o0_0_S64x256)
    (broadcastTo S64x256 (extractStridedSlice S1x256 ![64, 0] acc slices_S80x256_o64_0_S1x256) broadcasts_S1x256_S64x256)

/-- The coefficient of a head's second chain, from the four vectors. -/
def lam (l : Vec F S4x32 .f32) : FVec F S1x1 .f32 := k0_pay2054 l

/-- The difference of a head's chains. -/
def differ (a b : FVec F S64x256 .f32) (c : FVec F S1x1 .f32) : FVec F S64x256 .f32 :=
  subf a (mulf (broadcastTo S64x256 c broadcasts_S1x1_S64x256) b)

/-- The mean square of each query's sixty-four values, with the small constant added. -/
def meanSq (o : FVec F S64x256 .f32) : FVec F S1x256 .f32 :=
  addf (mulf (shapeCast S1x256 (multiReduction .add [0] S256 (mulf o o) 0x00000000#32 reduces_S64x256_S256 (.inl rfl) rfl)
    shapeCasts_S256_S1x256) (broadcast S1x256 (Scalar.ofBits .f32 0x3C800000#32)))
    (broadcast S1x256 (Scalar.ofBits .f32 0x358637BD#32))

/-- A head's values put to unit mean square, with the gains and the last factor. -/
def finish (o : FVec F S64x256 .f32) (g : Vec F S64x1 .f32) : FVec F S64x256 .f32 :=
  mulf (mulf (mulf o (broadcastTo S64x256 (rsqrt (meanSq o)) broadcasts_S1x256_S64x256))
    (broadcastTo S64x256 g broadcasts_S64x1_S64x256)) (broadcast S64x256 (Scalar.ofBits .f32 0x3F4CCCCD#32))

/-- Two heads' results as the block the kernel stores. -/
def pack (a b : FVec F S64x256 .f32) : FVec F S1x256x128 .bf16 :=
  shapeCast S1x256x128 (truncf .bf16 (transpose S256x128 [1, 0]
    (concatenate S128x256 0 [⟨S64x256, a⟩, ⟨S64x256, b⟩] concatenates_S64x256_S64x256_S128x256_d0)
    transposes_S128x256_p1_0_S256x128) bitsLt_bf16_f32) shapeCasts_S256x128_S1x256x128

/-! ## The block from the staged inputs -/

section Block

variable (x0 : Vec F S1x256x128 .bf16) (x1 : Vec F S1x8192x128 .bf16) (x2 : Vec F S1x16x128x512 .bf16)
  (x3 : Vec F S1x256x128 .bf16) (x4 : Vec F S1x1x128x256 .bf16) (x5 : Vec F S4x32 .f32) (x6 : Vec F S64x1 .f32)

/-- The lanes of chain `k` of head `j`: thirty-two of the block's hundred and twenty-eight. -/
def lanes (j k : Fin 2) : IVec S256x128 1 :=
  andi (cmpi .sge (iota .tc S256x128 32 [1] iota_S256x128_d1_w32) (broadcast S256x128 (BitVec.ofNat 32 (64 * j.val + 32 * k.val))))
    (cmpi .slt (iota .tc S256x128 32 [1] iota_S256x128_d1_w32) (broadcast S256x128 (BitVec.ofNat 32 (64 * j.val + 32 * k.val + 32))))

/-- The queries of chain `k` of head `j`, zero in the other lanes. -/
def query (j k : Fin 2) : FVec F S256x128 .bf16 :=
  select (lanes j k)
    (shapeCast S256x128 (View.ld x0 (Rect.unit (s := S1x256x128) ![0, 0, 0] S1x256x128.size inb_S1x256x128_S1x256x128_0_0_0))
      shapeCasts_S1x256x128_S256x128)
    (broadcast S256x128 (Scalar.ofBits .bf16 0x0000#16))

/-- The `n`-th chunk of the latents' keys. -/
def keyAt (n : ℕ) : Vec F S1x256x128 .bf16 :=
  View.ld x1 (Rect.unit (s := S1x8192x128) ![0, 256 * (n % 32), 0] S1x256x128.size (by
    have h2 := Nat.mod_lt n (show 32 > 0 by decide)
    intro a; fin_cases a <;> simp [Shape.size] <;> omega))

/-- The `n`-th chunk of the latents' values of head `j`. -/
def valAt (j : Fin 2) (n : ℕ) : Vec F S1x1x64x256 .bf16 :=
  View.ld x2 (Rect.unit (s := S1x16x128x512) ![0, (n / 2) % 16, 64 * j.val, 256 * (n % 2)] S1x1x64x256.size (by
    have h1 := j.isLt; have h2 := Nat.mod_lt n (show 2 > 0 by decide); have h3 := Nat.mod_lt (n / 2) (show 16 > 0 by decide)
    intro a; fin_cases a <;> simp [Shape.size] <;> omega))

/-- The context's keys. -/
def ctxKey : Vec F S1x256x128 .bf16 :=
  View.ld x3 (Rect.unit (s := S1x256x128) ![0, 0, 0] S1x256x128.size inb_S1x256x128_S1x256x128_0_0_0)

/-- The context's values of head `j`. -/
def ctxVal (j : Fin 2) : Vec F S1x1x64x256 .bf16 :=
  View.ld x4 (Rect.unit (s := S1x1x128x256) ![0, 0, 64 * j.val, 0] S1x1x64x256.size (by revert j; decide))

/-- The coefficient vectors, as loaded. -/
def ldLam : Vec F S4x32 .f32 := View.ld x5 (Rect.unit (s := S4x32) ![0, 0] S4x32.size inb_S4x32_S4x32_0_0)

/-- The gains, as loaded. -/
def ldGain : Vec F S64x1 .f32 := View.ld x6 (Rect.unit (s := S64x1) ![0, 0] S64x1.size inb_S64x1_S64x1_0_0)

/-- The context's scores of chain `k` of head `j`. -/
def ctxScore (j k : Fin 2) : FVec F S256x256 .f32 := score (query x0 j k) (ctxKey x3)

/-- The scores of the `n`-th chunk of the latents, of chain `k` of head `j`. -/
def scoreAt (j k : Fin 2) (n : ℕ) : FVec F S256x256 .f32 := score (query x0 j k) (keyAt x1 n)

/-- A chain's result, collected against lagging maxima. -/
def lagChain (j k : Fin 2) : FVec F S64x256 .f32 :=
  normed (lag (ctxScore x0 x3 j k) (ctxVal x4 j) (scoreAt x0 x1 j k) (valAt x2 j) 31)

/-- A chain's result, collected against exact maxima. -/
def fullChain (j k : Fin 2) : FVec F S64x256 .f32 :=
  normed (full (ctxScore x0 x3 j k) (ctxVal x4 j) (scoreAt x0 x1 j k) (valAt x2 j) 32)

/-- A head's result, from its chains. -/
def headOf (a b : FVec F S64x256 .f32) : FVec F S64x256 .f32 := finish (differ a b (lam (ldLam x5))) (ldGain x6)

/-- The block collected against lagging maxima. -/
def lagBlock : FVec F S1x256x128 .bf16 :=
  pack (headOf x5 x6 (lagChain x0 x1 x2 x3 x4 0 0) (lagChain x0 x1 x2 x3 x4 0 1))
    (headOf x5 x6 (lagChain x0 x1 x2 x3 x4 1 0) (lagChain x0 x1 x2 x3 x4 1 1))

/-- The block collected against exact maxima. -/
def fullBlock : FVec F S1x256x128 .bf16 :=
  pack (headOf x5 x6 (fullChain x0 x1 x2 x3 x4 0 0) (fullChain x0 x1 x2 x3 x4 0 1))
    (headOf x5 x6 (fullChain x0 x1 x2 x3 x4 1 0) (fullChain x0 x1 x2 x3 x4 1 1))

/-- The bit the kernel branches on: some score exceeds its lagging maximum by more than 60. -/
def guard : BitVec 1 :=
  Scalar.cmpi .ne (Scalar.extui (Scalar.cmpf .ogt
    (k0_pay2050 (excess (ctxScore x0 x3 0 0) (scoreAt x0 x1 0 0) 31) (excess (ctxScore x0 x3 0 1) (scoreAt x0 x1 0 1) 31)
      (excess (ctxScore x0 x3 1 0) (scoreAt x0 x1 1 0) 31) (excess (ctxScore x0 x3 1 1) (scoreAt x0 x1 1 1) 31))
    (Scalar.ofBits .f32 0x42700000#32)) : BitVec 32) 0#32

end Block

end Cert.Kernel3Ideal.Dif

end
-- ==== Proof.DiffBody.lean ====
module

public import proofs.«01_k».proof.Proof.Gen.Kernel3Ideal.Frame
public import proofs.«01_k».proof.Proof.Gen.Kernel3Ideal.Skeleton
public import proofs.«01_k».proof.Proof.DiffChain
public import Idealize.ShloMosaic.Lib.Claim

@[expose] public section

noncomputable section

namespace Cert.Kernel3Ideal.Dif

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in the output window's buffer -/

/-- The output window's buffer, whole. -/
abbrev rOut : Rect S1x256x128 := Rect.unit (s := S1x256x128) ![0, 0, 0] S1x256x128.size inb_S1x256x128_S1x256x128_0_0_0

/-- The output window's buffer after the body: the lagged block, or, when the guard is set, the exact block over it. -/
def out (x0 : Vec F S1x256x128 .bf16) (x1 : Vec F S1x8192x128 .bf16) (x2 : Vec F S1x16x128x512 .bf16)
    (x3 : Vec F S1x256x128 .bf16) (x4 : Vec F S1x1x128x256 .bf16) (x5 : Vec F S4x32 .f32) (x6 : Vec F S64x1 .f32) : Vec F S1x256x128 .bf16 :=
  if guard x0 x1 x3 = 1#1 then View.canon [⟨rOut, fullBlock x0 x1 x2 x3 x4 x5 x6⟩, ⟨rOut, lagBlock x0 x1 x2 x3 x4 x5 x6⟩]
  else View.canon [⟨rOut, lagBlock x0 x1 x2 x3 x4 x5 x6⟩]

/-- One store over the whole buffer covers it. -/
theorem cover_one (p : Vec F S1x256x128 .bf16) (y : S1x256x128.Idx) :
    ∃ pc ∈ ([⟨rOut, p⟩] : List (View.Piece (Elt F) S1x256x128 .bf16)), y ∈ pc.1.set :=
  View.cover_of_tiled [⟨rOut, p⟩] S1x256x128.size (by rfl) y

/-- So do two. -/
theorem cover_two (p p' : Vec F S1x256x128 .bf16) (y : S1x256x128.Idx) :
    ∃ pc ∈ ([⟨rOut, p⟩, ⟨rOut, p'⟩] : List (View.Piece (Elt F) S1x256x128 .bf16)), y ∈ pc.1.set :=
  let ⟨pc, h, hy⟩ := cover_one p y
  ⟨pc, List.mem_cons.2 (.inl (List.mem_singleton.1 h)), hy⟩

/-! ## The body's triple -/

set_option maxRecDepth 65536 in
/-- The kernel body on whole staging memrefs, the inputs' at given contents and the output's at anything, ends with the
    inputs' as they were and the output's at `out` of them. -/
theorem sound_kernel (c : Dev nD) (E : Set ℕ) (i : grid0.Coords) (arg3 : Memref sig .tc .vmem S1x256x128 .bf16) (harg3 : arg3.IsWhole) (arg4 : Memref sig .tc .vmem S1x8192x128 .bf16) (harg4 : arg4.IsWhole)
    (arg5 : Memref sig .tc .vmem S1x16x128x512 .bf16) (harg5 : arg5.IsWhole) (arg6 : Memref sig .tc .vmem S1x256x128 .bf16) (harg6 : arg6.IsWhole)
    (arg7 : Memref sig .tc .vmem S1x1x128x256 .bf16) (harg7 : arg7.IsWhole) (arg8 : Memref sig .tc .vmem S4x32 .f32) (harg8 : arg8.IsWhole)
    (arg9 : Memref sig .tc .vmem S64x1 .f32) (harg9 : arg9.IsWhole) (arg10 : Memref sig .tc .vmem S1x256x128 .bf16) (harg10 : arg10.IsWhole)
    (x0 : Vec F S1x256x128 .bf16) (x1 : Vec F S1x8192x128 .bf16) (x2 : Vec F S1x16x128x512 .bf16)
    (x3 : Vec F S1x256x128 .bf16) (x4 : Vec F S1x1x128x256 .bf16) (x5 : Vec F S4x32 .f32) (x6 : Vec F S64x1 .f32)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare x6 ∗ (∃ d, owns (c : Thread nD τ) arg10 fullShare d)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare x6
        ∗ owns (c : Thread nD τ) arg10 fullShare (out x0 x1 x2 x3 x4 x5 x6)) -∗ K ⟨⟩))
      ⊢ wp frame (wpE (defs₀ (F := F)) Variants.none c none) E (cc0_dense_diff_lat i arg3 harg3 arg4 harg4 arg5 harg5 arg6 harg6 arg7 harg7 arg8 harg8 arg9 harg9 arg10 harg10) K := by
  simp only [cc0_dense_diff_lat_eq_skeleton]; unfold cc0_dense_diff_lat_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec_parts
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  have hg : sound_kernel.sl.v2601 c arg3 arg4 arg6 f0 f1 f3
      = guard (arg3.view.read (Elt F) f0) (arg4.view.read (Elt F) f1) (arg6.view.read (Elt F) f3) := by sl_kernel_rfl
  have hl : sound_kernel.sl.H7_1 c arg3 arg4 arg5 arg6 arg7 arg8 arg9 f0 f1 f2 f3 f4 f5 f6
      = [⟨rOut, lagBlock (arg3.view.read (Elt F) f0) (arg4.view.read (Elt F) f1) (arg5.view.read (Elt F) f2) (arg6.view.read (Elt F) f3)
        (arg7.view.read (Elt F) f4) (arg8.view.read (Elt F) f5) (arg9.view.read (Elt F) f6)⟩] := by
    sl_kernel_rfl
  have he : k0_pay2 (sound_kernel.sl.r_1641 c arg3 arg4 arg5 arg6 arg7 f0 f1 f2 f3 f4)
              (sound_kernel.sl.r_1642 c arg3 arg4 arg5 arg6 arg7 f0 f1 f2 f3 f4)
              (sound_kernel.sl.r_1646 c arg3 arg4 arg5 arg6 arg7 arg8 arg9 f0 f1 f2 f3 f4 f5 f6)
              (sound_kernel.sl.r_1647 c arg8 f5)
              (View.readAt (Elt F) arg9.view (Rect.unit ![0, 0] S64x1.size inb_S64x1_S64x1_0_0).toLoadRect f6)
      = fullBlock (arg3.view.read (Elt F) f0) (arg4.view.read (Elt F) f1) (arg5.view.read (Elt F) f2) (arg6.view.read (Elt F) f3)
        (arg7.view.read (Elt F) f4) (arg8.view.read (Elt F) f5) (arg9.view.read (Elt F) f6) := by
    sl_kernel_rfl
  rw [hg, hl, he]
  unfold out
  split
  · exact View.read_writes_eq_canon _ _ _ (cover_two _ _)
  · exact View.read_writes_eq_canon _ _ _ (cover_one _)

/-! ## The pipeline's proof data -/

/-- The arrays as the region finds them; after the body at point `t` each input's buffer at its block and the output's at
    `out` of the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are those the region finds. -/
theorem A_eq (c : Dev nD) (w : Fin cfg0.W) : (dats m 0 c).A w = V m c (Pipeline.arrRef spec0 w) := by
  dsimp only [dats]

/-- The body leaves an input's buffer at its block. -/
theorem after_in (c : Dev nD) (t : Fin cfg0.N) : (dats m 0 c).after 0 t = iblk m c 0 t ∧ (dats m 0 c).after 1 t = iblk m c 1 t
    ∧ (dats m 0 c).after 2 t = iblk m c 2 t ∧ (dats m 0 c).after 3 t = iblk m c 3 t ∧ (dats m 0 c).after 4 t = iblk m c 4 t
    ∧ (dats m 0 c).after 5 t = iblk m c 5 t ∧ (dats m 0 c).after 6 t = iblk m c 6 t := by
  dsimp only [dats]; exact ⟨rfl, rfl, rfl, rfl, rfl, rfl, rfl⟩

/-- The body leaves the output's buffer at `out` of the blocks. -/
theorem after_out (c : Dev nD) (t : Fin cfg0.N) : (dats m 0 c).after 7 t
    = out (iblk m c 0 t) (iblk m c 1 t) (iblk m c 2 t) (iblk m c 3 t) (iblk m c 4 t) (iblk m c 5 t) (iblk m c 6 t) := by dsimp only [dats]

/-- Each input's current staging buffer holds its block at every point. -/
theorem before_in (c : Dev nD) (t : Fin cfg0.N) : (∀ d, (dats m 0 c).before 0 t d = iblk m c 0 t) ∧ (∀ d, (dats m 0 c).before 1 t d = iblk m c 1 t)
    ∧ (∀ d, (dats m 0 c).before 2 t d = iblk m c 2 t) ∧ (∀ d, (dats m 0 c).before 3 t d = iblk m c 3 t) ∧ (∀ d, (dats m 0 c).before 4 t d = iblk m c 4 t)
    ∧ (∀ d, (dats m 0 c).before 5 t d = iblk m c 5 t) ∧ (∀ d, (dats m 0 c).before 6 t d = iblk m c 6 t) :=
  ⟨before0_0_of m (dats m 0 c) (A_eq m c 0) (fun t => (after_in m c t).1) t, before0_1_of m (dats m 0 c) (A_eq m c 1) (fun t => (after_in m c t).2.1) t,
    before0_2_of m (dats m 0 c) (A_eq m c 2) (fun t => (after_in m c t).2.2.1) t, before0_3_of m (dats m 0 c) (A_eq m c 3) (fun t => (after_in m c t).2.2.2.1) t,
    before0_4_of m (dats m 0 c) (A_eq m c 4) (fun t => (after_in m c t).2.2.2.2.1) t,
    before0_5_of m (dats m 0 c) (A_eq m c 5) (fun t => (after_in m c t).2.2.2.2.2.1) t, before0_6_of m (dats m 0 c) (A_eq m c 6) (fun t => (after_in m c t).2.2.2.2.2.2) t⟩

/-! ## The body obligation, at a generic point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: `sound_kernel` at the point's blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  obtain ⟨b0, b1, b2, b3, b4, b5, b6⟩ := before_in m c t
  obtain ⟨a0, a1, a2, a3, a4, a5, a6⟩ := after_in m c t
  simp only [b0, b1, b2, b3, b4, b5, b6]
  rw [show (dats m 0 c).Φ t.succ = (dats m 0 c).Φ t.castSucc from rfl,
    show (dats m 0 c).owesAt () t.succ = (dats m 0 c).owesAt () t.castSucc from rfl, a0, a1, a2, a3, a4, a5, a6, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t)
    (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxRecDepth 8192 in
/-- Every execution ends with every array at what the proof data say and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every execution ends with every array at what the proof data say. -/
theorem run_main : θ_run defs (onTc (τ := τ) (main (F := F))) (s₀ m ρ) (Pipeline.FramePost cfgs (dats m) 0 (V m)) :=
  (θ_run defs _ _).mono (fun _ h => h.1) (run_main_quiescent m ρ)

/-- Every execution ends with the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.Kernel3Ideal.Dif

end
-- ==== Proof.DiffFrame.lean ====
/-
  The frame of the differential attention kernel as it is printed at machine words.  The two printings of the kernel have the same text, so what
  is proved of one at any floating-point values (DiffBody.lean) is the other's statement too.
-/
module

public import proofs.«01_k».proof.Defs
public import proofs.«01_k».proof.Proof.Gen.Kernel3
public import proofs.«01_k».proof.Proof.DiffBody

@[expose] public section

noncomputable section

namespace Cert.Proof.DiffFrames

open Idealize.ShloMosaic Idealize.ShloMosaic.Tactic Idealize.SL.Sem

/-- The frame of `Kernel3Ideal`'s text at machine words. -/
def AtBits : Prop :=
  ∀ (m : (ℓ : Loc Cert.Kernel3Ideal.nD Cert.Kernel3Ideal.τ Cert.Kernel3Ideal.sig) → Buf (Elt Bits) ℓ) (g : Dev Cert.Kernel3Ideal.nD → PrngReg), True →
    θ_run (Cert.Kernel3Ideal.defs (F := Bits)) (onTc (τ := Cert.Kernel3Ideal.τ) (Cert.Kernel3Ideal.main (F := Bits))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

/-- It is `Kernel3`'s frame. -/
theorem same : AtBits = quiescent_Kernel3 := by sl_kernel_rfl

/-- The frame of the differential attention kernel as printed at machine words. -/
theorem kernel : quiescent_Kernel3 := same ▸ fun m g _ => Cert.Kernel3Ideal.Dif.frame m g

end Cert.Proof.DiffFrames

end
-- ==== Proof.DiffChainValue.lean ====
/-
  What one chain of the differential attention collects, on the extended reals: both ways of collecting hold, after every
  chunk, the sum of the value columns so far against a power of two of the scores, and their quotients are the
  softmax-weighted sum over all keys.
-/
module

public import proofs.«01_k».proof.Proof.DiffChain
public import proofs.«01_k».proof.Proof.Collect

@[expose] public section

set_option maxRecDepth 16384

noncomputable section

namespace Cert.Kernel3Ideal.Dif

open Cert.Kernel3Ideal Cert.Kernel3Ideal.Gen Cert.Proof Cert.Proof.Softmax
open Cert.Proof.Collect (attend part ieee_real max_real run_real collected)
open Idealize.ShloMosaic Idealize.ShloMosaic.TcCoe

/-! ## The operations at an index -/

theorem score_at (q : FVec Ideal S256x128 .bf16) (k : Vec Ideal S1x256x128 .bf16) (a : Fin 256) (b : Fin 256) :
    score q k (ix2 a b) = ∑ d, k (ix3 0 a d) * q (ix2 b d) := by
  pointwise [score]

theorem weights_at (s : FVec Ideal S256x256 .f32) (r : FVec Ideal S1x256 .f32) (a : Fin 256) (b : Fin 256) :
    weights s r (ix2 a b) = Ideal.exp2 (s (ix2 a b) - r (ix2 0 b)) := by
  pointwise [weights]
  rfl

theorem ext_at (v : Vec Ideal S1x1x64x256 .bf16) (i : Fin 64) (a : Fin 256) :
    ext v (ix2 ⟨i.val, by omega⟩ a) = v (ix4 0 0 i a) := by
  pointwise [ext]

theorem ext_ones (v : Vec Ideal S1x1x64x256 .bf16) (a : Fin 256) : ext v (ix2 64 a) = 1 := by
  pointwise [ext]

theorem contrib_at (v : Vec Ideal S1x1x64x256 .bf16) (p : FVec Ideal S256x256 .bf16) (i : Fin 80) (b : Fin 256) :
    contrib v p (ix2 i b) = ∑ a, ext v (ix2 i a) * p (ix2 a b) := by
  pointwise [contrib]

theorem rescale_at (r r' : FVec Ideal S1x256 .f32) (acc : FVec Ideal S80x256 .f32) (i : Fin 80) (b : Fin 256) :
    rescale r r' acc (ix2 i b) = Ideal.exp2 (r (ix2 0 b) - r' (ix2 0 b)) * acc (ix2 i b) := by
  pointwise [rescale]
  rfl

theorem normed_at (acc : FVec Ideal S80x256 .f32) (i : Fin 64) (b : Fin 256) :
    normed acc (ix2 i b) = Ideal.div (acc (ix2 ⟨i.val, by omega⟩ b)) (acc (ix2 64 b)) := by
  pointwise [normed]

theorem top_real (s : FVec Ideal S256x256 .f32) (b : Fin 256) (h : ∀ a, ∃ x : ℝ, s (ix2 a b) = x) :
    ∃ x : ℝ, top s (ix2 0 b) = x := by
  obtain ⟨x, hx⟩ := fold_max_real (n := 255) (fun a => s (ix2 a b)) h
  refine ⟨x, ?_⟩
  pointwise [top]
  have hb : Ideal.ofBits FTy.f32 4286578688#32 = ⊥ := by simp [Ideal.ofBits, Ideal.ieee]
  rw [hb]; exact hx

theorem low_real (b : Fin 256) : ∃ x : ℝ, low (F := Ideal) (ix2 0 b) = x :=
  ieee_real 8 23 (0xF149F2CA#32) (by decide)

/-! ## One chain -/

section Head

variable (sc : FVec Ideal S256x256 .f32) (vc : Vec Ideal S1x1x64x256 .bf16)
variable (s : ℕ → FVec Ideal S256x256 .f32) (v : ℕ → Vec Ideal S1x1x64x256 .bf16)

theorem part_at (w : Vec Ideal S1x1x64x256 .bf16) (z : FVec Ideal S256x256 .f32) (r : FVec Ideal S1x256 .f32) (i : Fin 80) (b : Fin 256) :
    contrib w (weights z r) (ix2 i b) = part (fun a => ext w (ix2 i a)) (fun a => z (ix2 a b)) (r (ix2 0 b)) :=
  (contrib_at _ _ i b).trans (Finset.sum_congr rfl fun a _ => congrArg _ (weights_at z r a b))

theorem start_at (i : Fin 80) (b : Fin 256) : start sc vc s (ix2 i b) = Collect.start (fun a => ext vc (ix2 i a)) (fun a => sc (ix2 a b))
    (low (F := Ideal) (ix2 0 b)) (fun n => run sc s n (ix2 0 b)) :=
  congrArg₂ (· + ·) ((rescale_at _ _ _ i b).trans (congrArg _ Ideal.ofBits_zero_f32)) (part_at vc sc _ i b)

theorem lag_at (i : Fin 80) (b : Fin 256) (n : ℕ) : lag sc vc s v n (ix2 i b) = Collect.lag (fun a => ext vc (ix2 i a)) (fun a => sc (ix2 a b))
    (fun n a => ext (v n) (ix2 i a)) (fun n a => s n (ix2 a b)) (low (F := Ideal) (ix2 0 b)) (fun n => run sc s n (ix2 0 b)) n := by
  induction n with
  | zero => exact congrArg₂ (· + ·) (start_at sc vc s i b) (part_at (v 0) (s 0) _ i b)
  | succ n ih => exact congrArg₂ (· + ·) ((rescale_at _ _ _ i b).trans (congrArg _ ih)) (part_at (v (n + 1)) (s (n + 1)) _ i b)

theorem full_at (i : Fin 80) (b : Fin 256) (n : ℕ) : full sc vc s v n (ix2 i b) = Collect.full (fun a => ext vc (ix2 i a)) (fun a => sc (ix2 a b))
    (fun n a => ext (v n) (ix2 i a)) (fun n a => s n (ix2 a b)) (low (F := Ideal) (ix2 0 b)) (fun n => run sc s n (ix2 0 b)) n := by
  induction n with
  | zero => exact start_at sc vc s i b
  | succ n ih => exact congrArg₂ (· + ·) ((rescale_at _ _ _ i b).trans (congrArg _ ih)) (part_at (v n) (s n) _ i b)

end Head

/-- Both ways of collecting give the softmax-weighted sum. -/
theorem chain_eq (sc : FVec Ideal S256x256 .f32) (vc : Vec Ideal S1x1x64x256 .bf16) (s : ℕ → FVec Ideal S256x256 .f32)
    (v : ℕ → Vec Ideal S1x1x64x256 .bf16) (σ : ℕ → ℝ) (u : ℕ → EReal) (i : Fin 64) (b : Fin 256)
    (hσc : ∀ a : Fin 256, sc (ix2 a b) = σ a.val) (hσ : ∀ n (a : Fin 256), s n (ix2 a b) = σ (256 * (n + 1) + a.val))
    (huc : ∀ a : Fin 256, vc (ix4 0 0 i a) = u a.val) (hu : ∀ n (a : Fin 256), v n (ix4 0 0 i a) = u (256 * (n + 1) + a.val)) (M : ℝ) :
    normed (lag sc vc s v 31) (ix2 i b) = attend σ u M ∧ normed (full sc vc s v 32) (ix2 i b) = attend σ u M := by
  have hr := run_real (fun n => run sc s n (ix2 0 b)) (fun n => top (s n) (ix2 0 b))
    (max_real (low_real b) (top_real sc b fun a => ⟨_, hσc a⟩)) (fun _ => rfl) (fun n => top_real (s n) b fun a => ⟨_, hσ n a⟩)
  rw [normed_at, normed_at, lag_at, lag_at, full_at, full_at]
  simp only [ext_at, ext_ones]
  exact collected σ u (low_real b) hr huc hσc hu hσ M

end Cert.Kernel3Ideal.Dif

end
-- ==== Proof.DiffRow.lean ====
/-
  The mathematics of a differential attention head, written once for the kernel's blocks and for the reference's arrays:
  the coefficient, the difference of two softmax-weighted sums, and the row put to unit mean square.
-/
module

public import proofs.«01_k».proof.Proof.Collect
public import proofs.«01_k».proof.Proof.Softmax
public import Idealize.ShloMosaic.Lib.Pipeline.ValueKit

@[expose] public section

noncomputable section

namespace Cert.Proof.Diff

open Idealize.ShloMosaic Cert.Proof.Softmax
open Cert.Proof.Collect (attend ieee_real)

/-- The coefficient of a head's second sum, from the four vectors. -/
def coef (l : Fin 4 → Fin 32 → EReal) : EReal :=
  Ideal.exp (∑ d, l 0 d * l 1 d) - Ideal.exp (∑ d, l 2 d * l 3 d) + Ideal.ofBits FTy.f32 0x3E4CCCCD#32

/-- Entry `i` of a head's row put to unit mean square, with its gain and the last factor. -/
def row (o : Fin 64 → EReal) (g : EReal) (i : Fin 64) : EReal :=
  o i * Ideal.rsqrt ((∑ j, o j * o j) * Ideal.ofBits FTy.f32 0x3C800000#32 + Ideal.ofBits FTy.f32 0x358637BD#32) * g
    * Ideal.ofBits FTy.f32 0x3F4CCCCD#32

/-- Dividing by sixty-four is multiplying by its exact reciprocal. -/
theorem mean_eq (s : EReal) : Ideal.div s (Ideal.ofBits FTy.f32 0x42800000#32) = s * Ideal.ofBits FTy.f32 0x3C800000#32 := by
  have h : Ideal.ofBits FTy.f32 0x42800000#32 = ((64 : ℝ) : EReal) := by
    simp [Ideal.ofBits, Ideal.ieee]; rw [← EReal.coe_mul]; norm_num
  have h' : Ideal.ofBits FTy.f32 0x3C800000#32 = ((1 / 64 : ℝ) : EReal) := by
    simp [Ideal.ofBits, Ideal.ieee]; rw [← EReal.coe_mul]; norm_num
  rw [h, h']
  exact Ideal.div_coe (by norm_num) s

/-- The coefficient of real vectors is real. -/
theorem coef_real (l : Fin 4 → Fin 32 → EReal) (h : ∀ j d, ∃ x : ℝ, l j d = x) : ∃ x : ℝ, coef l = x := by
  obtain ⟨x, hx⟩ := sum_mul_real (l 0) (l 1) (h 0) (h 1)
  obtain ⟨y, hy⟩ := sum_mul_real (l 2) (l 3) (h 2) (h 3)
  obtain ⟨z, hz⟩ := ieee_real 8 23 (0x3E4CCCCD#32) (by decide)
  refine ⟨Real.exp x - Real.exp y + z, ?_⟩
  unfold coef
  rw [hx, hy]
  exact (congrArg (Ideal.exp (x : EReal) - Ideal.exp (y : EReal) + ·) hz).trans (by
    rw [EReal.coe_add, EReal.coe_sub]; rfl)

/-- The softmax share of key `k` among 8448 keys of real scores. -/
def share (σ : ℕ → ℝ) (M : ℝ) (k : Fin 8448) : ℝ :=
  Real.exp (σ k.val * Real.log 2 - M) * (∑ j : Fin 8448, Real.exp (σ j.val * Real.log 2 - M))⁻¹

theorem share_eq (σ : ℕ → ℝ) (M : ℝ) (k : Fin 8448) :
    Ideal.div (Ideal.exp ((σ k.val * Real.log 2 : ℝ) - (M : EReal)))
      (∑ j : Fin 8448, Ideal.exp ((σ j.val * Real.log 2 : ℝ) - (M : EReal))) = (share σ M k : EReal) := by
  simp only [exp_sub, ← coe_sum]
  have hE : (0 : ℝ) < ∑ k : Fin 8448, Real.exp (σ k.val * Real.log 2 - M) :=
    Finset.sum_pos (fun _ _ => by positivity) Finset.univ_nonempty
  rw [Ideal.div_coe hE.ne', ← EReal.coe_mul, one_div]
  rfl

theorem attend_coe (σ : ℕ → ℝ) (v : ℕ → ℝ) (M : ℝ) :
    attend σ (fun k => (v k : EReal)) M = ((∑ k : Fin 8448, v k.val * share σ M k : ℝ) : EReal) := by
  rw [coe_sum]
  exact Finset.sum_congr rfl fun k _ => by rw [share_eq, ← EReal.coe_mul]

/-- The sum of real values with the difference of two shares is the difference of the two sums. -/
theorem differ_eq (σ σ' : ℕ → ℝ) (u : ℕ → EReal) (hu : ∀ k, ∃ x : ℝ, u k = x) (M M' : ℝ) (c : EReal) (hc : ∃ x : ℝ, c = x) :
    ∑ k : Fin 8448, u k.val * ((share σ M k : EReal) - c * (share σ' M' k : EReal)) = attend σ u M - c * attend σ' u M' := by
  choose v hv using hu
  obtain ⟨x, rfl⟩ := hc
  obtain rfl : u = fun k => (v k : EReal) := funext hv
  rw [attend_coe, attend_coe, ← EReal.coe_mul, ← EReal.coe_sub, Finset.mul_sum, ← Finset.sum_sub_distrib, coe_sum]
  refine Finset.sum_congr rfl fun k _ => ?_
  rw [← EReal.coe_mul, ← EReal.coe_sub, ← EReal.coe_mul]
  congr 1; ring

/-- A sum over a hundred and twenty-eight lanes of which all but thirty-two are zero. -/
theorem sum_lanes (f : Fin 128 → EReal) (o : ℕ) (ho : o + 32 ≤ 128) :
    ∑ d : Fin 128, (if o ≤ d.val ∧ d.val < o + 32 then f d else 0) = ∑ e : Fin 32, f ⟨o + e.val, by omega⟩ := by
  rw [← Finset.sum_filter]
  refine (Finset.sum_bij (fun (e : Fin 32) _ => (⟨o + e.val, by omega⟩ : Fin 128)) (fun e _ => ?_) (fun e _ e' _ h => ?_)
    (fun d hd => ?_) fun e _ => rfl).symm
  · exact Finset.mem_filter.2 ⟨Finset.mem_univ _, by simp⟩
  · exact Fin.ext (by simpa using congrArg Fin.val h)
  · obtain ⟨-, h1, h2⟩ := Finset.mem_filter.1 hd
    exact ⟨⟨d.val - o, by omega⟩, Finset.mem_univ _, Fin.ext (by simp; omega)⟩

end Cert.Proof.Diff

end
-- ==== Proof.DiffBlock.lean ====
/-
  A block of the differential attention on the extended reals: every entry is the row of its query and head, whichever way
  the block collected it.
-/
module

public import proofs.«01_k».proof.Proof.DiffBody
public import proofs.«01_k».proof.Proof.DiffChainValue
public import proofs.«01_k».proof.Proof.DiffRow
public import Idealize.ShloMosaic.Lib.Pipeline.ValueKit

@[expose] public section

set_option maxRecDepth 16384

noncomputable section

namespace Cert.Kernel3Ideal.Dif

open Cert.Kernel3Ideal Cert.Kernel3Ideal.Gen Cert.Proof.Softmax Cert.Proof.Diff
open Cert.Proof.Collect (attend)
open Idealize.ShloMosaic Idealize.ShloMosaic.TcCoe

/-! ## The finishing operations at an index -/

theorem lam_at (l : Vec Ideal S4x32 .f32) : lam l (ix2 0 0) = coef fun j d => l (ix2 j d) := by
  pointwise [lam, k0_pay2054, coef]

theorem differ_at (a b : FVec Ideal S64x256 .f32) (c : FVec Ideal S1x1 .f32) (i : Fin 64) (n : Fin 256) :
    differ a b c (ix2 i n) = a (ix2 i n) - c (ix2 0 0) * b (ix2 i n) := by
  pointwise [differ]

theorem meanSq_at (o : FVec Ideal S64x256 .f32) (n : Fin 256) : meanSq o (ix2 0 n)
    = (∑ j, o (ix2 j n) * o (ix2 j n)) * Ideal.ofBits FTy.f32 0x3C800000#32 + Ideal.ofBits FTy.f32 0x358637BD#32 := by
  pointwise [meanSq]

theorem finish_at (o : FVec Ideal S64x256 .f32) (g : Vec Ideal S64x1 .f32) (i : Fin 64) (n : Fin 256) :
    finish o g (ix2 i n) = row (fun j => o (ix2 j n)) (g (ix2 i 0)) i := by
  unfold row
  rw [← meanSq_at]
  unfold finish
  generalize meanSq o = s
  pointwise []

theorem ldLam_at (x5 : Vec Ideal S4x32 .f32) (j : Fin 4) (d : Fin 32) : ldLam x5 (ix2 j d) = x5 (ix2 j d) := by
  pointwise [ldLam]

theorem ldGain_at (x6 : Vec Ideal S64x1 .f32) (i : Fin 64) : ldGain x6 (ix2 i 0) = x6 (ix2 i 0) := by
  pointwise [ldGain]

/-- A head's result at an entry, from its chains'. -/
theorem headOf_at (x5 : Vec Ideal S4x32 .f32) (x6 : Vec Ideal S64x1 .f32) (a b : FVec Ideal S64x256 .f32) (i : Fin 64) (n : Fin 256) :
    headOf x5 x6 a b (ix2 i n)
      = row (fun j => a (ix2 j n) - coef (fun j d => x5 (ix2 j d)) * b (ix2 j n)) (x6 (ix2 i 0)) i := by
  unfold headOf
  rw [finish_at, ldGain_at]
  simp only [differ_at, lam_at, ldLam_at]

/-! ## The block's reads -/

section Reads

variable (x0 : Vec Ideal S1x256x128 .bf16) (x1 : Vec Ideal S1x8192x128 .bf16) (x2 : Vec Ideal S1x16x128x512 .bf16)
variable (x3 : Vec Ideal S1x256x128 .bf16) (x4 : Vec Ideal S1x1x128x256 .bf16)
variable (x5 : Vec Ideal S4x32 .f32) (x6 : Vec Ideal S64x1 .f32)

theorem cast_at (w : FVec Ideal S1x256x128 .bf16) (b : Fin 256) (d : Fin 128) :
    shapeCast S256x128 w shapeCasts_S1x256x128_S256x128 (ix2 b d) = w (ix3 0 b d) := by
  pointwise []

theorem whole_at (x : Vec Ideal S1x256x128 .bf16) (b : Fin 256) (d : Fin 128) :
    View.ld x (Rect.unit (s := S1x256x128) ![0, 0, 0] S1x256x128.size inb_S1x256x128_S1x256x128_0_0_0) (ix3 0 b d) = x (ix3 0 b d) := by
  pointwise []

theorem lanes_at (j k : Fin 2) (b : Fin 256) (d : Fin 128) : lanes j k (ix2 b d)
    = if 64 * j.val + 32 * k.val ≤ d.val ∧ d.val < 64 * j.val + 32 * k.val + 32 then 1#1 else 0#1 := by
  have h : ∀ (j k : Fin 2) (d : Fin 128),
      IntOp.andi (IntOp.cmpi .sge (BitVec.ofNat 32 d.val) (BitVec.ofNat 32 (64 * j.val + 32 * k.val)))
        (IntOp.cmpi .slt (BitVec.ofNat 32 d.val) (BitVec.ofNat 32 (64 * j.val + 32 * k.val + 32)))
      = if 64 * j.val + 32 * k.val ≤ d.val ∧ d.val < 64 * j.val + 32 * k.val + 32 then 1#1 else 0#1 := by decide +kernel
  refine Eq.trans ?_ (h j k d)
  pointwise [lanes]

theorem query_at (j k : Fin 2) (b : Fin 256) (d : Fin 128) : query x0 j k (ix2 b d)
    = if 64 * j.val + 32 * k.val ≤ d.val ∧ d.val < 64 * j.val + 32 * k.val + 32 then x0 (ix3 0 b d) else 0 := by
  have hz : Ideal.ofBits FTy.bf16 0x0000#16 = 0 := by simp [Ideal.ofBits, Ideal.ieee]
  have e : query x0 j k (ix2 b d) = if lanes j k (ix2 b d) = 1#1 then x0 (ix3 0 b d) else Ideal.ofBits FTy.bf16 0x0000#16 := by
    exact congrArg (fun z => if lanes j k (ix2 b d) = 1#1 then z else Ideal.ofBits FTy.bf16 0x0000#16)
      ((cast_at _ b d).trans (whole_at x0 b d))
  rw [e, lanes_at, hz]
  split <;> simp

theorem keyAt_at (n : ℕ) (a : Fin 256) (d : Fin 128) :
    keyAt x1 n (ix3 0 a d) = x1 (ix3 0 ⟨256 * (n % 32) + a.val, by omega⟩ d) := by
  refine congrArg x1 (funext fun c => Fin.ext ?_)
  match c with
  | 0 => exact Nat.zero_add _
  | 1 => exact congrArg (256 * (n % 32) + ·) (Nat.one_mul _)
  | 2 => exact (Nat.zero_add _).trans (Nat.one_mul _)

theorem valAt_at (h : Fin 2) (n : ℕ) (i : Fin 64) (a : Fin 256) :
    valAt x2 h n (ix4 0 0 i a) = x2 (ix4 0 ⟨n / 2 % 16, by omega⟩ ⟨64 * h.val + i.val, by omega⟩ ⟨256 * (n % 2) + a.val, by omega⟩) := by
  pointwise [valAt]

theorem ctxKey_at (a : Fin 256) (d : Fin 128) : ctxKey x3 (ix3 0 a d) = x3 (ix3 0 a d) := whole_at x3 a d

theorem ctxVal_at (h : Fin 2) (i : Fin 64) (a : Fin 256) :
    ctxVal x4 h (ix4 0 0 i a) = x4 (ix4 0 0 ⟨64 * h.val + i.val, by omega⟩ a) := by
  pointwise [ctxVal]

/-- A score is the sum over the chain's lanes. -/
theorem masked_at (j k : Fin 2) (w : Vec Ideal S1x256x128 .bf16) (a b : Fin 256) : score (query x0 j k) w (ix2 a b)
    = ∑ e : Fin 32, w (ix3 0 a ⟨64 * j.val + 32 * k.val + e.val, by omega⟩) * x0 (ix3 0 b ⟨64 * j.val + 32 * k.val + e.val, by omega⟩) := by
  refine (score_at _ _ a b).trans (Eq.trans (Finset.sum_congr rfl fun d _ => ?_)
    (sum_lanes (fun d => w (ix3 0 a d) * x0 (ix3 0 b d)) (64 * j.val + 32 * k.val) (by omega)))
  rw [query_at, mul_ite, mul_zero]

theorem pack_at (x y : FVec Ideal S64x256 .f32) (b : Fin 256) (l : Fin 128) :
    pack x y (ix3 0 b l) = if h : l.val < 64 then x (ix2 ⟨l.val, h⟩ b) else y (ix2 ⟨l.val - 64, by omega⟩ b) := by
  pointwise [pack]

theorem canon_rOut (p : Vec Ideal S1x256x128 .bf16) (L) : View.canon (⟨rOut, p⟩ :: L) = p :=
  View.canon_cons_unit_lit _ _ _ (by decide)

/-- An entry of the output block, where the scores of its query are the reals `σ` and its head's value columns are `u`. -/
theorem out_at (b : Fin 256) (h : Fin 2) (i : Fin 64) (σ : Fin 2 → ℕ → ℝ) (u : Fin 64 → ℕ → EReal) (M : Fin 2 → ℝ)
    (hσc : ∀ k (a : Fin 256), ctxScore x0 x3 h k (ix2 a b) = σ k a.val)
    (hσ : ∀ k n (a : Fin 256), scoreAt x0 x1 h k n (ix2 a b) = σ k (256 * (n + 1) + a.val))
    (huc : ∀ i (a : Fin 256), ctxVal x4 h (ix4 0 0 i a) = u i a.val)
    (hu : ∀ i n (a : Fin 256), valAt x2 h n (ix4 0 0 i a) = u i (256 * (n + 1) + a.val)) :
    out x0 x1 x2 x3 x4 x5 x6 (ix3 0 b ⟨64 * h.val + i.val, by omega⟩)
      = row (fun j => attend (σ 0) (u j) (M 0) - coef (fun j d => x5 (ix2 j d)) * attend (σ 1) (u j) (M 1)) (x6 (ix2 i 0)) i := by
  have hh : ∀ k j, lagChain x0 x1 x2 x3 x4 h k (ix2 j b) = attend (σ k) (u j) (M k)
      ∧ fullChain x0 x1 x2 x3 x4 h k (ix2 j b) = attend (σ k) (u j) (M k) := fun k j =>
    chain_eq (ctxScore x0 x3 h k) (ctxVal x4 h) (scoreAt x0 x1 h k) (valAt x2 h) (σ k) (u j) j b (hσc k) (hσ k) (huc j) (hu j) (M k)
  have pk : ∀ z : Fin 2 → Fin 2 → FVec Ideal S64x256 .f32, (∀ k j, z h k (ix2 j b) = attend (σ k) (u j) (M k)) →
      pack (headOf x5 x6 (z 0 0) (z 0 1)) (headOf x5 x6 (z 1 0) (z 1 1)) (ix3 0 b ⟨64 * h.val + i.val, by omega⟩)
        = row (fun j => attend (σ 0) (u j) (M 0) - coef (fun j d => x5 (ix2 j d)) * attend (σ 1) (u j) (M 1)) (x6 (ix2 i 0)) i := fun z hz => by
    have hr : headOf x5 x6 (z h 0) (z h 1) (ix2 i b)
        = row (fun j => attend (σ 0) (u j) (M 0) - coef (fun j d => x5 (ix2 j d)) * attend (σ 1) (u j) (M 1)) (x6 (ix2 i 0)) i := by
      refine (headOf_at x5 x6 _ _ i b).trans ?_
      simp only [hz]
    refine (pack_at _ _ b _).trans ?_
    clear hσc hσ huc hu hh hz
    match h, hr with
    | 0, hr =>
      refine (dif_pos (show 64 * (0 : Fin 2).val + i.val < 64 by simp)).trans ?_
      simpa using hr
    | 1, hr =>
      refine (dif_neg (show ¬ 64 * (1 : Fin 2).val + i.val < 64 by simp)).trans ?_
      simpa using hr
  unfold out
  split
  · rw [canon_rOut]
    exact pk (fullChain x0 x1 x2 x3 x4) fun k j => (hh k j).2
  · rw [canon_rOut]
    exact pk (lagChain x0 x1 x2 x3 x4) fun k j => (hh k j).1

end Reads

end Cert.Kernel3Ideal.Dif

end
-- ==== Proof.DiffRef.lean ====
/-
  What the differential attention's reference computes, entry by entry on the extended reals: the difference of two
  softmax-weighted sums of the values over all 8448 positions, put to unit mean square.
-/
module
public import proofs.«01_k».proof.Proof.Gen.Reference3Ideal.Run
public import proofs.«01_k».proof.Proof.RefValue
public import proofs.«01_k».proof.Proof.DiffRow
public import Idealize.ShloMosaic.Lib.Pipeline.ValueKit
public import Idealize.ShloMosaic.Lib.ReduceAll
@[expose] public section
set_option maxRecDepth 16384

noncomputable section
namespace Cert.Reference3Ideal.Dif
open Cert.Reference3Ideal Cert.Reference3Ideal.Gen Cert.Reference3Ideal.Value
open Cert.Proof.Softmax Cert.Proof.Diff
open Cert.Proof.Collect (attend)
open Cert.ReferenceIdeal.Att (vals valOf vals_at log_two reduce_max_real max_at)
open Idealize.ShloMosaic Idealize.ShloMosaic.TcCoe

/-- The keys of all 8448 positions, the context's first. -/
def keys (kc : FVec Ideal S8x256x256 .bf16) (kl : FVec Ideal S8x8192x256 .bf16) : FVec Ideal S8x8448x256 .bf16 :=
  concatenate S8x8448x256 1 [⟨S8x256x256, kc⟩, ⟨S8x8192x256, kl⟩] concatenates_S8x256x256_S8x8192x256_S8x8448x256_d1

/-- The scores of every query against every key, in natural units: the products' sums times the logarithm of two. -/
def scores (q : FVec Ideal S8x8192x256 .bf16) (k : FVec Ideal S8x8448x256 .bf16) : FVec Ideal S8x8x8192x8448 .f32 :=
  mulf (Host.dotGeneral dot_S8x8192x8x32_S8x8448x8x32_S8x8x8192x8448_3_3_1_1_02_02 none
      (shapeCast _ (extf .f32 q bitsLt_bf16_f32) shapeCasts_S8x8192x256_S8x8192x8x32)
      (shapeCast _ (extf .f32 k bitsLt_bf16_f32) shapeCasts_S8x8448x256_S8x8448x8x32))
    (broadcastInDim S8x8x8192x8448 ![] bcast_S_S8x8x8192x8448 (Host.log (constant S_ .f32 0x40000000#32)))

/-- The largest score of every query, as the reduction leaves it. -/
def most (s : FVec Ideal S8x8x8192x8448 .f32) : FVec Ideal S8x8x8192 .f32 :=
  Host.reduce FloatOps.maximumf s (constant S_ .f32 0xFF800000#32) reducesTo_S8x8x8192x8448_S8x8x8192_d3 h_S_

/-- The largest score of every query. -/
def tops (s : FVec Ideal S8x8x8192x8448 .f32) : FVec Ideal S8x8x8192 .f32 :=
  maximumf (broadcastInDim S8x8x8192 ![] bcast_S_S8x8x8192 (constant S_ .f32 0xFF800000#32)) (most s)

/-- One number of every query, repeated along the keys. -/
def along (x : FVec Ideal S8x8x8192 .f32) : FVec Ideal S8x8x8192x8448 .f32 :=
  broadcastInDim S8x8x8192x8448 ![0, 1, 2, 3] bcast_S8x8x8192x1_S8x8x8192x8448_0_1_2_3
    (broadcastInDim S8x8x8192x1 ![0, 1, 2] bcast_S8x8x8192_S8x8x8192x1_0_1_2 x)

/-- The exponentials of the scores less a number of the query. -/
def powers (s : FVec Ideal S8x8x8192x8448 .f32) (x : FVec Ideal S8x8x8192 .f32) : FVec Ideal S8x8x8192x8448 .f32 :=
  Host.exp (subf s (along x))

/-- Every entry over the sum of its query's entries. -/
def shares (p : FVec Ideal S8x8x8192x8448 .f32) : FVec Ideal S8x8x8192x8448 .f32 :=
  Host.divf p (along (Host.reduceAdd p (constant S_ .f32 0x00000000#32) reducesTo_S8x8x8192x8448_S8x8x8192_d3 h_S_))

/-- The sum of products of the first two vectors. -/
def inner0 (l : FVec Ideal S4x32 .f32) : FVec Ideal S_ .f32 :=
  Host.reduceAdd (mulf (shapeCast _ (extractStridedSlice S1x32 ![0, 0] l slices_S4x32_S1x32_0_0) shapeCasts_S1x32_S32)
    (shapeCast _ (extractStridedSlice S1x32 ![1, 0] l slices_S4x32_S1x32_1_0) shapeCasts_S1x32_S32))
    (constant S_ .f32 0x00000000#32) reducesTo_S32_S_d0 h_S_

/-- The sum of products of the last two vectors. -/
def inner1 (l : FVec Ideal S4x32 .f32) : FVec Ideal S_ .f32 :=
  Host.reduceAdd (mulf (shapeCast _ (extractStridedSlice S1x32 ![2, 0] l slices_S4x32_S1x32_2_0) shapeCasts_S1x32_S32)
    (shapeCast _ (extractStridedSlice S1x32 ![3, 0] l slices_S4x32_S1x32_3_0) shapeCasts_S1x32_S32))
    (constant S_ .f32 0x00000000#32) reducesTo_S32_S_d0 h_S_

/-- The coefficient of the second shares. -/
def lam (l : FVec Ideal S4x32 .f32) : FVec Ideal S_ .f32 :=
  addf (subf (Host.exp (inner0 l)) (Host.exp (inner1 l))) (constant S_ .f32 0x3E4CCCCD#32)

/-- The shares by head and part. -/
def parts (w : FVec Ideal S8x8x8192x8448 .f32) : FVec Ideal S8x4x2x8192x8448 .f32 :=
  shapeCast _ w shapeCasts_S8x8x8192x8448_S8x4x2x8192x8448

/-- The first part's shares less the coefficient's multiple of the second's. -/
def lessen (w : FVec Ideal S8x4x2x8192x8448 .f32) (c : FVec Ideal S_ .f32) : FVec Ideal S8x4x8192x8448 .f32 :=
  subf (shapeCast _ (extractStridedSlice S8x4x1x8192x8448 ![0, 0, 0, 0, 0] w slices_S8x4x2x8192x8448_S8x4x1x8192x8448_0_0_0_0_0)
      shapeCasts_S8x4x1x8192x8448_S8x4x8192x8448)
    (mulf (broadcastInDim S8x4x8192x8448 ![] bcast_S_S8x4x8192x8448 c)
      (shapeCast _ (extractStridedSlice S8x4x1x8192x8448 ![0, 0, 1, 0, 0] w slices_S8x4x2x8192x8448_S8x4x1x8192x8448_0_0_1_0_0)
        shapeCasts_S8x4x1x8192x8448_S8x4x8192x8448))

/-- The values summed with those, by query, head and column. -/
def mix (v : FVec Ideal S8x8448x4x64 .bf16) (w : FVec Ideal S8x4x8192x8448 .f32) : FVec Ideal S8x8192x4x64 .f32 :=
  transpose S8x8192x4x64 [0, 3, 1, 2]
    (Host.dotGeneral dot_S8x8448x4x64_S8x4x8192x8448_S8x4x64x8192_1_3_3_2_02_01 none (extf .f32 v bitsLt_bf16_f32) w)
    transposes_S8x4x64x8192_S8x8192x4x64_0_3_1_2

/-- The mean square of every row, with the small constant added. -/
def meanSq (o : FVec Ideal S8x8192x4x64 .f32) : FVec Ideal S8x8192x4x1 .f32 :=
  addf (Host.divf (broadcastInDim S8x8192x4x1 ![0, 1, 2] bcast_S8x8192x4_S8x8192x4x1_0_1_2
      (Host.reduceAdd (mulf o o) (constant S_ .f32 0x00000000#32) reducesTo_S8x8192x4x64_S8x8192x4_d3 h_S_))
      (broadcastInDim S8x8192x4x1 ![] bcast_S_S8x8192x4x1 (constant S_ .f32 0x42800000#32)))
    (broadcastInDim S8x8192x4x1 ![] bcast_S_S8x8192x4x1 (constant S_ .f32 0x358637BD#32))

/-- The rows put to unit mean square, with the gains and the last factor. -/
def finish (o : FVec Ideal S8x8192x4x64 .f32) (s : FVec Ideal S8x8192x4x1 .f32) (g : FVec Ideal S64x1 .f32) :
    FVec Ideal S8x8192x256 .bf16 :=
  truncf .bf16 (shapeCast _ (mulf (mulf (mulf o
      (broadcastInDim S8x8192x4x64 ![0, 1, 2, 3] bcast_S8x8192x4x1_S8x8192x4x64_0_1_2_3 (Host.rsqrt s)))
      (broadcastInDim S8x8192x4x64 ![0, 1, 2, 3] bcast_S1x1x1x64_S8x8192x4x64_0_1_2_3
        (broadcastInDim S1x1x1x64 ![3] bcast_S64_S1x1x1x64_3 (shapeCast _ g shapeCasts_S64x1_S64))))
      (broadcastInDim S8x8192x4x64 ![] bcast_S_S8x8192x4x64 (constant S_ .f32 0x3F4CCCCD#32)))
    shapeCasts_S8x8192x4x64_S8x8192x256) bitsLt_bf16_f32

/-- The reference, put together. -/
def whole (q kl : FVec Ideal S8x8192x256 .bf16) (vl : FVec Ideal S8x16x256x512 .bf16) (kc : FVec Ideal S8x256x256 .bf16)
    (vc : FVec Ideal S8x1x256x256 .bf16) (l : FVec Ideal S4x32 .f32) (g : FVec Ideal S64x1 .f32) : FVec Ideal S8x8192x256 .bf16 :=
  finish (mix (vals vc vl) (lessen (parts (shares (powers (scores q (keys kc kl)) (tops (scores q (keys kc kl)))))) (lam l)))
    (meanSq (mix (vals vc vl) (lessen (parts (shares (powers (scores q (keys kc kl)) (tops (scores q (keys kc kl)))))) (lam l)))) g

theorem res_eq (m : (ℓ : Loc nD τ sig) → Buf (Elt Ideal) ℓ) (c : Dev nD) :
    res_main_v70 m c = whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := rfl

theorem drop_at (h : S8x8x8192x8448.ReducesTo [3] S8x8x8192) (b : Fin 8) (g : Fin 8) (n : Fin 8192) (k : Fin 8448) :
    h.drop (ix4 b g n k) = ix3 b g n := by
  funext a
  refine Fin.ext ?_
  match a with
  | 0 => exact h.drop_apply_val_of_eq (ix4 b g n k) 0 0
  | 1 => exact h.drop_apply_val_of_eq (ix4 b g n k) 1 1
  | 2 => exact h.drop_apply_val_of_eq (ix4 b g n k) 2 2

theorem tops_real (s : FVec Ideal S8x8x8192x8448 .f32) (b : Fin 8) (h : Fin 8) (n : Fin 8192) (hs : ∀ i, ∃ r : ℝ, s i = r) :
    ∃ r : ℝ, tops s (ix3 b h n) = r := by
  obtain ⟨r, hr⟩ : ∃ r : ℝ, most s (ix3 b h n) = r :=
    reduce_max_real s hs reducesTo_S8x8x8192x8448_S8x8x8192_d3 h_S_ (ix3 b h n) (ix4 b h n 0) (drop_at _ b h n 0)
  exact ⟨r, (max_at _ _ (most s) _).trans hr⟩

theorem shares_at (p : FVec Ideal S8x8x8192x8448 .f32) (b : Fin 8) (h : Fin 8) (n : Fin 8192) (k : Fin 8448) :
    shares p (ix4 b h n k) = Ideal.div (p (ix4 b h n k)) (∑ j, p (ix4 b h n j)) := by
  pointwise [shares, along]

theorem powers_at (s : FVec Ideal S8x8x8192x8448 .f32) (x : FVec Ideal S8x8x8192 .f32) (b : Fin 8) (h : Fin 8) (n : Fin 8192)
    (k : Fin 8448) : powers s x (ix4 b h n k) = Ideal.exp (s (ix4 b h n k) - x (ix3 b h n)) := by
  pointwise [powers, along]

theorem inner0_at (l : FVec Ideal S4x32 .f32) : inner0 l ix0 = ∑ d : Fin 32, l (ix2 0 d) * l (ix2 1 d) := by
  pointwise [inner0]

theorem inner1_at (l : FVec Ideal S4x32 .f32) : inner1 l ix0 = ∑ d : Fin 32, l (ix2 2 d) * l (ix2 3 d) := by
  pointwise [inner1]

theorem lam_at (l : FVec Ideal S4x32 .f32) : lam l ix0 = coef fun j d => l (ix2 j d) := by
  unfold coef
  rw [← inner0_at, ← inner1_at]
  rfl

theorem parts_at (w : FVec Ideal S8x8x8192x8448 .f32) (b : Fin 8) (h : Fin 4) (a : Fin 2) (n : Fin 8192) (k : Fin 8448) :
    parts w (ix5 b h a n k) = w (ix4 b ⟨h.val * 2 + a.val, by omega⟩ n k) := by
  pointwise [parts]

theorem lessen_at (w : FVec Ideal S8x4x2x8192x8448 .f32) (c : FVec Ideal S_ .f32) (b : Fin 8) (h : Fin 4) (n : Fin 8192) (k : Fin 8448) :
    lessen w c (ix4 b h n k) = w (ix5 b h 0 n k) - c ix0 * w (ix5 b h 1 n k) := by
  pointwise [lessen]

theorem mix_at (v : FVec Ideal S8x8448x4x64 .bf16) (w : FVec Ideal S8x4x8192x8448 .f32) (b : Fin 8) (n : Fin 8192) (h : Fin 4) (i : Fin 64) :
    mix v w (ix4 b n h i) = ∑ k, v (ix4 b k h i) * w (ix4 b h n k) := by
  pointwise [mix]

theorem meanSq_at (o : FVec Ideal S8x8192x4x64 .f32) (b : Fin 8) (n : Fin 8192) (h : Fin 4) :
    meanSq o (ix4 b n h 0) = (∑ j, o (ix4 b n h j) * o (ix4 b n h j)) * Ideal.ofBits FTy.f32 0x3C800000#32
      + Ideal.ofBits FTy.f32 0x358637BD#32 := by
  rw [← mean_eq]
  pointwise [meanSq]

theorem finish_at (o : FVec Ideal S8x8192x4x64 .f32) (s : FVec Ideal S8x8192x4x1 .f32) (g : FVec Ideal S64x1 .f32) (b : Fin 8)
    (n : Fin 8192) (l : Fin 256) : finish o s g (ix3 b n l)
      = o (ix4 b n ⟨l.val / 64, by omega⟩ ⟨l.val % 64, by omega⟩) * Ideal.rsqrt (s (ix4 b n ⟨l.val / 64, by omega⟩ 0))
        * g (ix2 ⟨l.val % 64, by omega⟩ 0) * Ideal.ofBits FTy.f32 0x3F4CCCCD#32 := by
  pointwise [finish]

/-! ## Keys by position -/

/-- Entry `e` of the key of position `k`: the context's positions first, then the latents'. -/
def keyOf (kc : FVec Ideal S8x256x256 .bf16) (kl : FVec Ideal S8x8192x256 .bf16) (b : Fin 8) (k : ℕ) (e : Fin 256) : EReal :=
  if hk : k < 256 then kc (ix3 b ⟨k, hk⟩ e) else kl (ix3 b ⟨(k - 256) % 8192, by omega⟩ e)

theorem keyOf_ctx (kc : FVec Ideal S8x256x256 .bf16) (kl : FVec Ideal S8x8192x256 .bf16) (b : Fin 8) (e : Fin 256) (a : Fin 256) :
    keyOf kc kl b a.val e = kc (ix3 b a e) :=
  dif_pos a.isLt

theorem keyOf_lat (kc : FVec Ideal S8x256x256 .bf16) (kl : FVec Ideal S8x8192x256 .bf16) (b : Fin 8) (e : Fin 256) (j : ℕ) (a : Fin 256) :
    keyOf kc kl b (256 * (j + 1) + a.val) e = kl (ix3 b ⟨256 * (j % 32) + a.val, by omega⟩ e) := by
  unfold keyOf
  refine (dif_neg (by omega)).trans (congrArg (fun k => kl (ix3 b k e)) (Fin.ext ?_))
  show (256 * (j + 1) + a.val - 256) % 8192 = 256 * (j % 32) + a.val
  omega

/-- The sum of products of the key of position `k` with query `n`, over the thirty-two columns of chain `h`. -/
def dotOf (q : FVec Ideal S8x8192x256 .bf16) (kc : FVec Ideal S8x256x256 .bf16) (kl : FVec Ideal S8x8192x256 .bf16)
    (b : Fin 8) (h : Fin 8) (n : Fin 8192) (k : ℕ) : EReal :=
  ∑ d : Fin 32, keyOf kc kl b k ⟨h.val * 32 + d.val, by omega⟩ * q (ix3 b n ⟨h.val * 32 + d.val, by omega⟩)

theorem keys_at (kc : FVec Ideal S8x256x256 .bf16) (kl : FVec Ideal S8x8192x256 .bf16) (b : Fin 8) (k : Fin 8448) (e : Fin 256) :
    keys kc kl (ix3 b k e) = keyOf kc kl b k.val e := by
  pointwise [keys]
  unfold keyOf
  split
  · rfl
  · rw! [Nat.mod_eq_of_lt (show k.val - 256 < 8192 by omega)]
    rfl

theorem dots_at (q : FVec Ideal S8x8192x256 .bf16) (k : FVec Ideal S8x8448x256 .bf16) (b : Fin 8) (h : Fin 8) (n : Fin 8192) (j : Fin 8448) :
    scores q k (ix4 b h n j) = (∑ d : Fin 32, q (ix3 b n ⟨h.val * 32 + d.val, by omega⟩) * k (ix3 b j ⟨h.val * 32 + d.val, by omega⟩))
      * ((Real.log 2 : ℝ) : EReal) := by
  rw [← log_two]
  pointwise [scores]

theorem scores_at (q : FVec Ideal S8x8192x256 .bf16) (kc : FVec Ideal S8x256x256 .bf16) (kl : FVec Ideal S8x8192x256 .bf16)
    (b : Fin 8) (h : Fin 8) (n : Fin 8192) (k : Fin 8448) :
    scores q (keys kc kl) (ix4 b h n k) = dotOf q kc kl b h n k.val * ((Real.log 2 : ℝ) : EReal) :=
  (dots_at q _ b h n k).trans (congrArg (· * _) (Finset.sum_congr rfl fun d _ => by rw [keys_at, mul_comm]))

/-- The shares at an entry, where the scores are real. -/
theorem weight_at (q kl : FVec Ideal S8x8192x256 .bf16) (kc : FVec Ideal S8x256x256 .bf16)
    (σ : Fin 8 → Fin 8 → Fin 8192 → ℕ → ℝ) (hσ : ∀ b h n k, dotOf q kc kl b h n k = σ b h n k) (b : Fin 8) (h : Fin 8) (n : Fin 8192) :
    ∃ M : ℝ, ∀ k, shares (powers (scores q (keys kc kl)) (tops (scores q (keys kc kl)))) (ix4 b h n k) = (share (σ b h n) M k : EReal) := by
  have hs : ∀ (b : Fin 8) (h : Fin 8) (n : Fin 8192) (k : Fin 8448),
      scores q (keys kc kl) (ix4 b h n k) = ((σ b h n k.val * Real.log 2 : ℝ) : EReal) := fun b h n k =>
    (scores_at q kc kl b h n k).trans (by rw [hσ, ← EReal.coe_mul])
  obtain ⟨M, hM⟩ := tops_real (scores q (keys kc kl)) b h n
    fun i => ⟨_, (congrArg _ (ix4_eta i).symm).trans (hs (i 0) (i 1) (i 2) (i 3))⟩
  have hp : ∀ k : Fin 8448, powers (scores q (keys kc kl)) (tops (scores q (keys kc kl))) (ix4 b h n k)
      = Ideal.exp ((σ b h n k.val * Real.log 2 : ℝ) - (M : EReal)) := fun k =>
    (powers_at _ _ b h n k).trans (by rw [hM, hs])
  exact ⟨M, fun k => ((shares_at _ b h n k).trans (congrArg₂ Ideal.div (hp k) (Finset.sum_congr rfl fun j _ => hp j))).trans
    (share_eq _ M k)⟩

/-- The reference at an entry: the difference of two softmax-weighted sums put to unit mean square, where the scores, the
    values and the coefficient are real. -/
theorem whole_at (q kl : FVec Ideal S8x8192x256 .bf16) (vl : FVec Ideal S8x16x256x512 .bf16) (kc : FVec Ideal S8x256x256 .bf16)
    (vc : FVec Ideal S8x1x256x256 .bf16) (l : FVec Ideal S4x32 .f32) (g : FVec Ideal S64x1 .f32)
    (σ : Fin 8 → Fin 8 → Fin 8192 → ℕ → ℝ) (hσ : ∀ b h n k, dotOf q kc kl b h n k = σ b h n k)
    (hv : ∀ b h i k, ∃ x : ℝ, valOf vc vl b h i k = x) (hl : ∀ j d, ∃ x : ℝ, l (ix2 j d) = x)
    (b : Fin 8) (n : Fin 8192) (e : Fin 256) :
    ∃ M M' : ℝ, whole q kl vl kc vc l g (ix3 b n e)
      = row (fun i => attend (σ b ⟨e.val / 64 * 2, by omega⟩ n) (valOf vc vl b ⟨e.val / 64, by omega⟩ i) M
          - coef (fun j d => l (ix2 j d)) * attend (σ b ⟨e.val / 64 * 2 + 1, by omega⟩ n) (valOf vc vl b ⟨e.val / 64, by omega⟩ i) M')
        (g (ix2 ⟨e.val % 64, by omega⟩ 0)) ⟨e.val % 64, by omega⟩ := by
  obtain ⟨M, hM⟩ := weight_at q kl kc σ hσ b ⟨e.val / 64 * 2, by omega⟩ n
  obtain ⟨M', hM'⟩ := weight_at q kl kc σ hσ b ⟨e.val / 64 * 2 + 1, by omega⟩ n
  refine ⟨M, M', ?_⟩
  unfold whole
  generalize hw : shares (powers (scores q (keys kc kl)) (tops (scores q (keys kc kl)))) = w at hM hM'
  have ho : ∀ i : Fin 64, mix (vals vc vl) (lessen (parts w) (lam l)) (ix4 b n ⟨e.val / 64, by omega⟩ i)
      = attend (σ b ⟨e.val / 64 * 2, by omega⟩ n) (valOf vc vl b ⟨e.val / 64, by omega⟩ i) M
        - coef (fun j d => l (ix2 j d)) * attend (σ b ⟨e.val / 64 * 2 + 1, by omega⟩ n) (valOf vc vl b ⟨e.val / 64, by omega⟩ i) M' := fun i => by
    refine ((mix_at _ _ b n _ i).trans (Finset.sum_congr rfl fun k _ => congrArg₂ (· * ·) (vals_at vc vl b _ i k) ?_)).trans
      (differ_eq _ _ _ (hv b _ i) M M' _ (coef_real _ hl))
    refine (lessen_at _ _ b _ n k).trans ?_
    rw [parts_at, parts_at, lam_at]
    exact congrArg₂ (fun x y => x - _ * y) (hM k) (hM' k)
  generalize mix (vals vc vl) (lessen (parts w) (lam l)) = o at ho
  refine (finish_at o _ g b n e).trans ?_
  rw [meanSq_at]
  simp only [ho]
  rfl

end Cert.Reference3Ideal.Dif
-- ==== Proof.DiffArray.lean ====
/-
  The whole result of the differential attention: the array the kernel leaves is any array that is, entry by entry, the row
  of its query and head, where the scores are real numbers.
-/
module

public import proofs.«01_k».proof.Proof.DiffBlock
public import proofs.«01_k».proof.Proof.DiffRef

@[expose] public section

set_option maxRecDepth 16384

noncomputable section

namespace Cert.Kernel3Ideal.Dif

open Cert.Kernel3Ideal Cert.Kernel3Ideal.Gen Cert.Proof.Softmax Cert.Proof.Diff
open Cert.Proof.Collect (attend)
open Cert.ReferenceIdeal.Att (valOf valOf_ctx valOf_lat)
open Cert.Reference3Ideal.Dif (keyOf dotOf keyOf_ctx keyOf_lat)
open Idealize.ShloMosaic Idealize.ShloMosaic.TcCoe

variable (m : (ℓ : Loc nD τ sig) → Buf (Elt Ideal) ℓ)

/-- The windows' block indices at a grid point: the batch, the pair of heads and the part of the queries. -/
theorem idx : ∀ t : Fin cfg0.N,
    win0_0.index t = ![(grid0.coords t 0).val, (grid0.coords t 2).val, (grid0.coords t 1).val]
    ∧ win0_1.index t = ![(grid0.coords t 0).val, 0, (grid0.coords t 1).val]
    ∧ win0_2.index t = ![(grid0.coords t 0).val, 0, (grid0.coords t 1).val, 0]
    ∧ win0_3.index t = ![(grid0.coords t 0).val, 0, (grid0.coords t 1).val]
    ∧ win0_4.index t = ![(grid0.coords t 0).val, 0, (grid0.coords t 1).val, 0]
    ∧ win0_5.index t = ![0, 0]
    ∧ win0_6.index t = ![0, 0]
    ∧ win0_7.index t = ![(grid0.coords t 0).val, (grid0.coords t 2).val, (grid0.coords t 1).val] :=
  (by decide +kernel : ∀ t : Fin grid0.N, _)

theorem lt0 : ∀ t : Fin cfg0.N, (grid0.coords t 0).val < 8 ∧ (grid0.coords t 1).val < 2 ∧ (grid0.coords t 2).val < 32 :=
  (by decide +kernel : ∀ t : Fin grid0.N, _)

variable (c : Dev nD)

/-- The products' sum of query `n` with the key of position `k`, of the arguments as launched. -/
abbrev dotArg (b : Fin 8) (h : Fin 8) (n : Fin 8192) (k : ℕ) : EReal :=
  dotOf (m ((c.tc : Thread nD τ).loc main_arg0)) (m ((c.tc : Thread nD τ).loc main_arg3)) (m ((c.tc : Thread nD τ).loc main_arg1)) b h n k

/-- Entry `i` of the value of position `k`, of the arguments as launched. -/
abbrev valArg (b : Fin 8) (h : Fin 4) (i : Fin 64) (k : ℕ) : EReal :=
  valOf (m ((c.tc : Thread nD τ).loc main_arg4)) (m ((c.tc : Thread nD τ).loc main_arg2)) b h i k

section Points

variable (t : Fin cfg0.N) (b : Fin 8) (p : Fin 2) (g : Fin 32)
variable (hb : (grid0.coords t 0).val = b.val) (hp : (grid0.coords t 1).val = p.val) (hg : (grid0.coords t 2).val = g.val)

include hb hp hg

theorem iblk0 (n : Fin 256) (e : Fin 128) : iblk m c 0 t (ix3 0 n e)
    = m ((c.tc : Thread nD τ).loc main_arg0) (ix3 b ⟨256 * g.val + n.val, by omega⟩ ⟨128 * p.val + e.val, by omega⟩) := by
  blk_ext [iblk, V, idx t]

theorem iblk1 (k : Fin 8192) (d : Fin 128) : iblk m c 1 t (ix3 0 k d)
    = m ((c.tc : Thread nD τ).loc main_arg1) (ix3 b k ⟨128 * p.val + d.val, by omega⟩) := by
  blk_ext [iblk, V, idx t]

theorem iblk2 (a : Fin 16) (i : Fin 128) (k : Fin 512) : iblk m c 2 t (ix4 0 a i k)
    = m ((c.tc : Thread nD τ).loc main_arg2) (ix4 b a ⟨128 * p.val + i.val, by omega⟩ k) := by
  blk_ext [iblk, V, idx t]

theorem iblk3 (k : Fin 256) (d : Fin 128) : iblk m c 3 t (ix3 0 k d)
    = m ((c.tc : Thread nD τ).loc main_arg3) (ix3 b k ⟨128 * p.val + d.val, by omega⟩) := by
  blk_ext [iblk, V, idx t]

theorem iblk4 (i : Fin 128) (k : Fin 256) : iblk m c 4 t (ix4 0 0 i k)
    = m ((c.tc : Thread nD τ).loc main_arg4) (ix4 b 0 ⟨128 * p.val + i.val, by omega⟩ k) := by
  blk_ext [iblk, V, idx t]

omit hb hp hg in
theorem iblk5 (j : Fin 4) (d : Fin 32) : iblk m c 5 t (ix2 j d) = m ((c.tc : Thread nD τ).loc main_arg5) (ix2 j d) := by
  blk_ext [iblk, V, idx t]

omit hb hp hg in
theorem iblk6 (i : Fin 64) : iblk m c 6 t (ix2 i 0) = m ((c.tc : Thread nD τ).loc main_arg6) (ix2 i 0) := by
  blk_ext [iblk, V, idx t]

theorem emb7 (n : Fin 256) (e : Fin 128) : ((cfg0.win 7).blk t).view.emb (ix3 0 n e)
    = ix3 b ⟨256 * g.val + n.val, by omega⟩ ⟨128 * p.val + e.val, by omega⟩ := by
  blk_ext [idx t]

/-- The block's column of lane `e` of chain `k` of head `h` is the array's. -/
theorem lane (h k : Fin 2) (e : Fin 32) : 128 * p.val + (64 * h.val + 32 * k.val + e.val) = ((2 * p.val + h.val) * 2 + k.val) * 32 + e.val := by
  omega

theorem query_eq (h k : Fin 2) (n : Fin 256) (e : Fin 32) :
    iblk m c 0 t (ix3 0 n ⟨64 * h.val + 32 * k.val + e.val, by omega⟩) = m ((c.tc : Thread nD τ).loc main_arg0)
      (ix3 b ⟨256 * g.val + n.val, by omega⟩ ⟨((2 * p.val + h.val) * 2 + k.val) * 32 + e.val, by omega⟩) :=
  (iblk0 m c t b p g hb hp hg n _).trans (congrArg (fun e => m ((c.tc : Thread nD τ).loc main_arg0) (ix3 b _ e))
    (Fin.ext (lane t b p g hb hp hg h k e)))

theorem ctxScore_eq (h k : Fin 2) (n : Fin 256) (a : Fin 256) :
    ctxScore (iblk m c 0 t) (iblk m c 3 t) h k (ix2 a n)
      = dotArg m c b ⟨(2 * p.val + h.val) * 2 + k.val, by omega⟩ ⟨256 * g.val + n.val, by omega⟩ a.val := by
  refine (masked_at _ h k _ a n).trans (Finset.sum_congr rfl fun e _ => congrArg₂ (· * ·) ?_ (query_eq m c t b p g hb hp hg h k n e))
  refine (ctxKey_at _ a _).trans ((iblk3 m c t b p g hb hp hg a _).trans (Eq.trans ?_ (keyOf_ctx _ _ b _ a).symm))
  exact congrArg (fun e => m ((c.tc : Thread nD τ).loc main_arg3) (ix3 b a e)) (Fin.ext (lane t b p g hb hp hg h k e))

theorem scoreAt_eq (h k : Fin 2) (n : Fin 256) (j : ℕ) (a : Fin 256) :
    scoreAt (iblk m c 0 t) (iblk m c 1 t) h k j (ix2 a n)
      = dotArg m c b ⟨(2 * p.val + h.val) * 2 + k.val, by omega⟩ ⟨256 * g.val + n.val, by omega⟩ (256 * (j + 1) + a.val) := by
  refine (masked_at _ h k _ a n).trans (Finset.sum_congr rfl fun e _ => congrArg₂ (· * ·) ?_ (query_eq m c t b p g hb hp hg h k n e))
  refine (keyAt_at _ j a _).trans ((iblk1 m c t b p g hb hp hg _ _).trans (Eq.trans ?_ (keyOf_lat _ _ b _ j a).symm))
  exact congrArg (fun e => m ((c.tc : Thread nD τ).loc main_arg1) (ix3 b _ e)) (Fin.ext (lane t b p g hb hp hg h k e))

theorem ctxVal_eq (h : Fin 2) (i : Fin 64) (a : Fin 256) :
    ctxVal (iblk m c 4 t) h (ix4 0 0 i a) = valArg m c b ⟨2 * p.val + h.val, by omega⟩ i a.val := by
  refine (ctxVal_at _ h i a).trans ((iblk4 m c t b p g hb hp hg _ a).trans (Eq.trans ?_ (valOf_ctx _ _ b _ i a).symm))
  refine congrArg (fun e => m ((c.tc : Thread nD τ).loc main_arg4) (ix4 b 0 e a)) (Fin.ext ?_)
  show 128 * p.val + (64 * h.val + i.val) = (2 * p.val + h.val) * 64 + i.val
  omega

theorem valAt_eq (h : Fin 2) (i : Fin 64) (j : ℕ) (a : Fin 256) :
    valAt (iblk m c 2 t) h j (ix4 0 0 i a) = valArg m c b ⟨2 * p.val + h.val, by omega⟩ i (256 * (j + 1) + a.val) := by
  refine (valAt_at _ h j i a).trans ((iblk2 m c t b p g hb hp hg _ _ _).trans (Eq.trans ?_ (valOf_lat _ _ b _ i j a).symm))
  refine congrArg (fun e => m ((c.tc : Thread nD τ).loc main_arg2) (ix4 b _ e _)) (Fin.ext ?_)
  show 128 * p.val + (64 * h.val + i.val) = (2 * p.val + h.val) * 64 + i.val
  omega

end Points

/-- The result array is any array that is, entry by entry, the row of its query and head. -/
theorem array (σ : Fin 8 → Fin 8 → Fin 8192 → ℕ → ℝ) (hσ : ∀ b h n k, dotArg m c b h n k = σ b h n k)
    (R : FVec Ideal S8x8192x256 .bf16)
    (hR : ∀ (b : Fin 8) (n : Fin 8192) (e : Fin 256), ∃ M M' : ℝ, R (ix3 b n e)
      = row (fun i => attend (σ b ⟨e.val / 64 * 2, by omega⟩ n) (valArg m c b ⟨e.val / 64, by omega⟩ i) M
          - coef (fun j d => m ((c.tc : Thread nD τ).loc main_arg5) (ix2 j d))
            * attend (σ b ⟨e.val / 64 * 2 + 1, by omega⟩ n) (valArg m c b ⟨e.val / 64, by omega⟩ i) M')
        (m ((c.tc : Thread nD τ).loc main_arg6) (ix2 ⟨e.val % 64, by omega⟩ 0)) ⟨e.val % 64, by omega⟩) :
    (dats m 0 c).arrAt 7 (cfgs 0).N = R := by
  refine (dats m 0 c).arrAt_eq_of_covers 7 R (by decide +kernel) fun t _ y => ?_
  blk_simp
  rw [after_out]
  obtain ⟨h0, h1, h2⟩ := lt0 t
  have ey : ∃ (n : Fin 256) (h : Fin 2) (i : Fin 64), y = ix3 0 n ⟨64 * h.val + i.val, by omega⟩ := by
    refine ⟨y 1, ⟨(y 2).val / 64, ?_⟩, ⟨(y 2).val % 64, by omega⟩, ?_⟩
    · have : (y 2).val < 128 := (y 2).isLt
      omega
    · blk_ext []
  obtain ⟨n, h, i, rfl⟩ := ey
  have e := emb7 t ⟨_, h0⟩ ⟨_, h1⟩ ⟨_, h2⟩ rfl rfl rfl n ⟨64 * h.val + i.val, by omega⟩
  obtain ⟨M, M', hM⟩ := hR ⟨_, h0⟩ ⟨256 * (grid0.coords t 2).val + n.val, by omega⟩
    ⟨128 * (grid0.coords t 1).val + (64 * h.val + i.val), by omega⟩
  refine Eq.trans ?_ ((congrArg R e).trans hM).symm
  have d1 : (128 * (grid0.coords t 1).val + (64 * h.val + i.val)) / 64 = 2 * (grid0.coords t 1).val + h.val := by omega
  have d2 : (128 * (grid0.coords t 1).val + (64 * h.val + i.val)) % 64 = i.val := by omega
  simp only [d1, d2, Fin.eta]
  refine (out_at _ _ _ _ _ _ _ n h i
    (fun k => σ ⟨_, h0⟩ ⟨(2 * (grid0.coords t 1).val + h.val) * 2 + k.val, by omega⟩ ⟨256 * (grid0.coords t 2).val + n.val, by omega⟩)
    (valArg m c ⟨_, h0⟩ ⟨2 * (grid0.coords t 1).val + h.val, by omega⟩) ![M, M']
    (fun k a => (ctxScore_eq m c t ⟨_, h0⟩ ⟨_, h1⟩ ⟨_, h2⟩ rfl rfl rfl h k n a).trans (hσ _ _ _ _))
    (fun k j a => (scoreAt_eq m c t ⟨_, h0⟩ ⟨_, h1⟩ ⟨_, h2⟩ rfl rfl rfl h k n j a).trans (hσ _ _ _ _))
    (fun i a => ctxVal_eq m c t ⟨_, h0⟩ ⟨_, h1⟩ ⟨_, h2⟩ rfl rfl rfl h i a)
    (fun i j a => valAt_eq m c t ⟨_, h0⟩ ⟨_, h1⟩ ⟨_, h2⟩ rfl rfl rfl h i j a)).trans ?_
  simp only [iblk5, iblk6]
  rfl

end Cert.Kernel3Ideal.Dif
-- ==== Proof.DiffClaims.lean ====
/-
  The claims about the differential attention: its runs, the reference's runs, and the equality of their results.
-/
module

public import proofs.«01_k».proof.Defs
public import proofs.«01_k».proof.Proof.DiffFrame
public import proofs.«01_k».proof.Proof.DiffArray
public import proofs.«01_k».proof.Proof.DiffFinite
public import Idealize.ShloMosaic.Lib.Claim

@[expose] public section

set_option maxRecDepth 16384

noncomputable section

namespace Cert.Proof.Diff

open Idealize.ShloMosaic Idealize.ShloMosaic.TcCoe Idealize.SL.Sem
open Cert.Proof.Softmax
open Cert.ReferenceIdeal.Att (valOf)
open Cert.Reference3Ideal.Dif (keyOf dotOf whole_at res_eq)

/-- The products' sums are real where the queries and the keys are. -/
theorem dot_real (q : FVec Ideal Cert.Kernel3Ideal.S8x8192x256 .bf16) (kc : FVec Ideal Cert.Kernel3Ideal.S8x256x256 .bf16)
    (kl : FVec Ideal Cert.Kernel3Ideal.S8x8192x256 .bf16) (hq : ∀ i, ∃ r : ℝ, q i = r) (hc : ∀ i, ∃ r : ℝ, kc i = r)
    (hl : ∀ i, ∃ r : ℝ, kl i = r) (b : Fin 8) (h : Fin 8) (n : Fin 8192) (k : ℕ) : ∃ r : ℝ, dotOf q kc kl b h n k = r :=
  sum_mul_real _ _ (fun d => by unfold keyOf; split; exacts [hc _, hl _]) fun _ => hq _

/-- The entries of the values by position are real where the values are. -/
theorem val_real (vc : FVec Ideal Cert.Kernel3Ideal.S8x1x256x256 .bf16) (vl : FVec Ideal Cert.Kernel3Ideal.S8x16x256x512 .bf16)
    (hc : ∀ i, ∃ r : ℝ, vc i = r) (hl : ∀ i, ∃ r : ℝ, vl i = r) (b : Fin 8) (h : Fin 4) (i : Fin 64) (k : ℕ) :
    ∃ r : ℝ, valOf vc vl b h i k = r := by
  unfold valOf
  split
  exacts [hc _, hl _]

/-- The idealized program runs, keeps its arguments and leaves every counter at zero. -/
theorem frame_ideal : Cert.quiescent_Kernel3Ideal := fun m g _ => Cert.Kernel3Ideal.Dif.frame m g

/-- The same under the precondition. -/
theorem frame_ideal_pre : Cert.quiescent_Kernel3Ideal_pre_finite_diff := fun m g _ => Cert.Kernel3Ideal.Dif.frame m g

/-- The reference runs, keeps its arguments and leaves every counter at zero. -/
theorem frame_ref : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

/-- The same under the precondition. -/
theorem frame_ref_pre : Cert.quiescent_Reference3Ideal_pre_finite_diff := fun m g _ => frame_ref m g trivial

/-- The kernel's result is the reference's, under the precondition. -/
theorem value (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ)
    (hpre : Cert.Pre_Kernel3Ideal_finite_diff m) (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (h4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4))
    (h5 : m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5))
    (h6 : m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) :
    (Cert.Kernel3Ideal.Dif.dats m 0 c).arrAt 7 (Cert.Kernel3Ideal.cfgs 0).N = Cert.Reference3Ideal.Value.res_out0 m' c := by
  obtain ⟨hq, hl, hvl, hc, hvc, hlam⟩ := DiffFinite.reals _ _ _ _ _ _ _ (hpre c)
  choose σ hσ using fun b h n k => dot_real _ _ _ hq hc hl b h n k
  refine Cert.Kernel3Ideal.Dif.array m c σ hσ _ fun b n e => ?_
  have er := res_eq m' c
  rw [h0, h1, h2, h3, h4, h5, h6] at er
  obtain ⟨M, M', hM⟩ := whole_at _ _ _ _ _
    (m ((c.tc : Thread Cert.Kernel3Ideal.nD Cert.Kernel3Ideal.τ).loc Cert.Kernel3Ideal.main_arg5))
    (m ((c.tc : Thread Cert.Kernel3Ideal.nD Cert.Kernel3Ideal.τ).loc Cert.Kernel3Ideal.main_arg6))
    σ hσ (val_real _ _ hvc hvl) (fun j d => hlam _) b n e
  exact ⟨M, M', (congrFun er _).trans hM⟩

/-- From equal arguments that satisfy the precondition, the kernel and the reference end with equal results. -/
theorem equal : Cert.algebraic_Kernel3Ideal_Reference3Ideal_pre_finite_diff := by
  intro m g m' g' hpre hag
  refine ⟨fun c => Cert.Reference3Ideal.Value.res_out0 m' c, ?_, ?_⟩
  · have hv : ∀ c, (Cert.Kernel3Ideal.Dif.dats m 0 c).arrAt 7 (Cert.Kernel3Ideal.cfgs 0).N = Cert.Reference3Ideal.Value.res_out0 m' c :=
      fun c => value m m' hpre c (hag c).1 (hag c).2.1 (hag c).2.2.1 (hag c).2.2.2.1 (hag c).2.2.2.2.1 (hag c).2.2.2.2.2.1 (hag c).2.2.2.2.2.2
    run_from (Cert.Kernel3Ideal.Dif.run_main m g)
    exact hv c
  · exact Cert.Reference3Ideal.Value.run m' g'

end Cert.Proof.Diff
-- ==== Proof.ModArray.lean ====
/-
  The modulation: what a block computes from its windows, and the array the call leaves, entry by entry on the extended reals.
-/
module

public import proofs.«01_k».proof.Proof.Gen.Kernel4Ideal.Value
public import proofs.«01_k».proof.Proof.MergeRow

@[expose] public section

set_option maxRecDepth 16384

noncomputable section

namespace Cert.Kernel4Ideal.Mod

open Cert.Kernel4Ideal Cert.Kernel4Ideal.Gen
open Cert.Proof.Merge (silu)
open Idealize.ShloMosaic Idealize.ShloMosaic.TcCoe

/-! ## The block -/

theorem silu_real (x : EReal) (h : ∃ r : ℝ, x = r) : ∃ r : ℝ, silu x = r := by
  obtain ⟨r, rfl⟩ := h
  exact ⟨r * (1 + Real.exp (-r))⁻¹, by unfold silu; rw [Ideal.logistic_coe, EReal.coe_mul]⟩

theorem sub_self_real (x : EReal) (h : ∃ r : ℝ, x = r) : x - x = 0 := by
  obtain ⟨r, rfl⟩ := h
  rw [← EReal.coe_sub, sub_self, EReal.coe_zero]

/-- An entry of the modulation: the product of a row and a weight's column, and the bias. -/
def entry (c w : Fin 1024 → EReal) (b : EReal) : EReal := (∑ k, silu (c k) * w k) + b

/-- A payload entry is three products, two of them with remainders. -/
theorem pay_at (v0 : Vec Ideal S16x1024 .f32) (v3 : Vec Ideal S1x1024x1024 .f32) (v18 : Vec Ideal S1x1x1024 .f32) (r : Fin 16) (e : Fin 1024) :
    k0_pay1 v0 v3 v18 (ix3 0 r e)
      = (∑ k, silu (v0 (ix2 r k)) * v3 (ix3 0 k e)) + (∑ k, (silu (v0 (ix2 r k)) - silu (v0 (ix2 r k))) * v3 (ix3 0 k e))
        + (∑ k, silu (v0 (ix2 r k)) * (v3 (ix3 0 k e) - v3 (ix3 0 k e))) + v18 (ix3 0 0 e) := by
  unfold silu
  pointwise [k0_pay1]

/-- On real rows and weights the remainders are zero. -/
theorem pay_entry (v0 : Vec Ideal S16x1024 .f32) (v3 : Vec Ideal S1x1024x1024 .f32) (v18 : Vec Ideal S1x1x1024 .f32) (r : Fin 16) (e : Fin 1024)
    (h0 : ∀ k, ∃ x : ℝ, v0 (ix2 r k) = x) (h3 : ∀ k, ∃ x : ℝ, v3 (ix3 0 k e) = x) :
    k0_pay1 v0 v3 v18 (ix3 0 r e) = entry (fun k => v0 (ix2 r k)) (fun k => v3 (ix3 0 k e)) (v18 (ix3 0 0 e)) := by
  have z1 : (∑ k, (silu (v0 (ix2 r k)) - silu (v0 (ix2 r k))) * v3 (ix3 0 k e)) = 0 :=
    Finset.sum_eq_zero fun k _ => by rw [sub_self_real _ (silu_real _ (h0 k)), zero_mul]
  have z2 : (∑ k, silu (v0 (ix2 r k)) * (v3 (ix3 0 k e) - v3 (ix3 0 k e))) = 0 :=
    Finset.sum_eq_zero fun k _ => by rw [sub_self_real _ (h3 k), mul_zero]
  rw [pay_at, z1, z2, add_zero, add_zero]
  rfl

theorem ld_rows (x : Vec Ideal S16x1024 .f32) (r : Fin 16) (k : Fin 1024) : View.ld x r0_0 (ix2 r k) = x (ix2 r k) := by
  pointwise []

theorem ld_weight (x : Vec Ideal S1x1024x1024 .f32) (k e : Fin 1024) : View.ld x r0_1 (ix3 0 k e) = x (ix3 0 k e) := by
  pointwise []

theorem ld_bias (x : Vec Ideal S1x1x1024 .f32) (e : Fin 1024) : View.ld x r0_2 (ix3 0 0 e) = x (ix3 0 0 e) := by
  pointwise []

/-- An entry of the block, of its windows. -/
theorem out_at (x0 : Vec Ideal S16x1024 .f32) (x1 : Vec Ideal S1x1024x1024 .f32) (x2 : Vec Ideal S1x1x1024 .f32) (r : Fin 16) (e : Fin 1024)
    (h0 : ∀ k, ∃ x : ℝ, x0 (ix2 r k) = x) (h1 : ∀ k, ∃ x : ℝ, x1 (ix3 0 k e) = x) :
    out0_3 x0 x1 x2 (ix3 0 r e) = entry (fun k => x0 (ix2 r k)) (fun k => x1 (ix3 0 k e)) (x2 (ix3 0 0 e)) := by
  unfold out0_3
  rw [View.canon_cons_unit_lit _ _ _ (by decide),
    pay_entry _ _ _ r e (fun k => (ld_rows x0 r k).symm ▸ h0 k) (fun k => (ld_weight x1 k e).symm ▸ h1 k),
    funext (ld_rows x0 r), funext fun k => ld_weight x1 k e, ld_bias]

variable (m : (ℓ : Loc nD τ sig) → Buf (Elt Ideal) ℓ)

/-! ## The windows -/

/-- The windows' block indices at a grid point: the layer and the third of the columns. -/
theorem idx : ∀ t : Fin cfg0.N,
    win0_0.index t = ![0, 0] ∧ win0_1.index t = ![(grid0.coords t 0).val, 0, (grid0.coords t 1).val]
    ∧ win0_2.index t = ![(grid0.coords t 0).val, 0, (grid0.coords t 1).val]
    ∧ win0_3.index t = ![(grid0.coords t 0).val, 0, (grid0.coords t 1).val] :=
  (by decide +kernel : ∀ t : Fin grid0.N, _)

theorem lt0 : ∀ t : Fin cfg0.N, (grid0.coords t 0).val < 2 ∧ (grid0.coords t 1).val < 3 :=
  (by decide +kernel : ∀ t : Fin grid0.N, _)

/-- The bias as the region finds it: the argument's rows, each in a layer of its own. -/
theorem bias_eq (c : Dev nD) : V m c main_v0
    = shapeCast S2x1x3072 (m ((c.tc : Thread nD τ).loc main_arg2)) shapeCasts_S2x3072_S2x1x3072 := by
  simp only [V, hostOps0]
  after_results
  rfl

theorem bias_at (c : Dev nD) (l : Fin 2) (e : Fin 3072) :
    V m c main_v0 (ix3 l 0 e) = m ((c.tc : Thread nD τ).loc main_arg2) (ix2 l e) := by
  rw [bias_eq]
  pointwise []

section Points

variable (c : Dev nD) (t : Fin cfg0.N) (l : Fin 2) (j : Fin 3)
variable (hl : (grid0.coords t 0).val = l.val) (hj : (grid0.coords t 1).val = j.val)

theorem iblk0 (r : Fin 16) (k : Fin 1024) : iblk m c 0 t (ix2 r k) = m ((c.tc : Thread nD τ).loc main_arg0) (ix2 r k) := by
  rw [← V_main_arg0 m c]
  blk_ext [iblk, idx t]

include hl hj

theorem iblk1 (k e : Fin 1024) : iblk m c 1 t (ix3 0 k e)
    = m ((c.tc : Thread nD τ).loc main_arg1) (ix3 l k ⟨1024 * j.val + e.val, by omega⟩) := by
  rw [← V_main_arg1 m c]
  blk_ext [iblk, idx t]

theorem iblk2 (e : Fin 1024) : iblk m c 2 t (ix3 0 0 e)
    = m ((c.tc : Thread nD τ).loc main_arg2) (ix2 l ⟨1024 * j.val + e.val, by omega⟩) := by
  rw [← bias_at m c]
  blk_ext [iblk, idx t]

theorem emb3 (r : Fin 16) (e : Fin 1024) : ((cfg0.win 3).blk t).view.emb (ix3 0 r e)
    = ix3 l r ⟨1024 * j.val + e.val, by omega⟩ := by
  blk_ext [idx t]

end Points

/-! ## The array -/

/-- What the block at a point holds, of the arguments as launched. -/
theorem block_eq (c : Dev nD) (t : Fin cfg0.N) (l : Fin 2) (j : Fin 3) (hl : (grid0.coords t 0).val = l.val)
    (hj : (grid0.coords t 1).val = j.val) (h0 : ∀ i, ∃ x : ℝ, m ((c.tc : Thread nD τ).loc main_arg0) i = (x : EReal))
    (h1 : ∀ i, ∃ x : ℝ, m ((c.tc : Thread nD τ).loc main_arg1) i = (x : EReal)) (r : Fin 16) (e : Fin 1024) :
    out0_3 (iblk m c 0 t) (iblk m c 1 t) (iblk m c 2 t) (ix3 0 r e)
      = entry (fun k => m ((c.tc : Thread nD τ).loc main_arg0) (ix2 r k))
        (fun k => m ((c.tc : Thread nD τ).loc main_arg1) (ix3 l k ⟨1024 * j.val + e.val, by omega⟩))
        (m ((c.tc : Thread nD τ).loc main_arg2) (ix2 l ⟨1024 * j.val + e.val, by omega⟩)) := by
  rw [out_at _ _ _ r e (fun k => (iblk0 m c t r k).symm ▸ h0 _) (fun k => (iblk1 m c t l j hl hj k e).symm ▸ h1 _),
    funext (iblk0 m c t r), funext fun k => iblk1 m c t l j hl hj k e, iblk2 m c t l j hl hj e]

/-- The result array is any array that holds these entries. -/
theorem array (c : Dev nD) (h0 : ∀ i, ∃ x : ℝ, m ((c.tc : Thread nD τ).loc main_arg0) i = (x : EReal))
    (h1 : ∀ i, ∃ x : ℝ, m ((c.tc : Thread nD τ).loc main_arg1) i = (x : EReal)) (R : FVec Ideal S2x16x3072 .f32)
    (hR : ∀ (l : Fin 2) (r : Fin 16) (e : Fin 3072), R (ix3 l r e) = entry (fun k => m ((c.tc : Thread nD τ).loc main_arg0) (ix2 r k))
      (fun k => m ((c.tc : Thread nD τ).loc main_arg1) (ix3 l k e)) (m ((c.tc : Thread nD τ).loc main_arg2) (ix2 l e))) :
    (dats m 0 c).arrAt 3 (cfgs 0).N = R := by
  refine (dats m 0 c).arrAt_eq_of_covers 3 R (by decide +kernel) fun t _ y => ?_
  blk_simp
  rw [after0_3]
  obtain ⟨hl, hj⟩ := lt0 t
  have ey : ∃ (r : Fin 16) (e : Fin 1024), y = ix3 0 r e := by
    refine ⟨y 1, y 2, ?_⟩
    blk_ext []
  obtain ⟨r, e, rfl⟩ := ey
  refine (block_eq m c t ⟨_, hl⟩ ⟨_, hj⟩ rfl rfl h0 h1 r e).trans ?_
  exact ((congrArg R (emb3 t ⟨_, hl⟩ ⟨_, hj⟩ rfl rfl r e)).trans (hR _ _ _)).symm

end Cert.Kernel4Ideal.Mod
-- ==== Proof.ModClaims.lean ====
/-
  The claims about the modulation: the reference's entries, the precondition read back, the runs, and the equality of the results.
-/
module

public import proofs.«01_k».proof.Defs
public import proofs.«01_k».proof.Proof.ModArray
public import proofs.«01_k».proof.Proof.DiffFinite
public import proofs.«01_k».proof.Proof.Gen.Kernel4.Frame
public import proofs.«01_k».proof.Proof.Gen.Reference4Ideal.Run
public import proofs.«01_k».proof.Proof.Gen.Pre_finite_mod
public import Idealize.ShloMosaic.Lib.Claim

@[expose] public section

set_option maxRecDepth 16384

noncomputable section

namespace Cert.Reference4Ideal.Mod

open Cert.Reference4Ideal Cert.Reference4Ideal.Gen
open Cert.Proof.Merge (silu one quot_logistic)
open Cert.Kernel4Ideal.Mod (entry)
open Idealize.ShloMosaic Idealize.ShloMosaic.TcCoe

/-- The sigmoid-weighted linear unit of the rows. -/
def siluRows (x : FVec Ideal S16x1024 .f32) : FVec Ideal S16x1024 .f32 :=
  mulf x (Host.divf (broadcastInDim S16x1024 ![] bcast_S_S16x1024 (constant S_ .f32 0x3F800000#32))
    (addf (broadcastInDim S16x1024 ![] bcast_S_S16x1024 (constant S_ .f32 0x3F800000#32)) (Host.exp (Host.negf x))))

theorem siluRows_at (x : FVec Ideal S16x1024 .f32) (r : Fin 16) (k : Fin 1024) : siluRows x (ix2 r k) = silu (x (ix2 r k)) := by
  have e : siluRows x (ix2 r k) = x (ix2 r k) * Ideal.div one (one + Ideal.exp (-x (ix2 r k))) := by pointwise [siluRows]
  rw [e, quot_logistic]; rfl

/-- The reference's result, of the arguments. -/
def result (x : FVec Ideal S16x1024 .f32) (w : FVec Ideal S2x1024x3072 .f32) (b : FVec Ideal S2x3072 .f32) : FVec Ideal S2x16x3072 .f32 :=
  addf (transpose S2x16x3072 [0, 2, 1] (Host.dotGeneral dot_S2x1024x3072_S16x1024_S2x3072x16_1_1_02_0_n_n none w (siluRows x))
      transposes_S2x3072x16_S2x16x3072_0_2_1)
    (broadcastInDim S2x16x3072 ![0, 1, 2] bcast_S2x1x3072_S2x16x3072_0_1_2 (broadcastInDim S2x1x3072 ![0, 2] bcast_S2x3072_S2x1x3072_0_2 b))

theorem result_at (x : FVec Ideal S16x1024 .f32) (w : FVec Ideal S2x1024x3072 .f32) (b : FVec Ideal S2x3072 .f32) (l : Fin 2) (r : Fin 16)
    (e : Fin 3072) : result x w b (ix3 l r e) = entry (fun k => x (ix2 r k)) (fun k => w (ix3 l k e)) (b (ix2 l e)) := by
  have h : result x w b (ix3 l r e) = (∑ k, w (ix3 l k e) * siluRows x (ix2 r k)) + b (ix2 l e) := by pointwise [result]
  rw [h]
  exact congrArg (· + b (ix2 l e)) (Finset.sum_congr rfl fun k _ => by rw [siluRows_at, mul_comm])

end Cert.Reference4Ideal.Mod

namespace Cert.Proof.Mod

open Idealize.ShloMosaic Idealize.ShloMosaic.TcCoe Idealize.SL.Sem

/-- Where the precondition's word is one, the rows and the weights are real numbers throughout. -/
theorem reals (x : FVec Ideal Cert.Pre_finite_mod.S16x1024 .f32) (w : FVec Ideal Cert.Pre_finite_mod.S2x1024x3072 .f32)
    (b : FVec Ideal Cert.Pre_finite_mod.S2x3072 .f32) (h : Cert.Pre_finite_mod.fn (F := Ideal) x w b = fun _ => 1#1) :
    (∀ i, ∃ r : ℝ, x i = r) ∧ (∀ i, ∃ r : ℝ, w i = r) := by
  have h0 := congrFun h ix0
  unfold Cert.Pre_finite_mod.fn at h0
  obtain ⟨h1, h2⟩ := IntOp.andi_eq_one.1 h0
  exact ⟨DiffFinite.real_of_all_f32 x _ _ _ _ h1, DiffFinite.real_of_all_f32 w _ _ _ _ h2⟩

/-- The kernel runs, keeps its arguments and leaves every counter at zero. -/
theorem frame_kernel : Cert.quiescent_Kernel4 := fun m g _ => Cert.Kernel4.Gen.frame m g

/-- The idealized program runs, keeps its arguments and leaves every counter at zero. -/
theorem frame_ideal : Cert.quiescent_Kernel4Ideal := fun m g _ => Cert.Kernel4Ideal.Gen.frame m g

/-- The same under the precondition. -/
theorem frame_ideal_pre : Cert.quiescent_Kernel4Ideal_pre_finite_mod := fun m g _ => Cert.Kernel4Ideal.Gen.frame m g

/-- The reference runs, keeps its arguments and leaves every counter at zero. -/
theorem frame_ref : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

/-- The same under the precondition. -/
theorem frame_ref_pre : Cert.quiescent_Reference4Ideal_pre_finite_mod := fun m g _ => frame_ref m g trivial

/-- From equal arguments that satisfy the precondition, the kernel and the reference end with equal results. -/
theorem equal : Cert.algebraic_Kernel4Ideal_Reference4Ideal_pre_finite_mod := by
  intro m g m' g' hpre hag
  refine ⟨fun c => Cert.Reference4Ideal.Mod.result
    (m' ((c.tc : Thread Cert.Reference4Ideal.nD Cert.Reference4Ideal.τ).loc Cert.Reference4Ideal.main_arg0))
    (m' ((c.tc : Thread Cert.Reference4Ideal.nD Cert.Reference4Ideal.τ).loc Cert.Reference4Ideal.main_arg1))
    (m' ((c.tc : Thread Cert.Reference4Ideal.nD Cert.Reference4Ideal.τ).loc Cert.Reference4Ideal.main_arg2)), ?_, ?_⟩
  · have hv : ∀ c, (Cert.Kernel4Ideal.Gen.dats m 0 c).arrAt 3 (Cert.Kernel4Ideal.cfgs 0).N = Cert.Reference4Ideal.Mod.result
        (m' ((c.tc : Thread Cert.Reference4Ideal.nD Cert.Reference4Ideal.τ).loc Cert.Reference4Ideal.main_arg0))
        (m' ((c.tc : Thread Cert.Reference4Ideal.nD Cert.Reference4Ideal.τ).loc Cert.Reference4Ideal.main_arg1))
        (m' ((c.tc : Thread Cert.Reference4Ideal.nD Cert.Reference4Ideal.τ).loc Cert.Reference4Ideal.main_arg2)) := by
      intro c
      obtain ⟨hx, hw⟩ := reals _ _ _ (hpre c)
      obtain ⟨e0, e1, e2⟩ := hag c
      rw [e0, e1, e2]
      exact Cert.Kernel4Ideal.Mod.array m c hx hw _ fun l r e => Cert.Reference4Ideal.Mod.result_at _ _ _ l r e
    run_from (Cert.Kernel4Ideal.Value.run_blocks m g)
    exact hv c
  · exact Cert.Reference4Ideal.Value.run m' g'

end Cert.Proof.Mod
-- ==== Proof.ProjRow.lean ====
/-
  The projection of one row, on the extended reals: the normalised and modulated row times the weight, the latent queries,
  keys and values, and the rotation of a head's lanes.
-/
module

public import proofs.«01_k».proof.Proof.MergeRow

@[expose] public section

noncomputable section

namespace Cert.Proof.Proj

open Cert.Proof.Merge
open Idealize.ShloMosaic

/-- `n` entries of a row, from entry `o` on. -/
def seg {N : ℕ} (n : ℕ) (v : Fin N → EReal) (o : ℕ) (h : o + n ≤ N) : Fin n → EReal := fun e => v ⟨o + e.val, by omega⟩

/-- A row times a matrix. -/
def dotRow {n m : ℕ} (v : Fin n → EReal) (w : Fin n → Fin m → EReal) (j : Fin m) : EReal := ∑ k, v k * w k j

/-- A row over the root of its sum of squares times `s`, and times a gain. -/
def scaled {n : ℕ} (s : EReal) (v g : Fin n → EReal) (i : Fin n) : EReal := v i * Ideal.rsqrt ((∑ j, v j * v j) * s + eps) * g i

/-- The lane a lane is rotated with: `d` lanes on when it is one of the first `first` of its period, else `d` lanes back. -/
def partner (period first d : ℕ) (l : Fin 128) : Fin 128 :=
  ⟨(if l.val % period < first then l.val + d else l.val + 128 - d) % 128, Nat.mod_lt _ (by omega)⟩

/-- A lane times its cosine plus its partner times its signed sine. -/
def rot (p : Fin 128 → Fin 128) (v c s : Fin 128 → EReal) (l : Fin 128) : EReal := v l * c l + v (p l) * s l

/-- The partners in a latent head, in heads of 32 lanes, and in heads of 64 lanes. -/
abbrev latent : Fin 128 → Fin 128 := partner 128 80 16
@[inherit_doc latent] abbrev heads32 : Fin 128 → Fin 128 := partner 32 16 16
@[inherit_doc latent] abbrev heads64 : Fin 128 → Fin 128 := partner 64 32 32

section Results

variable (z : Fin 2304 → EReal) (t : Fin 768 → EReal)

/-- A rotated group of 128 columns, from column `o` on; the cosines start at `k` in the tables' row, the sines 128 after. -/
def turn (p : Fin 128 → Fin 128) (v : Fin 128 → EReal) (k : ℕ) (h : k + 256 ≤ 768) (l : Fin 128) : EReal :=
  rot p v (seg 128 t k (by omega)) (seg 128 t (k + 128) (by omega)) l

/-- A latent query. -/
def latQ (g : Fin 256 → EReal) (w : Fin 256 → Fin 512 → EReal) (a : Fin 4) (l : Fin 128) : EReal :=
  turn t latent (seg 128 (dotRow (scaled (Ideal.ofBits FTy.f32 0x3BAAAAAB#32) (seg 256 z 256 (by omega)) g) w) (128 * a.val) (by omega))
    512 (by omega) l * Ideal.ofBits FTy.f32 0x3E16C740#32

/-- The latent row the keys and values are made of. -/
def latC (g : Fin 128 → EReal) : Fin 128 → EReal := scaled (Ideal.ofBits FTy.f32 0x3C000000#32) (seg 128 z 512 (by omega)) g

/-- A latent key before the rotation. -/
def latK0 (g : Fin 128 → EReal) (w : Fin 128 → Fin 512 → EReal) (a : Fin 4) (l : Fin 128) : EReal :=
  seg 128 (dotRow (latC z g) w) (128 * a.val) (by omega) l + seg 128 z 640 (by omega) l

/-- A latent key. -/
def latK (g : Fin 128 → EReal) (w : Fin 128 → Fin 512 → EReal) (a : Fin 4) (l : Fin 128) : EReal :=
  turn t latent (latK0 z g w a) 512 (by omega) l

/-- A query of the differential attention. -/
def difQ (a : Fin 2) (l : Fin 128) : EReal :=
  turn t heads32 (seg 128 z (768 + 128 * a.val) (by omega)) 0 (by omega) l * Ideal.ofBits FTy.f32 0x3E8293EE#32

/-- A key of the differential attention. -/
def difK (a : Fin 2) (l : Fin 128) : EReal := turn t heads32 (seg 128 z (1024 + 128 * a.val) (by omega)) 0 (by omega) l

/-- A query of the windowed attention. -/
def winQ (a : Fin 4) (l : Fin 128) : EReal :=
  turn t heads64 (seg 128 z (1536 + 128 * a.val) (by omega)) 256 (by omega) l * Ideal.ofBits FTy.f32 0x3E38AA3B#32

/-- A key of the windowed attention. -/
def winK (l : Fin 128) : EReal := turn t heads64 (seg 128 z 2048 (by omega)) 256 (by omega) l

end Results

end Cert.Proof.Proj
-- ==== Proof.ProjBlock.lean ====
/-
  What a block of the projection computes from its windows, entry by entry on the extended reals.
-/
module

public import proofs.«01_k».proof.Proof.Gen.Kernel5Ideal.Value
public import proofs.«01_k».proof.Proof.MergeBlock
public import proofs.«01_k».proof.Proof.ProjRow

@[expose] public section

set_option maxRecDepth 16384

noncomputable section

namespace Cert.Kernel5Ideal.Prj

open Cert.Kernel5Ideal Cert.Kernel5Ideal.Gen Cert.Proof.Proj
open Cert.Proof.Merge (hidden eps)
open Idealize.ShloMosaic Idealize.ShloMosaic.TcCoe

/-! ## The rotation -/

/-- Which lanes are among the first `f` of their period `p`, as the kernel computes it. -/
def mask (p f : BitVec 32) : IVec S512x128 1 :=
  have v : BitVec 32 := Scalar.select (Scalar.cmpi .eq p 0#32) 1#32 p
  have r : IVec S512x128 32 := remsi (iota .tc S512x128 32 [1] iota_S512x128_d1_w32) (broadcast S512x128 v)
  cmpi .slt (select (andi (xori (cmpi .slt r (broadcast S512x128 0#32)) (broadcastTo S512x128 (broadcast S512x128 (Scalar.cmpi .slt v 0#32))
    broadcasts_S512x128_S512x128)) (cmpi .ne r (broadcast S512x128 0#32))) (addi r (broadcast S512x128 v)) r) (broadcast S512x128 f)

/-- The lanes times the cosines plus their partners times the sines. -/
def turned (k : IVec S512x128 1) (up down : BitVec 32) (x c s : FVec Ideal S512x128 .f32) : FVec Ideal S512x128 .f32 :=
  addf (mulf x c) (mulf (select k (dynamicRotate 1 up none x rotates_S512x128_d1) (dynamicRotate 1 down none x rotates_S512x128_d1)) s)

theorem mask_latent : ∀ l : Fin 128, mask 128#32 80#32 (ix2 0 l) = if l.val % 128 < 80 then 1#1 else 0#1 := by decide +kernel
theorem mask_heads32 : ∀ l : Fin 128, mask 32#32 16#32 (ix2 0 l) = if l.val % 32 < 16 then 1#1 else 0#1 := by decide +kernel
theorem mask_heads64 : ∀ l : Fin 128, mask 64#32 32#32 (ix2 0 l) = if l.val % 64 < 32 then 1#1 else 0#1 := by decide +kernel

theorem turned_at (p f : BitVec 32) (up down : BitVec 32) (P Q d : ℕ)
    (hm : ∀ l : Fin 128, mask p f (ix2 0 l) = if l.val % P < Q then 1#1 else 0#1) (hd : 0 < d ∧ d < 128) (hu : up.toNat = 128 - d)
    (hw : down.toNat = d) (x c s : FVec Ideal S512x128 .f32) (n : Fin 512) (l : Fin 128) :
    turned (mask p f) up down x c s (ix2 n l)
      = rot (partner P Q d) (fun l => x (ix2 n l)) (fun l => c (ix2 n l)) (fun l => s (ix2 n l)) l := by
  have e : mask p f (ix2 n l) = if l.val % P < Q then 1#1 else 0#1 := (show _ = mask p f (ix2 0 l) from rfl).trans (hm l)
  have r : ∀ a : BitVec 32, dynamicRotate 1 a none x rotates_S512x128_d1 (ix2 n l)
      = x (ix2 n ⟨(l.val + 128 - a.toNat % 128) % 128, Nat.mod_lt _ (by omega)⟩) := fun a => by
    rw [Pointwise.dynamicRotate_apply]
    refine congrArg x (funext fun b => ?_)
    match b with
    | ⟨0, _⟩ => rfl
    | ⟨1, _⟩ => rfl
  show x (ix2 n l) * c (ix2 n l) + (if mask p f (ix2 n l) = 1#1 then dynamicRotate 1 up none x rotates_S512x128_d1 (ix2 n l)
    else dynamicRotate 1 down none x rotates_S512x128_d1 (ix2 n l)) * s (ix2 n l) = _
  rw [e, r, r, hu, hw]
  refine congrArg (fun y : EReal => x (ix2 n l) * c (ix2 n l) + y * s (ix2 n l)) ?_
  by_cases h : l.val % P < Q
  · rw [if_pos h, if_pos rfl]
    refine congrArg (fun k => x (ix2 n k)) (Fin.ext ?_)
    show _ = (if l.val % P < Q then l.val + d else l.val + 128 - d) % 128
    rw [if_pos h]; show (l.val + 128 - (128 - d) % 128) % 128 = _; omega
  · rw [if_neg h, if_neg (by decide)]
    refine congrArg (fun k => x (ix2 n k)) (Fin.ext ?_)
    show _ = (if l.val % P < Q then l.val + d else l.val + 128 - d) % 128
    rw [if_neg h]; show (l.val + 128 - d % 128) % 128 = _; omega

/-! ## The products -/

theorem dot128_at (h : FVec Ideal S512x1024 .bf16) (w : Vec Ideal S1024x128 .bf16) (n : Fin 512) (e : Fin 128) :
    k0_pay24 h w (ix2 n e) = ∑ k, h (ix2 n k) * w (ix2 k e) := by
  pointwise [k0_pay24]

theorem dot256_at (h : FVec Ideal S512x1024 .bf16) (w : Vec Ideal S1024x256 .bf16) (n : Fin 512) (e : Fin 256) :
    k0_pay35 h w (ix2 n e) = ∑ k, h (ix2 n k) * w (ix2 k e) := by
  pointwise [k0_pay35]

theorem dot512_at (h : FVec Ideal S512x1024 .bf16) (w : Vec Ideal S1024x512 .bf16) (n : Fin 512) (e : Fin 512) :
    k0_pay48 h w (ix2 n e) = ∑ k, h (ix2 n k) * w (ix2 k e) := by
  pointwise [k0_pay48]

theorem key512_at (h : FVec Ideal S512x128 .bf16) (w : Vec Ideal S128x512 .bf16) (n e : Fin 512) :
    k0_pay23 h w (ix2 n e) = ∑ k, h (ix2 n k) * w (ix2 k e) := by
  pointwise [k0_pay23]

/-- The rows of 256 columns over the root of their sums of squares times `s`, and times a gain. -/
def scaled256 (v : FVec Ideal S512x256 .f32) (g : Vec Ideal S1x256 .f32) : FVec Ideal S512x256 .f32 :=
  mulf (mulf v (broadcastTo S512x256 (rsqrt (addf (mulf (shapeCast S512x1 (multiReduction .add [1] S512 (mulf v v) 0x00000000#32
    reduces_S512x256_S512 (.inl rfl) rfl) shapeCasts_S512_S512x1) (broadcast S512x1 (Scalar.ofBits .f32 0x3BAAAAAB#32)))
    (broadcast S512x1 (Scalar.ofBits .f32 0x358637BD#32)))) broadcasts_S512x1_S512x256)) (broadcastTo S512x256 g broadcasts_S1x256_S512x256)

theorem scaled256_at (v : FVec Ideal S512x256 .f32) (g : Vec Ideal S1x256 .f32) (n : Fin 512) (e : Fin 256) :
    scaled256 v g (ix2 n e) = scaled (Ideal.ofBits FTy.f32 0x3BAAAAAB#32) (fun e => v (ix2 n e)) (fun e => g (ix2 0 e)) e := by
  pointwise [scaled256, scaled, eps]

/-- The rows of 128 columns over the root of their sums of squares times `s`, and times a gain. -/
def scaled128 (v : FVec Ideal S512x128 .f32) (g : Vec Ideal S1x128 .f32) : FVec Ideal S512x128 .f32 :=
  mulf (mulf v (broadcastTo S512x128 (rsqrt (addf (mulf (shapeCast S512x1 (multiReduction .add [1] S512 (mulf v v) 0x00000000#32
    reduces_S512x128_S512 (.inl rfl) rfl) shapeCasts_S512_S512x1) (broadcast S512x1 (Scalar.ofBits .f32 0x3C000000#32)))
    (broadcast S512x1 (Scalar.ofBits .f32 0x358637BD#32)))) broadcasts_S512x1_S512x128)) (broadcastTo S512x128 g broadcasts_S1x128_S512x128)

theorem scaled128_at (v : FVec Ideal S512x128 .f32) (g : Vec Ideal S1x128 .f32) (n : Fin 512) (e : Fin 128) :
    scaled128 v g (ix2 n e) = scaled (Ideal.ofBits FTy.f32 0x3C000000#32) (fun e => v (ix2 n e)) (fun e => g (ix2 0 e)) e := by
  pointwise [scaled128, scaled, eps]

/-- The queries' product. -/
theorem query_at (h : FVec Ideal S512x1024 .bf16) (w : Vec Ideal S1024x256 .bf16) (g : Vec Ideal S1x256 .f32) (u : Vec Ideal S256x512 .bf16)
    (n e : Fin 512) : k0_pay10 h w g u (ix2 n e)
      = dotRow (scaled (Ideal.ofBits FTy.f32 0x3BAAAAAB#32) (fun e => ∑ k, h (ix2 n k) * w (ix2 k e)) (fun e => g (ix2 0 e)))
        (fun k e => u (ix2 k e)) e := by
  have q : ∀ (a : FVec Ideal S512x256 .bf16) (u : Vec Ideal S256x512 .bf16),
      (matmul dot_S512x256_S256x512_S512x512_1_0_0_1_n_n none (φ₂ := .bf16) a u (constant S512x512 .f32 0x00000000#32) : FVec Ideal S512x512 .f32) (ix2 n e)
      = ∑ k, a (ix2 n k) * u (ix2 k e) := fun a u => by pointwise []
  refine (q (truncf .bf16 (scaled256 (k0_pay35 h w) g) bitsLt_bf16_f32) u).trans (Finset.sum_congr rfl fun k _ => congrArg (· * _) ?_)
  refine (scaled256_at _ _ n k).trans ?_
  rw [funext fun e => dot256_at h w n e]

/-- The latent rows. -/
theorem latent_at (h : FVec Ideal S512x1024 .bf16) (w : Vec Ideal S1024x128 .bf16) (g : Vec Ideal S1x128 .f32) (n : Fin 512) (e : Fin 128) :
    k0_pay22 h w g (ix2 n e)
      = scaled (Ideal.ofBits FTy.f32 0x3C000000#32) (fun e => ∑ k, h (ix2 n k) * w (ix2 k e)) (fun e => g (ix2 0 e)) e := by
  refine (scaled128_at (k0_pay24 h w) g n e).trans ?_
  rw [funext fun e => dot128_at h w n e]

/-- The normalised and modulated rows. -/
theorem rows_at (x : Vec Ideal S1x512x1024 .f32) (md : Vec Ideal S1x1x3072 .f32) (g : Vec Ideal S1x1024 .f32) (n : Fin 512) (i : Fin 1024) :
    k0_pay2 x md g (ix2 n i) = hidden (fun k => x (ix3 0 n k)) (fun k => g (ix2 0 k)) (fun k => md (ix3 0 0 k)) i := by
  have a : ∀ k, (shapeCast S512x1024 x shapeCasts_S1x512x1024_S512x1024 : FVec Ideal S512x1024 .f32) (ix2 n k) = x (ix3 0 n k) := fun k => by
    pointwise []
  have b : ∀ k, (shapeCast S1x3072 md shapeCasts_S1x1x3072_S1x3072 : FVec Ideal S1x3072 .f32) (ix2 0 k) = md (ix3 0 0 k) := fun k => by
    pointwise []
  refine (Cert.Kernel2Ideal.Mrg.modulate_at (Cert.Kernel2Ideal.Mrg.normRows (shapeCast S512x1024 x shapeCasts_S1x512x1024_S512x1024) g)
    (shapeCast S1x3072 md shapeCasts_S1x1x3072_S1x3072) n i).trans ?_
  rw [Cert.Kernel2Ideal.Mrg.normRows_at, funext a, b, b]; rfl

end Cert.Kernel5Ideal.Prj
-- ==== Proof.ProjOut.lean ====
/-
  The blocks the projection stores, entry by entry on the extended reals, of the blocks it reads.
-/
module

public import proofs.«01_k».proof.Proof.ProjBlock

@[expose] public section

set_option maxRecDepth 16384

noncomputable section

namespace Cert.Kernel5Ideal.Prj

open Cert.Kernel5Ideal Cert.Kernel5Ideal.Gen Cert.Proof.Proj
open Cert.Proof.Merge (hidden)
open Idealize.ShloMosaic Idealize.ShloMosaic.TcCoe

/-! ## Blocks stored in groups -/

section Columns

variable {N : ℕ} (o : ℕ) (inb : ∀ a, (![0, 0, o] : Fin 3 → ℕ) a + S1x512x128.size a ≤ (⟨3, ![1, 512, N]⟩ : Shape).size a)
  (p : Vec Ideal S1x512x128 .bf16) (L : List (View.Piece (Elt Ideal) (⟨3, ![1, 512, N]⟩ : Shape) .bf16)) (n : Fin 512)

theorem hit (l : Fin 128) (j : Fin N) (hj : j.val = o + l.val) :
    View.canon (⟨Rect.unit (s := ⟨3, ![1, 512, N]⟩) ![0, 0, o] S1x512x128.size inb, p⟩ :: L) (ix3 0 n j) = p (ix3 0 n l) := by
  have e : (Rect.unit (s := ⟨3, ![1, 512, N]⟩) ![0, 0, o] S1x512x128.size inb).emb (ix3 0 n l) = ix3 0 n j :=
    Rect.emb_eq_of_coords _ _ _ fun a => by
      match a with
      | ⟨0, _⟩ => rfl
      | ⟨1, _⟩ => show n.val = 0 + 1 * n.val; omega
      | ⟨2, _⟩ => show j.val = o + 1 * l.val; omega
  rw [← e]; exact View.canon_cons_emb _ _ _ _

theorem miss (j : Fin N) (hj : j.val < o ∨ o + 128 ≤ j.val) :
    View.canon (⟨Rect.unit (s := ⟨3, ![1, 512, N]⟩) ![0, 0, o] S1x512x128.size inb, p⟩ :: L) (ix3 0 n j) = View.canon L (ix3 0 n j) :=
  View.canon_cons_of_not_mem _ _ (Rect.not_mem_set_of_axis _ _ 2 o 128 rfl rfl rfl hj)

end Columns

section Heads

variable (o : ℕ) (inb : ∀ a, (![0, o, 0, 0] : Fin 4 → ℕ) a + S1x1x512x128.size a ≤ S1x4x512x128.size a)
  (p : Vec Ideal S1x1x512x128 .bf16) (L : List (View.Piece (Elt Ideal) S1x4x512x128 .bf16)) (n : Fin 512) (l : Fin 128)

theorem hitHead (j : Fin 4) (hj : j.val = o) :
    View.canon (⟨Rect.unit (s := S1x4x512x128) ![0, o, 0, 0] S1x1x512x128.size inb, p⟩ :: L) (ix4 0 j n l) = p (ix4 0 0 n l) := by
  have e : (Rect.unit (s := S1x4x512x128) ![0, o, 0, 0] S1x1x512x128.size inb).emb (ix4 0 0 n l) = ix4 0 j n l :=
    Rect.emb_eq_of_coords _ _ _ fun a => by
      match a with
      | ⟨0, _⟩ => rfl
      | ⟨1, _⟩ => exact hj
      | ⟨2, _⟩ => show n.val = 0 + 1 * n.val; omega
      | ⟨3, _⟩ => show l.val = 0 + 1 * l.val; omega
  rw [← e]; exact View.canon_cons_emb _ _ _ _

theorem missHead (j : Fin 4) (hj : j.val < o ∨ o + 1 ≤ j.val) :
    View.canon (⟨Rect.unit (s := S1x4x512x128) ![0, o, 0, 0] S1x1x512x128.size inb, p⟩ :: L) (ix4 0 j n l) = View.canon L (ix4 0 j n l) :=
  View.canon_cons_of_not_mem _ _ (Rect.not_mem_set_of_axis _ _ 1 o 1 rfl rfl rfl hj)

end Heads

theorem four_at (p : Fin 4 → Vec Ideal S1x512x128 .bf16) (n : Fin 512) (l : Fin 128) : ∀ a : Fin 4,
    View.canon (Val := Elt Ideal) [⟨r0_12, p 3⟩, ⟨r0_11, p 2⟩, ⟨r0_10, p 1⟩, ⟨r0_9, p 0⟩] (ix3 0 n ⟨128 * a.val + l.val, by omega⟩)
      = p a (ix3 0 n l)
  | ⟨3, _⟩ => hit 384 _ _ _ n l _ rfl
  | ⟨2, _⟩ => (miss 384 _ _ _ n ⟨256 + l.val, by omega⟩ (.inl (by show 256 + l.val < 384; omega))).trans (hit 256 _ _ _ n l _ rfl)
  | ⟨1, _⟩ => (miss 384 _ _ _ n ⟨128 + l.val, by omega⟩ (.inl (by show 128 + l.val < 384; omega))).trans
      ((miss 256 _ _ _ n ⟨128 + l.val, by omega⟩ (.inl (by show 128 + l.val < 256; omega))).trans (hit 128 _ _ _ n l _ rfl))
  | ⟨0, _⟩ => (miss 384 _ _ _ n ⟨0 + l.val, by omega⟩ (.inl (by show 0 + l.val < 384; omega))).trans
      ((miss 256 _ _ _ n ⟨0 + l.val, by omega⟩ (.inl (by show 0 + l.val < 256; omega))).trans
      ((miss 128 _ _ _ n ⟨0 + l.val, by omega⟩ (.inl (by show 0 + l.val < 128; omega))).trans (hit 0 _ _ _ n l _ rfl)))

theorem two_at (p : Fin 2 → Vec Ideal S1x512x128 .bf16) (n : Fin 512) (l : Fin 128) : ∀ a : Fin 2,
    View.canon (Val := Elt Ideal) [⟨r0_26, p 1⟩, ⟨r0_25, p 0⟩] (ix3 0 n ⟨128 * a.val + l.val, by omega⟩) = p a (ix3 0 n l)
  | ⟨1, _⟩ => hit 128 _ _ _ n l _ rfl
  | ⟨0, _⟩ => (miss 128 _ _ _ n ⟨0 + l.val, by omega⟩ (.inl (by show 0 + l.val < 128; omega))).trans (hit 0 _ _ _ n l _ rfl)

theorem heads_at (p : Fin 4 → Vec Ideal S1x1x512x128 .bf16) (n : Fin 512) (l : Fin 128) : ∀ a : Fin 4,
    View.canon (Val := Elt Ideal) [⟨r0_20, p 3⟩, ⟨r0_19, p 2⟩, ⟨r0_18, p 1⟩, ⟨r0_17, p 0⟩] (ix4 0 a n l) = p a (ix4 0 0 n l)
  | ⟨3, _⟩ => hitHead 3 _ _ _ n l 3 rfl
  | ⟨2, _⟩ => (missHead 3 _ _ _ n l 2 (.inl (by decide))).trans (hitHead 2 _ _ _ n l 2 rfl)
  | ⟨1, _⟩ => (missHead 3 _ _ _ n l 1 (.inl (by decide))).trans
      ((missHead 2 _ _ _ n l 1 (.inl (by decide))).trans (hitHead 1 _ _ _ n l 1 rfl))
  | ⟨0, _⟩ => (missHead 3 _ _ _ n l 0 (.inl (by decide))).trans ((missHead 2 _ _ _ n l 0 (.inl (by decide))).trans
      ((missHead 1 _ _ _ n l 0 (.inl (by decide))).trans (hitHead 0 _ _ _ n l 0 rfl)))

/-! ## Groups of columns -/

/-- Columns `o` to `o + 127`. -/
def cut {N : ℕ} (o : ℕ) (h : o + 128 ≤ N) (x : FVec Ideal (⟨2, ![512, N]⟩ : Shape) .f32) : FVec Ideal S512x128 .f32 :=
  extractStridedSlice S512x128 ![0, o] x ⟨rfl, fun a => by
    match a with
    | ⟨0, _⟩ => exact Nat.le_refl 512
    | ⟨1, _⟩ => exact h⟩

theorem cut_at {N : ℕ} (o : ℕ) (h : o + 128 ≤ N) (x : FVec Ideal (⟨2, ![512, N]⟩ : Shape) .f32) (n : Fin 512) (l : Fin 128) :
    cut o h x (ix2 n l) = x (ix2 n ⟨o + l.val, by omega⟩) := by
  refine congrArg x (funext fun a => Fin.ext ?_)
  match a with
  | ⟨0, _⟩ => exact Nat.zero_add _
  | ⟨1, _⟩ => rfl

/-- A group rotated, scaled and rounded, and one not scaled. -/
def scaledPiece (k : BitVec 32) (y : FVec Ideal S512x128 .f32) : Vec Ideal S1x512x128 .bf16 :=
  shapeCast S1x512x128 (truncf .bf16 (mulf y (broadcast S512x128 (Scalar.ofBits .f32 k))) bitsLt_bf16_f32 : FVec Ideal S512x128 .bf16) shapeCasts_S512x128_S1x512x128

@[inherit_doc scaledPiece] def piece (y : FVec Ideal S512x128 .f32) : Vec Ideal S1x512x128 .bf16 :=
  shapeCast S1x512x128 (truncf .bf16 y bitsLt_bf16_f32 : FVec Ideal S512x128 .bf16) shapeCasts_S512x128_S1x512x128

@[inherit_doc scaledPiece] def headPiece (y : FVec Ideal S512x128 .f32) : Vec Ideal S1x1x512x128 .bf16 :=
  shapeCast S1x1x512x128 (truncf .bf16 y bitsLt_bf16_f32 : FVec Ideal S512x128 .bf16) shapeCasts_S512x128_S1x1x512x128

theorem scaledPiece_at (k : BitVec 32) (y : FVec Ideal S512x128 .f32) (n : Fin 512) (l : Fin 128) :
    scaledPiece k y (ix3 0 n l) = y (ix2 n l) * Ideal.ofBits FTy.f32 k := by
  pointwise [scaledPiece]

theorem piece_at (y : FVec Ideal S512x128 .f32) (n : Fin 512) (l : Fin 128) : piece y (ix3 0 n l) = y (ix2 n l) := by
  pointwise [piece]

theorem headPiece_at (y : FVec Ideal S512x128 .f32) (n : Fin 512) (l : Fin 128) : headPiece y (ix4 0 0 n l) = y (ix2 n l) := by
  pointwise [headPiece]

/-! ## The blocks -/

section Blocks

variable (x0 : Vec Ideal S1x512x1024 .f32) (x1 : Vec Ideal S1x1x3072 .f32) (x2 : Vec Ideal S1x1024 .f32) (x3 : Vec Ideal S1024x2304 .bf16)
  (x4 : Vec Ideal S512x768 .f32) (x5 : Vec Ideal S1x256 .f32) (x6 : Vec Ideal S256x512 .bf16) (x7 : Vec Ideal S1x128 .f32)
  (x8 : Vec Ideal S128x512 .bf16) (x9 : Vec Ideal S128x256 .bf16) (n : Fin 512)

/-- A row of the block times the weight. -/
def zed : Fin 2304 → EReal :=
  dotRow (hidden (fun k => x0 (ix3 0 n k)) (fun k => x2 (ix2 0 k)) (fun k => x1 (ix3 0 0 k))) (fun k j => x3 (ix2 k j))

theorem hid_at (i : Fin 1024) : k0_pay63 x0 x1 x2 x3 x4 x5 x6 x7 x8 x9 (ix2 n i)
    = hidden (fun k => x0 (ix3 0 n k)) (fun k => x2 (ix2 0 k)) (fun k => x1 (ix3 0 0 k)) i := by
  have a : ∀ k, View.ld x0 r0_0 (ix3 0 n k) = x0 (ix3 0 n k) := fun k => by pointwise []
  have b : ∀ k, View.ld x2 r0_2 (ix2 0 k) = x2 (ix2 0 k) := fun k => by pointwise []
  have d : ∀ k, View.ld x1 r0_1 (ix3 0 0 k) = x1 (ix3 0 0 k) := fun k => by pointwise []
  refine (rows_at _ _ _ n i).trans ?_
  rw [funext a, funext b, funext d]

/-- A group of the row's columns is a product with a group of the weight's. -/
theorem seg_eq {k : ℕ} (o : ℕ) (ho : o + k ≤ 2304) (w : Fin 1024 → Fin k → EReal)
    (hw : ∀ i e, w i e = x3 (ix2 i ⟨o + e.val, by omega⟩)) (e : Fin k) :
    ∑ i, k0_pay63 x0 x1 x2 x3 x4 x5 x6 x7 x8 x9 (ix2 n i) * w i e = seg k (zed x0 x1 x2 x3 n) o ho e :=
  Finset.sum_congr rfl fun i _ => congrArg₂ (· * ·) (hid_at x0 x1 x2 x3 x4 x5 x6 x7 x8 x9 n i) (hw i e)

/-- The tables' columns. -/
theorem tab_at (o : ℕ) (h : o + 128 ≤ 768) : (fun l => cut o h (View.ld x4 r0_3) (ix2 n l)) = seg 128 (fun j => x4 (ix2 n j)) o h :=
  funext fun l => (cut_at o h _ n l).trans (by pointwise [seg])

theorem out10_at (e : Fin 256) : out0_10 x0 x1 x2 x3 x4 x5 x6 x7 x8 x9 (ix3 0 n e) = seg 256 (zed x0 x1 x2 x3 n) 0 (by omega) e := by
  unfold_out out0_10
  rw [View.canon_cons_unit_lit _ _ _ (by decide)]
  have c : ∀ y : FVec Ideal S512x256 .f32, (shapeCast S1x512x256 y shapeCasts_S512x256_S1x512x256 : FVec Ideal S1x512x256 .f32) (ix3 0 n e)
      = y (ix2 n e) := fun y => by pointwise []
  refine (c (k0_pay35 (k0_pay63 x0 x1 x2 x3 x4 x5 x6 x7 x8 x9) (View.ld x3 r0_4))).trans ((dot256_at _ _ n e).trans ?_)
  exact seg_eq x0 x1 x2 x3 x4 x5 x6 x7 x8 x9 n 0 (by omega) (fun i e => View.ld x3 r0_4 (ix2 i e)) (fun i e => by pointwise []) e

theorem out11_at (a : Fin 4) (l : Fin 128) :
    out0_11 x0 x1 x2 x3 x4 x5 x6 x7 x8 x9 (ix3 0 n ⟨128 * a.val + l.val, by omega⟩)
      = latQ (zed x0 x1 x2 x3 n) (fun j => x4 (ix2 n j)) (fun e => x5 (ix2 0 e)) (fun k e => x6 (ix2 k e)) a l := by
  refine (four_at (fun a => scaledPiece 0x3E16C740#32 (turned (mask 128#32 80#32) 112#32 16#32
    (cut (128 * a.val) (by omega) (k0_pay70 x0 x1 x2 x3 x4 x5 x6 x7 x8 x9))
    (cut 512 (by omega) (View.ld x4 r0_3)) (cut 640 (by omega) (View.ld x4 r0_3)))) n l a).trans ?_
  rw [scaledPiece_at, turned_at _ _ _ _ 128 80 16 mask_latent (by decide) rfl rfl, tab_at, tab_at]
  refine congrArg (fun v => rot latent v _ _ l * _) (funext fun l => (cut_at _ _ _ n l).trans ((query_at _ _ _ _ n _).trans ?_))
  have g : ∀ e, View.ld x5 r0_7 (ix2 0 e) = x5 (ix2 0 e) := fun e => by pointwise []
  have w : ∀ k e, View.ld x6 r0_8 (ix2 k e) = x6 (ix2 k e) := fun k e => by pointwise []
  rw [funext fun e => seg_eq x0 x1 x2 x3 x4 x5 x6 x7 x8 x9 n 256 (by omega) (fun k e => View.ld x3 r0_6 (ix2 k e)) (fun i e => by pointwise []) e,
    funext g, funext fun k => funext (w k)]
  rfl

/-- The latent rows are the row's latent row. -/
theorem latC_at (k : Fin 128) : k0_pay71 x0 x1 x2 x3 x4 x5 x6 x7 x8 x9 (ix2 n k)
    = latC (zed x0 x1 x2 x3 n) (fun e => x7 (ix2 0 e)) k := by
  refine (latent_at _ _ _ n k).trans ?_
  have g : ∀ e, View.ld x7 r0_14 (ix2 0 e) = x7 (ix2 0 e) := fun e => by pointwise []
  rw [funext fun e => seg_eq x0 x1 x2 x3 x4 x5 x6 x7 x8 x9 n 512 (by omega) (fun k e => View.ld x3 r0_13 (ix2 k e)) (fun i e => by pointwise []) e,
    funext g]
  rfl

theorem out12_at (a : Fin 4) (l : Fin 128) : out0_12 x0 x1 x2 x3 x4 x5 x6 x7 x8 x9 (ix4 0 a n l)
    = latK (zed x0 x1 x2 x3 n) (fun j => x4 (ix2 n j)) (fun e => x7 (ix2 0 e)) (fun k e => x8 (ix2 k e)) a l := by
  refine (heads_at (fun a => headPiece (turned (mask 128#32 80#32) 112#32 16#32
    (addf (cut (128 * a.val) (by omega) (k0_pay72 x0 x1 x2 x3 x4 x5 x6 x7 x8 x9)) (k0_pay73 x0 x1 x2 x3 x4 x5 x6 x7 x8 x9))
    (cut 512 (by omega) (View.ld x4 r0_3)) (cut 640 (by omega) (View.ld x4 r0_3)))) n l a).trans ?_
  rw [headPiece_at, turned_at _ _ _ _ 128 80 16 mask_latent (by decide) rfl rfl, tab_at, tab_at]
  refine congrArg (fun v => rot latent v _ _ l) (funext fun l => congrArg₂ (· + ·) ?_ ?_)
  · have w : ∀ k e, View.ld x8 r0_15 (ix2 k e) = x8 (ix2 k e) := fun k e => by pointwise []
    exact (cut_at _ _ _ n l).trans ((key512_at _ _ n _).trans (Finset.sum_congr rfl fun k _ =>
      congrArg₂ (fun a b : EReal => a * b) (latC_at x0 x1 x2 x3 x4 x5 x6 x7 x8 x9 n k) (w k _)))
  · exact (dot128_at _ _ n l).trans
      (seg_eq x0 x1 x2 x3 x4 x5 x6 x7 x8 x9 n 640 (by omega) (fun k e => View.ld x3 r0_16 (ix2 k e)) (fun i e => by pointwise []) l)

theorem out13_at (e : Fin 256) : out0_13 x0 x1 x2 x3 x4 x5 x6 x7 x8 x9 (ix4 0 0 e n)
    = dotRow (latC (zed x0 x1 x2 x3 n) (fun e => x7 (ix2 0 e))) (fun k e => x9 (ix2 k e)) e := by
  have c : ∀ (h : FVec Ideal S512x128 .bf16) (w : Vec Ideal S128x256 .bf16), k0_pay34 h w (ix4 0 0 e n) = ∑ k, h (ix2 n k) * w (ix2 k e) :=
    fun h w => by pointwise [k0_pay34]
  unfold out0_13
  rw [View.canon_cons_unit_lit _ _ _ (by decide)]
  refine (c _ _).trans (Finset.sum_congr rfl fun k _ => congrArg₂ (· * ·) (latC_at x0 x1 x2 x3 x4 x5 x6 x7 x8 x9 n k) ?_)
  pointwise []

theorem out14_at (a : Fin 2) (l : Fin 128) : out0_14 x0 x1 x2 x3 x4 x5 x6 x7 x8 x9 (ix3 0 n ⟨128 * a.val + l.val, by omega⟩)
    = difQ (zed x0 x1 x2 x3 n) (fun j => x4 (ix2 n j)) a l := by
  refine (two_at (fun a => scaledPiece 0x3E8293EE#32 (turned (mask 32#32 16#32) 112#32 16#32
    (cut (128 * a.val) (by omega) (k0_pay35 (k0_pay63 x0 x1 x2 x3 x4 x5 x6 x7 x8 x9) (View.ld x3 r0_23)))
    (cut 0 (by omega) (View.ld x4 r0_3)) (cut 128 (by omega) (View.ld x4 r0_3)))) n l a).trans ?_
  rw [scaledPiece_at, turned_at _ _ _ _ 32 16 16 mask_heads32 (by decide) rfl rfl, tab_at, tab_at]
  refine congrArg (fun v => rot heads32 v _ _ l * _) (funext fun l => (cut_at _ _ _ n l).trans ((dot256_at _ _ n _).trans ?_))
  refine (seg_eq x0 x1 x2 x3 x4 x5 x6 x7 x8 x9 n 768 (by omega) (fun k e => View.ld x3 r0_23 (ix2 k e)) (fun i e => by pointwise []) _).trans ?_
  exact congrArg (zed x0 x1 x2 x3 n) (Fin.ext (Nat.add_assoc _ _ _).symm)

theorem out15_at (a : Fin 2) (l : Fin 128) : out0_15 x0 x1 x2 x3 x4 x5 x6 x7 x8 x9 (ix3 0 n ⟨128 * a.val + l.val, by omega⟩)
    = difK (zed x0 x1 x2 x3 n) (fun j => x4 (ix2 n j)) a l := by
  refine (two_at (fun a => piece (turned (mask 32#32 16#32) 112#32 16#32
    (cut (128 * a.val) (by omega) (k0_pay35 (k0_pay63 x0 x1 x2 x3 x4 x5 x6 x7 x8 x9) (View.ld x3 r0_24)))
    (cut 0 (by omega) (View.ld x4 r0_3)) (cut 128 (by omega) (View.ld x4 r0_3)))) n l a).trans ?_
  rw [piece_at, turned_at _ _ _ _ 32 16 16 mask_heads32 (by decide) rfl rfl, tab_at, tab_at]
  refine congrArg (fun v => rot heads32 v _ _ l) (funext fun l => (cut_at _ _ _ n l).trans ((dot256_at _ _ n _).trans ?_))
  refine (seg_eq x0 x1 x2 x3 x4 x5 x6 x7 x8 x9 n 1024 (by omega) (fun k e => View.ld x3 r0_24 (ix2 k e)) (fun i e => by pointwise []) _).trans ?_
  exact congrArg (zed x0 x1 x2 x3 n) (Fin.ext (Nat.add_assoc _ _ _).symm)

theorem out16_at (e : Fin 256) : out0_16 x0 x1 x2 x3 x4 x5 x6 x7 x8 x9 (ix4 0 0 e n) = seg 256 (zed x0 x1 x2 x3 n) 1280 (by omega) e := by
  have c : ∀ (h : FVec Ideal S512x1024 .bf16) (w : Vec Ideal S1024x256 .bf16), k0_pay47 h w (ix4 0 0 e n) = ∑ k, h (ix2 n k) * w (ix2 k e) :=
    fun h w => by pointwise [k0_pay47]
  unfold out0_16
  rw [View.canon_cons_unit_lit _ _ _ (by decide)]
  exact (c _ _).trans
    (seg_eq x0 x1 x2 x3 x4 x5 x6 x7 x8 x9 n 1280 (by omega) (fun k e => View.ld x3 r0_27 (ix2 k e)) (fun i e => by pointwise []) e)

theorem out17_at (a : Fin 4) (l : Fin 128) : out0_17 x0 x1 x2 x3 x4 x5 x6 x7 x8 x9 (ix3 0 n ⟨128 * a.val + l.val, by omega⟩)
    = winQ (zed x0 x1 x2 x3 n) (fun j => x4 (ix2 n j)) a l := by
  refine (four_at (fun a => scaledPiece 0x3E38AA3B#32 (turned (mask 64#32 32#32) 96#32 32#32
    (cut (128 * a.val) (by omega) (k0_pay75 x0 x1 x2 x3 x4 x5 x6 x7 x8 x9))
    (cut 256 (by omega) (View.ld x4 r0_3)) (cut 384 (by omega) (View.ld x4 r0_3)))) n l a).trans ?_
  rw [scaledPiece_at, turned_at _ _ _ _ 64 32 32 mask_heads64 (by decide) rfl rfl, tab_at, tab_at]
  refine congrArg (fun v => rot heads64 v _ _ l * _) (funext fun l => (cut_at _ _ _ n l).trans ((dot512_at _ _ n _).trans ?_))
  refine (seg_eq x0 x1 x2 x3 x4 x5 x6 x7 x8 x9 n 1536 (by omega) (fun k e => View.ld x3 r0_28 (ix2 k e)) (fun i e => by pointwise []) _).trans ?_
  exact congrArg (zed x0 x1 x2 x3 n) (Fin.ext (Nat.add_assoc _ _ _).symm)

theorem out18_at (l : Fin 128) : out0_18 x0 x1 x2 x3 x4 x5 x6 x7 x8 x9 (ix3 0 n l)
    = winK (zed x0 x1 x2 x3 n) (fun j => x4 (ix2 n j)) l := by
  unfold out0_18
  rw [View.canon_cons_unit_lit _ _ _ (by decide)]
  refine (piece_at (turned (mask 64#32 32#32) 96#32 32#32 (k0_pay24 (k0_pay63 x0 x1 x2 x3 x4 x5 x6 x7 x8 x9) (View.ld x3 r0_29))
    (cut 256 (by omega) (View.ld x4 r0_3)) (cut 384 (by omega) (View.ld x4 r0_3))) n l).trans ?_
  rw [turned_at _ _ _ _ 64 32 32 mask_heads64 (by decide) rfl rfl, tab_at, tab_at]
  exact congrArg (fun v => rot heads64 v _ _ l) (funext fun l => (dot128_at _ _ n l).trans
    (seg_eq x0 x1 x2 x3 x4 x5 x6 x7 x8 x9 n 2048 (by omega) (fun k e => View.ld x3 r0_29 (ix2 k e)) (fun i e => by pointwise []) l))

theorem out19_at (e : Fin 128) : out0_19 x0 x1 x2 x3 x4 x5 x6 x7 x8 x9 (ix4 0 0 e n) = seg 128 (zed x0 x1 x2 x3 n) 2176 (by omega) e := by
  have c : ∀ (h : FVec Ideal S512x1024 .bf16) (w : Vec Ideal S1024x128 .bf16), k0_pay1 h w (ix4 0 0 e n) = ∑ k, h (ix2 n k) * w (ix2 k e) :=
    fun h w => by pointwise [k0_pay1]
  unfold out0_19
  rw [View.canon_cons_unit_lit _ _ _ (by decide)]
  exact (c _ _).trans
    (seg_eq x0 x1 x2 x3 x4 x5 x6 x7 x8 x9 n 2176 (by omega) (fun k e => View.ld x3 r0_31 (ix2 k e)) (fun i e => by pointwise []) e)

end Blocks

end Cert.Kernel5Ideal.Prj
-- ==== Proof.ProjArray.lean ====
/-
  The arrays the projection leaves, entry by entry on the extended reals, of the arguments as launched.
-/
module

public import proofs.«01_k».proof.Proof.ProjOut

@[expose] public section

set_option maxRecDepth 16384

noncomputable section

namespace Cert.Kernel5Ideal.Prj

open Cert.Kernel5Ideal Cert.Kernel5Ideal.Gen Cert.Proof.Proj
open Cert.Proof.Merge (hidden)
open Idealize.ShloMosaic Idealize.ShloMosaic.TcCoe

variable (m : (ℓ : Loc nD τ sig) → Buf (Elt Ideal) ℓ)

/-- The windows' block indices at a grid point: the batch and the part of the tokens. -/
theorem idx : ∀ t : Fin cfg0.N,
    win0_0.index t = ![(grid0.coords t 1).val, (grid0.coords t 0).val, 0]
    ∧ win0_1.index t = ![(grid0.coords t 1).val, 0, 0] ∧ win0_2.index t = ![0, 0] ∧ win0_3.index t = ![0, 0]
    ∧ win0_4.index t = ![(grid0.coords t 0).val, 0] ∧ win0_5.index t = ![0, 0] ∧ win0_6.index t = ![0, 0]
    ∧ win0_7.index t = ![0, 0] ∧ win0_8.index t = ![0, 0] ∧ win0_9.index t = ![0, 0]
    ∧ win0_10.index t = ![(grid0.coords t 1).val, (grid0.coords t 0).val, 0]
    ∧ win0_11.index t = ![(grid0.coords t 1).val, (grid0.coords t 0).val, 0]
    ∧ win0_12.index t = ![(grid0.coords t 1).val, 0, (grid0.coords t 0).val, 0]
    ∧ win0_13.index t = ![(grid0.coords t 1).val, (grid0.coords t 0).val, 0, 0]
    ∧ win0_14.index t = ![(grid0.coords t 1).val, (grid0.coords t 0).val, 0]
    ∧ win0_15.index t = ![(grid0.coords t 1).val, (grid0.coords t 0).val, 0]
    ∧ win0_16.index t = ![(grid0.coords t 1).val, (grid0.coords t 0).val, 0, 0]
    ∧ win0_17.index t = ![(grid0.coords t 1).val, (grid0.coords t 0).val, 0]
    ∧ win0_18.index t = ![(grid0.coords t 1).val, (grid0.coords t 0).val, 0]
    ∧ win0_19.index t = ![(grid0.coords t 1).val, (grid0.coords t 0).val, 0, 0] :=
  (by decide +kernel : ∀ t : Fin grid0.N, _)

theorem lt0 : ∀ t : Fin cfg0.N, (grid0.coords t 0).val < 16 ∧ (grid0.coords t 1).val < 8 :=
  (by decide +kernel : ∀ t : Fin grid0.N, _)

/-! ## The rows of the arguments -/

section Rows

variable (c : Dev nD)

/-- A token's row times the weight. -/
def zedAt (b : Fin 8) (n : Fin 8192) : Fin 2304 → EReal :=
  dotRow (hidden (fun k => m ((c.tc : Thread nD τ).loc main_arg0) (ix3 b n k)) (fun k => m ((c.tc : Thread nD τ).loc main_arg2) (ix2 0 k))
    (fun k => m ((c.tc : Thread nD τ).loc main_arg1) (ix3 b 0 k))) (fun k j => m ((c.tc : Thread nD τ).loc main_arg3) (ix2 k j))

/-- A token's row of the tables. -/
def tabAt (n : Fin 8192) : Fin 768 → EReal := fun j => m ((c.tc : Thread nD τ).loc main_arg4) (ix2 n j)

/-- The gains and the weights of the latent queries, keys and values. -/
def gainQ : Fin 256 → EReal := fun e => m ((c.tc : Thread nD τ).loc main_arg5) (ix2 0 e)
@[inherit_doc gainQ] def weightQ : Fin 256 → Fin 512 → EReal := fun k e => m ((c.tc : Thread nD τ).loc main_arg6) (ix2 k e)
@[inherit_doc gainQ] def gainK : Fin 128 → EReal := fun e => m ((c.tc : Thread nD τ).loc main_arg7) (ix2 0 e)
@[inherit_doc gainQ] def weightK : Fin 128 → Fin 512 → EReal := fun k e => m ((c.tc : Thread nD τ).loc main_arg8) (ix2 k e)
@[inherit_doc gainQ] def weightV : Fin 128 → Fin 256 → EReal := fun k e => m ((c.tc : Thread nD τ).loc main_arg9) (ix2 k e)

end Rows

section Whole

variable (c : Dev nD) (t : Fin cfg0.N)

theorem iblk2 : (fun j => iblk m c 2 t (ix2 0 j)) = fun j : Fin 1024 => m ((c.tc : Thread nD τ).loc main_arg2) (ix2 0 j) := by
  funext j; blk_ext [iblk, V, idx t]

theorem iblk3 : (fun k j => iblk m c 3 t (ix2 k j)) = fun (k : Fin 1024) (j : Fin 2304) => m ((c.tc : Thread nD τ).loc main_arg3) (ix2 k j) := by
  funext k j; blk_ext [iblk, V, idx t]

theorem iblk5 : (fun j => iblk m c 5 t (ix2 0 j)) = gainQ m c := by
  funext j; unfold gainQ; blk_ext [iblk, V, idx t]

theorem iblk6 : (fun k j => iblk m c 6 t (ix2 k j)) = weightQ m c := by
  funext k j; unfold weightQ; blk_ext [iblk, V, idx t]

theorem iblk7 : (fun j => iblk m c 7 t (ix2 0 j)) = gainK m c := by
  funext j; unfold gainK; blk_ext [iblk, V, idx t]

theorem iblk8 : (fun k j => iblk m c 8 t (ix2 k j)) = weightK m c := by
  funext k j; unfold weightK; blk_ext [iblk, V, idx t]

theorem iblk9 : (fun k j => iblk m c 9 t (ix2 k j)) = weightV m c := by
  funext k j; unfold weightV; blk_ext [iblk, V, idx t]

theorem iblk4 (g : Fin 16) (hg : (grid0.coords t 0).val = g.val) (n : Fin 512) :
    (fun j => iblk m c 4 t (ix2 n j)) = tabAt m c ⟨512 * g.val + n.val, by omega⟩ := by
  funext j; unfold tabAt; blk_ext [iblk, V, idx t]

end Whole

section Points

variable (c : Dev nD) (t : Fin cfg0.N) (b : Fin 8) (g : Fin 16)
variable (hb : (grid0.coords t 1).val = b.val) (hg : (grid0.coords t 0).val = g.val)

include hg hb

theorem iblk0 (n : Fin 512) : (fun j => iblk m c 0 t (ix3 0 n j))
    = fun j : Fin 1024 => m ((c.tc : Thread nD τ).loc main_arg0) (ix3 b ⟨512 * g.val + n.val, by omega⟩ j) := by
  funext j; blk_ext [iblk, V, idx t]

omit hg in
theorem iblk1 : (fun j => iblk m c 1 t (ix3 0 0 j)) = fun j : Fin 3072 => m ((c.tc : Thread nD τ).loc main_arg1) (ix3 b 0 j) := by
  funext j; blk_ext [iblk, V, idx t]

theorem zed_eq (n : Fin 512) : zed (iblk m c 0 t) (iblk m c 1 t) (iblk m c 2 t) (iblk m c 3 t) n
    = zedAt m c b ⟨512 * g.val + n.val, by omega⟩ := by
  unfold zed zedAt
  rw [iblk0 m c t b g hb hg n, iblk1 m c t b hb, iblk2, iblk3]

/-! ## Where the blocks lie -/

theorem emb10 (n : Fin 512) (j : Fin 256) : ((cfg0.win 10).blk t).view.emb (ix3 0 n j) = ix3 b ⟨512 * g.val + n.val, by omega⟩ j := by
  blk_ext [idx t]

theorem emb11 (n : Fin 512) (j : Fin 512) : ((cfg0.win 11).blk t).view.emb (ix3 0 n j) = ix3 b ⟨512 * g.val + n.val, by omega⟩ j := by
  blk_ext [idx t]

theorem emb12 (a : Fin 4) (n : Fin 512) (j : Fin 128) :
    ((cfg0.win 12).blk t).view.emb (ix4 0 a n j) = ix4 b a ⟨512 * g.val + n.val, by omega⟩ j := by
  blk_ext [idx t]

theorem emb13 (e : Fin 256) (n : Fin 512) : ((cfg0.win 13).blk t).view.emb (ix4 0 0 e n) = ix4 b g e n := by
  blk_ext [idx t]

theorem emb14 (n : Fin 512) (j : Fin 256) : ((cfg0.win 14).blk t).view.emb (ix3 0 n j) = ix3 b ⟨512 * g.val + n.val, by omega⟩ j := by
  blk_ext [idx t]

theorem emb15 (n : Fin 512) (j : Fin 256) : ((cfg0.win 15).blk t).view.emb (ix3 0 n j) = ix3 b ⟨512 * g.val + n.val, by omega⟩ j := by
  blk_ext [idx t]

theorem emb16 (e : Fin 256) (n : Fin 512) : ((cfg0.win 16).blk t).view.emb (ix4 0 0 e n) = ix4 b g e n := by
  blk_ext [idx t]

theorem emb17 (n : Fin 512) (j : Fin 512) : ((cfg0.win 17).blk t).view.emb (ix3 0 n j) = ix3 b ⟨512 * g.val + n.val, by omega⟩ j := by
  blk_ext [idx t]

theorem emb18 (n : Fin 512) (j : Fin 128) : ((cfg0.win 18).blk t).view.emb (ix3 0 n j) = ix3 b ⟨512 * g.val + n.val, by omega⟩ j := by
  blk_ext [idx t]

theorem emb19 (e : Fin 128) (n : Fin 512) : ((cfg0.win 19).blk t).view.emb (ix4 0 0 e n) = ix4 b g e n := by
  blk_ext [idx t]

end Points

/-! ## The arrays -/

/-- A column is a lane of a group of 128. -/
theorem lane {N : ℕ} (A : ℕ) (hN : N = 128 * A) (j : Fin N) : ∃ (a : Fin A) (l : Fin 128), j = ⟨128 * a.val + l.val, by omega⟩ :=
  ⟨⟨j.val / 128, by omega⟩, ⟨j.val % 128, Nat.mod_lt _ (by omega)⟩, Fin.ext (by show j.val = 128 * (j.val / 128) + j.val % 128; omega)⟩

section Arrays

variable (c : Dev nD)

theorem array10 (R : FVec Ideal S8x8192x256 .f32)
    (hR : ∀ (b : Fin 8) (n : Fin 8192) (e : Fin 256), R (ix3 b n e) = seg 256 (zedAt m c b n) 0 (by omega) e) :
    (dats m 0 c).arrAt 10 (cfgs 0).N = R := by
  refine (dats m 0 c).arrAt_eq_of_covers 10 R (by decide +kernel) fun t _ y => ?_
  blk_simp
  rw [after0_10]
  obtain ⟨h0, h1⟩ := lt0 t
  obtain ⟨n, j, rfl⟩ : ∃ (n : Fin 512) (j : Fin 256), y = ix3 0 n j := ⟨y 1, y 2, by blk_ext []⟩
  refine (out10_at _ _ _ _ _ _ _ _ _ _ n j).trans ?_
  rw [zed_eq m c t ⟨_, h1⟩ ⟨_, h0⟩ rfl rfl]
  exact ((congrArg R (emb10 t ⟨_, h1⟩ ⟨_, h0⟩ rfl rfl n j)).trans (hR _ _ _)).symm

theorem array11 (R : FVec Ideal S8x8192x512 .bf16)
    (hR : ∀ (b : Fin 8) (n : Fin 8192) (a : Fin 4) (l : Fin 128), R (ix3 b n ⟨128 * a.val + l.val, by omega⟩)
      = latQ (zedAt m c b n) (tabAt m c n) (gainQ m c) (weightQ m c) a l) :
    (dats m 0 c).arrAt 11 (cfgs 0).N = R := by
  refine (dats m 0 c).arrAt_eq_of_covers 11 R (by decide +kernel) fun t _ y => ?_
  blk_simp
  rw [after0_11]
  obtain ⟨h0, h1⟩ := lt0 t
  obtain ⟨n, j, rfl⟩ : ∃ (n : Fin 512) (j : Fin 512), y = ix3 0 n j := ⟨y 1, y 2, by blk_ext []⟩
  obtain ⟨a, l, rfl⟩ := lane 4 rfl j
  refine (out11_at _ _ _ _ _ _ _ _ _ _ n a l).trans ?_
  rw [zed_eq m c t ⟨_, h1⟩ ⟨_, h0⟩ rfl rfl, iblk4 m c t ⟨_, h0⟩ rfl, iblk5, iblk6]
  exact ((congrArg R (emb11 t ⟨_, h1⟩ ⟨_, h0⟩ rfl rfl n _)).trans (hR _ _ _ _)).symm

theorem array12 (R : FVec Ideal S8x4x8192x128 .bf16)
    (hR : ∀ (b : Fin 8) (n : Fin 8192) (a : Fin 4) (l : Fin 128), R (ix4 b a n l)
      = latK (zedAt m c b n) (tabAt m c n) (gainK m c) (weightK m c) a l) :
    (dats m 0 c).arrAt 12 (cfgs 0).N = R := by
  refine (dats m 0 c).arrAt_eq_of_covers 12 R (by decide +kernel) fun t _ y => ?_
  blk_simp
  rw [after0_12]
  obtain ⟨h0, h1⟩ := lt0 t
  obtain ⟨a, n, l, rfl⟩ : ∃ (a : Fin 4) (n : Fin 512) (l : Fin 128), y = ix4 0 a n l := ⟨y 1, y 2, y 3, by blk_ext []⟩
  refine (out12_at _ _ _ _ _ _ _ _ _ _ n a l).trans ?_
  rw [zed_eq m c t ⟨_, h1⟩ ⟨_, h0⟩ rfl rfl, iblk4 m c t ⟨_, h0⟩ rfl, iblk7, iblk8]
  exact ((congrArg R (emb12 t ⟨_, h1⟩ ⟨_, h0⟩ rfl rfl a n l)).trans (hR _ _ _ _)).symm

theorem array13 (R : FVec Ideal S8x16x256x512 .bf16)
    (hR : ∀ (b : Fin 8) (g : Fin 16) (n : Fin 512) (e : Fin 256), R (ix4 b g e n)
      = dotRow (latC (zedAt m c b ⟨512 * g.val + n.val, by omega⟩) (gainK m c)) (weightV m c) e) :
    (dats m 0 c).arrAt 13 (cfgs 0).N = R := by
  refine (dats m 0 c).arrAt_eq_of_covers 13 R (by decide +kernel) fun t _ y => ?_
  blk_simp
  rw [after0_13]
  obtain ⟨h0, h1⟩ := lt0 t
  obtain ⟨e, n, rfl⟩ : ∃ (e : Fin 256) (n : Fin 512), y = ix4 0 0 e n := ⟨y 2, y 3, by blk_ext []⟩
  refine (out13_at _ _ _ _ _ _ _ _ _ _ n e).trans ?_
  rw [zed_eq m c t ⟨_, h1⟩ ⟨_, h0⟩ rfl rfl, iblk7, iblk9]
  exact ((congrArg R (emb13 t ⟨_, h1⟩ ⟨_, h0⟩ rfl rfl e n)).trans (hR _ _ _ _)).symm

theorem array14 (R : FVec Ideal S8x8192x256 .bf16)
    (hR : ∀ (b : Fin 8) (n : Fin 8192) (a : Fin 2) (l : Fin 128), R (ix3 b n ⟨128 * a.val + l.val, by omega⟩)
      = difQ (zedAt m c b n) (tabAt m c n) a l) :
    (dats m 0 c).arrAt 14 (cfgs 0).N = R := by
  refine (dats m 0 c).arrAt_eq_of_covers 14 R (by decide +kernel) fun t _ y => ?_
  blk_simp
  rw [after0_14]
  obtain ⟨h0, h1⟩ := lt0 t
  obtain ⟨n, j, rfl⟩ : ∃ (n : Fin 512) (j : Fin 256), y = ix3 0 n j := ⟨y 1, y 2, by blk_ext []⟩
  obtain ⟨a, l, rfl⟩ := lane 2 rfl j
  refine (out14_at _ _ _ _ _ _ _ _ _ _ n a l).trans ?_
  rw [zed_eq m c t ⟨_, h1⟩ ⟨_, h0⟩ rfl rfl, iblk4 m c t ⟨_, h0⟩ rfl]
  exact ((congrArg R (emb14 t ⟨_, h1⟩ ⟨_, h0⟩ rfl rfl n _)).trans (hR _ _ _ _)).symm

theorem array15 (R : FVec Ideal S8x8192x256 .bf16)
    (hR : ∀ (b : Fin 8) (n : Fin 8192) (a : Fin 2) (l : Fin 128), R (ix3 b n ⟨128 * a.val + l.val, by omega⟩)
      = difK (zedAt m c b n) (tabAt m c n) a l) :
    (dats m 0 c).arrAt 15 (cfgs 0).N = R := by
  refine (dats m 0 c).arrAt_eq_of_covers 15 R (by decide +kernel) fun t _ y => ?_
  blk_simp
  rw [after0_15]
  obtain ⟨h0, h1⟩ := lt0 t
  obtain ⟨n, j, rfl⟩ : ∃ (n : Fin 512) (j : Fin 256), y = ix3 0 n j := ⟨y 1, y 2, by blk_ext []⟩
  obtain ⟨a, l, rfl⟩ := lane 2 rfl j
  refine (out15_at _ _ _ _ _ _ _ _ _ _ n a l).trans ?_
  rw [zed_eq m c t ⟨_, h1⟩ ⟨_, h0⟩ rfl rfl, iblk4 m c t ⟨_, h0⟩ rfl]
  exact ((congrArg R (emb15 t ⟨_, h1⟩ ⟨_, h0⟩ rfl rfl n _)).trans (hR _ _ _ _)).symm

theorem array16 (R : FVec Ideal S8x16x256x512 .bf16)
    (hR : ∀ (b : Fin 8) (g : Fin 16) (n : Fin 512) (e : Fin 256), R (ix4 b g e n)
      = seg 256 (zedAt m c b ⟨512 * g.val + n.val, by omega⟩) 1280 (by omega) e) :
    (dats m 0 c).arrAt 16 (cfgs 0).N = R := by
  refine (dats m 0 c).arrAt_eq_of_covers 16 R (by decide +kernel) fun t _ y => ?_
  blk_simp
  rw [after0_16]
  obtain ⟨h0, h1⟩ := lt0 t
  obtain ⟨e, n, rfl⟩ : ∃ (e : Fin 256) (n : Fin 512), y = ix4 0 0 e n := ⟨y 2, y 3, by blk_ext []⟩
  refine (out16_at _ _ _ _ _ _ _ _ _ _ n e).trans ?_
  rw [zed_eq m c t ⟨_, h1⟩ ⟨_, h0⟩ rfl rfl]
  exact ((congrArg R (emb16 t ⟨_, h1⟩ ⟨_, h0⟩ rfl rfl e n)).trans (hR _ _ _ _)).symm

theorem array17 (R : FVec Ideal S8x8192x512 .bf16)
    (hR : ∀ (b : Fin 8) (n : Fin 8192) (a : Fin 4) (l : Fin 128), R (ix3 b n ⟨128 * a.val + l.val, by omega⟩)
      = winQ (zedAt m c b n) (tabAt m c n) a l) :
    (dats m 0 c).arrAt 17 (cfgs 0).N = R := by
  refine (dats m 0 c).arrAt_eq_of_covers 17 R (by decide +kernel) fun t _ y => ?_
  blk_simp
  rw [after0_17]
  obtain ⟨h0, h1⟩ := lt0 t
  obtain ⟨n, j, rfl⟩ : ∃ (n : Fin 512) (j : Fin 512), y = ix3 0 n j := ⟨y 1, y 2, by blk_ext []⟩
  obtain ⟨a, l, rfl⟩ := lane 4 rfl j
  refine (out17_at _ _ _ _ _ _ _ _ _ _ n a l).trans ?_
  rw [zed_eq m c t ⟨_, h1⟩ ⟨_, h0⟩ rfl rfl, iblk4 m c t ⟨_, h0⟩ rfl]
  exact ((congrArg R (emb17 t ⟨_, h1⟩ ⟨_, h0⟩ rfl rfl n _)).trans (hR _ _ _ _)).symm

theorem array18 (R : FVec Ideal S8x8192x128 .bf16)
    (hR : ∀ (b : Fin 8) (n : Fin 8192) (l : Fin 128), R (ix3 b n l) = winK (zedAt m c b n) (tabAt m c n) l) :
    (dats m 0 c).arrAt 18 (cfgs 0).N = R := by
  refine (dats m 0 c).arrAt_eq_of_covers 18 R (by decide +kernel) fun t _ y => ?_
  blk_simp
  rw [after0_18]
  obtain ⟨h0, h1⟩ := lt0 t
  obtain ⟨n, l, rfl⟩ : ∃ (n : Fin 512) (l : Fin 128), y = ix3 0 n l := ⟨y 1, y 2, by blk_ext []⟩
  refine (out18_at _ _ _ _ _ _ _ _ _ _ n l).trans ?_
  rw [zed_eq m c t ⟨_, h1⟩ ⟨_, h0⟩ rfl rfl, iblk4 m c t ⟨_, h0⟩ rfl]
  exact ((congrArg R (emb18 t ⟨_, h1⟩ ⟨_, h0⟩ rfl rfl n l)).trans (hR _ _ _)).symm

theorem array19 (R : FVec Ideal S8x16x128x512 .bf16)
    (hR : ∀ (b : Fin 8) (g : Fin 16) (n : Fin 512) (e : Fin 128), R (ix4 b g e n)
      = seg 128 (zedAt m c b ⟨512 * g.val + n.val, by omega⟩) 2176 (by omega) e) :
    (dats m 0 c).arrAt 19 (cfgs 0).N = R := by
  refine (dats m 0 c).arrAt_eq_of_covers 19 R (by decide +kernel) fun t _ y => ?_
  blk_simp
  rw [after0_19]
  obtain ⟨h0, h1⟩ := lt0 t
  obtain ⟨e, n, rfl⟩ : ∃ (e : Fin 128) (n : Fin 512), y = ix4 0 0 e n := ⟨y 2, y 3, by blk_ext []⟩
  refine (out19_at _ _ _ _ _ _ _ _ _ _ n e).trans ?_
  rw [zed_eq m c t ⟨_, h1⟩ ⟨_, h0⟩ rfl rfl]
  exact ((congrArg R (emb19 t ⟨_, h1⟩ ⟨_, h0⟩ rfl rfl e n)).trans (hR _ _ _ _)).symm

end Arrays

end Cert.Kernel5Ideal.Prj
-- ==== Proof.ProjRef.lean ====
/-
  What the projection's reference computes, entry by entry on the extended reals.
-/
module

public import proofs.«01_k».proof.Proof.Gen.Reference5Ideal.Run
public import proofs.«01_k».proof.Proof.ProjRow

@[expose] public section

set_option maxRecDepth 16384

noncomputable section

namespace Cert.Reference5Ideal.Prj

open Cert.Reference5Ideal Cert.Reference5Ideal.Gen Cert.Reference5Ideal.Value
open Cert.Proof.Merge Cert.Proof.Proj
open Idealize.ShloMosaic Idealize.ShloMosaic.TcCoe

/-! ## The normalised and modulated rows times the weight -/

/-- The rows scaled to unit mean square, times a gain. -/
def normRows (x : FVec Ideal S8x8192x1024 .f32) (g : FVec Ideal S1x1024 .f32) : FVec Ideal S8x8192x1024 .f32 :=
  mulf (mulf x (broadcastInDim S8x8192x1024 ![0, 1, 2] bcast_S8x8192x1_S8x8192x1024_0_1_2 (Host.rsqrt (addf
    (mulf (broadcastInDim S8x8192x1 ![0, 1] bcast_S8x8192_S8x8192x1_0_1 (Host.reduceAdd (mulf x x) (constant S_ .f32 0x00000000#32)
      reducesTo_S8x8192x1024_S8x8192_d2 h_S_)) (broadcastInDim S8x8192x1 ![] bcast_S_S8x8192x1 (constant S_ .f32 0x3A800000#32)))
    (broadcastInDim S8x8192x1 ![] bcast_S_S8x8192x1 (constant S_ .f32 0x358637BD#32))))))
    (broadcastInDim S8x8192x1024 ![0, 1, 2] bcast_S1x1x1024_S8x8192x1024_0_1_2 (broadcastInDim S1x1x1024 ![1, 2] bcast_S1x1024_S1x1x1024_1_2 g))

theorem normRows_at (x : FVec Ideal S8x8192x1024 .f32) (g : FVec Ideal S1x1024 .f32) (b : Fin 8) (n : Fin 8192) (i : Fin 1024) :
    normRows x g (ix3 b n i) = normed (fun j => x (ix3 b n j)) (fun j => g (ix2 0 j)) i := by
  unfold normed eps
  pointwise [normRows]

/-- The modulated normalised rows. -/
def hiddenRows (x : FVec Ideal S8x8192x1024 .f32) (md : FVec Ideal S8x1x3072 .f32) (g : FVec Ideal S1x1024 .f32) : FVec Ideal S8x8192x1024 .f32 :=
  addf (mulf (normRows x g) (broadcastInDim S8x8192x1024 ![0, 1, 2] bcast_S8x1x1024_S8x8192x1024_0_1_2
    (addf (broadcastInDim S8x1x1024 ![] bcast_S_S8x1x1024 (constant S_ .f32 0x3F800000#32))
      (extractStridedSlice S8x1x1024 ![0, 0, 1024] md slices_S8x1x3072_S8x1x1024_0_0_1024))))
    (broadcastInDim S8x8192x1024 ![0, 1, 2] bcast_S8x1x1024_S8x8192x1024_0_1_2
      (extractStridedSlice S8x1x1024 ![0, 0, 0] md slices_S8x1x3072_S8x1x1024_0_0_0))

theorem hiddenRows_at (x : FVec Ideal S8x8192x1024 .f32) (md : FVec Ideal S8x1x3072 .f32) (g : FVec Ideal S1x1024 .f32) (b : Fin 8)
    (n : Fin 8192) (i : Fin 1024) : hiddenRows x md g (ix3 b n i)
      = hidden (fun k => x (ix3 b n k)) (fun k => g (ix2 0 k)) (fun k => md (ix3 b 0 k)) i := by
  have e : hiddenRows x md g (ix3 b n i)
      = normRows x g (ix3 b n i) * (one + md (ix3 b 0 ⟨1024 + i.val, by omega⟩)) + md (ix3 b 0 ⟨i.val, by omega⟩) := by
    pointwise [hiddenRows]
  rw [e, normRows_at]; rfl

/-- The rows times the weight. -/
def zeds (x : FVec Ideal S8x8192x1024 .f32) (md : FVec Ideal S8x1x3072 .f32) (g : FVec Ideal S1x1024 .f32) (w : FVec Ideal S1024x2304 .bf16) :
    FVec Ideal S8x8192x2304 .f32 :=
  Host.dotGeneral dot_S8x8192x1024_S1024x2304_S8x8192x2304_2_0_01_1_n_n none (hiddenRows x md g) (extf .f32 w bitsLt_bf16_f32)

theorem zeds_at (x : FVec Ideal S8x8192x1024 .f32) (md : FVec Ideal S8x1x3072 .f32) (g : FVec Ideal S1x1024 .f32)
    (w : FVec Ideal S1024x2304 .bf16) (b : Fin 8) (n : Fin 8192) (j : Fin 2304) : zeds x md g w (ix3 b n j)
      = dotRow (hidden (fun k => x (ix3 b n k)) (fun k => g (ix2 0 k)) (fun k => md (ix3 b 0 k))) (fun k e => w (ix2 k e)) j := by
  have e : zeds x md g w (ix3 b n j) = ∑ k, hiddenRows x md g (ix3 b n k) * w (ix2 k j) := by pointwise [zeds]
  exact e.trans (Finset.sum_congr rfl fun k _ => by rw [hiddenRows_at])

/-! ## The tables -/

/-- A group of 128 columns of the tables, from column `o` on. -/
def cut (t : FVec Ideal S8192x768 .f32) (o : ℕ) (h : o + 128 ≤ 768) : FVec Ideal S8192x128 .f32 :=
  extractStridedSlice S8192x128 ![0, o] t ⟨rfl, fun a => by
    match a with
    | ⟨0, _⟩ => exact Nat.le_refl 8192
    | ⟨1, _⟩ => exact h⟩

theorem cut_at (t : FVec Ideal S8192x768 .f32) (o : ℕ) (h : o + 128 ≤ 768) (n : Fin 8192) (l : Fin 128) :
    cut t o h (ix2 n l) = seg 128 (fun j => t (ix2 n j)) o h l := by
  refine congrArg t (funext fun a => Fin.ext ?_)
  match a with
  | 0 => exact Nat.zero_add _
  | 1 => rfl

/-- Lanes times their cosines plus their partners times their signed sines, in four groups, two groups and one group of 128. -/
def turned4 (v w : FVec Ideal S8x8192x4x128 .f32) (c s : FVec Ideal S8192x128 .f32) : FVec Ideal S8x8192x4x128 .f32 :=
  addf (mulf v (broadcastInDim S8x8192x4x128 ![0, 1, 2, 3] bcast_S1x8192x1x128_S8x8192x4x128_0_1_2_3
      (broadcastInDim S1x8192x1x128 ![1, 3] bcast_S8192x128_S1x8192x1x128_1_3 c)))
    (mulf w (broadcastInDim S8x8192x4x128 ![0, 1, 2, 3] bcast_S1x8192x1x128_S8x8192x4x128_0_1_2_3
      (broadcastInDim S1x8192x1x128 ![1, 3] bcast_S8192x128_S1x8192x1x128_1_3 s)))

@[inherit_doc turned4]
def turned2 (v w : FVec Ideal S8x8192x2x128 .f32) (c s : FVec Ideal S8192x128 .f32) : FVec Ideal S8x8192x2x128 .f32 :=
  addf (mulf v (broadcastInDim S8x8192x2x128 ![0, 1, 2, 3] bcast_S1x8192x1x128_S8x8192x2x128_0_1_2_3
      (broadcastInDim S1x8192x1x128 ![1, 3] bcast_S8192x128_S1x8192x1x128_1_3 c)))
    (mulf w (broadcastInDim S8x8192x2x128 ![0, 1, 2, 3] bcast_S1x8192x1x128_S8x8192x2x128_0_1_2_3
      (broadcastInDim S1x8192x1x128 ![1, 3] bcast_S8192x128_S1x8192x1x128_1_3 s)))

@[inherit_doc turned4]
def turned1 (v w : FVec Ideal S8x8192x1x128 .f32) (c s : FVec Ideal S8192x128 .f32) : FVec Ideal S8x8192x1x128 .f32 :=
  addf (mulf v (broadcastInDim S8x8192x1x128 ![0, 1, 2, 3] bcast_S1x8192x1x128_S8x8192x1x128_0_1_2_3
      (broadcastInDim S1x8192x1x128 ![1, 3] bcast_S8192x128_S1x8192x1x128_1_3 c)))
    (mulf w (broadcastInDim S8x8192x1x128 ![0, 1, 2, 3] bcast_S1x8192x1x128_S8x8192x1x128_0_1_2_3
      (broadcastInDim S1x8192x1x128 ![1, 3] bcast_S8192x128_S1x8192x1x128_1_3 s)))

theorem turned4_at (v w : FVec Ideal S8x8192x4x128 .f32) (c s : FVec Ideal S8192x128 .f32) (b : Fin 8) (n : Fin 8192) (a : Fin 4) (l : Fin 128) :
    turned4 v w c s (ix4 b n a l) = v (ix4 b n a l) * c (ix2 n l) + w (ix4 b n a l) * s (ix2 n l) := by
  pointwise [turned4]

theorem turned2_at (v w : FVec Ideal S8x8192x2x128 .f32) (c s : FVec Ideal S8192x128 .f32) (b : Fin 8) (n : Fin 8192) (a : Fin 2) (l : Fin 128) :
    turned2 v w c s (ix4 b n a l) = v (ix4 b n a l) * c (ix2 n l) + w (ix4 b n a l) * s (ix2 n l) := by
  pointwise [turned2]

theorem turned1_at (v w : FVec Ideal S8x8192x1x128 .f32) (c s : FVec Ideal S8192x128 .f32) (b : Fin 8) (n : Fin 8192) (l : Fin 128) :
    turned1 v w c s (ix4 b n 0 l) = v (ix4 b n 0 l) * c (ix2 n l) + w (ix4 b n 0 l) * s (ix2 n l) := by
  pointwise [turned1]

/-! ## The partners -/

/-- The latent heads' partners. -/
def swapLatent (v : FVec Ideal S8x8192x4x128 .f32) : FVec Ideal S8x8192x4x128 .f32 :=
  concatenate S8x8192x4x128 3 [⟨S8x8192x4x80, (extractStridedSlice S8x8192x4x80 ![0, 0, 0, 16] v slices_S8x8192x4x128_S8x8192x4x80_0_0_0_16)⟩,
    ⟨S8x8192x4x48, (extractStridedSlice S8x8192x4x48 ![0, 0, 0, 64] v slices_S8x8192x4x128_S8x8192x4x48_0_0_0_64)⟩]
    concatenates_S8x8192x4x80_S8x8192x4x48_S8x8192x4x128_d3

theorem swapLatent_at (v : FVec Ideal S8x8192x4x128 .f32) (b : Fin 8) (n : Fin 8192) (a : Fin 4) (l : Fin 128) :
    swapLatent v (ix4 b n a l) = v (ix4 b n a (latent l)) := by
  pointwise [swapLatent]
  by_cases h : l.val < 80
  · rw [dif_pos h]
    refine congrArg (fun e => v (ix4 b n a e)) (Fin.ext ?_)
    show 16 + l.val = (if l.val % 128 < 80 then l.val + 16 else l.val + 128 - 16) % 128
    split <;> omega
  · rw [dif_neg h]
    refine congrArg (fun e => v (ix4 b n a e)) (Fin.ext ?_)
    show 64 + (l.val - 80) = (if l.val % 128 < 80 then l.val + 16 else l.val + 128 - 16) % 128
    split <;> omega

/-- Heads of 32 lanes with their halves swapped, in two groups of 128. -/
def swap16 (v : FVec Ideal S8x8192x8x2x16 .f32) : FVec Ideal S8x8192x2x128 .f32 :=
  shapeCast _ (concatenate S8x8192x8x2x16 3
    [⟨S8x8192x8x1x16, (extractStridedSlice S8x8192x8x1x16 ![0, 0, 0, 1, 0] v slices_S8x8192x8x2x16_S8x8192x8x1x16_0_0_0_1_0)⟩,
     ⟨S8x8192x8x1x16, (extractStridedSlice S8x8192x8x1x16 ![0, 0, 0, 0, 0] v slices_S8x8192x8x2x16_S8x8192x8x1x16_0_0_0_0_0)⟩]
    concatenates_S8x8192x8x1x16_S8x8192x8x1x16_S8x8192x8x2x16_d3 : FVec Ideal S8x8192x8x2x16 .f32) shapeCasts_S8x8192x8x2x16_S8x8192x2x128

theorem swap16_at (v : FVec Ideal S8x8192x256 .f32) (b : Fin 8) (n : Fin 8192) (a : Fin 2) (l : Fin 128) :
    swap16 (shapeCast _ v shapeCasts_S8x8192x256_S8x8192x8x2x16) (ix4 b n a l) = v (ix3 b n ⟨128 * a.val + (heads32 l).val, by omega⟩) := by
  pointwise [swap16]
  by_cases h : l.val / 16 % 2 < 1
  · rw [dif_pos h]
    refine congrArg (fun e => v (ix3 b n e)) (Fin.ext ?_)
    show (a.val * 4 + l.val / 32) * 32 + (1 + l.val / 16 % 2) * 16 + l.val % 16
      = 128 * a.val + (if l.val % 32 < 16 then l.val + 16 else l.val + 128 - 16) % 128
    split <;> omega
  · rw [dif_neg h]
    refine congrArg (fun e => v (ix3 b n e)) (Fin.ext ?_)
    show (a.val * 4 + l.val / 32) * 32 + (l.val / 16 % 2 - 1) * 16 + l.val % 16
      = 128 * a.val + (if l.val % 32 < 16 then l.val + 16 else l.val + 128 - 16) % 128
    split <;> omega

/-- Heads of 64 lanes with their halves swapped, in four groups of 128. -/
def swap32 (v : FVec Ideal S8x8192x8x2x32 .f32) : FVec Ideal S8x8192x4x128 .f32 :=
  shapeCast _ (concatenate S8x8192x8x2x32 3
    [⟨S8x8192x8x1x32, (extractStridedSlice S8x8192x8x1x32 ![0, 0, 0, 1, 0] v slices_S8x8192x8x2x32_S8x8192x8x1x32_0_0_0_1_0)⟩,
     ⟨S8x8192x8x1x32, (extractStridedSlice S8x8192x8x1x32 ![0, 0, 0, 0, 0] v slices_S8x8192x8x2x32_S8x8192x8x1x32_0_0_0_0_0)⟩]
    concatenates_S8x8192x8x1x32_S8x8192x8x1x32_S8x8192x8x2x32_d3 : FVec Ideal S8x8192x8x2x32 .f32) shapeCasts_S8x8192x8x2x32_S8x8192x4x128

theorem swap32_at (v : FVec Ideal S8x8192x512 .f32) (b : Fin 8) (n : Fin 8192) (a : Fin 4) (l : Fin 128) :
    swap32 (shapeCast _ v shapeCasts_S8x8192x512_S8x8192x8x2x32) (ix4 b n a l) = v (ix3 b n ⟨128 * a.val + (heads64 l).val, by omega⟩) := by
  pointwise [swap32]
  by_cases h : l.val / 32 % 2 < 1
  · rw [dif_pos h]
    refine congrArg (fun e => v (ix3 b n e)) (Fin.ext ?_)
    show (a.val * 2 + l.val / 64) * 64 + (1 + l.val / 32 % 2) * 32 + l.val % 32
      = 128 * a.val + (if l.val % 64 < 32 then l.val + 32 else l.val + 128 - 32) % 128
    split <;> omega
  · rw [dif_neg h]
    refine congrArg (fun e => v (ix3 b n e)) (Fin.ext ?_)
    show (a.val * 2 + l.val / 64) * 64 + (l.val / 32 % 2 - 1) * 32 + l.val % 32
      = 128 * a.val + (if l.val % 64 < 32 then l.val + 32 else l.val + 128 - 32) % 128
    split <;> omega

/-- Two heads of 64 lanes with their halves swapped, in one group of 128. -/
def swapPair (v : FVec Ideal S8x8192x2x2x32 .f32) : FVec Ideal S8x8192x1x128 .f32 :=
  shapeCast _ (concatenate S8x8192x2x2x32 3
    [⟨S8x8192x2x1x32, (extractStridedSlice S8x8192x2x1x32 ![0, 0, 0, 1, 0] v slices_S8x8192x2x2x32_S8x8192x2x1x32_0_0_0_1_0)⟩,
     ⟨S8x8192x2x1x32, (extractStridedSlice S8x8192x2x1x32 ![0, 0, 0, 0, 0] v slices_S8x8192x2x2x32_S8x8192x2x1x32_0_0_0_0_0)⟩]
    concatenates_S8x8192x2x1x32_S8x8192x2x1x32_S8x8192x2x2x32_d3 : FVec Ideal S8x8192x2x2x32 .f32) shapeCasts_S8x8192x2x2x32_S8x8192x1x128

theorem swapPair_at (v : FVec Ideal S8x8192x128 .f32) (b : Fin 8) (n : Fin 8192) (l : Fin 128) :
    swapPair (shapeCast _ v shapeCasts_S8x8192x128_S8x8192x2x2x32) (ix4 b n 0 l) = v (ix3 b n (heads64 l)) := by
  pointwise [swapPair]
  by_cases h : l.val / 32 % 2 < 1
  · rw [dif_pos h]
    refine congrArg (fun e => v (ix3 b n e)) (Fin.ext ?_)
    show l.val / 64 * 64 + (1 + l.val / 32 % 2) * 32 + l.val % 32
      = (if l.val % 64 < 32 then l.val + 32 else l.val + 128 - 32) % 128
    split <;> omega
  · rw [dif_neg h]
    refine congrArg (fun e => v (ix3 b n e)) (Fin.ext ?_)
    show l.val / 64 * 64 + (l.val / 32 % 2 - 1) * 32 + l.val % 32
      = (if l.val % 64 < 32 then l.val + 32 else l.val + 128 - 32) % 128
    split <;> omega

/-! ## The latent rows -/

/-- Rows over the root of their sums of squares times a constant, times a gain. -/
def scaled256 (v : FVec Ideal S8x8192x256 .f32) (g : FVec Ideal S1x256 .f32) : FVec Ideal S8x8192x256 .f32 :=
  mulf (mulf v (broadcastInDim S8x8192x256 ![0, 1, 2] bcast_S8x8192x1_S8x8192x256_0_1_2 (Host.rsqrt (addf
    (mulf (broadcastInDim S8x8192x1 ![0, 1] bcast_S8x8192_S8x8192x1_0_1 (Host.reduceAdd (mulf v v) (constant S_ .f32 0x00000000#32)
      reducesTo_S8x8192x256_S8x8192_d2 h_S_)) (broadcastInDim S8x8192x1 ![] bcast_S_S8x8192x1 (constant S_ .f32 0x3BAAAAAB#32)))
    (broadcastInDim S8x8192x1 ![] bcast_S_S8x8192x1 (constant S_ .f32 0x358637BD#32))))))
    (broadcastInDim S8x8192x256 ![0, 1, 2] bcast_S1x1x256_S8x8192x256_0_1_2 (broadcastInDim S1x1x256 ![1, 2] bcast_S1x256_S1x1x256_1_2 g))

@[inherit_doc scaled256]
def scaled128 (v : FVec Ideal S8x8192x128 .f32) (g : FVec Ideal S1x128 .f32) : FVec Ideal S8x8192x128 .f32 :=
  mulf (mulf v (broadcastInDim S8x8192x128 ![0, 1, 2] bcast_S8x8192x1_S8x8192x128_0_1_2 (Host.rsqrt (addf
    (mulf (broadcastInDim S8x8192x1 ![0, 1] bcast_S8x8192_S8x8192x1_0_1 (Host.reduceAdd (mulf v v) (constant S_ .f32 0x00000000#32)
      reducesTo_S8x8192x128_S8x8192_d2 h_S_)) (broadcastInDim S8x8192x1 ![] bcast_S_S8x8192x1 (constant S_ .f32 0x3C000000#32)))
    (broadcastInDim S8x8192x1 ![] bcast_S_S8x8192x1 (constant S_ .f32 0x358637BD#32))))))
    (broadcastInDim S8x8192x128 ![0, 1, 2] bcast_S1x1x128_S8x8192x128_0_1_2 (broadcastInDim S1x1x128 ![1, 2] bcast_S1x128_S1x1x128_1_2 g))

theorem scaled256_at (v : FVec Ideal S8x8192x256 .f32) (g : FVec Ideal S1x256 .f32) (b : Fin 8) (n : Fin 8192) (i : Fin 256) :
    scaled256 v g (ix3 b n i) = scaled (Ideal.ofBits FTy.f32 0x3BAAAAAB#32) (fun j => v (ix3 b n j)) (fun j => g (ix2 0 j)) i := by
  unfold scaled eps
  pointwise [scaled256]

theorem scaled128_at (v : FVec Ideal S8x8192x128 .f32) (g : FVec Ideal S1x128 .f32) (b : Fin 8) (n : Fin 8192) (i : Fin 128) :
    scaled128 v g (ix3 b n i) = scaled (Ideal.ofBits FTy.f32 0x3C000000#32) (fun j => v (ix3 b n j)) (fun j => g (ix2 0 j)) i := by
  unfold scaled eps
  pointwise [scaled128]

/-- The latent queries of rows, before the rotation. -/
def latents (v : FVec Ideal S8x8192x256 .f32) (w : FVec Ideal S256x512 .bf16) : FVec Ideal S8x8192x4x128 .f32 :=
  shapeCast _ (Host.dotGeneral dot_S8x8192x256_S256x512_S8x8192x512_2_0_01_1_n_n none v (extf .f32 w bitsLt_bf16_f32))
    shapeCasts_S8x8192x512_S8x8192x4x128

theorem latents_at (v : FVec Ideal S8x8192x256 .f32) (w : FVec Ideal S256x512 .bf16) (b : Fin 8) (n : Fin 8192) (a : Fin 4) (l : Fin 128) :
    latents v w (ix4 b n a l) = seg 128 (dotRow (fun k => v (ix3 b n k)) (fun k e => w (ix2 k e))) (128 * a.val) (by omega) l := by
  have e : latents v w (ix4 b n a l) = ∑ k, v (ix3 b n k) * w (ix2 k ⟨a.val * 128 + l.val, by omega⟩) := by pointwise [latents]
  refine e.trans (Finset.sum_congr rfl fun k _ => congrArg (fun j => v (ix3 b n k) * w (ix2 k j)) (Fin.ext ?_))
  show a.val * 128 + l.val = 128 * a.val + l.val
  omega

/-- The latent keys of rows, before the rotation. -/
def latentKeys (v : FVec Ideal S8x8192x128 .f32) (w : FVec Ideal S128x512 .bf16) (z : FVec Ideal S8x8192x2304 .f32) :
    FVec Ideal S8x8192x4x128 .f32 :=
  addf (shapeCast _ (Host.dotGeneral dot_S8x8192x128_S128x512_S8x8192x512_2_0_01_1_n_n none v (extf .f32 w bitsLt_bf16_f32))
    shapeCasts_S8x8192x512_S8x8192x4x128) (broadcastInDim S8x8192x4x128 ![0, 1, 2, 3] bcast_S8x8192x1x128_S8x8192x4x128_0_1_2_3
      (broadcastInDim S8x8192x1x128 ![0, 1, 3] bcast_S8x8192x128_S8x8192x1x128_0_1_3
        (extractStridedSlice S8x8192x128 ![0, 0, 640] z slices_S8x8192x2304_S8x8192x128_0_0_640)))

theorem latentKeys_at (v : FVec Ideal S8x8192x128 .f32) (w : FVec Ideal S128x512 .bf16) (z : FVec Ideal S8x8192x2304 .f32)
    (b : Fin 8) (n : Fin 8192) (a : Fin 4) (l : Fin 128) : latentKeys v w z (ix4 b n a l)
      = seg 128 (dotRow (fun k => v (ix3 b n k)) (fun k e => w (ix2 k e))) (128 * a.val) (by omega) l
        + seg 128 (fun j => z (ix3 b n j)) 640 (by omega) l := by
  have e : latentKeys v w z (ix4 b n a l) = (∑ k, v (ix3 b n k) * w (ix2 k ⟨a.val * 128 + l.val, by omega⟩))
      + z (ix3 b n ⟨640 + l.val, by omega⟩) := by pointwise [latentKeys]
  refine e.trans (congrArg (fun y : EReal => y + z (ix3 b n ⟨640 + l.val, by omega⟩)) (Finset.sum_congr rfl fun k _ =>
    congrArg (fun j => v (ix3 b n k) * w (ix2 k j)) (Fin.ext ?_)))
  show a.val * 128 + l.val = 128 * a.val + l.val
  omega

/-! ## The rows of the arguments -/

section Results

variable (V0 : Valuation τ sig (Elt Ideal))

/-- A token's row times the weight. -/
def zed (b : Fin 8) (n : Fin 8192) : Fin 2304 → EReal :=
  dotRow (hidden (fun k => V0 (Proc.devRef .tc main_arg0) (ix3 b n k)) (fun k => V0 (Proc.devRef .tc main_arg2) (ix2 0 k))
    (fun k => V0 (Proc.devRef .tc main_arg1) (ix3 b 0 k))) (fun k j => V0 (Proc.devRef .tc main_arg3) (ix2 k j))

/-- A token's row of the tables. -/
def tab (n : Fin 8192) : Fin 768 → EReal := fun j => V0 (Proc.devRef .tc main_arg4) (ix2 n j)

/-- The gains and the weights of the latent queries, keys and values. -/
def gainQ : Fin 256 → EReal := fun e => V0 (Proc.devRef .tc main_arg5) (ix2 0 e)
@[inherit_doc gainQ] def weightQ : Fin 256 → Fin 512 → EReal := fun k e => V0 (Proc.devRef .tc main_arg6) (ix2 k e)
@[inherit_doc gainQ] def gainK : Fin 128 → EReal := fun e => V0 (Proc.devRef .tc main_arg7) (ix2 0 e)
@[inherit_doc gainQ] def weightK : Fin 128 → Fin 512 → EReal := fun k e => V0 (Proc.devRef .tc main_arg8) (ix2 k e)
@[inherit_doc gainQ] def weightV : Fin 128 → Fin 256 → EReal := fun k e => V0 (Proc.devRef .tc main_arg9) (ix2 k e)

theorem v22_at (b : Fin 8) (n : Fin 8192) (j : Fin 2304) : res_main_v22 V0 (ix3 b n j) = zed V0 b n j :=
  zeds_at (V0 (Proc.devRef .tc main_arg0)) (V0 (Proc.devRef .tc main_arg1)) (V0 (Proc.devRef .tc main_arg2))
    (V0 (Proc.devRef .tc main_arg3)) b n j

theorem v23_at (b : Fin 8) (n : Fin 8192) (e : Fin 256) : res_main_v23 V0 (ix3 b n e) = seg 256 (zed V0 b n) 256 (by omega) e := by
  refine Eq.trans ?_ (v22_at V0 b n _)
  pointwise [res_main_v23]

theorem v40_at (b : Fin 8) (n : Fin 8192) (e : Fin 128) : res_main_v40 V0 (ix3 b n e) = seg 128 (zed V0 b n) 512 (by omega) e := by
  refine Eq.trans ?_ (v22_at V0 b n _)
  pointwise [res_main_v40]

theorem v53_at (b : Fin 8) (n : Fin 8192) (e : Fin 128) : res_main_v53 V0 (ix3 b n e) = latC (zed V0 b n) (gainK V0) e :=
  (scaled128_at (res_main_v40 V0) (V0 (Proc.devRef .tc main_arg7)) b n e).trans
    (congrArg (fun v => scaled (Ideal.ofBits FTy.f32 0x3C000000#32) v (gainK V0) e) (funext fun j => v40_at V0 b n j))

theorem v39_at (b : Fin 8) (n : Fin 8192) (a : Fin 4) (l : Fin 128) : res_main_v39 V0 (ix4 b n a l)
    = seg 128 (dotRow (scaled (Ideal.ofBits FTy.f32 0x3BAAAAAB#32) (seg 256 (zed V0 b n) 256 (by omega)) (gainQ V0)) (weightQ V0))
      (128 * a.val) (by omega) l :=
  (latents_at (scaled256 (res_main_v23 V0) (V0 (Proc.devRef .tc main_arg5))) (V0 (Proc.devRef .tc main_arg6)) b n a l).trans
    (congrArg (fun v => seg 128 (dotRow v (weightQ V0)) (128 * a.val) (by omega) l) (funext fun k =>
      (scaled256_at _ _ b n k).trans (congrArg (fun v => scaled (Ideal.ofBits FTy.f32 0x3BAAAAAB#32) v (gainQ V0) k)
        (funext fun j => v23_at V0 b n j))))

theorem v60_at (b : Fin 8) (n : Fin 8192) (a : Fin 4) (l : Fin 128) : res_main_v60 V0 (ix4 b n a l)
    = latK0 (zed V0 b n) (gainK V0) (weightK V0) a l :=
  (latentKeys_at (res_main_v53 V0) (V0 (Proc.devRef .tc main_arg8)) (res_main_v22 V0) b n a l).trans
    (congrArg₂ (fun x y : EReal => x + y) (congrArg (fun v => seg 128 (dotRow v (weightK V0)) (128 * a.val) (by omega) l) (funext fun k => v53_at V0 b n k))
      (congrArg (fun v => seg 128 v 640 (by omega) l) (funext fun j => v22_at V0 b n j)))

end Results

end Cert.Reference5Ideal.Prj
-- ==== Proof.ProjResult.lean ====
/-
  The ten results of the projection's reference, entry by entry on the extended reals.
-/
module

public import proofs.«01_k».proof.Proof.ProjRef

@[expose] public section

set_option maxRecDepth 16384

noncomputable section

namespace Cert.Reference5Ideal.Prj

open Cert.Reference5Ideal Cert.Reference5Ideal.Gen Cert.Reference5Ideal.Value
open Cert.Proof.Proj
open Idealize.ShloMosaic Idealize.ShloMosaic.TcCoe

/-! ## Heads -/

/-- Heads of 32 lanes, rotated. -/
def rotated32 (v : FVec Ideal S8x8192x256 .f32) (t : FVec Ideal S8192x768 .f32) : FVec Ideal S8x8192x256 .f32 :=
  shapeCast _ (turned2 (shapeCast _ v shapeCasts_S8x8192x256_S8x8192x2x128)
    (swap16 (shapeCast _ v shapeCasts_S8x8192x256_S8x8192x8x2x16)) (cut t 0 (by omega)) (cut t 128 (by omega)))
    shapeCasts_S8x8192x2x128_S8x8192x256

theorem rotated32_at (v : FVec Ideal S8x8192x256 .f32) (t : FVec Ideal S8192x768 .f32) (b : Fin 8) (n : Fin 8192) (a : Fin 2) (l : Fin 128) :
    rotated32 v t (ix3 b n ⟨128 * a.val + l.val, by omega⟩)
      = turn (fun j => t (ix2 n j)) heads32 (fun l => v (ix3 b n ⟨128 * a.val + l.val, by omega⟩)) 0 (by omega) l := by
  have e : ∀ w : FVec Ideal S8x8192x2x128 .f32, (shapeCast _ w shapeCasts_S8x8192x2x128_S8x8192x256 : FVec Ideal S8x8192x256 .f32)
      (ix3 b n ⟨128 * a.val + l.val, by omega⟩) = w (ix4 b n a l) := fun w => by
    pointwise []
  have f : (shapeCast _ v shapeCasts_S8x8192x256_S8x8192x2x128 : FVec Ideal S8x8192x2x128 .f32) (ix4 b n a l)
      = v (ix3 b n ⟨128 * a.val + l.val, by omega⟩) := by
    pointwise []
    exact congrArg (fun e => v (ix3 b n e)) (Fin.ext (by show a.val * 128 + l.val = 128 * a.val + l.val; omega))
  refine (e _).trans ((turned2_at _ _ _ _ b n a l).trans ?_)
  rw [f, swap16_at, cut_at, cut_at]
  rfl

/-- Heads of 64 lanes, rotated. -/
def rotated64 (v : FVec Ideal S8x8192x512 .f32) (t : FVec Ideal S8192x768 .f32) : FVec Ideal S8x8192x512 .f32 :=
  shapeCast _ (turned4 (shapeCast _ v shapeCasts_S8x8192x512_S8x8192x4x128)
    (swap32 (shapeCast _ v shapeCasts_S8x8192x512_S8x8192x8x2x32)) (cut t 256 (by omega)) (cut t 384 (by omega)))
    shapeCasts_S8x8192x4x128_S8x8192x512

/-- Four groups of 128 columns side by side, at a column. -/
theorem flat4_at (w : FVec Ideal S8x8192x4x128 .f32) (b : Fin 8) (n : Fin 8192) (a : Fin 4) (l : Fin 128) :
    (shapeCast _ w shapeCasts_S8x8192x4x128_S8x8192x512 : FVec Ideal S8x8192x512 .f32) (ix3 b n ⟨128 * a.val + l.val, by omega⟩)
      = w (ix4 b n a l) := by
  pointwise []

theorem rotated64_at (v : FVec Ideal S8x8192x512 .f32) (t : FVec Ideal S8192x768 .f32) (b : Fin 8) (n : Fin 8192) (a : Fin 4) (l : Fin 128) :
    rotated64 v t (ix3 b n ⟨128 * a.val + l.val, by omega⟩)
      = turn (fun j => t (ix2 n j)) heads64 (fun l => v (ix3 b n ⟨128 * a.val + l.val, by omega⟩)) 256 (by omega) l := by
  have f : (shapeCast _ v shapeCasts_S8x8192x512_S8x8192x4x128 : FVec Ideal S8x8192x4x128 .f32) (ix4 b n a l)
      = v (ix3 b n ⟨128 * a.val + l.val, by omega⟩) := by
    pointwise []
    exact congrArg (fun e => v (ix3 b n e)) (Fin.ext (by show a.val * 128 + l.val = 128 * a.val + l.val; omega))
  refine (flat4_at _ b n a l).trans ((turned4_at _ _ _ _ b n a l).trans ?_)
  rw [f, swap32_at, cut_at, cut_at]
  rfl

/-- Two heads of 64 lanes, rotated. -/
def rotatedPair (v : FVec Ideal S8x8192x128 .f32) (t : FVec Ideal S8192x768 .f32) : FVec Ideal S8x8192x128 .f32 :=
  shapeCast _ (turned1 (shapeCast _ v shapeCasts_S8x8192x128_S8x8192x1x128)
    (swapPair (shapeCast _ v shapeCasts_S8x8192x128_S8x8192x2x2x32)) (cut t 256 (by omega)) (cut t 384 (by omega)))
    shapeCasts_S8x8192x1x128_S8x8192x128

theorem rotatedPair_at (v : FVec Ideal S8x8192x128 .f32) (t : FVec Ideal S8192x768 .f32) (b : Fin 8) (n : Fin 8192) (l : Fin 128) :
    rotatedPair v t (ix3 b n l) = turn (fun j => t (ix2 n j)) heads64 (fun l => v (ix3 b n l)) 256 (by omega) l := by
  have e : ∀ w : FVec Ideal S8x8192x1x128 .f32, (shapeCast _ w shapeCasts_S8x8192x1x128_S8x8192x128 : FVec Ideal S8x8192x128 .f32)
      (ix3 b n l) = w (ix4 b n 0 l) := fun w => by pointwise []
  have f : (shapeCast _ v shapeCasts_S8x8192x128_S8x8192x1x128 : FVec Ideal S8x8192x1x128 .f32) (ix4 b n 0 l) = v (ix3 b n l) := by
    pointwise []
  refine (e _).trans ((turned1_at _ _ _ _ b n l).trans ?_)
  rw [f, swapPair_at, cut_at, cut_at]
  rfl

/-- The latent heads, rotated. -/
def rotatedLatent (v : FVec Ideal S8x8192x4x128 .f32) (t : FVec Ideal S8192x768 .f32) : FVec Ideal S8x8192x4x128 .f32 :=
  turned4 v (swapLatent v) (cut t 512 (by omega)) (cut t 640 (by omega))

theorem rotatedLatent_at (v : FVec Ideal S8x8192x4x128 .f32) (t : FVec Ideal S8192x768 .f32) (b : Fin 8) (n : Fin 8192) (a : Fin 4) (l : Fin 128) :
    rotatedLatent v t (ix4 b n a l) = turn (fun j => t (ix2 n j)) latent (fun l => v (ix4 b n a l)) 512 (by omega) l := by
  refine (turned4_at _ _ _ _ b n a l).trans ?_
  rw [swapLatent_at, cut_at, cut_at]
  rfl

/-! ## The transposed rows -/

/-- Rows of 256 columns by part of the tokens, columns first. -/
def columns256 (v : FVec Ideal S8x8192x256 .f32) : FVec Ideal S8x16x256x512 .bf16 :=
  truncf .bf16 (transpose S8x16x256x512 [0, 1, 3, 2] (shapeCast _ v shapeCasts_S8x8192x256_S8x16x512x256)
    transposes_S8x16x512x256_S8x16x256x512_0_1_3_2) bitsLt_bf16_f32

theorem columns256_at (v : FVec Ideal S8x8192x256 .f32) (b : Fin 8) (g : Fin 16) (n : Fin 512) (e : Fin 256) :
    columns256 v (ix4 b g e n) = v (ix3 b ⟨512 * g.val + n.val, by omega⟩ e) := by
  pointwise [columns256]
  exact congrArg (fun n => v (ix3 b n e)) (Fin.ext (by show g.val * 512 + n.val = 512 * g.val + n.val; omega))

/-- Rows of 128 columns by part of the tokens, columns first. -/
def columns128 (v : FVec Ideal S8x8192x128 .f32) : FVec Ideal S8x16x128x512 .bf16 :=
  truncf .bf16 (transpose S8x16x128x512 [0, 1, 3, 2] (shapeCast _ v shapeCasts_S8x8192x128_S8x16x512x128)
    transposes_S8x16x512x128_S8x16x128x512_0_1_3_2) bitsLt_bf16_f32

theorem columns128_at (v : FVec Ideal S8x8192x128 .f32) (b : Fin 8) (g : Fin 16) (n : Fin 512) (e : Fin 128) :
    columns128 v (ix4 b g e n) = v (ix3 b ⟨512 * g.val + n.val, by omega⟩ e) := by
  pointwise [columns128]
  exact congrArg (fun n => v (ix3 b n e)) (Fin.ext (by show g.val * 512 + n.val = 512 * g.val + n.val; omega))

/-- Latent rows times the values' weight. -/
def wideDot (v : FVec Ideal S8x8192x128 .f32) (w : FVec Ideal S128x256 .bf16) : FVec Ideal S8x8192x256 .f32 :=
  Host.dotGeneral dot_S8x8192x128_S128x256_S8x8192x256_2_0_01_1_n_n none v (extf .f32 w bitsLt_bf16_f32)

theorem wideDot_at (v : FVec Ideal S8x8192x128 .f32) (w : FVec Ideal S128x256 .bf16) (b : Fin 8) (n : Fin 8192) (e : Fin 256) :
    wideDot v w (ix3 b n e) = ∑ k, v (ix3 b n k) * w (ix2 k e) := by
  pointwise [wideDot]

/-! ## The results -/

section Results

variable (V0 : Valuation τ sig (Elt Ideal))

/-- The projected columns. -/
def out0 : FVec Ideal S8x8192x256 .f32 :=
  extractStridedSlice S8x8192x256 ![0, 0, 0] (res_main_v22 V0) slices_S8x8192x2304_S8x8192x256_0_0_0

theorem out0_at (b : Fin 8) (n : Fin 8192) (e : Fin 256) : out0 V0 (ix3 b n e) = seg 256 (zed V0 b n) 0 (by omega) e := by
  refine Eq.trans ?_ (v22_at V0 b n _)
  pointwise [out0]

/-- The latent queries. -/
def out1 : FVec Ideal S8x8192x512 .bf16 :=
  truncf .bf16 (shapeCast _ (mulf (rotatedLatent (res_main_v39 V0) (V0 (Proc.devRef .tc main_arg4)))
    (broadcastInDim S8x8192x4x128 ![] bcast_S_S8x8192x4x128 (constant S_ .f32 0x3E16C740#32))) shapeCasts_S8x8192x4x128_S8x8192x512) bitsLt_bf16_f32

theorem out1_at (b : Fin 8) (n : Fin 8192) (a : Fin 4) (l : Fin 128) : out1 V0 (ix3 b n ⟨128 * a.val + l.val, by omega⟩)
    = latQ (zed V0 b n) (tab V0 n) (gainQ V0) (weightQ V0) a l := by
  have e : ∀ v : FVec Ideal S8x8192x4x128 .f32, (truncf .bf16 (shapeCast S8x8192x512 (mulf v (broadcastInDim S8x8192x4x128 ![]
      bcast_S_S8x8192x4x128 (constant S_ .f32 0x3E16C740#32))) shapeCasts_S8x8192x4x128_S8x8192x512) bitsLt_bf16_f32 :
      FVec Ideal S8x8192x512 .bf16) (ix3 b n ⟨128 * a.val + l.val, by omega⟩) = v (ix4 b n a l) * Ideal.ofBits FTy.f32 0x3E16C740#32 :=
    fun v => by pointwise []
  refine (e _).trans (congrArg (fun y : EReal => y * Ideal.ofBits FTy.f32 0x3E16C740#32) ((rotatedLatent_at _ _ b n a l).trans ?_))
  exact congrArg (fun v => turn (tab V0 n) latent v 512 (by omega) l) (funext fun l => v39_at V0 b n a l)

/-- The latent keys. -/
def out2 : FVec Ideal S8x4x8192x128 .bf16 :=
  truncf .bf16 (transpose S8x4x8192x128 [0, 2, 1, 3] (rotatedLatent (res_main_v60 V0) (V0 (Proc.devRef .tc main_arg4)))
    transposes_S8x8192x4x128_S8x4x8192x128_0_2_1_3) bitsLt_bf16_f32

theorem out2_at (b : Fin 8) (n : Fin 8192) (a : Fin 4) (l : Fin 128) : out2 V0 (ix4 b a n l)
    = latK (zed V0 b n) (tab V0 n) (gainK V0) (weightK V0) a l := by
  have e : ∀ v : FVec Ideal S8x8192x4x128 .f32, (truncf .bf16 (transpose S8x4x8192x128 [0, 2, 1, 3] v
      transposes_S8x8192x4x128_S8x4x8192x128_0_2_1_3) bitsLt_bf16_f32 : FVec Ideal S8x4x8192x128 .bf16) (ix4 b a n l) = v (ix4 b n a l) :=
    fun v => by pointwise []
  refine (e _).trans ((rotatedLatent_at _ _ b n a l).trans ?_)
  exact congrArg (fun v => turn (tab V0 n) latent v 512 (by omega) l) (funext fun l => v60_at V0 b n a l)

/-- The latent values. -/
def out3 : FVec Ideal S8x16x256x512 .bf16 := columns256 (wideDot (res_main_v53 V0) (V0 (Proc.devRef .tc main_arg9)))

theorem out3_at (b : Fin 8) (g : Fin 16) (n : Fin 512) (e : Fin 256) : out3 V0 (ix4 b g e n)
    = dotRow (latC (zed V0 b ⟨512 * g.val + n.val, by omega⟩) (gainK V0)) (weightV V0) e := by
  refine (columns256_at _ b g n e).trans ((wideDot_at _ _ b _ e).trans ?_)
  exact congrArg (fun v => dotRow v (weightV V0) e) (funext fun k => v53_at V0 b _ k)

/-- A group's columns of the projection, read from column `o` on. -/
theorem read256 (v : FVec Ideal S8x8192x256 .f32) (b : Fin 8) (n : Fin 8192) (o : ℕ) (h : o + 256 ≤ 2304)
    (hv : ∀ e : Fin 256, v (ix3 b n e) = res_main_v22 V0 (ix3 b n ⟨o + e.val, by omega⟩)) (a : Fin 2) (l : Fin 128) :
    v (ix3 b n ⟨128 * a.val + l.val, by omega⟩) = seg 128 (zed V0 b n) (o + 128 * a.val) (by omega) l :=
  (hv _).trans ((v22_at V0 b n _).trans (congrArg (zed V0 b n) (Fin.ext (by show o + (128 * a.val + l.val) = o + 128 * a.val + l.val; omega))))

/-- The queries of the differential attention. -/
def out4 : FVec Ideal S8x8192x256 .bf16 :=
  truncf .bf16 (mulf (rotated32 (res_main_v89 V0) (V0 (Proc.devRef .tc main_arg4)))
    (broadcastInDim S8x8192x256 ![] bcast_S_S8x8192x256 (constant S_ .f32 0x3E8293EE#32))) bitsLt_bf16_f32

theorem out4_at (b : Fin 8) (n : Fin 8192) (a : Fin 2) (l : Fin 128) : out4 V0 (ix3 b n ⟨128 * a.val + l.val, by omega⟩)
    = difQ (zed V0 b n) (tab V0 n) a l := by
  have e : ∀ (v : FVec Ideal S8x8192x256 .f32) (j : Fin 256), (truncf .bf16 (mulf v (broadcastInDim S8x8192x256 ![] bcast_S_S8x8192x256
      (constant S_ .f32 0x3E8293EE#32))) bitsLt_bf16_f32 : FVec Ideal S8x8192x256 .bf16) (ix3 b n j)
      = v (ix3 b n j) * Ideal.ofBits FTy.f32 0x3E8293EE#32 := fun v j => by pointwise []
  refine (e _ _).trans (congrArg (fun y : EReal => y * Ideal.ofBits FTy.f32 0x3E8293EE#32) ((rotated32_at _ _ b n a l).trans ?_))
  exact congrArg (fun v => turn (tab V0 n) heads32 v 0 (by omega) l)
    (funext fun l => read256 V0 _ b n 768 (by omega) (fun e => by pointwise [res_main_v89]) a l)

/-- The keys of the differential attention. -/
def out5 : FVec Ideal S8x8192x256 .bf16 :=
  truncf .bf16 (rotated32 (res_main_v108 V0) (V0 (Proc.devRef .tc main_arg4))) bitsLt_bf16_f32

theorem out5_at (b : Fin 8) (n : Fin 8192) (a : Fin 2) (l : Fin 128) : out5 V0 (ix3 b n ⟨128 * a.val + l.val, by omega⟩)
    = difK (zed V0 b n) (tab V0 n) a l := by
  refine (rotated32_at _ _ b n a l).trans ?_
  exact congrArg (fun v => turn (tab V0 n) heads32 v 0 (by omega) l)
    (funext fun l => read256 V0 _ b n 1024 (by omega) (fun e => by pointwise [res_main_v108]) a l)

/-- The values of the differential attention. -/
def out6 : FVec Ideal S8x16x256x512 .bf16 :=
  columns256 (extractStridedSlice S8x8192x256 ![0, 0, 1280] (res_main_v22 V0) slices_S8x8192x2304_S8x8192x256_0_0_1280)

theorem out6_at (b : Fin 8) (g : Fin 16) (n : Fin 512) (e : Fin 256) : out6 V0 (ix4 b g e n)
    = seg 256 (zed V0 b ⟨512 * g.val + n.val, by omega⟩) 1280 (by omega) e := by
  refine (columns256_at _ b g n e).trans (Eq.trans ?_ (v22_at V0 b _ _))
  pointwise []

/-- The queries of the windowed attention. -/
def out7 : FVec Ideal S8x8192x512 .bf16 :=
  truncf .bf16 (mulf (rotated64 (res_main_v125 V0) (V0 (Proc.devRef .tc main_arg4)))
    (broadcastInDim S8x8192x512 ![] bcast_S_S8x8192x512 (constant S_ .f32 0x3E38AA3B#32))) bitsLt_bf16_f32

theorem out7_at (b : Fin 8) (n : Fin 8192) (a : Fin 4) (l : Fin 128) : out7 V0 (ix3 b n ⟨128 * a.val + l.val, by omega⟩)
    = winQ (zed V0 b n) (tab V0 n) a l := by
  have e : ∀ (v : FVec Ideal S8x8192x512 .f32) (j : Fin 512), (truncf .bf16 (mulf v (broadcastInDim S8x8192x512 ![] bcast_S_S8x8192x512
      (constant S_ .f32 0x3E38AA3B#32))) bitsLt_bf16_f32 : FVec Ideal S8x8192x512 .bf16) (ix3 b n j)
      = v (ix3 b n j) * Ideal.ofBits FTy.f32 0x3E38AA3B#32 := fun v j => by pointwise []
  refine (e _ _).trans (congrArg (fun y : EReal => y * Ideal.ofBits FTy.f32 0x3E38AA3B#32) ((rotated64_at _ _ b n a l).trans ?_))
  refine congrArg (fun v => turn (tab V0 n) heads64 v 256 (by omega) l) (funext fun l => ?_)
  have r : ∀ e : Fin 512, res_main_v125 V0 (ix3 b n e) = res_main_v22 V0 (ix3 b n ⟨1536 + e.val, by omega⟩) := fun e => by
    pointwise [res_main_v125]
  exact (r _).trans ((v22_at V0 b n _).trans (congrArg (zed V0 b n)
    (Fin.ext (by show 1536 + (128 * a.val + l.val) = 1536 + 128 * a.val + l.val; omega))))

/-- The keys of the windowed attention. -/
def out8 : FVec Ideal S8x8192x128 .bf16 :=
  truncf .bf16 (rotatedPair (res_main_v144 V0) (V0 (Proc.devRef .tc main_arg4))) bitsLt_bf16_f32

theorem out8_at (b : Fin 8) (n : Fin 8192) (l : Fin 128) : out8 V0 (ix3 b n l) = winK (zed V0 b n) (tab V0 n) l := by
  refine (rotatedPair_at _ _ b n l).trans ?_
  refine congrArg (fun v => turn (tab V0 n) heads64 v 256 (by omega) l) (funext fun l => ?_)
  refine Eq.trans ?_ (v22_at V0 b n _)
  pointwise [res_main_v144]

/-- The values of the windowed attention. -/
def out9 : FVec Ideal S8x16x128x512 .bf16 :=
  columns128 (extractStridedSlice S8x8192x128 ![0, 0, 2176] (res_main_v22 V0) slices_S8x8192x2304_S8x8192x128_0_0_2176)

theorem out9_at (b : Fin 8) (g : Fin 16) (n : Fin 512) (e : Fin 128) : out9 V0 (ix4 b g e n)
    = seg 128 (zed V0 b ⟨512 * g.val + n.val, by omega⟩) 2176 (by omega) e := by
  refine (columns128_at _ b g n e).trans (Eq.trans ?_ (v22_at V0 b _ _))
  pointwise []

end Results

end Cert.Reference5Ideal.Prj
-- ==== Proof.ProjClaims.lean ====
/-
  The claims about the projection: the runs, and the equality of the ten results.
-/
module

public import proofs.«01_k».proof.Defs
public import proofs.«01_k».proof.Proof.ProjArray
public import proofs.«01_k».proof.Proof.ProjResult
public import proofs.«01_k».proof.Proof.Gen.Kernel5.Frame
public import Idealize.ShloMosaic.Lib.Claim

@[expose] public section

set_option maxRecDepth 16384

noncomputable section

namespace Cert.Proof.Proj

open Idealize.ShloMosaic Idealize.ShloMosaic.TcCoe Idealize.ShloMosaic.StableHlo Idealize.SL.Sem

/-- The kernel runs, keeps its arguments and leaves every counter at zero. -/
theorem frame_kernel : Cert.quiescent_Kernel5 := fun m g _ => Cert.Kernel5.Gen.frame m g

/-- The idealized program runs, keeps its arguments and leaves every counter at zero. -/
theorem frame_ideal : Cert.quiescent_Kernel5Ideal := fun m g _ => Cert.Kernel5Ideal.Gen.frame m g

/-- The reference runs, keeps its arguments and leaves every counter at zero. -/
theorem frame_ref : Cert.quiescent_Reference5Ideal := fun m g _ =>
  (θ_run Cert.Reference5Ideal.defs _ _).mono (fun r h => ⟨fun c => (h c).2.2.2.2.2.2.2.2.2.2, sem_eq_zero_of_no_sems (by decide) r.2⟩)
    (Cert.Reference5Ideal.Value.run (F := Ideal) m g)

open Cert.Kernel5Ideal.Prj (array10 array11 array12 array13 array14 array15 array16 array17 array18 array19)
open Cert.Reference5Ideal.Prj (out0 out1 out2 out3 out4 out5 out6 out7 out8 out9 out0_at out1_at out2_at out3_at out4_at out5_at out6_at out7_at out8_at out9_at)

section Rows

variable (m : (ℓ : Loc Cert.Kernel5Ideal.nD Cert.Kernel5Ideal.τ Cert.Kernel5Ideal.sig) → Buf (Elt Ideal) ℓ)
variable (m' : (ℓ : Loc Cert.Reference5Ideal.nD Cert.Reference5Ideal.τ Cert.Reference5Ideal.sig) → Buf (Elt Ideal) ℓ)
variable (c : Dev Cert.Kernel5Ideal.nD)

/-! The rows of the reference's arguments are those of the kernel's, where the arguments are equal. -/

theorem zed_eq (h0 : m' ((c.tc : Thread Cert.Reference5Ideal.nD Cert.Reference5Ideal.τ).loc Cert.Reference5Ideal.main_arg0)
      = m ((c.tc : Thread Cert.Kernel5Ideal.nD Cert.Kernel5Ideal.τ).loc Cert.Kernel5Ideal.main_arg0))
    (h1 : m' ((c.tc : Thread Cert.Reference5Ideal.nD Cert.Reference5Ideal.τ).loc Cert.Reference5Ideal.main_arg1)
      = m ((c.tc : Thread Cert.Kernel5Ideal.nD Cert.Kernel5Ideal.τ).loc Cert.Kernel5Ideal.main_arg1))
    (h2 : m' ((c.tc : Thread Cert.Reference5Ideal.nD Cert.Reference5Ideal.τ).loc Cert.Reference5Ideal.main_arg2)
      = m ((c.tc : Thread Cert.Kernel5Ideal.nD Cert.Kernel5Ideal.τ).loc Cert.Kernel5Ideal.main_arg2))
    (h3 : m' ((c.tc : Thread Cert.Reference5Ideal.nD Cert.Reference5Ideal.τ).loc Cert.Reference5Ideal.main_arg3)
      = m ((c.tc : Thread Cert.Kernel5Ideal.nD Cert.Kernel5Ideal.τ).loc Cert.Kernel5Ideal.main_arg3)) (b : Fin 8) (n : Fin 8192) :
    Cert.Reference5Ideal.Prj.zed (launchContents m' c) b n = Cert.Kernel5Ideal.Prj.zedAt m c b n := by
  unfold Cert.Kernel5Ideal.Prj.zedAt
  rw [← h0, ← h1, ← h2, ← h3]
  rfl

theorem tab_eq (h4 : m' ((c.tc : Thread Cert.Reference5Ideal.nD Cert.Reference5Ideal.τ).loc Cert.Reference5Ideal.main_arg4)
      = m ((c.tc : Thread Cert.Kernel5Ideal.nD Cert.Kernel5Ideal.τ).loc Cert.Kernel5Ideal.main_arg4)) (n : Fin 8192) :
    Cert.Reference5Ideal.Prj.tab (launchContents m' c) n = Cert.Kernel5Ideal.Prj.tabAt m c n :=
  funext fun j => congrFun h4 (ix2 n j)

theorem gainQ_eq (h5 : m' ((c.tc : Thread Cert.Reference5Ideal.nD Cert.Reference5Ideal.τ).loc Cert.Reference5Ideal.main_arg5)
      = m ((c.tc : Thread Cert.Kernel5Ideal.nD Cert.Kernel5Ideal.τ).loc Cert.Kernel5Ideal.main_arg5)) : Cert.Reference5Ideal.Prj.gainQ (launchContents m' c) = Cert.Kernel5Ideal.Prj.gainQ m c :=
  funext fun j => congrFun h5 (ix2 0 j)

theorem weightQ_eq (h6 : m' ((c.tc : Thread Cert.Reference5Ideal.nD Cert.Reference5Ideal.τ).loc Cert.Reference5Ideal.main_arg6)
      = m ((c.tc : Thread Cert.Kernel5Ideal.nD Cert.Kernel5Ideal.τ).loc Cert.Kernel5Ideal.main_arg6)) : Cert.Reference5Ideal.Prj.weightQ (launchContents m' c) = Cert.Kernel5Ideal.Prj.weightQ m c :=
  funext fun k => funext fun j => congrFun h6 (ix2 k j)

theorem gainK_eq (h7 : m' ((c.tc : Thread Cert.Reference5Ideal.nD Cert.Reference5Ideal.τ).loc Cert.Reference5Ideal.main_arg7)
      = m ((c.tc : Thread Cert.Kernel5Ideal.nD Cert.Kernel5Ideal.τ).loc Cert.Kernel5Ideal.main_arg7)) : Cert.Reference5Ideal.Prj.gainK (launchContents m' c) = Cert.Kernel5Ideal.Prj.gainK m c :=
  funext fun j => congrFun h7 (ix2 0 j)

theorem weightK_eq (h8 : m' ((c.tc : Thread Cert.Reference5Ideal.nD Cert.Reference5Ideal.τ).loc Cert.Reference5Ideal.main_arg8)
      = m ((c.tc : Thread Cert.Kernel5Ideal.nD Cert.Kernel5Ideal.τ).loc Cert.Kernel5Ideal.main_arg8)) : Cert.Reference5Ideal.Prj.weightK (launchContents m' c) = Cert.Kernel5Ideal.Prj.weightK m c :=
  funext fun k => funext fun j => congrFun h8 (ix2 k j)

theorem weightV_eq (h9 : m' ((c.tc : Thread Cert.Reference5Ideal.nD Cert.Reference5Ideal.τ).loc Cert.Reference5Ideal.main_arg9)
      = m ((c.tc : Thread Cert.Kernel5Ideal.nD Cert.Kernel5Ideal.τ).loc Cert.Kernel5Ideal.main_arg9)) : Cert.Reference5Ideal.Prj.weightV (launchContents m' c) = Cert.Kernel5Ideal.Prj.weightV m c :=
  funext fun k => funext fun j => congrFun h9 (ix2 k j)

end Rows

/-- From equal arguments, the kernel and the reference end with equal results. -/
theorem equal : Cert.algebraic_Kernel5Ideal_Reference5Ideal := by
  intro m g m' g' _ hag
  refine ⟨fun c => out0 (launchContents m' c), fun c => out1 (launchContents m' c), fun c => out2 (launchContents m' c),
    fun c => out3 (launchContents m' c), fun c => out4 (launchContents m' c), fun c => out5 (launchContents m' c),
    fun c => out6 (launchContents m' c), fun c => out7 (launchContents m' c), fun c => out8 (launchContents m' c),
    fun c => out9 (launchContents m' c), ?_, Cert.Reference5Ideal.Value.run m' g'⟩
  refine (θ_run _ _ _).mono (fun r h c => ?_) (Cert.Kernel5Ideal.Value.run_blocks m g)
  obtain ⟨h0, h1, h2, h3, h4, h5, h6, h7, h8, h9⟩ := hag c
  have hz := zed_eq m m' c h0 h1 h2 h3
  have ht := tab_eq m m' c h4
  have gq := gainQ_eq m m' c h5
  have wq := weightQ_eq m m' c h6
  have gk := gainK_eq m m' c h7
  have wk := weightK_eq m m' c h8
  have wv := weightV_eq m m' c h9
  obtain ⟨r0, r1, r2, r3, r4, r5, r6, r7, r8, r9, kept⟩ := h c
  exact ⟨r0.trans (array10 m c _ fun b n e => (out0_at _ b n e).trans (by rw [hz])),
    r1.trans (array11 m c _ fun b n a l => (out1_at _ b n a l).trans (by rw [hz, ht, gq, wq])),
    r2.trans (array12 m c _ fun b n a l => (out2_at _ b n a l).trans (by rw [hz, ht, gk, wk])),
    r3.trans (array13 m c _ fun b g n e => (out3_at _ b g n e).trans (by rw [hz, gk, wv])),
    r4.trans (array14 m c _ fun b n a l => (out4_at _ b n a l).trans (by rw [hz, ht])),
    r5.trans (array15 m c _ fun b n a l => (out5_at _ b n a l).trans (by rw [hz, ht])),
    r6.trans (array16 m c _ fun b g n e => (out6_at _ b g n e).trans (by rw [hz])),
    r7.trans (array17 m c _ fun b n a l => (out7_at _ b n a l).trans (by rw [hz, ht])),
    r8.trans (array18 m c _ fun b n l => (out8_at _ b n l).trans (by rw [hz, ht])),
    r9.trans (array19 m c _ fun b g n e => (out9_at _ b g n e).trans (by rw [hz])), kept⟩

end Cert.Proof.Proj
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_qk
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Pre_finite_diff
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Pre_finite_mod
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Pre_finite_win
public import proofs.«01_k».proof.Proof.Claims
public import proofs.«01_k».proof.Proof.WinClaims
public import proofs.«01_k».proof.Proof.MergeClaims
public import proofs.«01_k».proof.Proof.DiffClaims
public import proofs.«01_k».proof.Proof.ModClaims
public import proofs.«01_k».proof.Proof.ProjClaims
public import Idealize.ShloMosaic.Adequacy
public import Idealize.ShloMosaic.Init

@[expose] public section

noncomputable section

namespace Cert.Proof

open Idealize.ShloMosaic Idealize.SL.Sem Cert.Kernel

/-- Every claim about the attentions', the merge's, the modulation's and the projection's programs, their idealizations and the references. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Pre_finite_qk.Gen.facts, Cert.Pre_finite_diff.Gen.facts, Cert.Pre_finite_mod.Gen.facts, Cert.Pre_finite_win.Gen.facts,
    Frames.kernel, Attention.frame_ideal, Attention.frame_ideal_pre, Attention.frame_ref, Attention.frame_ref_pre,
    Merge.frame_kernel, Merge.frame_ideal, Merge.frame_ref,
    DiffFrames.kernel, Diff.frame_ideal, Diff.frame_ideal_pre, Diff.frame_ref, Diff.frame_ref_pre,
    Mod.frame_kernel, Mod.frame_ideal, Mod.frame_ideal_pre, Mod.frame_ref, Mod.frame_ref_pre,
    Proj.frame_kernel, Proj.frame_ideal, Proj.frame_ref,
    Win.frame_kernel, Win.frame_ideal, Win.frame_ideal_pre, Win.frame_ref, Win.frame_ref_pre,
    trivial, Attention.equal, trivial, Merge.equal, trivial, Diff.equal, trivial, Mod.equal, trivial, Proj.equal,
    Win.preserves, Win.equal⟩

end Cert.Proof

end
